-- ==== Defs.lean ====
def Pre_Kernel [hPre_dispatch_plan : Cert.Pre_dispatch_plan.Facts] (m : (ℓ : Loc Cert.Kernel.nD Cert.Kernel.τ Cert.Kernel.sig) → Buf (Elt Bits) ℓ) : Prop :=
  ∀ c : Dev Cert.Kernel.nD,
    (Cert.Pre_dispatch_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).1 = (fun _ => 1#1)
    ∧ (Cert.Pre_dispatch_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.1 = (fun _ => 1#1)
    ∧ (Cert.Pre_dispatch_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.2 = (fun _ => 1#1)

def Pre_KernelIdeal [hPre_dispatch_plan : Cert.Pre_dispatch_plan.Facts] (m : (ℓ : Loc Cert.KernelIdeal.nD Cert.KernelIdeal.τ Cert.KernelIdeal.sig) → Buf (Elt Ideal) ℓ) : Prop :=
  ∀ c : Dev Cert.KernelIdeal.nD,
    (Cert.Pre_dispatch_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_dispatch_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_dispatch_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dispatch_plan [hPre_dispatch_plan : Cert.Pre_dispatch_plan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dispatch_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_dispatch_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_dispatch_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_latents [hPre_finite_latents : Cert.Pre_finite_latents.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_latents.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13)) (m ((c.tc : Thread Cert.Kernel6Ideal.nD Cert.Kernel6Ideal.τ).loc Cert.Kernel6Ideal.main_arg14)) (m ((c.tc : Thread Cert.Kernel6Ideal.nD Cert.Kernel6Ideal.τ).loc Cert.Kernel6Ideal.main_arg15)) (m ((c.tc : Thread Cert.Kernel6Ideal.nD Cert.Kernel6Ideal.τ).loc Cert.Kernel6Ideal.main_arg16)) (m ((c.tc : Thread Cert.Kernel6Ideal.nD Cert.Kernel6Ideal.τ).loc Cert.Kernel6Ideal.main_arg17)) (m ((c.tc : Thread Cert.Kernel6Ideal.nD Cert.Kernel6Ideal.τ).loc Cert.Kernel6Ideal.main_arg18))).1 = (fun _ => 1#1)
    ∧ (Cert.Pre_finite_latents.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13)) (m ((c.tc : Thread Cert.Kernel6Ideal.nD Cert.Kernel6Ideal.τ).loc Cert.Kernel6Ideal.main_arg14)) (m ((c.tc : Thread Cert.Kernel6Ideal.nD Cert.Kernel6Ideal.τ).loc Cert.Kernel6Ideal.main_arg15)) (m ((c.tc : Thread Cert.Kernel6Ideal.nD Cert.Kernel6Ideal.τ).loc Cert.Kernel6Ideal.main_arg16)) (m ((c.tc : Thread Cert.Kernel6Ideal.nD Cert.Kernel6Ideal.τ).loc Cert.Kernel6Ideal.main_arg17)) (m ((c.tc : Thread Cert.Kernel6Ideal.nD Cert.Kernel6Ideal.τ).loc Cert.Kernel6Ideal.main_arg18))).2.1 = (fun _ => 1#1)
    ∧ (Cert.Pre_finite_latents.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13)) (m ((c.tc : Thread Cert.Kernel6Ideal.nD Cert.Kernel6Ideal.τ).loc Cert.Kernel6Ideal.main_arg14)) (m ((c.tc : Thread Cert.Kernel6Ideal.nD Cert.Kernel6Ideal.τ).loc Cert.Kernel6Ideal.main_arg15)) (m ((c.tc : Thread Cert.Kernel6Ideal.nD Cert.Kernel6Ideal.τ).loc Cert.Kernel6Ideal.main_arg16)) (m ((c.tc : Thread Cert.Kernel6Ideal.nD Cert.Kernel6Ideal.τ).loc Cert.Kernel6Ideal.main_arg17)) (m ((c.tc : Thread Cert.Kernel6Ideal.nD Cert.Kernel6Ideal.τ).loc Cert.Kernel6Ideal.main_arg18))).2.2.1 = (fun _ => 1#1)
    ∧ (Cert.Pre_finite_latents.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13)) (m ((c.tc : Thread Cert.Kernel6Ideal.nD Cert.Kernel6Ideal.τ).loc Cert.Kernel6Ideal.main_arg14)) (m ((c.tc : Thread Cert.Kernel6Ideal.nD Cert.Kernel6Ideal.τ).loc Cert.Kernel6Ideal.main_arg15)) (m ((c.tc : Thread Cert.Kernel6Ideal.nD Cert.Kernel6Ideal.τ).loc Cert.Kernel6Ideal.main_arg16)) (m ((c.tc : Thread Cert.Kernel6Ideal.nD Cert.Kernel6Ideal.τ).loc Cert.Kernel6Ideal.main_arg17)) (m ((c.tc : Thread Cert.Kernel6Ideal.nD Cert.Kernel6Ideal.τ).loc Cert.Kernel6Ideal.main_arg18))).2.2.2.1 = (fun _ => 1#1)
    ∧ (Cert.Pre_finite_latents.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13)) (m ((c.tc : Thread Cert.Kernel6Ideal.nD Cert.Kernel6Ideal.τ).loc Cert.Kernel6Ideal.main_arg14)) (m ((c.tc : Thread Cert.Kernel6Ideal.nD Cert.Kernel6Ideal.τ).loc Cert.Kernel6Ideal.main_arg15)) (m ((c.tc : Thread Cert.Kernel6Ideal.nD Cert.Kernel6Ideal.τ).loc Cert.Kernel6Ideal.main_arg16)) (m ((c.tc : Thread Cert.Kernel6Ideal.nD Cert.Kernel6Ideal.τ).loc Cert.Kernel6Ideal.main_arg17)) (m ((c.tc : Thread Cert.Kernel6Ideal.nD Cert.Kernel6Ideal.τ).loc Cert.Kernel6Ideal.main_arg18))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_latents [hPre_finite_latents : Cert.Pre_finite_latents.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_latents.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13)) (m ((c.tc : Thread Cert.Reference6Ideal.nD Cert.Reference6Ideal.τ).loc Cert.Reference6Ideal.main_arg14)) (m ((c.tc : Thread Cert.Reference6Ideal.nD Cert.Reference6Ideal.τ).loc Cert.Reference6Ideal.main_arg15)) (m ((c.tc : Thread Cert.Reference6Ideal.nD Cert.Reference6Ideal.τ).loc Cert.Reference6Ideal.main_arg16)) (m ((c.tc : Thread Cert.Reference6Ideal.nD Cert.Reference6Ideal.τ).loc Cert.Reference6Ideal.main_arg17)) (m ((c.tc : Thread Cert.Reference6Ideal.nD Cert.Reference6Ideal.τ).loc Cert.Reference6Ideal.main_arg18))).1 = (fun _ => 1#1)
    ∧ (Cert.Pre_finite_latents.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13)) (m ((c.tc : Thread Cert.Reference6Ideal.nD Cert.Reference6Ideal.τ).loc Cert.Reference6Ideal.main_arg14)) (m ((c.tc : Thread Cert.Reference6Ideal.nD Cert.Reference6Ideal.τ).loc Cert.Reference6Ideal.main_arg15)) (m ((c.tc : Thread Cert.Reference6Ideal.nD Cert.Reference6Ideal.τ).loc Cert.Reference6Ideal.main_arg16)) (m ((c.tc : Thread Cert.Reference6Ideal.nD Cert.Reference6Ideal.τ).loc Cert.Reference6Ideal.main_arg17)) (m ((c.tc : Thread Cert.Reference6Ideal.nD Cert.Reference6Ideal.τ).loc Cert.Reference6Ideal.main_arg18))).2.1 = (fun _ => 1#1)
    ∧ (Cert.Pre_finite_latents.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13)) (m ((c.tc : Thread Cert.Reference6Ideal.nD Cert.Reference6Ideal.τ).loc Cert.Reference6Ideal.main_arg14)) (m ((c.tc : Thread Cert.Reference6Ideal.nD Cert.Reference6Ideal.τ).loc Cert.Reference6Ideal.main_arg15)) (m ((c.tc : Thread Cert.Reference6Ideal.nD Cert.Reference6Ideal.τ).loc Cert.Reference6Ideal.main_arg16)) (m ((c.tc : Thread Cert.Reference6Ideal.nD Cert.Reference6Ideal.τ).loc Cert.Reference6Ideal.main_arg17)) (m ((c.tc : Thread Cert.Reference6Ideal.nD Cert.Reference6Ideal.τ).loc Cert.Reference6Ideal.main_arg18))).2.2.1 = (fun _ => 1#1)
    ∧ (Cert.Pre_finite_latents.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13)) (m ((c.tc : Thread Cert.Reference6Ideal.nD Cert.Reference6Ideal.τ).loc Cert.Reference6Ideal.main_arg14)) (m ((c.tc : Thread Cert.Reference6Ideal.nD Cert.Reference6Ideal.τ).loc Cert.Reference6Ideal.main_arg15)) (m ((c.tc : Thread Cert.Reference6Ideal.nD Cert.Reference6Ideal.τ).loc Cert.Reference6Ideal.main_arg16)) (m ((c.tc : Thread Cert.Reference6Ideal.nD Cert.Reference6Ideal.τ).loc Cert.Reference6Ideal.main_arg17)) (m ((c.tc : Thread Cert.Reference6Ideal.nD Cert.Reference6Ideal.τ).loc Cert.Reference6Ideal.main_arg18))).2.2.2.1 = (fun _ => 1#1)
    ∧ (Cert.Pre_finite_latents.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13)) (m ((c.tc : Thread Cert.Reference6Ideal.nD Cert.Reference6Ideal.τ).loc Cert.Reference6Ideal.main_arg14)) (m ((c.tc : Thread Cert.Reference6Ideal.nD Cert.Reference6Ideal.τ).loc Cert.Reference6Ideal.main_arg15)) (m ((c.tc : Thread Cert.Reference6Ideal.nD Cert.Reference6Ideal.τ).loc Cert.Reference6Ideal.main_arg16)) (m ((c.tc : Thread Cert.Reference6Ideal.nD Cert.Reference6Ideal.τ).loc Cert.Reference6Ideal.main_arg17)) (m ((c.tc : Thread Cert.Reference6Ideal.nD Cert.Reference6Ideal.τ).loc Cert.Reference6Ideal.main_arg18))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_contexts [hPre_finite_contexts : Cert.Pre_finite_contexts.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_contexts.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14)) (m ((c.tc : Thread Cert.Kernel7Ideal.nD Cert.Kernel7Ideal.τ).loc Cert.Kernel7Ideal.main_arg15)) (m ((c.tc : Thread Cert.Kernel7Ideal.nD Cert.Kernel7Ideal.τ).loc Cert.Kernel7Ideal.main_arg16)) (m ((c.tc : Thread Cert.Kernel7Ideal.nD Cert.Kernel7Ideal.τ).loc Cert.Kernel7Ideal.main_arg17)) (m ((c.tc : Thread Cert.Kernel7Ideal.nD Cert.Kernel7Ideal.τ).loc Cert.Kernel7Ideal.main_arg18))).1 = (fun _ => 1#1)
    ∧ (Cert.Pre_finite_contexts.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14)) (m ((c.tc : Thread Cert.Kernel7Ideal.nD Cert.Kernel7Ideal.τ).loc Cert.Kernel7Ideal.main_arg15)) (m ((c.tc : Thread Cert.Kernel7Ideal.nD Cert.Kernel7Ideal.τ).loc Cert.Kernel7Ideal.main_arg16)) (m ((c.tc : Thread Cert.Kernel7Ideal.nD Cert.Kernel7Ideal.τ).loc Cert.Kernel7Ideal.main_arg17)) (m ((c.tc : Thread Cert.Kernel7Ideal.nD Cert.Kernel7Ideal.τ).loc Cert.Kernel7Ideal.main_arg18))).2.1 = (fun _ => 1#1)
    ∧ (Cert.Pre_finite_contexts.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14)) (m ((c.tc : Thread Cert.Kernel7Ideal.nD Cert.Kernel7Ideal.τ).loc Cert.Kernel7Ideal.main_arg15)) (m ((c.tc : Thread Cert.Kernel7Ideal.nD Cert.Kernel7Ideal.τ).loc Cert.Kernel7Ideal.main_arg16)) (m ((c.tc : Thread Cert.Kernel7Ideal.nD Cert.Kernel7Ideal.τ).loc Cert.Kernel7Ideal.main_arg17)) (m ((c.tc : Thread Cert.Kernel7Ideal.nD Cert.Kernel7Ideal.τ).loc Cert.Kernel7Ideal.main_arg18))).2.2.1 = (fun _ => 1#1)
    ∧ (Cert.Pre_finite_contexts.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14)) (m ((c.tc : Thread Cert.Kernel7Ideal.nD Cert.Kernel7Ideal.τ).loc Cert.Kernel7Ideal.main_arg15)) (m ((c.tc : Thread Cert.Kernel7Ideal.nD Cert.Kernel7Ideal.τ).loc Cert.Kernel7Ideal.main_arg16)) (m ((c.tc : Thread Cert.Kernel7Ideal.nD Cert.Kernel7Ideal.τ).loc Cert.Kernel7Ideal.main_arg17)) (m ((c.tc : Thread Cert.Kernel7Ideal.nD Cert.Kernel7Ideal.τ).loc Cert.Kernel7Ideal.main_arg18))).2.2.2.1 = (fun _ => 1#1)
    ∧ (Cert.Pre_finite_contexts.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14)) (m ((c.tc : Thread Cert.Kernel7Ideal.nD Cert.Kernel7Ideal.τ).loc Cert.Kernel7Ideal.main_arg15)) (m ((c.tc : Thread Cert.Kernel7Ideal.nD Cert.Kernel7Ideal.τ).loc Cert.Kernel7Ideal.main_arg16)) (m ((c.tc : Thread Cert.Kernel7Ideal.nD Cert.Kernel7Ideal.τ).loc Cert.Kernel7Ideal.main_arg17)) (m ((c.tc : Thread Cert.Kernel7Ideal.nD Cert.Kernel7Ideal.τ).loc Cert.Kernel7Ideal.main_arg18))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_contexts [hPre_finite_contexts : Cert.Pre_finite_contexts.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_contexts.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14)) (m ((c.tc : Thread Cert.Reference7Ideal.nD Cert.Reference7Ideal.τ).loc Cert.Reference7Ideal.main_arg15)) (m ((c.tc : Thread Cert.Reference7Ideal.nD Cert.Reference7Ideal.τ).loc Cert.Reference7Ideal.main_arg16)) (m ((c.tc : Thread Cert.Reference7Ideal.nD Cert.Reference7Ideal.τ).loc Cert.Reference7Ideal.main_arg17)) (m ((c.tc : Thread Cert.Reference7Ideal.nD Cert.Reference7Ideal.τ).loc Cert.Reference7Ideal.main_arg18))).1 = (fun _ => 1#1)
    ∧ (Cert.Pre_finite_contexts.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14)) (m ((c.tc : Thread Cert.Reference7Ideal.nD Cert.Reference7Ideal.τ).loc Cert.Reference7Ideal.main_arg15)) (m ((c.tc : Thread Cert.Reference7Ideal.nD Cert.Reference7Ideal.τ).loc Cert.Reference7Ideal.main_arg16)) (m ((c.tc : Thread Cert.Reference7Ideal.nD Cert.Reference7Ideal.τ).loc Cert.Reference7Ideal.main_arg17)) (m ((c.tc : Thread Cert.Reference7Ideal.nD Cert.Reference7Ideal.τ).loc Cert.Reference7Ideal.main_arg18))).2.1 = (fun _ => 1#1)
    ∧ (Cert.Pre_finite_contexts.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14)) (m ((c.tc : Thread Cert.Reference7Ideal.nD Cert.Reference7Ideal.τ).loc Cert.Reference7Ideal.main_arg15)) (m ((c.tc : Thread Cert.Reference7Ideal.nD Cert.Reference7Ideal.τ).loc Cert.Reference7Ideal.main_arg16)) (m ((c.tc : Thread Cert.Reference7Ideal.nD Cert.Reference7Ideal.τ).loc Cert.Reference7Ideal.main_arg17)) (m ((c.tc : Thread Cert.Reference7Ideal.nD Cert.Reference7Ideal.τ).loc Cert.Reference7Ideal.main_arg18))).2.2.1 = (fun _ => 1#1)
    ∧ (Cert.Pre_finite_contexts.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14)) (m ((c.tc : Thread Cert.Reference7Ideal.nD Cert.Reference7Ideal.τ).loc Cert.Reference7Ideal.main_arg15)) (m ((c.tc : Thread Cert.Reference7Ideal.nD Cert.Reference7Ideal.τ).loc Cert.Reference7Ideal.main_arg16)) (m ((c.tc : Thread Cert.Reference7Ideal.nD Cert.Reference7Ideal.τ).loc Cert.Reference7Ideal.main_arg17)) (m ((c.tc : Thread Cert.Reference7Ideal.nD Cert.Reference7Ideal.τ).loc Cert.Reference7Ideal.main_arg18))).2.2.2.1 = (fun _ => 1#1)
    ∧ (Cert.Pre_finite_contexts.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14)) (m ((c.tc : Thread Cert.Reference7Ideal.nD Cert.Reference7Ideal.τ).loc Cert.Reference7Ideal.main_arg15)) (m ((c.tc : Thread Cert.Reference7Ideal.nD Cert.Reference7Ideal.τ).loc Cert.Reference7Ideal.main_arg16)) (m ((c.tc : Thread Cert.Reference7Ideal.nD Cert.Reference7Ideal.τ).loc Cert.Reference7Ideal.main_arg17)) (m ((c.tc : Thread Cert.Reference7Ideal.nD Cert.Reference7Ideal.τ).loc Cert.Reference7Ideal.main_arg18))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_conditions [hPre_finite_conditions : Cert.Pre_finite_conditions.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_conditions.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 = (fun _ => 1#1)
    ∧ (Cert.Pre_finite_conditions.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_conditions [hPre_finite_conditions : Cert.Pre_finite_conditions.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_conditions.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).1 = (fun _ => 1#1)
    ∧ (Cert.Pre_finite_conditions.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] [hPre_dispatch_plan : Cert.Pre_dispatch_plan.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_dispatch_plan : Cert.Pre_dispatch_plan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_dispatch_plan [hReferenceIdeal : Cert.ReferenceIdeal.Facts] [hPre_dispatch_plan : Cert.Pre_dispatch_plan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dispatch_plan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18))
      ∧ r.2.sem = fun _ => 0)

def quiescent_Kernel6Ideal_pre_finite_latents [hKernel6Ideal : Cert.Kernel6Ideal.Facts] [hPre_finite_latents : Cert.Pre_finite_latents.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_latents m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18))
      ∧ r.2.sem = fun _ => 0)

def quiescent_Reference6Ideal_pre_finite_latents [hReference6Ideal : Cert.Reference6Ideal.Facts] [hPre_finite_latents : Cert.Pre_finite_latents.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_latents m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18))
      ∧ r.2.sem = fun _ => 0)

def quiescent_Kernel7Ideal_pre_finite_contexts [hKernel7Ideal : Cert.Kernel7Ideal.Facts] [hPre_finite_contexts : Cert.Pre_finite_contexts.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_contexts m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18))
      ∧ r.2.sem = fun _ => 0)

def quiescent_Reference7Ideal_pre_finite_contexts [hReference7Ideal : Cert.Reference7Ideal.Facts] [hPre_finite_contexts : Cert.Pre_finite_contexts.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_contexts m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_conditions [hKernel8Ideal : Cert.Kernel8Ideal.Facts] [hPre_finite_conditions : Cert.Pre_finite_conditions.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_conditions m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_conditions [hReference8Ideal : Cert.Reference8Ideal.Facts] [hPre_finite_conditions : Cert.Pre_finite_conditions.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_conditions m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_on_filled_slots [hKernelIdeal : Cert.KernelIdeal.Facts] [hReferenceIdeal : Cert.ReferenceIdeal.Facts] [hPre_dispatch_plan : Cert.Pre_dispatch_plan.Facts] [hOn_filled_slots : Cert.On_filled_slots.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![81920, 1024]⟩ : Shape).Idx, (Cert.On_filled_slots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![81920, 1024]⟩ : Shape).Idx, (Cert.On_filled_slots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.ReferenceIdeal.nD Cert.ReferenceIdeal.τ).loc Cert.ReferenceIdeal.main_v54) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_v32) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_latents [hKernel6Ideal : Cert.Kernel6Ideal.Facts] [hReference6Ideal : Cert.Reference6Ideal.Facts] [hPre_finite_latents : Cert.Pre_finite_latents.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_latents m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v162) = v0 c
          ∧ r.2.mem ((c.tc : Thread Cert.Reference6Ideal.nD Cert.Reference6Ideal.τ).loc Cert.Reference6Ideal.main_v164) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18))

def preserves_Kernel7_Kernel7Ideal : Prop :=
  True

def algebraic_Kernel7Ideal_Reference7Ideal_pre_finite_contexts [hKernel7Ideal : Cert.Kernel7Ideal.Facts] [hReference7Ideal : Cert.Reference7Ideal.Facts] [hPre_finite_contexts : Cert.Pre_finite_contexts.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_contexts m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v162) = v0 c
          ∧ r.2.mem ((c.tc : Thread Cert.Reference7Ideal.nD Cert.Reference7Ideal.τ).loc Cert.Reference7Ideal.main_v164) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18))

def preserves_Kernel8_Kernel8Ideal : Prop :=
  True

def algebraic_Kernel8Ideal_Reference8Ideal_pre_finite_conditions [hKernel8Ideal : Cert.Kernel8Ideal.Facts] [hReference8Ideal : Cert.Reference8Ideal.Facts] [hPre_finite_conditions : Cert.Pre_finite_conditions.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_conditions m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v244) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v244) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_dispatch_plan : Cert.Pre_dispatch_plan.Facts) (hPre_finite_latents : Cert.Pre_finite_latents.Facts) (hPre_finite_contexts : Cert.Pre_finite_contexts.Facts) (hPre_finite_conditions : Cert.Pre_finite_conditions.Facts) (hOn_filled_slots : Cert.On_filled_slots.Facts),
    quiescent_Kernel (hKernel := hKernel) (hPre_dispatch_plan := hPre_dispatch_plan)
    ∧ quiescent_KernelIdeal (hKernelIdeal := hKernelIdeal) (hPre_dispatch_plan := hPre_dispatch_plan)
    ∧ quiescent_ReferenceIdeal (hReferenceIdeal := hReferenceIdeal)
    ∧ quiescent_ReferenceIdeal_pre_dispatch_plan (hReferenceIdeal := hReferenceIdeal) (hPre_dispatch_plan := hPre_dispatch_plan)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_latents (hKernel6Ideal := hKernel6Ideal) (hPre_finite_latents := hPre_finite_latents)
    ∧ quiescent_Reference6Ideal (hReference6Ideal := hReference6Ideal)
    ∧ quiescent_Reference6Ideal_pre_finite_latents (hReference6Ideal := hReference6Ideal) (hPre_finite_latents := hPre_finite_latents)
    ∧ quiescent_Kernel7 (hKernel7 := hKernel7)
    ∧ quiescent_Kernel7Ideal (hKernel7Ideal := hKernel7Ideal)
    ∧ quiescent_Kernel7Ideal_pre_finite_contexts (hKernel7Ideal := hKernel7Ideal) (hPre_finite_contexts := hPre_finite_contexts)
    ∧ quiescent_Reference7Ideal (hReference7Ideal := hReference7Ideal)
    ∧ quiescent_Reference7Ideal_pre_finite_contexts (hReference7Ideal := hReference7Ideal) (hPre_finite_contexts := hPre_finite_contexts)
    ∧ quiescent_Kernel8 (hKernel8 := hKernel8)
    ∧ quiescent_Kernel8Ideal (hKernel8Ideal := hKernel8Ideal)
    ∧ quiescent_Kernel8Ideal_pre_finite_conditions (hKernel8Ideal := hKernel8Ideal) (hPre_finite_conditions := hPre_finite_conditions)
    ∧ quiescent_Reference8Ideal (hReference8Ideal := hReference8Ideal)
    ∧ quiescent_Reference8Ideal_pre_finite_conditions (hReference8Ideal := hReference8Ideal) (hPre_finite_conditions := hPre_finite_conditions)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_on_filled_slots (hKernelIdeal := hKernelIdeal) (hReferenceIdeal := hReferenceIdeal) (hPre_dispatch_plan := hPre_dispatch_plan) (hOn_filled_slots := hOn_filled_slots)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_latents (hKernel6Ideal := hKernel6Ideal) (hReference6Ideal := hReference6Ideal) (hPre_finite_latents := hPre_finite_latents)
    ∧ preserves_Kernel7_Kernel7Ideal
    ∧ algebraic_Kernel7Ideal_Reference7Ideal_pre_finite_contexts (hKernel7Ideal := hKernel7Ideal) (hReference7Ideal := hReference7Ideal) (hPre_finite_contexts := hPre_finite_contexts)
    ∧ preserves_Kernel8_Kernel8Ideal
    ∧ algebraic_Kernel8Ideal_Reference8Ideal_pre_finite_conditions (hKernel8Ideal := hKernel8Ideal) (hReference8Ideal := hReference8Ideal) (hPre_finite_conditions := hPre_finite_conditions)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== On_filled_slots.lean ====
abbrev S160 : Shape := ⟨1, ![160]⟩
abbrev S81920x1024 : Shape := ⟨2, ![81920, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S160x512x1024 : Shape := ⟨3, ![160, 512, 1024]⟩
abbrev S160x1x1 : Shape := ⟨3, ![160, 1, 1]⟩

class Facts : Prop where
  bcast_S160_S160x1x1_0 : S160.BroadcastsInDim S160x1x1 (![0] : Fin 1 → Fin S160x1x1.rank)
  bcast_S160x1x1_S160x512x1024_0_1_2 : S160x1x1.BroadcastsInDim S160x512x1024 (![0, 1, 2] : Fin 3 → Fin S160x512x1024.rank)
  shapeCasts_S160x512x1024_S81920x1024 : S160x512x1024.ShapeCasts S81920x1024

variable [Facts]

def fn {F : FTy → Type} [FloatOps F] (main_arg0 : IVec S160 32) (main_arg1 : IVec S160 32) (main_arg2 : IVec S160 32) (main_arg3 : IVec S160 32) (main_arg4 : FVec F S81920x1024 .bf16) (main_arg5 : FVec F S32x1024x2048 .f32) (main_arg6 : FVec F S32x1x2048 .f32) (main_arg7 : FVec F S32x1024x1024 .f32) (main_arg8 : FVec F S32x1x1024 .f32) : IVec S81920x1024 1 :=
  let main_v0 : IVec S160x512x1024 32 := iotaInDim S160x512x1024 32 1
  let main_v1 : IVec S160x1x1 32 := broadcastInDim S160x1x1 ![0] bcast_S160_S160x1x1_0 main_arg2
  let main_v2 : IVec S160x512x1024 32 := broadcastInDim S160x512x1024 ![0, 1, 2] bcast_S160x1x1_S160x512x1024_0_1_2 main_v1
  let main_v3 : IVec S160x512x1024 1 := cmpi .slt main_v0 main_v2
  let main_v4 : IVec S81920x1024 1 := shapeCast S81920x1024 main_v3 shapeCasts_S160x512x1024_S81920x1024
  main_v4
-- ==== Pre_dispatch_plan.lean ====
abbrev S160 : Shape := ⟨1, ![160]⟩
abbrev S81920x1024 : Shape := ⟨2, ![81920, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩
abbrev S1 : Shape := ⟨1, ![1]⟩
abbrev S159 : Shape := ⟨1, ![159]⟩

class Facts : Prop where
  bcast_S_S160 : S_.BroadcastsInDim S160 (![] : Fin 0 → Fin S160.rank)
  bcast_S_S1 : S_.BroadcastsInDim S1 (![] : Fin 0 → Fin S1.rank)
  slices_S160_S159_1 : S160.Slices ![1] S159
  slices_S160_S159_0 : S160.Slices ![0] S159
  concatenates_S1_S159_S160_d0 : Shape.Concatenates [S1, S159] S160 0
  concatenates_S159_S1_S160_d0 : Shape.Concatenates [S159, S1] S160 0

variable [Facts]

def fn_where {F : FTy → Type} [FloatOps F] (arg0 : IVec S159 1) (arg1 : IVec S159 32) (arg2 : IVec S159 32) : IVec S159 32 :=
  let v0 : IVec S159 32 := select arg0 arg1 arg2
  v0

def fn_part1 {F : FTy → Type} [FloatOps F] (main_arg3 : IVec S160 32) (main_v12 : IVec S160 32) (main_v17 : IVec S160 1) (main_v18 : IVec S160 1) : IVec S160 1 × IVec S160 1 × IVec S160 1 :=
  let main_v19 : IVec S160 1 := cmpi .eq main_arg3 main_v12
  (main_v17, main_v18, main_v19)

def fn {F : FTy → Type} [FloatOps F] (main_arg0 : IVec S160 32) (main_arg1 : IVec S160 32) (main_arg2 : IVec S160 32) (main_arg3 : IVec S160 32) (main_arg4 : FVec F S81920x1024 .bf16) (main_arg5 : FVec F S32x1024x2048 .f32) (main_arg6 : FVec F S32x1x2048 .f32) (main_arg7 : FVec F S32x1024x1024 .f32) (main_arg8 : FVec F S32x1x1024 .f32) : IVec S160 1 × IVec S160 1 × IVec S160 1 :=
  let main_c : IVec S_ 32 := constantI S_ 32 1#32
  let main_v0 : IVec S160 32 := broadcastInDim S160 ![] bcast_S_S160 main_c
  let main_v1 : IVec S160 1 := cmpi .eq main_arg1 main_v0
  let main_c_0 : IVec S_ 1 := constantI S_ 1 1#1
  let main_v2 : IVec S1 1 := broadcastInDim S1 ![] bcast_S_S1 main_c_0
  let main_v3 : IVec S159 32 := (extractStridedSlice S159 ![1] · slices_S160_S159_1) main_arg0
  let main_v4 : IVec S159 32 := (extractStridedSlice S159 ![0] · slices_S160_S159_0) main_arg0
  let main_v5 : IVec S159 1 := cmpi .ne main_v3 main_v4
  let main_v6 : IVec S160 1 := (fun a b => concatenate S160 0 [⟨S1, a⟩, ⟨S159, b⟩] concatenates_S1_S159_S160_d0) main_v2 main_v5
  let main_v7 : IVec S159 1 := (extractStridedSlice S159 ![1] · slices_S160_S159_1) main_v1
  let main_v8 : IVec S159 32 := (extractStridedSlice S159 ![1] · slices_S160_S159_1) main_arg0
  let main_v9 : IVec S159 32 := (extractStridedSlice S159 ![1] · slices_S160_S159_1) main_arg3
  let main_v10 : IVec S159 32 := fn_where (F := F) main_v7 main_v8 main_v9
  let main_c_1 : IVec S_ 32 := constantI S_ 32 4294967295#32
  let main_v11 : IVec S1 32 := broadcastInDim S1 ![] bcast_S_S1 main_c_1
  let main_v12 : IVec S160 32 := (fun a b => concatenate S160 0 [⟨S159, a⟩, ⟨S1, b⟩] concatenates_S159_S1_S160_d0) main_v10 main_v11
  let main_c_2 : IVec S_ 32 := constantI S_ 32 0#32
  let main_v13 : IVec S160 32 := broadcastInDim S160 ![] bcast_S_S160 main_c_2
  let main_v14 : IVec S160 1 := cmpi .sge main_arg0 main_v13
  let main_c_3 : IVec S_ 32 := constantI S_ 32 32#32
  let main_v15 : IVec S160 32 := broadcastInDim S160 ![] bcast_S_S160 main_c_3
  let main_v16 : IVec S160 1 := cmpi .slt main_arg0 main_v15
  let main_v17 : IVec S160 1 := andi main_v14 main_v16
  let main_v18 : IVec S160 1 := cmpi .eq main_v1 main_v6
  fn_part1 (F := F) main_arg3 main_v12 main_v17 main_v18
-- ==== Pre_finite_conditions.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩

class Facts : Prop where
  bcast_S_S16x1024 : S_.BroadcastsInDim S16x1024 (![] : Fin 0 → Fin S16x1024.rank)
  bcast_S_S1024x6144 : S_.BroadcastsInDim S1024x6144 (![] : Fin 0 → Fin S1024x6144.rank)

variable [Facts]

def fn {F : FTy → Type} [FloatOps F] (main_arg0 : FVec F S16x1024 .f32) (main_arg1 : FVec F S1024x6144 .f32) (main_arg2 : FVec F S6144 .f32) : IVec S16x1024 1 × IVec S1024x6144 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_v3 : FVec F S1024x6144 .f32 := Host.absf main_arg1
  let main_cst_0 : FVec F S_ .f32 := constant S_ .f32 0x7F800000#32
  let main_v4 : FVec F S1024x6144 .f32 := broadcastInDim S1024x6144 ![] bcast_S_S1024x6144 main_cst_0
  let main_v5 : IVec S1024x6144 1 := cmpf .olt main_v3 main_v4
  (main_v2, main_v5)
-- ==== Pre_finite_contexts.lean ====
abbrev S8192x1024 : Shape := ⟨2, ![8192, 1024]⟩
abbrev S1x6x1024 : Shape := ⟨3, ![1, 6, 1024]⟩
abbrev S8192x512 : Shape := ⟨2, ![8192, 512]⟩
abbrev S8192x1536 : Shape := ⟨2, ![8192, 1536]⟩
abbrev S8192x384 : Shape := ⟨2, ![8192, 384]⟩
abbrev S2x128x512 : Shape := ⟨3, ![2, 128, 512]⟩
abbrev S2x512 : Shape := ⟨2, ![2, 512]⟩
abbrev S1x512 : Shape := ⟨2, ![1, 512]⟩
abbrev S128x512 : Shape := ⟨2, ![128, 512]⟩
abbrev S1024x1024 : Shape := ⟨2, ![1024, 1024]⟩
abbrev S1x1024 : Shape := ⟨2, ![1, 1024]⟩
abbrev S2x1024x128 : Shape := ⟨3, ![2, 1024, 128]⟩
abbrev S1x128 : Shape := ⟨2, ![1, 128]⟩
abbrev S_ : Shape := ⟨0, ![]⟩

class Facts : Prop where
  bcast_S_S8192x512 : S_.BroadcastsInDim S8192x512 (![] : Fin 0 → Fin S8192x512.rank)
  bcast_S_S8192x1536 : S_.BroadcastsInDim S8192x1536 (![] : Fin 0 → Fin S8192x1536.rank)
  bcast_S_S1x512 : S_.BroadcastsInDim S1x512 (![] : Fin 0 → Fin S1x512.rank)

variable [Facts]

def fn {F : FTy → Type} [FloatOps F] (main_arg0 : FVec F S8192x1024 .f32) (main_arg1 : FVec F S1x6x1024 .f32) (main_arg2 : FVec F S8192x512 .f32) (main_arg3 : FVec F S8192x512 .f32) (main_arg4 : FVec F S8192x512 .f32) (main_arg5 : FVec F S8192x1536 .f32) (main_arg6 : FVec F S8192x384 .f32) (main_arg7 : FVec F S2x128x512 .bf16) (main_arg8 : FVec F S2x512 .f32) (main_arg9 : FVec F S1x512 .f32) (main_arg10 : FVec F S1x512 .f32) (main_arg11 : FVec F S1x512 .f32) (main_arg12 : FVec F S1x512 .f32) (main_arg13 : FVec F S128x512 .bf16) (main_arg14 : FVec F S1024x1024 .bf16) (main_arg15 : FVec F S1x1024 .f32) (main_arg16 : FVec F S1x1024 .f32) (main_arg17 : FVec F S2x1024x128 .bf16) (main_arg18 : FVec F S1x128 .f32) : IVec S8192x512 1 × IVec S8192x512 1 × IVec S8192x1536 1 × IVec S1x512 1 × IVec S1x512 1 :=
  let main_v0 : FVec F S8192x512 .f32 := Host.absf main_arg3
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg4
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x1536 .f32 := Host.absf main_arg5
  let main_cst_1 : FVec F S_ .f32 := constant S_ .f32 0x7F800000#32
  let main_v7 : FVec F S8192x1536 .f32 := broadcastInDim S8192x1536 ![] bcast_S_S8192x1536 main_cst_1
  let main_v8 : IVec S8192x1536 1 := cmpf .olt main_v6 main_v7
  let main_v9 : FVec F S1x512 .f32 := Host.absf main_arg9
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x512 .f32 := Host.absf main_arg10
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  (main_v2, main_v5, main_v8, main_v11, main_v14)
-- ==== Pre_finite_latents.lean ====
abbrev S8192x1024 : Shape := ⟨2, ![8192, 1024]⟩
abbrev S8x6x1024 : Shape := ⟨3, ![8, 6, 1024]⟩
abbrev S8192x512 : Shape := ⟨2, ![8192, 512]⟩
abbrev S8192x1536 : Shape := ⟨2, ![8192, 1536]⟩
abbrev S8192x384 : Shape := ⟨2, ![8192, 384]⟩
abbrev S2x128x512 : Shape := ⟨3, ![2, 128, 512]⟩
abbrev S2x512 : Shape := ⟨2, ![2, 512]⟩
abbrev S1x512 : Shape := ⟨2, ![1, 512]⟩
abbrev S128x512 : Shape := ⟨2, ![128, 512]⟩
abbrev S1024x1024 : Shape := ⟨2, ![1024, 1024]⟩
abbrev S1x1024 : Shape := ⟨2, ![1, 1024]⟩
abbrev S2x1024x128 : Shape := ⟨3, ![2, 1024, 128]⟩
abbrev S1x128 : Shape := ⟨2, ![1, 128]⟩
abbrev S_ : Shape := ⟨0, ![]⟩

class Facts : Prop where
  bcast_S_S8192x512 : S_.BroadcastsInDim S8192x512 (![] : Fin 0 → Fin S8192x512.rank)
  bcast_S_S8192x1536 : S_.BroadcastsInDim S8192x1536 (![] : Fin 0 → Fin S8192x1536.rank)
  bcast_S_S1x512 : S_.BroadcastsInDim S1x512 (![] : Fin 0 → Fin S1x512.rank)

variable [Facts]

def fn {F : FTy → Type} [FloatOps F] (main_arg0 : FVec F S8192x1024 .f32) (main_arg1 : FVec F S8x6x1024 .f32) (main_arg2 : FVec F S8192x512 .f32) (main_arg3 : FVec F S8192x512 .f32) (main_arg4 : FVec F S8192x512 .f32) (main_arg5 : FVec F S8192x1536 .f32) (main_arg6 : FVec F S8192x384 .f32) (main_arg7 : FVec F S2x128x512 .bf16) (main_arg8 : FVec F S2x512 .f32) (main_arg9 : FVec F S1x512 .f32) (main_arg10 : FVec F S1x512 .f32) (main_arg11 : FVec F S1x512 .f32) (main_arg12 : FVec F S1x512 .f32) (main_arg13 : FVec F S128x512 .bf16) (main_arg14 : FVec F S1024x1024 .bf16) (main_arg15 : FVec F S1x1024 .f32) (main_arg16 : FVec F S1x1024 .f32) (main_arg17 : FVec F S2x1024x128 .bf16) (main_arg18 : FVec F S1x128 .f32) : IVec S8192x512 1 × IVec S8192x512 1 × IVec S8192x1536 1 × IVec S1x512 1 × IVec S1x512 1 :=
  let main_v0 : FVec F S8192x512 .f32 := Host.absf main_arg3
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg4
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x1536 .f32 := Host.absf main_arg5
  let main_cst_1 : FVec F S_ .f32 := constant S_ .f32 0x7F800000#32
  let main_v7 : FVec F S8192x1536 .f32 := broadcastInDim S8192x1536 ![] bcast_S_S8192x1536 main_cst_1
  let main_v8 : IVec S8192x1536 1 := cmpf .olt main_v6 main_v7
  let main_v9 : FVec F S1x512 .f32 := Host.absf main_arg9
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x512 .f32 := Host.absf main_arg10
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  (main_v2, main_v5, main_v8, main_v11, main_v14)
-- ==== Kernel.lean ====
abbrev S160 : Shape := ⟨1, ![160]⟩
abbrev S81920x1024 : Shape := ⟨2, ![81920, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512x1024 : Shape := ⟨2, ![512, 1024]⟩
abbrev S1x1x2048 : Shape := ⟨3, ![1, 1, 2048]⟩
abbrev S1 : Shape := ⟨1, ![1]⟩
abbrev S1x1x1024 : Shape := ⟨3, ![1, 1, 1024]⟩
abbrev S1024x2048 : Shape := ⟨2, ![1024, 2048]⟩
abbrev S1024x1024 : Shape := ⟨2, ![1024, 1024]⟩
abbrev S2 : Shape := ⟨1, ![2]⟩
abbrev S_ : Shape := ⟨0, ![]⟩
abbrev S1x1024x2048 : Shape := ⟨3, ![1, 1024, 2048]⟩
abbrev S1x1024x1024 : Shape := ⟨3, ![1, 1024, 1024]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 12
  | .smem => 4
  | _ => 0

abbrev bufTy : (tb : Table) → Fin (tcTables nBuf tb) → BufTy
  | .hbm, ⟨0, _⟩ => ⟨S81920x1024, .bf16⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S81920x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S1024x2048, .f32⟩
  | .local _ .vmem, ⟨9, _⟩ => ⟨S1024x1024, .f32⟩
  | .local _ .vmem, ⟨10, _⟩ => ⟨S1024x2048, .bf16⟩
  | .local _ .vmem, ⟨11, _⟩ => ⟨S1024x1024, .bf16⟩
  | .local _ .smem, ⟨0, _⟩ => ⟨S160, .i32⟩
  | .local _ .smem, ⟨1, _⟩ => ⟨S160, .i32⟩
  | .local _ .smem, ⟨2, _⟩ => ⟨S160, .i32⟩
  | .local _ .smem, ⟨3, _⟩ => ⟨S160, .i32⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![160], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off2 (v22 : BitVec 32) : Fin 3 → Nat :=
  let c0_i32_10 : BitVec 32 := 0#32
  let c0_i32_11 : BitVec 32 := 0#32
  ![v22.toNat, 0, 0]

def k0_off3 (v22 : BitVec 32) : Fin 3 → Nat :=
  let c0_i32_13 : BitVec 32 := 0#32
  let c0_i32_14 : BitVec 32 := 0#32
  ![v22.toNat, 0, 0]

def k0_chk1 (i : grid0.Coords) (v22 : BitVec 32) : Prop :=
  (∀ (k0_h1 : k0_cond1 i = 1#1), ∀ a, (k0_off2 v22) a + S1x1024x2048.size a ≤ S32x1024x2048.size a) ∧
  (∀ (k0_h1 : k0_cond1 i = 1#1), ∀ a, (k0_off3 v22) a + S1x1024x1024.size a ≤ S32x1024x1024.size a)
theorem k0_off2_inb : ∀ (i : grid0.Coords) (v22 : BitVec 32) (k0_hw1 : k0_chk1 i v22), ∀ (k0_h1 : k0_cond1 i = 1#1), ∀ a, (k0_off2 v22) a + S1x1024x2048.size a ≤ S32x1024x2048.size a := fun i v22 k0_hw1 k0_h1 => k0_hw1.1 k0_h1
theorem k0_off3_inb : ∀ (i : grid0.Coords) (v22 : BitVec 32) (k0_hw1 : k0_chk1 i v22), ∀ (k0_h1 : k0_cond1 i = 1#1), ∀ a, (k0_off3 v22) a + S1x1024x1024.size a ≤ S32x1024x1024.size a := fun i v22 k0_hw1 k0_h1 => k0_hw1.2 k0_h1

def k0_off4 (i : grid0.Coords) : Fin 1 → Nat :=
  let arg0 : BitVec 32 := BitVec.ofNat 32 (i 0).val
  let v22 : Index := Scalar.indexCast arg0
  ![v22.toNat]
def k0_off5 (v23 : BitVec 32) : Fin 3 → Nat :=
  let c0_i32_10 : BitVec 32 := 0#32
  let c0_i32_11 : BitVec 32 := 0#32
  ![v23.toNat, 0, 0]
def k0_cond2 (v6 : BitVec 32) : BitVec 1 :=
  let c1_i32 : BitVec 32 := 1#32
  let v7 : BitVec 1 := Scalar.cmpi .eq v6 c1_i32
  let v8 : BitVec 32 := Scalar.extui v7
  let c0_i32_1 : BitVec 32 := 0#32
  let v9 : BitVec 1 := Scalar.cmpi .ne v8 c0_i32_1
  v9

def k0_off6 (v23 : BitVec 32) : Fin 3 → Nat :=
  let c0_i32_13 : BitVec 32 := 0#32
  let c0_i32_14 : BitVec 32 := 0#32
  ![v23.toNat, 0, 0]

def k0_chk2 (v6 : BitVec 32) (v23 : BitVec 32) : Prop :=
  (∀ (k0_h2 : k0_cond2 v6 = 1#1), ∀ a, (k0_off5 v23) a + S1x1024x2048.size a ≤ S32x1024x2048.size a) ∧
  (∀ (k0_h2 : k0_cond2 v6 = 1#1), ∀ a, (k0_off6 v23) a + S1x1024x1024.size a ≤ S32x1024x1024.size a)
theorem k0_off5_inb : ∀ (v6 : BitVec 32) (v23 : BitVec 32) (k0_hw2 : k0_chk2 v6 v23), ∀ (k0_h2 : k0_cond2 v6 = 1#1), ∀ a, (k0_off5 v23) a + S1x1024x2048.size a ≤ S32x1024x2048.size a := fun v6 v23 k0_hw2 k0_h2 => k0_hw2.1 k0_h2
theorem k0_off6_inb : ∀ (v6 : BitVec 32) (v23 : BitVec 32) (k0_hw2 : k0_chk2 v6 v23), ∀ (k0_h2 : k0_cond2 v6 = 1#1), ∀ a, (k0_off6 v23) a + S1x1024x1024.size a ≤ S32x1024x1024.size a := fun v6 v23 k0_hw2 k0_h2 => k0_hw2.2 k0_h2

def k0_off7 (i : grid0.Coords) : Fin 1 → Nat :=
  let arg0 : BitVec 32 := BitVec.ofNat 32 (i 0).val
  let v42 : Index := Scalar.indexCast arg0
  ![v42.toNat]
def k0_off8 (i : grid0.Coords) : Fin 1 → Nat :=
  let arg0 : BitVec 32 := BitVec.ofNat 32 (i 0).val
  let v47 : Index := Scalar.indexCast arg0
  ![v47.toNat]
def k0_off9 (v48 : BitVec 32) : Fin 3 → Nat :=
  let c0_i32_25 : BitVec 32 := 0#32
  let c0_i32_26 : BitVec 32 := 0#32
  ![v48.toNat, 0, 0]
def k0_cond3 (v43 : BitVec 32) : BitVec 1 :=
  let c0_i32_22 : BitVec 32 := 0#32
  let v44 : BitVec 1 := Scalar.cmpi .sge v43 c0_i32_22
  let v45 : BitVec 32 := Scalar.extui v44
  let c0_i32_23 : BitVec 32 := 0#32
  let v46 : BitVec 1 := Scalar.cmpi .ne v45 c0_i32_23
  v46

def k0_off10 (v48 : BitVec 32) : Fin 3 → Nat :=
  let c0_i32_28 : BitVec 32 := 0#32
  let c0_i32_29 : BitVec 32 := 0#32
  ![v48.toNat, 0, 0]

def k0_chk3 (v6 : BitVec 32) (v43 : BitVec 32) (v48 : BitVec 32) : Prop :=
  (∀ (k0_h2 : k0_cond2 v6 = 1#1), ∀ (k0_h3 : k0_cond3 v43 = 1#1), ∀ a, (k0_off9 v48) a + S1x1024x2048.size a ≤ S32x1024x2048.size a) ∧
  (∀ (k0_h2 : k0_cond2 v6 = 1#1), ∀ (k0_h3 : k0_cond3 v43 = 1#1), ∀ a, (k0_off10 v48) a + S1x1024x1024.size a ≤ S32x1024x1024.size a)
theorem k0_off9_inb : ∀ (v6 : BitVec 32) (v43 : BitVec 32) (v48 : BitVec 32) (k0_hw3 : k0_chk3 v6 v43 v48), ∀ (k0_h2 : k0_cond2 v6 = 1#1), ∀ (k0_h3 : k0_cond3 v43 = 1#1), ∀ a, (k0_off9 v48) a + S1x1024x2048.size a ≤ S32x1024x2048.size a := fun v6 v43 v48 k0_hw3 k0_h2 k0_h3 => k0_hw3.1 k0_h2 k0_h3
theorem k0_off10_inb : ∀ (v6 : BitVec 32) (v43 : BitVec 32) (v48 : BitVec 32) (k0_hw3 : k0_chk3 v6 v43 v48), ∀ (k0_h2 : k0_cond2 v6 = 1#1), ∀ (k0_h3 : k0_cond3 v43 = 1#1), ∀ a, (k0_off10 v48) a + S1x1024x1024.size a ≤ S32x1024x1024.size a := fun v6 v43 v48 k0_hw3 k0_h2 k0_h3 => k0_hw3.2 k0_h2 k0_h3

def k0_cond4 (v1 : BitVec 32) : BitVec 1 :=
  let c0_i32_2 : BitVec 32 := 0#32
  let v10 : BitVec 1 := Scalar.cmpi .sgt v1 c0_i32_2
  let v11 : BitVec 32 := Scalar.extui v10
  let c0_i32_3 : BitVec 32 := 0#32
  let v12 : BitVec 1 := Scalar.cmpi .ne v11 c0_i32_3
  v12

def k0_cond5 (v1 : BitVec 32) : BitVec 1 :=
  let c0_i32_4 : BitVec 32 := 0#32
  let v13 : BitVec 1 := Scalar.cmpi .sle v1 c0_i32_4
  let v14 : BitVec 32 := Scalar.extui v13
  let c0_i32_5 : BitVec 32 := 0#32
  let v15 : BitVec 1 := Scalar.cmpi .ne v14 c0_i32_5
  v15

def k0_cond6 (v1 : BitVec 32) : BitVec 1 :=
  let c256_i32 : BitVec 32 := 256#32
  let v16 : BitVec 1 := Scalar.cmpi .sgt v1 c256_i32
  let v17 : BitVec 32 := Scalar.extui v16
  let c0_i32_6 : BitVec 32 := 0#32
  let v18 : BitVec 1 := Scalar.cmpi .ne v17 c0_i32_6
  v18

def k0_cond7 (v1 : BitVec 32) : BitVec 1 :=
  let c256_i32_7 : BitVec 32 := 256#32
  let v19 : BitVec 1 := Scalar.cmpi .sle v1 c256_i32_7
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S160 : Shape := ⟨1, ![160]⟩
abbrev S81920x1024 : Shape := ⟨2, ![81920, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S160x512x1024 : Shape := ⟨3, ![160, 512, 1024]⟩
abbrev S_ : Shape := ⟨0, ![]⟩
abbrev S160x1 : Shape := ⟨2, ![160, 1]⟩
abbrev S160x1024x2048 : Shape := ⟨3, ![160, 1024, 2048]⟩
abbrev S160x512x2048 : Shape := ⟨3, ![160, 512, 2048]⟩
abbrev S160x1x2048 : Shape := ⟨3, ![160, 1, 2048]⟩
abbrev S160x1024x1024 : Shape := ⟨3, ![160, 1024, 1024]⟩
abbrev S160x1x1024 : Shape := ⟨3, ![160, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S160, .i32⟩
  | .hbm, ⟨3, _⟩ => ⟨S160, .i32⟩
  | .hbm, ⟨4, _⟩ => ⟨S81920x1024, .bf16⟩
  | .hbm, ⟨5, _⟩ => ⟨S32x1024x2048, .f32⟩
  | .hbm, ⟨6, _⟩ => ⟨S32x1x2048, .f32⟩
  | .hbm, ⟨7, _⟩ => ⟨S32x1024x1024, .f32⟩
  | .hbm, ⟨8, _⟩ => ⟨S32x1x1024, .f32⟩
  | .hbm, ⟨9, _⟩ => ⟨S81920x1024, .f32⟩
  | .hbm, ⟨10, _⟩ => ⟨S160x512x1024, .f32⟩
  | .hbm, ⟨11, _⟩ => ⟨S_, .i32⟩
  | .hbm, ⟨12, _⟩ => ⟨S160, .i32⟩
  | .hbm, ⟨13, _⟩ => ⟨S160, .i1⟩
  | .hbm, ⟨14, _⟩ => ⟨S_, .i32⟩
  | .hbm, ⟨15, _⟩ => ⟨S160, .i32⟩
  | .hbm, ⟨16, _⟩ => ⟨S160, .i32⟩
  | .hbm, ⟨17, _⟩ => ⟨S160, .i32⟩
  | .hbm, ⟨18, _⟩ => ⟨S160x1, .i32⟩
  | .hbm, ⟨19, _⟩ => ⟨S160x1024x2048, .f32⟩
  | .hbm, ⟨20, _⟩ => ⟨S160x512x2048, .f32⟩
  | .hbm, ⟨21, _⟩ => ⟨S_, .i32⟩
  | .hbm, ⟨22, _⟩ => ⟨S160, .i32⟩
  | .hbm, ⟨23, _⟩ => ⟨S160, .i1⟩
  | .hbm, ⟨24, _⟩ => ⟨S_, .i32⟩
  | .hbm, ⟨25, _⟩ => ⟨S160, .i32⟩
  | .hbm, ⟨26, _⟩ => ⟨S160, .i32⟩
  | .hbm, ⟨27, _⟩ => ⟨S160, .i32⟩
  | .hbm, ⟨28, _⟩ => ⟨S160x1, .i32⟩
  | .hbm, ⟨29, _⟩ => ⟨S160x1x2048, .f32⟩
  | .hbm, ⟨30, _⟩ => ⟨S160x512x2048, .f32⟩
  | .hbm, ⟨31, _⟩ => ⟨S160x512x2048, .f32⟩
  | .hbm, ⟨32, _⟩ => ⟨S160x512x1024, .f32⟩
  | .hbm, ⟨33, _⟩ => ⟨S160x512x1024, .f32⟩
  | .hbm, ⟨34, _⟩ => ⟨S_, .f32⟩
  | .hbm, ⟨35, _⟩ => ⟨S160x512x1024, .f32⟩
  | .hbm, ⟨36, _⟩ => ⟨S160x512x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S160x512x1024, .f32⟩
  | .hbm, ⟨41, _⟩ => ⟨S160x512x1024, .f32⟩
  | .hbm, ⟨42, _⟩ => ⟨S_, .f32⟩
  | .hbm, ⟨43, _⟩ => ⟨S160x512x1024, .f32⟩
  | .hbm, ⟨44, _⟩ => ⟨S160x512x1024, .f32⟩
  | .hbm, ⟨45, _⟩ => ⟨S_, .f32⟩
  | .hbm, ⟨46, _⟩ => ⟨S160x512x1024, .f32⟩
  | .hbm, ⟨47, _⟩ => ⟨S160x512x1024, .f32⟩
  | .hbm, ⟨48, _⟩ => ⟨S160x512x1024, .f32⟩
  | .hbm, ⟨49, _⟩ => ⟨S160x512x1024, .f32⟩
  | .hbm, ⟨50, _⟩ => ⟨S_, .f32⟩
  | .hbm, ⟨51, _⟩ => ⟨S160x512x1024, .f32⟩
  | .hbm, ⟨52, _⟩ => ⟨S160x512x1024, .f32⟩
  | .hbm, ⟨53, _⟩ => ⟨S_, .f32⟩
  | .hbm, ⟨54, _⟩ => ⟨S160x512x1024, .f32⟩
  | .hbm, ⟨55, _⟩ => ⟨S160x512x1024, .f32⟩
  | .hbm, ⟨56, _⟩ => ⟨S160x512x1024, .f32⟩
  | .hbm, ⟨57, _⟩ => ⟨S_, .f32⟩
  | .hbm, ⟨58, _⟩ => ⟨S160x512x1024, .f32⟩
  | .hbm, ⟨59, _⟩ => ⟨S160x512x1024, .f32⟩
  | .hbm, ⟨60, _⟩ => ⟨S160x512x1024, .f32⟩
  | .hbm, ⟨61, _⟩ => ⟨S_, .i32⟩
  | .hbm, ⟨62, _⟩ => ⟨S160, .i32⟩
  | .hbm, ⟨63, _⟩ => ⟨S160, .i1⟩
  | .hbm, ⟨64, _⟩ => ⟨S_, .i32⟩
  | .hbm, ⟨65, _⟩ => ⟨S160, .i32⟩
  | .hbm, ⟨66, _⟩ => ⟨S160, .i32⟩
  | .hbm, ⟨67, _⟩ => ⟨S160, .i32⟩
  | .hbm, ⟨68, _⟩ => ⟨S160x1, .i32⟩
  | .hbm, ⟨69, _⟩ => ⟨S160x1024x1024, .f32⟩
  | .hbm, ⟨70, _⟩ => ⟨S160x512x1024, .f32⟩
  | .hbm, ⟨71, _⟩ => ⟨S_, .i32⟩
  | .hbm, ⟨72, _⟩ => ⟨S160, .i32⟩
  | .hbm, ⟨73, _⟩ => ⟨S160, .i1⟩
  | .hbm, ⟨74, _⟩ => ⟨S_, .i32⟩
  | .hbm, ⟨75, _⟩ => ⟨S160, .i32⟩
  | .hbm, ⟨76, _⟩ => ⟨S160, .i32⟩
  | .hbm, ⟨77, _⟩ => ⟨S160, .i32⟩
  | .hbm, ⟨78, _⟩ => ⟨S160x1, .i32⟩
  | .hbm, ⟨79, _⟩ => ⟨S160x1x1024, .f32⟩
  | .hbm, ⟨80, _⟩ => ⟨S160x512x1024, .f32⟩
  | .hbm, ⟨81, _⟩ => ⟨S160x512x1024, .f32⟩
  | .hbm, ⟨82, _⟩ => ⟨S81920x1024, .f32⟩
  | .hbm, ⟨83, _⟩ => ⟨S81920x1024, .bf16⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_9 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]
-- ==== Kernel2.lean ====
abbrev S8192x1024 : Shape := ⟨2, ![8192, 1024]⟩
abbrev S8x6x1024 : Shape := ⟨3, ![8, 6, 1024]⟩
abbrev S1x1024 : Shape := ⟨2, ![1, 1024]⟩
abbrev S1024x2944 : Shape := ⟨2, ![1024, 2944]⟩
abbrev S8192x512 : Shape := ⟨2, ![8192, 512]⟩
abbrev S8192x1536 : Shape := ⟨2, ![8192, 1536]⟩
abbrev S8192x384 : Shape := ⟨2, ![8192, 384]⟩
abbrev S1024x1024 : Shape := ⟨2, ![1024, 1024]⟩
abbrev S1x6x1024 : Shape := ⟨3, ![1, 6, 1024]⟩
abbrev S1024x512 : Shape := ⟨2, ![1024, 512]⟩
abbrev S1024x1536 : Shape := ⟨2, ![1024, 1536]⟩
abbrev S1024x384 : Shape := ⟨2, ![1024, 384]⟩
abbrev S6x1024 : Shape := ⟨2, ![6, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1x1024, .f32⟩
  | .hbm, ⟨3, _⟩ => ⟨S1024x2944, .bf16⟩
  | .hbm, ⟨4, _⟩ => ⟨S8192x512, .f32⟩
  | .hbm, ⟨5, _⟩ => ⟨S8192x1536, .f32⟩
  | .hbm, ⟨6, _⟩ => ⟨S8192x384, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2944, .bf16⟩
  | .local _ .vmem, ⟨6, _⟩ => ⟨S1024x512, .f32⟩
  | .local _ .vmem, ⟨7, _⟩ => ⟨S1024x512, .f32⟩
  | .local _ .vmem, ⟨8, _⟩ => ⟨S1024x1536, .f32⟩
  | .local _ .vmem, ⟨9, _⟩ => ⟨S1024x1536, .f32⟩
  | .local _ .vmem, ⟨10, _⟩ => ⟨S1024x384, .f32⟩
  | .local _ .vmem, ⟨11, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let c0_i32_5 : BitVec 32 := 0#32
  let v18 : BitVec 1 := Scalar.cmpi .eq c8_i32 c0_i32_5
  let c1_i32_6 : BitVec 32 := 1#32
  let v19 : BitVec 32 := Scalar.select v18 c1_i32_6 c8_i32
  let v20 : BitVec 32 := Scalar.remsi v17 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v27.toNat, c0_i32_10.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8192x1024 : Shape := ⟨2, ![8192, 1024]⟩
abbrev S8x6x1024 : Shape := ⟨3, ![8, 6, 1024]⟩
abbrev S1x1024 : Shape := ⟨2, ![1, 1024]⟩
abbrev S1024x2944 : Shape := ⟨2, ![1024, 2944]⟩
abbrev S8x1024x1024 : Shape := ⟨3, ![8, 1024, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1x1024 : Shape := ⟨3, ![8, 1, 1024]⟩
abbrev S8x1024x2944 : Shape := ⟨3, ![8, 1024, 2944]⟩
abbrev S8192x2944 : Shape := ⟨2, ![8192, 2944]⟩
abbrev S8192x512 : Shape := ⟨2, ![8192, 512]⟩
abbrev S8192x1536 : Shape := ⟨2, ![8192, 1536]⟩
abbrev S8192x384 : Shape := ⟨2, ![8192, 384]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1x1024, .f32⟩
  | .hbm, ⟨3, _⟩ => ⟨S1024x2944, .bf16⟩
  | .hbm, ⟨4, _⟩ => ⟨S8x1024x1024, .f32⟩
  | .hbm, ⟨5, _⟩ => ⟨S8x1024x1024, .f32⟩
  | .hbm, ⟨6, _⟩ => ⟨S_, .f32⟩
  | .hbm, ⟨7, _⟩ => ⟨S8x1024, .f32⟩
  | .hbm, ⟨8, _⟩ => ⟨S8x1024x1, .f32⟩
  | .hbm, ⟨9, _⟩ => ⟨S_, .f32⟩
  | .hbm, ⟨10, _⟩ => ⟨S8x1024x1, .f32⟩
  | .hbm, ⟨11, _⟩ => ⟨S8x1024x1, .f32⟩
  | .hbm, ⟨12, _⟩ => ⟨S_, .f32⟩
  | .hbm, ⟨13, _⟩ => ⟨S8x1024x1, .f32⟩
  | .hbm, ⟨14, _⟩ => ⟨S8x1024x1, .f32⟩
  | .hbm, ⟨15, _⟩ => ⟨S8x1024x1, .f32⟩
  | .hbm, ⟨16, _⟩ => ⟨S8x1024x1024, .f32⟩
  | .hbm, ⟨17, _⟩ => ⟨S8x1024x1024, .f32⟩
  | .hbm, ⟨18, _⟩ => ⟨S1x1x1024, .f32⟩
  | .hbm, ⟨19, _⟩ => ⟨S8x1024x1024, .f32⟩
  | .hbm, ⟨20, _⟩ => ⟨S8x1024x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x1024x1024, .f32⟩
  | .hbm, ⟨28, _⟩ => ⟨S8x1024x1024, .f32⟩
  | .hbm, ⟨29, _⟩ => ⟨S8x1x1024, .f32⟩
  | .hbm, ⟨30, _⟩ => ⟨S8x1024, .f32⟩
  | .hbm, ⟨31, _⟩ => ⟨S8x1x1024, .f32⟩
  | .hbm, ⟨32, _⟩ => ⟨S8x1024x1024, .f32⟩
  | .hbm, ⟨33, _⟩ => ⟨S8x1024x1024, .f32⟩
  | .hbm, ⟨34, _⟩ => ⟨S1024x2944, .f32⟩
  | .hbm, ⟨35, _⟩ => ⟨S8x1024x2944, .f32⟩
  | .hbm, ⟨36, _⟩ => ⟨S8192x2944, .f32⟩
  | .hbm, ⟨37, _⟩ => ⟨S8192x512, .f32⟩
  | .hbm, ⟨38, _⟩ => ⟨S8192x512, .f32⟩
  | .hbm, ⟨39, _⟩ => ⟨S8192x1536, .f32⟩
  | .hbm, ⟨40, _⟩ => ⟨S8192x384, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel3.lean ====
abbrev S8192x1024 : Shape := ⟨2, ![8192, 1024]⟩
abbrev S1x6x1024 : Shape := ⟨3, ![1, 6, 1024]⟩
abbrev S1x1024 : Shape := ⟨2, ![1, 1024]⟩
abbrev S1024x2944 : Shape := ⟨2, ![1024, 2944]⟩
abbrev S8192x512 : Shape := ⟨2, ![8192, 512]⟩
abbrev S8192x1536 : Shape := ⟨2, ![8192, 1536]⟩
abbrev S8192x384 : Shape := ⟨2, ![8192, 384]⟩
abbrev S1024x1024 : Shape := ⟨2, ![1024, 1024]⟩
abbrev S1024x512 : Shape := ⟨2, ![1024, 512]⟩
abbrev S1024x1536 : Shape := ⟨2, ![1024, 1536]⟩
abbrev S1024x384 : Shape := ⟨2, ![1024, 384]⟩
abbrev S6x1024 : Shape := ⟨2, ![6, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x6x1024, .f32⟩
  | .hbm, ⟨2, _⟩ => ⟨S1x1024, .f32⟩
  | .hbm, ⟨3, _⟩ => ⟨S1024x2944, .bf16⟩
  | .hbm, ⟨4, _⟩ => ⟨S8192x512, .f32⟩
  | .hbm, ⟨5, _⟩ => ⟨S8192x1536, .f32⟩
  | .hbm, ⟨6, _⟩ => ⟨S8192x384, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1024, .f32⟩
  | .local _ .vmem, ⟨4, _⟩ => ⟨S1024x2944, .bf16⟩
  | .local _ .vmem, ⟨5, _⟩ => ⟨S1024x512, .f32⟩
  | .local _ .vmem, ⟨6, _⟩ => ⟨S1024x512, .f32⟩
  | .local _ .vmem, ⟨7, _⟩ => ⟨S1024x1536, .f32⟩
  | .local _ .vmem, ⟨8, _⟩ => ⟨S1024x1536, .f32⟩
  | .local _ .vmem, ⟨9, _⟩ => ⟨S1024x384, .f32⟩
  | .local _ .vmem, ⟨10, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8192x1024 : Shape := ⟨2, ![8192, 1024]⟩
abbrev S1x6x1024 : Shape := ⟨3, ![1, 6, 1024]⟩
abbrev S1x1024 : Shape := ⟨2, ![1, 1024]⟩
abbrev S1024x2944 : Shape := ⟨2, ![1024, 2944]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x2944 : Shape := ⟨3, ![32, 256, 2944]⟩
abbrev S8192x2944 : Shape := ⟨2, ![8192, 2944]⟩
abbrev S8192x512 : Shape := ⟨2, ![8192, 512]⟩
abbrev S8192x1536 : Shape := ⟨2, ![8192, 1536]⟩
abbrev S8192x384 : Shape := ⟨2, ![8192, 384]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x6x1024, .f32⟩
  | .hbm, ⟨2, _⟩ => ⟨S1x1024, .f32⟩
  | .hbm, ⟨3, _⟩ => ⟨S1024x2944, .bf16⟩
  | .hbm, ⟨4, _⟩ => ⟨S32x256x1024, .f32⟩
  | .hbm, ⟨5, _⟩ => ⟨S32x256x1024, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x1024, .f32⟩
  | .hbm, ⟨17, _⟩ => ⟨S32x256x1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S1x1x1024, .f32⟩
  | .hbm, ⟨30, _⟩ => ⟨S1x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S1024x2944, .f32⟩
  | .hbm, ⟨35, _⟩ => ⟨S32x256x2944, .f32⟩
  | .hbm, ⟨36, _⟩ => ⟨S8192x2944, .f32⟩
  | .hbm, ⟨37, _⟩ => ⟨S8192x512, .f32⟩
  | .hbm, ⟨38, _⟩ => ⟨S8192x512, .f32⟩
  | .hbm, ⟨39, _⟩ => ⟨S8192x1536, .f32⟩
  | .hbm, ⟨40, _⟩ => ⟨S8192x384, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel4.lean ====
abbrev S8192x1024 : Shape := ⟨2, ![8192, 1024]⟩
abbrev S4x8192x1024 : Shape := ⟨3, ![4, 8192, 1024]⟩
abbrev S8192x128 : Shape := ⟨2, ![8192, 128]⟩
abbrev S8x6x1024 : Shape := ⟨3, ![8, 6, 1024]⟩
abbrev S1x1024 : Shape := ⟨2, ![1, 1024]⟩
abbrev S1024x1024 : Shape := ⟨2, ![1024, 1024]⟩
abbrev S4x1024x1024 : Shape := ⟨3, ![4, 1024, 1024]⟩
abbrev S1024x128 : Shape := ⟨2, ![1024, 128]⟩
abbrev S1x6x1024 : Shape := ⟨3, ![1, 6, 1024]⟩
abbrev S6x1024 : Shape := ⟨2, ![6, 1024]⟩
abbrev S1024x1 : Shape := ⟨2, ![1024, 1]⟩
abbrev S1x1024x1024 : Shape := ⟨3, ![1, 1024, 1024]⟩
abbrev S1024 : Shape := ⟨1, ![1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S4x8192x1024, .bf16⟩
  | .hbm, ⟨2, _⟩ => ⟨S8192x128, .f32⟩
  | .hbm, ⟨3, _⟩ => ⟨S8x6x1024, .f32⟩
  | .hbm, ⟨4, _⟩ => ⟨S1x1024, .f32⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S4x1024x1024, .bf16⟩
  | .local _ .vmem, ⟨3, _⟩ => ⟨S4x1024x1024, .bf16⟩
  | .local _ .vmem, ⟨4, _⟩ => ⟨S1024x128, .f32⟩
  | .local _ .vmem, ⟨5, _⟩ => ⟨S1024x128, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let c0_i32_5 : BitVec 32 := 0#32
  let v18 : BitVec 1 := Scalar.cmpi .eq c8_i32 c0_i32_5
  let c1_i32_6 : BitVec 32 := 1#32
  let v19 : BitVec 32 := Scalar.select v18 c1_i32_6 c8_i32
  let v20 : BitVec 32 := Scalar.remsi v17 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v27.toNat, c0_i32_10.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x1024 : Shape := ⟨2, ![8192, 1024]⟩
abbrev S4x8192x1024 : Shape := ⟨3, ![4, 8192, 1024]⟩
abbrev S8192x128 : Shape := ⟨2, ![8192, 128]⟩
abbrev S8x6x1024 : Shape := ⟨3, ![8, 6, 1024]⟩
abbrev S1x1024 : Shape := ⟨2, ![1, 1024]⟩
abbrev S8192x4 : Shape := ⟨2, ![8192, 4]⟩
abbrev S8x1024x1024 : Shape := ⟨3, ![8, 1024, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1x1024 : Shape := ⟨3, ![8, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x8192x1024, .bf16⟩
  | .hbm, ⟨2, _⟩ => ⟨S8192x128, .f32⟩
  | .hbm, ⟨3, _⟩ => ⟨S8x6x1024, .f32⟩
  | .hbm, ⟨4, _⟩ => ⟨S1x1024, .f32⟩
  | .hbm, ⟨5, _⟩ => ⟨S8192x4, .f32⟩
  | .hbm, ⟨6, _⟩ => ⟨S4x8192x1024, .f32⟩
  | .hbm, ⟨7, _⟩ => ⟨S8192x1024, .f32⟩
  | .hbm, ⟨8, _⟩ => ⟨S8x1024x1024, .f32⟩
  | .hbm, ⟨9, _⟩ => ⟨S8x1024x1024, .f32⟩
  | .hbm, ⟨10, _⟩ => ⟨S_, .f32⟩
  | .hbm, ⟨11, _⟩ => ⟨S8x1024, .f32⟩
  | .hbm, ⟨12, _⟩ => ⟨S8x1024x1, .f32⟩
  | .hbm, ⟨13, _⟩ => ⟨S_, .f32⟩
  | .hbm, ⟨14, _⟩ => ⟨S8x1024x1, .f32⟩
  | .hbm, ⟨15, _⟩ => ⟨S8x1024x1, .f32⟩
  | .hbm, ⟨16, _⟩ => ⟨S_, .f32⟩
  | .hbm, ⟨17, _⟩ => ⟨S8x1024x1, .f32⟩
  | .hbm, ⟨18, _⟩ => ⟨S8x1024x1, .f32⟩
  | .hbm, ⟨19, _⟩ => ⟨S8x1024x1, .f32⟩
  | .hbm, ⟨20, _⟩ => ⟨S8x1024x1024, .f32⟩
  | .hbm, ⟨21, _⟩ => ⟨S8x1024x1024, .f32⟩
  | .hbm, ⟨22, _⟩ => ⟨S1x1x1024, .f32⟩
  | .hbm, ⟨23, _⟩ => ⟨S8x1024x1024, .f32⟩
  | .hbm, ⟨24, _⟩ => ⟨S8x1024x1024, .f32⟩
  | .hbm, ⟨25, _⟩ => ⟨S8x1024x1024, .f32⟩
  | .hbm, ⟨26, _⟩ => ⟨S8x1x1024, .f32⟩
  | .hbm, ⟨27, _⟩ => ⟨S8x1024, .f32⟩
  | .hbm, ⟨28, _⟩ => ⟨S8x1x1024, .f32⟩
  | .hbm, ⟨29, _⟩ => ⟨S8x1024x1024, .f32⟩
  | .hbm, ⟨30, _⟩ => ⟨S8x1024x1024, .f32⟩
  | .hbm, ⟨31, _⟩ => ⟨S8x1024x1024, .f32⟩
  | .hbm, ⟨32, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel5.lean ====
abbrev S8192x1024 : Shape := ⟨2, ![8192, 1024]⟩
abbrev S4x8192x1024 : Shape := ⟨3, ![4, 8192, 1024]⟩
abbrev S8192x128 : Shape := ⟨2, ![8192, 128]⟩
abbrev S1x6x1024 : Shape := ⟨3, ![1, 6, 1024]⟩
abbrev S1x1024 : Shape := ⟨2, ![1, 1024]⟩
abbrev S1024x1024 : Shape := ⟨2, ![1024, 1024]⟩
abbrev S4x1024x1024 : Shape := ⟨3, ![4, 1024, 1024]⟩
abbrev S1024x128 : Shape := ⟨2, ![1024, 128]⟩
abbrev S6x1024 : Shape := ⟨2, ![6, 1024]⟩
abbrev S1024x1 : Shape := ⟨2, ![1024, 1]⟩
abbrev S1x1024x1024 : Shape := ⟨3, ![1, 1024, 1024]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S4x8192x1024, .bf16⟩
  | .hbm, ⟨2, _⟩ => ⟨S8192x128, .f32⟩
  | .hbm, ⟨3, _⟩ => ⟨S1x6x1024, .f32⟩
  | .hbm, ⟨4, _⟩ => ⟨S1x1024, .f32⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S4x1024x1024, .bf16⟩
  | .local _ .vmem, ⟨3, _⟩ => ⟨S4x1024x1024, .bf16⟩
  | .local _ .vmem, ⟨4, _⟩ => ⟨S1024x128, .f32⟩
  | .local _ .vmem, ⟨5, _⟩ => ⟨S1024x128, .f32⟩
  | .local _ .vmem, ⟨6, _⟩ => ⟨S1x6x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8192x1024 : Shape := ⟨2, ![8192, 1024]⟩
abbrev S4x8192x1024 : Shape := ⟨3, ![4, 8192, 1024]⟩
abbrev S8192x128 : Shape := ⟨2, ![8192, 128]⟩
abbrev S1x6x1024 : Shape := ⟨3, ![1, 6, 1024]⟩
abbrev S1x1024 : Shape := ⟨2, ![1, 1024]⟩
abbrev S8192x4 : Shape := ⟨2, ![8192, 4]⟩
abbrev S32x256x1024 : Shape := ⟨3, ![32, 256, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x8192x1024, .bf16⟩
  | .hbm, ⟨2, _⟩ => ⟨S8192x128, .f32⟩
  | .hbm, ⟨3, _⟩ => ⟨S1x6x1024, .f32⟩
  | .hbm, ⟨4, _⟩ => ⟨S1x1024, .f32⟩
  | .hbm, ⟨5, _⟩ => ⟨S8192x4, .f32⟩
  | .hbm, ⟨6, _⟩ => ⟨S4x8192x1024, .f32⟩
  | .hbm, ⟨7, _⟩ => ⟨S8192x1024, .f32⟩
  | .hbm, ⟨8, _⟩ => ⟨S32x256x1024, .f32⟩
  | .hbm, ⟨9, _⟩ => ⟨S32x256x1024, .f32⟩
  | .hbm, ⟨10, _⟩ => ⟨S_, .f32⟩
  | .hbm, ⟨11, _⟩ => ⟨S32x256, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S32x256x1, .f32⟩
  | .hbm, ⟨20, _⟩ => ⟨S32x256x1024, .f32⟩
  | .hbm, ⟨21, _⟩ => ⟨S32x256x1024, .f32⟩
  | .hbm, ⟨22, _⟩ => ⟨S1x1x1024, .f32⟩
  | .hbm, ⟨23, _⟩ => ⟨S32x256x1024, .f32⟩
  | .hbm, ⟨24, _⟩ => ⟨S32x256x1024, .f32⟩
  | .hbm, ⟨25, _⟩ => ⟨S32x256x1024, .f32⟩
  | .hbm, ⟨26, _⟩ => ⟨S1x1x1024, .f32⟩
  | .hbm, ⟨27, _⟩ => ⟨S1x1024, .f32⟩
  | .hbm, ⟨28, _⟩ => ⟨S1x1x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel6.lean ====
abbrev S8192x1024 : Shape := ⟨2, ![8192, 1024]⟩
abbrev S8x6x1024 : Shape := ⟨3, ![8, 6, 1024]⟩
abbrev S8192x512 : Shape := ⟨2, ![8192, 512]⟩
abbrev S8192x1536 : Shape := ⟨2, ![8192, 1536]⟩
abbrev S8192x384 : Shape := ⟨2, ![8192, 384]⟩
abbrev S2x128x512 : Shape := ⟨3, ![2, 128, 512]⟩
abbrev S2x512 : Shape := ⟨2, ![2, 512]⟩
abbrev S1x512 : Shape := ⟨2, ![1, 512]⟩
abbrev S128x512 : Shape := ⟨2, ![128, 512]⟩
abbrev S1024x1024 : Shape := ⟨2, ![1024, 1024]⟩
abbrev S1x1024 : Shape := ⟨2, ![1, 1024]⟩
abbrev S2x1024x128 : Shape := ⟨3, ![2, 1024, 128]⟩
abbrev S1x128 : Shape := ⟨2, ![1, 128]⟩
abbrev S8192x128 : Shape := ⟨2, ![8192, 128]⟩
abbrev S16x8192 : Shape := ⟨2, ![16, 8192]⟩
abbrev S512x1024 : Shape := ⟨2, ![512, 1024]⟩
abbrev S1x6x1024 : Shape := ⟨3, ![1, 6, 1024]⟩
abbrev S512x512 : Shape := ⟨2, ![512, 512]⟩
abbrev S512x1536 : Shape := ⟨2, ![512, 1536]⟩
abbrev S512x384 : Shape := ⟨2, ![512, 384]⟩
abbrev S512x128 : Shape := ⟨2, ![512, 128]⟩
abbrev S16x512 : Shape := ⟨2, ![16, 512]⟩
abbrev S6x1024 : Shape := ⟨2, ![6, 1024]⟩
abbrev S1x128x512 : Shape := ⟨3, ![1, 128, 512]⟩
abbrev S128x128 : Shape := ⟨2, ![128, 128]⟩
abbrev S512x256 : Shape := ⟨2, ![512, 256]⟩
abbrev S256x128 : Shape := ⟨2, ![256, 128]⟩
abbrev S512 : Shape := ⟨1, ![512]⟩
abbrev S512x1 : Shape := ⟨2, ![512, 1]⟩
abbrev S1x1024x128 : Shape := ⟨3, ![1, 1024, 128]⟩
abbrev S1024x128 : Shape := ⟨2, ![1024, 128]⟩
abbrev S128 : Shape := ⟨1, ![128]⟩

abbrev nBuf : Space → Nat
  | .hbm => 24
  | .vmem => 35
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x1536, .f32⟩
  | .hbm, ⟨6, _⟩ => ⟨S8192x384, .f32⟩
  | .hbm, ⟨7, _⟩ => ⟨S2x128x512, .bf16⟩
  | .hbm, ⟨8, _⟩ => ⟨S2x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S128x512, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S2x1024x128, .bf16⟩
  | .hbm, ⟨18, _⟩ => ⟨S1x128, .f32⟩
  | .hbm, ⟨19, _⟩ => ⟨S8192x1024, .f32⟩
  | .hbm, ⟨20, _⟩ => ⟨S8192x1024, .bf16⟩
  | .hbm, ⟨21, _⟩ => ⟨S8192x128, .f32⟩
  | .hbm, ⟨22, _⟩ => ⟨S16x8192, .f32⟩
  | .hbm, ⟨23, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1536, .f32⟩
  | .local _ .vmem, ⟨11, _⟩ => ⟨S512x1536, .f32⟩
  | .local _ .vmem, ⟨12, _⟩ => ⟨S512x384, .f32⟩
  | .local _ .vmem, ⟨13, _⟩ => ⟨S512x384, .f32⟩
  | .local _ .vmem, ⟨14, _⟩ => ⟨S2x128x512, .bf16⟩
  | .local _ .vmem, ⟨15, _⟩ => ⟨S2x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S128x512, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S2x1024x128, .bf16⟩
  | .local _ .vmem, ⟨25, _⟩ => ⟨S1x128, .f32⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S512x128, .f32⟩
  | .local _ .vmem, ⟨31, _⟩ => ⟨S512x128, .f32⟩
  | .local _ .vmem, ⟨32, _⟩ => ⟨S16x512, .f32⟩
  | .local _ .vmem, ⟨33, _⟩ => ⟨S16x512, .f32⟩
  | .local _ .vmem, ⟨34, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v0_3 : Ref sig .tc := ⟨.hbm, 22, rfl⟩
abbrev main_v0_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let c0_i32_4 : BitVec 32 := 0#32
  let v18 : BitVec 1 := Scalar.cmpi .eq c8_i32 c0_i32_4
  let c1_i32_5 : BitVec 32 := 1#32
  let v19 : BitVec 32 := Scalar.select v18 c1_i32_5 c8_i32
  let v20 : BitVec 32 := Scalar.remsi v17 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c0_i32_9 : BitVec 32 := 0#32
  let c0_i32_10 : BitVec 32 := 0#32
  let c0_i32_11 : BitVec 32 := 0#32
  ![v27.toNat, c0_i32_9.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S16x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference6Ideal.lean ====
abbrev S8192x1024 : Shape := ⟨2, ![8192, 1024]⟩
abbrev S8x6x1024 : Shape := ⟨3, ![8, 6, 1024]⟩
abbrev S8192x512 : Shape := ⟨2, ![8192, 512]⟩
abbrev S8192x1536 : Shape := ⟨2, ![8192, 1536]⟩
abbrev S8192x384 : Shape := ⟨2, ![8192, 384]⟩
abbrev S2x128x512 : Shape := ⟨3, ![2, 128, 512]⟩
abbrev S2x512 : Shape := ⟨2, ![2, 512]⟩
abbrev S1x512 : Shape := ⟨2, ![1, 512]⟩
abbrev S128x512 : Shape := ⟨2, ![128, 512]⟩
abbrev S1024x1024 : Shape := ⟨2, ![1024, 1024]⟩
abbrev S1x1024 : Shape := ⟨2, ![1, 1024]⟩
abbrev S2x1024x128 : Shape := ⟨3, ![2, 1024, 128]⟩
abbrev S1x128 : Shape := ⟨2, ![1, 128]⟩
abbrev S8192x8x64 : Shape := ⟨3, ![8192, 8, 64]⟩
abbrev S512 : Shape := ⟨1, ![512]⟩
abbrev S8192x128 : Shape := ⟨2, ![8192, 128]⟩
abbrev S1x128x512 : Shape := ⟨3, ![1, 128, 512]⟩
abbrev S_ : Shape := ⟨0, ![]⟩
abbrev S8x64 : Shape := ⟨2, ![8, 64]⟩
abbrev S1x8x64 : Shape := ⟨3, ![1, 8, 64]⟩
abbrev S8192x8 : Shape := ⟨2, ![8192, 8]⟩
abbrev S8192x8x1 : Shape := ⟨3, ![8192, 8, 1]⟩
abbrev S8x1024x1024 : Shape := ⟨3, ![8, 1024, 1024]⟩
abbrev S8x1x1024 : Shape := ⟨3, ![8, 1, 1024]⟩
abbrev S8x1024 : Shape := ⟨2, ![8, 1024]⟩
abbrev S8x1024x1 : Shape := ⟨3, ![8, 1024, 1]⟩
abbrev S1x1x1024 : Shape := ⟨3, ![1, 1, 1024]⟩

abbrev nBuf : Space → Nat
  | .hbm => 208
  | .vmem => 0
  | .smem => 0
  | _ => 0

abbrev hbmTy0_0 (i : Nat) : BufTy := match i % 128 with
  | 0 => ⟨S8192x1024, .f32⟩
  | 1 => ⟨S8x6x1024, .f32⟩
  | 2 => ⟨S8192x512, .f32⟩
  | 3 => ⟨S8192x512, .f32⟩
  | 4 => ⟨S8192x512, .f32⟩
  | 5 => ⟨S8192x1536, .f32⟩
  | 6 => ⟨S8192x384, .f32⟩
  | 7 => ⟨S2x128x512, .bf16⟩
  | 8 => ⟨S2x512, .f32⟩
  | 9 => ⟨S1x512, .f32⟩
  | 10 => ⟨S1x512, .f32⟩
  | 11 => ⟨S1x512, .f32⟩
  | 12 => ⟨S1x512, .f32⟩
  | 13 => ⟨S128x512, .bf16⟩
  | 14 => ⟨S1024x1024, .bf16⟩
  | 15 => ⟨S1x1024, .f32⟩
  | 16 => ⟨S1x1024, .f32⟩
  | 17 => ⟨S2x1024x128, .bf16⟩
  | 18 => ⟨S1x128, .f32⟩
  | 19 => ⟨S8192x512, .f32⟩
  | 20 => ⟨S8192x512, .f32⟩
  | 21 => ⟨S8192x512, .f32⟩
  | 22 => ⟨S8192x8x64, .f32⟩
  | 23 => ⟨S8192x8x64, .f32⟩
  | 24 => ⟨S8192x8x64, .f32⟩
  | 25 => ⟨S1x512, .f32⟩
  | 26 => ⟨S512, .f32⟩
  | 27 => ⟨S8192x128, .f32⟩
  | 28 => ⟨S1x128x512, .bf16⟩
  | 29 => ⟨S128x512, .bf16⟩
  | 30 => ⟨S128x512, .f32⟩
  | 31 => ⟨S8192x512, .f32⟩
  | 32 => ⟨S1x512, .f32⟩
  | 33 => ⟨S8192x512, .f32⟩
  | 34 => ⟨S8192x512, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S8192x8x64, .f32⟩
  | 44 => ⟨S_, .f32⟩
  | 45 => ⟨S8192x8x64, .f32⟩
  | 46 => ⟨S8192x8x64, .f32⟩
  | 47 => ⟨S8x64, .f32⟩
  | 48 => ⟨S1x8x64, .f32⟩
  | 49 => ⟨S8192x8x64, .f32⟩
  | 50 => ⟨S8192x8x64, .f32⟩
  | 51 => ⟨S_, .f32⟩
  | 52 => ⟨S8192x8x64, .f32⟩
  | 53 => ⟨S8192x8x64, .f32⟩
  | 54 => ⟨S8192x8x64, .f32⟩
  | 55 => ⟨S8192x8x64, .f32⟩
  | 56 => ⟨S8x64, .f32⟩
  | 57 => ⟨S1x8x64, .f32⟩
  | 58 => ⟨S8192x8x64, .f32⟩
  | 59 => ⟨S8192x8x64, .f32⟩
  | 60 => ⟨S_, .f32⟩
  | 61 => ⟨S8192x8, .f32⟩
  | 62 => ⟨S8192x8x1, .f32⟩
  | 63 => ⟨S8192x8x64, .f32⟩
  | 64 => ⟨S8192x8x64, .f32⟩
  | 65 => ⟨S1x512, .f32⟩
  | 66 => ⟨S512, .f32⟩
  | 67 => ⟨S8192x128, .f32⟩
  | 68 => ⟨S1x128x512, .bf16⟩
  | 69 => ⟨S128x512, .bf16⟩
  | 70 => ⟨S128x512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S8192x512, .f32⟩
  | 77 => ⟨S_, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S8192x8x64, .f32⟩
  | 84 => ⟨S_, .f32⟩
  | 85 => ⟨S8192x8x64, .f32⟩
  | 86 => ⟨S8192x8x64, .f32⟩
  | 87 => ⟨S8x64, .f32⟩
  | 88 => ⟨S1x8x64, .f32⟩
  | 89 => ⟨S8192x8x64, .f32⟩
  | 90 => ⟨S8192x8x64, .f32⟩
  | 91 => ⟨S_, .f32⟩
  | 92 => ⟨S8192x8x64, .f32⟩
  | 93 => ⟨S8192x8x64, .f32⟩
  | 94 => ⟨S8192x8x64, .f32⟩
  | 95 => ⟨S8192x8x64, .f32⟩
  | 96 => ⟨S8x64, .f32⟩
  | 97 => ⟨S1x8x64, .f32⟩
  | 98 => ⟨S8192x8x64, .f32⟩
  | 99 => ⟨S8192x8x64, .f32⟩
  | 100 => ⟨S_, .f32⟩
  | 101 => ⟨S8192x8, .f32⟩
  | 102 => ⟨S8192x8x1, .f32⟩
  | 103 => ⟨S8192x8x64, .f32⟩
  | 104 => ⟨S8192x8x64, .f32⟩
  | 105 => ⟨S8192x8x64, .f32⟩
  | 106 => ⟨S8192x8x64, .f32⟩
  | 107 => ⟨S8192x8x64, .f32⟩
  | 108 => ⟨S_, .f32⟩
  | 109 => ⟨S8192x8, .f32⟩
  | 110 => ⟨S8192x8x1, .f32⟩
  | 111 => ⟨S_, .f32⟩
  | 112 => ⟨S8192x8x1, .f32⟩
  | 113 => ⟨S8192x8x1, .f32⟩
  | 114 => ⟨S8192x8x64, .f32⟩
  | 115 => ⟨S8192x8x64, .f32⟩
  | 116 => ⟨S8192x8x64, .f32⟩
  | 117 => ⟨S_, .f32⟩
  | 118 => ⟨S8192x8, .f32⟩
  | 119 => ⟨S8192x8x1, .f32⟩
  | 120 => ⟨S_, .f32⟩
  | 121 => ⟨S8192x8x1, .f32⟩
  | 122 => ⟨S8192x8x1, .f32⟩
  | 123 => ⟨S_, .f32⟩
  | 124 => ⟨S8192x8x1, .f32⟩
  | 125 => ⟨S8192x8x1, .f32⟩
  | 126 => ⟨S8192x8x1, .f32⟩
  | 127 => ⟨S8192x8x64, .f32⟩
  | _ => ⟨S8192x1024, .f32⟩

abbrev hbmTy0_1 (i : Nat) : BufTy := match i % 128 with
  | 0 => ⟨S8192x8x64, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x8x64, .f32⟩
  | 7 => ⟨S8192x512, .f32⟩
  | 8 => ⟨S8192x512, .f32⟩
  | 9 => ⟨S8192x128, .f32⟩
  | 10 => ⟨S8192x128, .f32⟩
  | 11 => ⟨S8192x128, .f32⟩
  | 12 => ⟨S_, .f32⟩
  | 13 => ⟨S8192x128, .f32⟩
  | 14 => ⟨S8192x128, .f32⟩
  | 15 => ⟨S_, .f32⟩
  | 16 => ⟨S8192x128, .f32⟩
  | 17 => ⟨S8192x128, .f32⟩
  | 18 => ⟨S128x512, .f32⟩
  | 19 => ⟨S8192x512, .f32⟩
  | 20 => ⟨S8192x512, .f32⟩
  | 21 => ⟨S8192x1024, .f32⟩
  | 22 => ⟨S1024x1024, .f32⟩
  | 23 => ⟨S8192x1024, .f32⟩
  | 24 => ⟨S8x1024x1024, .f32⟩
  | 25 => ⟨S8x1x1024, .f32⟩
  | 26 => ⟨S8x1024, .f32⟩
  | 27 => ⟨S8x1x1024, .f32⟩
  | 28 => ⟨S8x1024x1024, .f32⟩
  | 29 => ⟨S8x1024x1024, .f32⟩
  | 30 => ⟨S_, .f32⟩
  | 31 => ⟨S8x1024, .f32⟩
  | 32 => ⟨S8x1024x1, .f32⟩
  | 33 => ⟨S_, .f32⟩
  | 34 => ⟨S8x1024x1, .f32⟩
  | 35 => ⟨S8x1024x1, .f32⟩
  | 36 => ⟨S_, .f32⟩
  | 37 => ⟨S8x1024x1, .f32⟩
  | 38 => ⟨S8x1024x1, .f32⟩
  | 39 => ⟨S8x1024x1, .f32⟩
  | 40 => ⟨S8x1024x1024, .f32⟩
  | 41 => ⟨S8x1024x1024, .f32⟩
  | 42 => ⟨S1x1x1024, .f32⟩
  | 43 => ⟨S8x1024x1024, .f32⟩
  | 44 => ⟨S8x1024x1024, .f32⟩
  | 45 => ⟨S8x1024x1024, .f32⟩
  | 46 => ⟨S8x1024x1024, .f32⟩
  | 47 => ⟨S8x1024x1024, .f32⟩
  | 48 => ⟨S8x1024x1024, .f32⟩
  | 49 => ⟨S_, .f32⟩
  | 50 => ⟨S8x1024, .f32⟩
  | 51 => ⟨S8x1024x1, .f32⟩
  | 52 => ⟨S_, .f32⟩
  | 53 => ⟨S8x1024x1, .f32⟩
  | 54 => ⟨S8x1024x1, .f32⟩
  | 55 => ⟨S_, .f32⟩
  | 56 => ⟨S8x1024x1, .f32⟩
  | 57 => ⟨S8x1024x1, .f32⟩
  | 58 => ⟨S8x1024x1, .f32⟩
  | 59 => ⟨S8x1024x1024, .f32⟩
  | 60 => ⟨S8x1024x1024, .f32⟩
  | 61 => ⟨S1x1x1024, .f32⟩
  | 62 => ⟨S8x1024x1024, .f32⟩
  | 63 => ⟨S8x1024x1024, .f32⟩
  | 64 => ⟨S8x1x1024, .f32⟩
  | 65 => ⟨S8x1024, .f32⟩
  | 66 => ⟨S8x1x1024, .f32⟩
  | 67 => ⟨S_, .f32⟩
  | 68 => ⟨S8x1x1024, .f32⟩
  | 69 => ⟨S8x1x1024, .f32⟩
  | 70 => ⟨S8x1024x1024, .f32⟩
  | 71 => ⟨S8x1024x1024, .f32⟩
  | 72 => ⟨S8x1x1024, .f32⟩
  | 73 => ⟨S8x1024, .f32⟩
  | 74 => ⟨S8x1x1024, .f32⟩
  | 75 => ⟨S8x1024x1024, .f32⟩
  | 76 => ⟨S8x1024x1024, .f32⟩
  | 77 => ⟨S8192x1024, .f32⟩
  | 78 => ⟨S8192x1024, .f32⟩
  | 79 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_4 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_6 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_7 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_8 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_9 : Ref sig .tc := ⟨.hbm, 108, rfl⟩
abbrev main_v79 : Ref sig .tc := ⟨.hbm, 109, rfl⟩
abbrev main_v80 : Ref sig .tc := ⟨.hbm, 110, rfl⟩
abbrev main_cst_10 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_11 : Ref sig .tc := ⟨.hbm, 117, rfl⟩
abbrev main_v86 : Ref sig .tc := ⟨.hbm, 118, rfl⟩
abbrev main_v87 : Ref sig .tc := ⟨.hbm, 119, rfl⟩
abbrev main_cst_12 : Ref sig .tc := ⟨.hbm, 120, rfl⟩
abbrev main_v88 : Ref sig .tc := ⟨.hbm, 121, rfl⟩
abbrev main_v89 : Ref sig .tc := ⟨.hbm, 122, rfl⟩
abbrev main_cst_13 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_14 : Ref sig .tc := ⟨.hbm, 140, rfl⟩
abbrev main_v106 : Ref sig .tc := ⟨.hbm, 141, rfl⟩
abbrev main_v107 : Ref sig .tc := ⟨.hbm, 142, rfl⟩
abbrev main_cst_15 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_16 : Ref sig .tc := ⟨.hbm, 158, rfl⟩
abbrev main_v122 : Ref sig .tc := ⟨.hbm, 159, rfl⟩
abbrev main_v123 : Ref sig .tc := ⟨.hbm, 160, rfl⟩
abbrev main_cst_17 : Ref sig .tc := ⟨.hbm, 161, rfl⟩
abbrev main_v124 : Ref sig .tc := ⟨.hbm, 162, rfl⟩
abbrev main_v125 : Ref sig .tc := ⟨.hbm, 163, rfl⟩
abbrev main_cst_18 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_19 : Ref sig .tc := ⟨.hbm, 177, rfl⟩
abbrev main_v138 : Ref sig .tc := ⟨.hbm, 178, rfl⟩
abbrev main_v139 : Ref sig .tc := ⟨.hbm, 179, rfl⟩
abbrev main_cst_20 : Ref sig .tc := ⟨.hbm, 180, rfl⟩
abbrev main_v140 : Ref sig .tc := ⟨.hbm, 181, rfl⟩
abbrev main_v141 : Ref sig .tc := ⟨.hbm, 182, rfl⟩
abbrev main_cst_21 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_22 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩

abbrev nD : Nat := 1
abbrev τ : Topo := Topo.v7x

variable {F : FTy → Type} [FloatOps F]
-- ==== Kernel7.lean ====
abbrev S8192x1024 : Shape := ⟨2, ![8192, 1024]⟩
abbrev S1x6x1024 : Shape := ⟨3, ![1, 6, 1024]⟩
abbrev S8192x512 : Shape := ⟨2, ![8192, 512]⟩
abbrev S8192x1536 : Shape := ⟨2, ![8192, 1536]⟩
abbrev S8192x384 : Shape := ⟨2, ![8192, 384]⟩
abbrev S2x128x512 : Shape := ⟨3, ![2, 128, 512]⟩
abbrev S2x512 : Shape := ⟨2, ![2, 512]⟩
abbrev S1x512 : Shape := ⟨2, ![1, 512]⟩
abbrev S128x512 : Shape := ⟨2, ![128, 512]⟩
abbrev S1024x1024 : Shape := ⟨2, ![1024, 1024]⟩
abbrev S1x1024 : Shape := ⟨2, ![1, 1024]⟩
abbrev S2x1024x128 : Shape := ⟨3, ![2, 1024, 128]⟩
abbrev S1x128 : Shape := ⟨2, ![1, 128]⟩
abbrev S8192x128 : Shape := ⟨2, ![8192, 128]⟩
abbrev S16x8192 : Shape := ⟨2, ![16, 8192]⟩
abbrev S512x1024 : Shape := ⟨2, ![512, 1024]⟩
abbrev S512x512 : Shape := ⟨2, ![512, 512]⟩
abbrev S512x1536 : Shape := ⟨2, ![512, 1536]⟩
abbrev S512x384 : Shape := ⟨2, ![512, 384]⟩
abbrev S512x128 : Shape := ⟨2, ![512, 128]⟩
abbrev S16x512 : Shape := ⟨2, ![16, 512]⟩
abbrev S6x1024 : Shape := ⟨2, ![6, 1024]⟩
abbrev S1x128x512 : Shape := ⟨3, ![1, 128, 512]⟩
abbrev S128x128 : Shape := ⟨2, ![128, 128]⟩
abbrev S512x256 : Shape := ⟨2, ![512, 256]⟩
abbrev S256x128 : Shape := ⟨2, ![256, 128]⟩
abbrev S512 : Shape := ⟨1, ![512]⟩
abbrev S512x1 : Shape := ⟨2, ![512, 1]⟩
abbrev S1x1024x128 : Shape := ⟨3, ![1, 1024, 128]⟩
abbrev S1024x128 : Shape := ⟨2, ![1024, 128]⟩
abbrev S128 : Shape := ⟨1, ![128]⟩

abbrev nBuf : Space → Nat
  | .hbm => 24
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S1x6x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x1536, .f32⟩
  | .hbm, ⟨6, _⟩ => ⟨S8192x384, .f32⟩
  | .hbm, ⟨7, _⟩ => ⟨S2x128x512, .bf16⟩
  | .hbm, ⟨8, _⟩ => ⟨S2x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S128x512, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S2x1024x128, .bf16⟩
  | .hbm, ⟨18, _⟩ => ⟨S1x128, .f32⟩
  | .hbm, ⟨19, _⟩ => ⟨S8192x1024, .f32⟩
  | .hbm, ⟨20, _⟩ => ⟨S8192x1024, .bf16⟩
  | .hbm, ⟨21, _⟩ => ⟨S8192x128, .f32⟩
  | .hbm, ⟨22, _⟩ => ⟨S16x8192, .f32⟩
  | .hbm, ⟨23, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x1536, .f32⟩
  | .local _ .vmem, ⟨10, _⟩ => ⟨S512x1536, .f32⟩
  | .local _ .vmem, ⟨11, _⟩ => ⟨S512x384, .f32⟩
  | .local _ .vmem, ⟨12, _⟩ => ⟨S512x384, .f32⟩
  | .local _ .vmem, ⟨13, _⟩ => ⟨S2x128x512, .bf16⟩
  | .local _ .vmem, ⟨14, _⟩ => ⟨S2x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S128x512, .bf16⟩
  | .local _ .vmem, ⟨20, _⟩ => ⟨S1024x1024, .bf16⟩
  | .local _ .vmem, ⟨21, _⟩ => ⟨S1x1024, .f32⟩
  | .local _ .vmem, ⟨22, _⟩ => ⟨S1x1024, .f32⟩
  | .local _ .vmem, ⟨23, _⟩ => ⟨S2x1024x128, .bf16⟩
  | .local _ .vmem, ⟨24, _⟩ => ⟨S1x128, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S512x128, .f32⟩
  | .local _ .vmem, ⟨30, _⟩ => ⟨S512x128, .f32⟩
  | .local _ .vmem, ⟨31, _⟩ => ⟨S16x512, .f32⟩
  | .local _ .vmem, ⟨32, _⟩ => ⟨S16x512, .f32⟩
  | .local _ .vmem, ⟨33, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v0_3 : Ref sig .tc := ⟨.hbm, 22, rfl⟩
abbrev main_v0_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S16x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference7Ideal.lean ====
abbrev S8192x1024 : Shape := ⟨2, ![8192, 1024]⟩
abbrev S1x6x1024 : Shape := ⟨3, ![1, 6, 1024]⟩
abbrev S8192x512 : Shape := ⟨2, ![8192, 512]⟩
abbrev S8192x1536 : Shape := ⟨2, ![8192, 1536]⟩
abbrev S8192x384 : Shape := ⟨2, ![8192, 384]⟩
abbrev S2x128x512 : Shape := ⟨3, ![2, 128, 512]⟩
abbrev S2x512 : Shape := ⟨2, ![2, 512]⟩
abbrev S1x512 : Shape := ⟨2, ![1, 512]⟩
abbrev S128x512 : Shape := ⟨2, ![128, 512]⟩
abbrev S1024x1024 : Shape := ⟨2, ![1024, 1024]⟩
abbrev S1x1024 : Shape := ⟨2, ![1, 1024]⟩
abbrev S2x1024x128 : Shape := ⟨3, ![2, 1024, 128]⟩
abbrev S1x128 : Shape := ⟨2, ![1, 128]⟩
abbrev S8192x8x64 : Shape := ⟨3, ![8192, 8, 64]⟩
abbrev S512 : Shape := ⟨1, ![512]⟩
abbrev S8192x128 : Shape := ⟨2, ![8192, 128]⟩
abbrev S1x128x512 : Shape := ⟨3, ![1, 128, 512]⟩
abbrev S_ : Shape := ⟨0, ![]⟩
abbrev S8x64 : Shape := ⟨2, ![8, 64]⟩
abbrev S1x8x64 : Shape := ⟨3, ![1, 8, 64]⟩
abbrev S8192x8 : Shape := ⟨2, ![8192, 8]⟩
abbrev S8192x8x1 : Shape := ⟨3, ![8192, 8, 1]⟩
abbrev S32x256x1024 : Shape := ⟨3, ![32, 256, 1024]⟩
abbrev S1x1x1024 : Shape := ⟨3, ![1, 1, 1024]⟩
abbrev S32x256 : Shape := ⟨2, ![32, 256]⟩
abbrev S32x256x1 : Shape := ⟨3, ![32, 256, 1]⟩

abbrev nBuf : Space → Nat
  | .hbm => 208
  | .vmem => 0
  | .smem => 0
  | _ => 0

abbrev hbmTy0_0 (i : Nat) : BufTy := match i % 128 with
  | 0 => ⟨S8192x1024, .f32⟩
  | 1 => ⟨S1x6x1024, .f32⟩
  | 2 => ⟨S8192x512, .f32⟩
  | 3 => ⟨S8192x512, .f32⟩
  | 4 => ⟨S8192x512, .f32⟩
  | 5 => ⟨S8192x1536, .f32⟩
  | 6 => ⟨S8192x384, .f32⟩
  | 7 => ⟨S2x128x512, .bf16⟩
  | 8 => ⟨S2x512, .f32⟩
  | 9 => ⟨S1x512, .f32⟩
  | 10 => ⟨S1x512, .f32⟩
  | 11 => ⟨S1x512, .f32⟩
  | 12 => ⟨S1x512, .f32⟩
  | 13 => ⟨S128x512, .bf16⟩
  | 14 => ⟨S1024x1024, .bf16⟩
  | 15 => ⟨S1x1024, .f32⟩
  | 16 => ⟨S1x1024, .f32⟩
  | 17 => ⟨S2x1024x128, .bf16⟩
  | 18 => ⟨S1x128, .f32⟩
  | 19 => ⟨S8192x512, .f32⟩
  | 20 => ⟨S8192x512, .f32⟩
  | 21 => ⟨S8192x512, .f32⟩
  | 22 => ⟨S8192x8x64, .f32⟩
  | 23 => ⟨S8192x8x64, .f32⟩
  | 24 => ⟨S8192x8x64, .f32⟩
  | 25 => ⟨S1x512, .f32⟩
  | 26 => ⟨S512, .f32⟩
  | 27 => ⟨S8192x128, .f32⟩
  | 28 => ⟨S1x128x512, .bf16⟩
  | 29 => ⟨S128x512, .bf16⟩
  | 30 => ⟨S128x512, .f32⟩
  | 31 => ⟨S8192x512, .f32⟩
  | 32 => ⟨S1x512, .f32⟩
  | 33 => ⟨S8192x512, .f32⟩
  | 34 => ⟨S8192x512, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S8192x8x64, .f32⟩
  | 44 => ⟨S_, .f32⟩
  | 45 => ⟨S8192x8x64, .f32⟩
  | 46 => ⟨S8192x8x64, .f32⟩
  | 47 => ⟨S8x64, .f32⟩
  | 48 => ⟨S1x8x64, .f32⟩
  | 49 => ⟨S8192x8x64, .f32⟩
  | 50 => ⟨S8192x8x64, .f32⟩
  | 51 => ⟨S_, .f32⟩
  | 52 => ⟨S8192x8x64, .f32⟩
  | 53 => ⟨S8192x8x64, .f32⟩
  | 54 => ⟨S8192x8x64, .f32⟩
  | 55 => ⟨S8192x8x64, .f32⟩
  | 56 => ⟨S8x64, .f32⟩
  | 57 => ⟨S1x8x64, .f32⟩
  | 58 => ⟨S8192x8x64, .f32⟩
  | 59 => ⟨S8192x8x64, .f32⟩
  | 60 => ⟨S_, .f32⟩
  | 61 => ⟨S8192x8, .f32⟩
  | 62 => ⟨S8192x8x1, .f32⟩
  | 63 => ⟨S8192x8x64, .f32⟩
  | 64 => ⟨S8192x8x64, .f32⟩
  | 65 => ⟨S1x512, .f32⟩
  | 66 => ⟨S512, .f32⟩
  | 67 => ⟨S8192x128, .f32⟩
  | 68 => ⟨S1x128x512, .bf16⟩
  | 69 => ⟨S128x512, .bf16⟩
  | 70 => ⟨S128x512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S8192x512, .f32⟩
  | 77 => ⟨S_, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S8192x8x64, .f32⟩
  | 84 => ⟨S_, .f32⟩
  | 85 => ⟨S8192x8x64, .f32⟩
  | 86 => ⟨S8192x8x64, .f32⟩
  | 87 => ⟨S8x64, .f32⟩
  | 88 => ⟨S1x8x64, .f32⟩
  | 89 => ⟨S8192x8x64, .f32⟩
  | 90 => ⟨S8192x8x64, .f32⟩
  | 91 => ⟨S_, .f32⟩
  | 92 => ⟨S8192x8x64, .f32⟩
  | 93 => ⟨S8192x8x64, .f32⟩
  | 94 => ⟨S8192x8x64, .f32⟩
  | 95 => ⟨S8192x8x64, .f32⟩
  | 96 => ⟨S8x64, .f32⟩
  | 97 => ⟨S1x8x64, .f32⟩
  | 98 => ⟨S8192x8x64, .f32⟩
  | 99 => ⟨S8192x8x64, .f32⟩
  | 100 => ⟨S_, .f32⟩
  | 101 => ⟨S8192x8, .f32⟩
  | 102 => ⟨S8192x8x1, .f32⟩
  | 103 => ⟨S8192x8x64, .f32⟩
  | 104 => ⟨S8192x8x64, .f32⟩
  | 105 => ⟨S8192x8x64, .f32⟩
  | 106 => ⟨S8192x8x64, .f32⟩
  | 107 => ⟨S8192x8x64, .f32⟩
  | 108 => ⟨S_, .f32⟩
  | 109 => ⟨S8192x8, .f32⟩
  | 110 => ⟨S8192x8x1, .f32⟩
  | 111 => ⟨S_, .f32⟩
  | 112 => ⟨S8192x8x1, .f32⟩
  | 113 => ⟨S8192x8x1, .f32⟩
  | 114 => ⟨S8192x8x64, .f32⟩
  | 115 => ⟨S8192x8x64, .f32⟩
  | 116 => ⟨S8192x8x64, .f32⟩
  | 117 => ⟨S_, .f32⟩
  | 118 => ⟨S8192x8, .f32⟩
  | 119 => ⟨S8192x8x1, .f32⟩
  | 120 => ⟨S_, .f32⟩
  | 121 => ⟨S8192x8x1, .f32⟩
  | 122 => ⟨S8192x8x1, .f32⟩
  | 123 => ⟨S_, .f32⟩
  | 124 => ⟨S8192x8x1, .f32⟩
  | 125 => ⟨S8192x8x1, .f32⟩
  | 126 => ⟨S8192x8x1, .f32⟩
  | 127 => ⟨S8192x8x64, .f32⟩
  | _ => ⟨S8192x1024, .f32⟩

abbrev hbmTy0_1 (i : Nat) : BufTy := match i % 128 with
  | 0 => ⟨S8192x8x64, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x8x64, .f32⟩
  | 7 => ⟨S8192x512, .f32⟩
  | 8 => ⟨S8192x512, .f32⟩
  | 9 => ⟨S8192x128, .f32⟩
  | 10 => ⟨S8192x128, .f32⟩
  | 11 => ⟨S8192x128, .f32⟩
  | 12 => ⟨S_, .f32⟩
  | 13 => ⟨S8192x128, .f32⟩
  | 14 => ⟨S8192x128, .f32⟩
  | 15 => ⟨S_, .f32⟩
  | 16 => ⟨S8192x128, .f32⟩
  | 17 => ⟨S8192x128, .f32⟩
  | 18 => ⟨S128x512, .f32⟩
  | 19 => ⟨S8192x512, .f32⟩
  | 20 => ⟨S8192x512, .f32⟩
  | 21 => ⟨S8192x1024, .f32⟩
  | 22 => ⟨S1024x1024, .f32⟩
  | 23 => ⟨S8192x1024, .f32⟩
  | 24 => ⟨S32x256x1024, .f32⟩
  | 25 => ⟨S1x1x1024, .f32⟩
  | 26 => ⟨S1x1024, .f32⟩
  | 27 => ⟨S1x1x1024, .f32⟩
  | 28 => ⟨S32x256x1024, .f32⟩
  | 29 => ⟨S32x256x1024, .f32⟩
  | 30 => ⟨S_, .f32⟩
  | 31 => ⟨S32x256, .f32⟩
  | 32 => ⟨S32x256x1, .f32⟩
  | 33 => ⟨S_, .f32⟩
  | 34 => ⟨S32x256x1, .f32⟩
  | 35 => ⟨S32x256x1, .f32⟩
  | 36 => ⟨S_, .f32⟩
  | 37 => ⟨S32x256x1, .f32⟩
  | 38 => ⟨S32x256x1, .f32⟩
  | 39 => ⟨S32x256x1, .f32⟩
  | 40 => ⟨S32x256x1024, .f32⟩
  | 41 => ⟨S32x256x1024, .f32⟩
  | 42 => ⟨S1x1x1024, .f32⟩
  | 43 => ⟨S32x256x1024, .f32⟩
  | 44 => ⟨S32x256x1024, .f32⟩
  | 45 => ⟨S32x256x1024, .f32⟩
  | 46 => ⟨S32x256x1024, .f32⟩
  | 47 => ⟨S32x256x1024, .f32⟩
  | 48 => ⟨S32x256x1024, .f32⟩
  | 49 => ⟨S_, .f32⟩
  | 50 => ⟨S32x256, .f32⟩
  | 51 => ⟨S32x256x1, .f32⟩
  | 52 => ⟨S_, .f32⟩
  | 53 => ⟨S32x256x1, .f32⟩
  | 54 => ⟨S32x256x1, .f32⟩
  | 55 => ⟨S_, .f32⟩
  | 56 => ⟨S32x256x1, .f32⟩
  | 57 => ⟨S32x256x1, .f32⟩
  | 58 => ⟨S32x256x1, .f32⟩
  | 59 => ⟨S32x256x1024, .f32⟩
  | 60 => ⟨S32x256x1024, .f32⟩
  | 61 => ⟨S1x1x1024, .f32⟩
  | 62 => ⟨S32x256x1024, .f32⟩
  | 63 => ⟨S32x256x1024, .f32⟩
  | 64 => ⟨S1x1x1024, .f32⟩
  | 65 => ⟨S1x1024, .f32⟩
  | 66 => ⟨S1x1x1024, .f32⟩
  | 67 => ⟨S_, .f32⟩
  | 68 => ⟨S1x1x1024, .f32⟩
  | 69 => ⟨S1x1x1024, .f32⟩
  | 70 => ⟨S32x256x1024, .f32⟩
  | 71 => ⟨S32x256x1024, .f32⟩
  | 72 => ⟨S1x1x1024, .f32⟩
  | 73 => ⟨S1x1024, .f32⟩
  | 74 => ⟨S1x1x1024, .f32⟩
  | 75 => ⟨S32x256x1024, .f32⟩
  | 76 => ⟨S32x256x1024, .f32⟩
  | 77 => ⟨S8192x1024, .f32⟩
  | 78 => ⟨S8192x1024, .f32⟩
  | 79 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_4 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_6 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_7 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_8 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_9 : Ref sig .tc := ⟨.hbm, 108, rfl⟩
abbrev main_v79 : Ref sig .tc := ⟨.hbm, 109, rfl⟩
abbrev main_v80 : Ref sig .tc := ⟨.hbm, 110, rfl⟩
abbrev main_cst_10 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_11 : Ref sig .tc := ⟨.hbm, 117, rfl⟩
abbrev main_v86 : Ref sig .tc := ⟨.hbm, 118, rfl⟩
abbrev main_v87 : Ref sig .tc := ⟨.hbm, 119, rfl⟩
abbrev main_cst_12 : Ref sig .tc := ⟨.hbm, 120, rfl⟩
abbrev main_v88 : Ref sig .tc := ⟨.hbm, 121, rfl⟩
abbrev main_v89 : Ref sig .tc := ⟨.hbm, 122, rfl⟩
abbrev main_cst_13 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_14 : Ref sig .tc := ⟨.hbm, 140, rfl⟩
abbrev main_v106 : Ref sig .tc := ⟨.hbm, 141, rfl⟩
abbrev main_v107 : Ref sig .tc := ⟨.hbm, 142, rfl⟩
abbrev main_cst_15 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_16 : Ref sig .tc := ⟨.hbm, 158, rfl⟩
abbrev main_v122 : Ref sig .tc := ⟨.hbm, 159, rfl⟩
abbrev main_v123 : Ref sig .tc := ⟨.hbm, 160, rfl⟩
abbrev main_cst_17 : Ref sig .tc := ⟨.hbm, 161, rfl⟩
abbrev main_v124 : Ref sig .tc := ⟨.hbm, 162, rfl⟩
abbrev main_v125 : Ref sig .tc := ⟨.hbm, 163, rfl⟩
abbrev main_cst_18 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_19 : Ref sig .tc := ⟨.hbm, 177, rfl⟩
abbrev main_v138 : Ref sig .tc := ⟨.hbm, 178, rfl⟩
abbrev main_v139 : Ref sig .tc := ⟨.hbm, 179, rfl⟩
abbrev main_cst_20 : Ref sig .tc := ⟨.hbm, 180, rfl⟩
abbrev main_v140 : Ref sig .tc := ⟨.hbm, 181, rfl⟩
abbrev main_v141 : Ref sig .tc := ⟨.hbm, 182, rfl⟩
abbrev main_cst_21 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_22 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩

abbrev nD : Nat := 1
abbrev τ : Topo := Topo.v7x

variable {F : FTy → Type} [FloatOps F]
-- ==== Kernel8.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x512 : Shape := ⟨2, ![1024, 512]⟩
abbrev S1x512 : Shape := ⟨2, ![1, 512]⟩
abbrev S16x512 : Shape := ⟨2, ![16, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel9.lean ====
abbrev S8192x512 : Shape := ⟨2, ![8192, 512]⟩
abbrev S31x512 : Shape := ⟨2, ![31, 512]⟩
abbrev S1x512 : Shape := ⟨2, ![1, 512]⟩
abbrev S31x1x512 : Shape := ⟨3, ![31, 1, 512]⟩
abbrev S31x8x512 : Shape := ⟨3, ![31, 8, 512]⟩
abbrev S512x512 : Shape := ⟨2, ![512, 512]⟩
abbrev S8x584x512 : Shape := ⟨3, ![8, 584, 512]⟩
abbrev S584x512 : Shape := ⟨2, ![584, 512]⟩
abbrev S1x584x512 : Shape := ⟨3, ![1, 584, 512]⟩
abbrev S256x512 : Shape := ⟨2, ![256, 512]⟩
abbrev S1x256x512 : Shape := ⟨3, ![1, 256, 512]⟩
abbrev S1x576x512 : Shape := ⟨3, ![1, 576, 512]⟩
abbrev S576x512 : Shape := ⟨2, ![576, 512]⟩
abbrev S8x512 : Shape := ⟨2, ![8, 512]⟩
abbrev S1x8x512 : Shape := ⟨3, ![1, 8, 512]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S31x1x512, .f32⟩
  | .hbm, ⟨6, _⟩ => ⟨S31x8x512, .f32⟩
  | .hbm, ⟨7, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S31x8x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S8x584x512, .f32⟩
  | .local _ .vmem, ⟨9, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v48 : BitVec 32 := Scalar.addi c0_i32 c16_i32
  let c1_i32 : BitVec 32 := 1#32
  ⟨c0_i32, v48, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c0_i32_76 : BitVec 32 := 0#32
  let v110 : BitVec 32 := Scalar.addi v103 c0_i32_76
  v110
def k0_off1 (k0_t1 : Fin k0_t1_loop.trips) (c0_i32_76 : BitVec 32) : Fin 3 → Nat :=
  let c1_77 : Index := 1#32
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let v110 : BitVec 32 := Scalar.addi v103 c0_i32_76
  let v111 : BitVec 32 := v110
  let v112 : Index := Scalar.indexCast v111
  let c0_78 : Index := 0#32
  ![1, v112.toNat, 0]
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_79 : BitVec 32 := 8#32
  let v117 : BitVec 32 := Scalar.addi v103 c8_i32_79
  v117
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_82 : BitVec 32 := 16#32
  let v124 : BitVec 32 := Scalar.addi v103 c16_i32_82
  v124
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32 : BitVec 32 := 24#32
  let v131 : BitVec 32 := Scalar.addi v103 c24_i32
  v131
def k0_mult5 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c0_i32_90 : BitVec 32 := 0#32
  let v140 : BitVec 32 := Scalar.addi v103 c0_i32_90
  v140
def k0_off2 (k0_t1 : Fin k0_t1_loop.trips) (c0_i32_90 : BitVec 32) : Fin 3 → Nat :=
  let c2_91 : Index := 2#32
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let v140 : BitVec 32 := Scalar.addi v103 c0_i32_90
  let v141 : BitVec 32 := v140
  let v142 : Index := Scalar.indexCast v141
  let c0_92 : Index := 0#32
  ![2, v142.toNat, 0]
def k0_mult6 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_93 : BitVec 32 := 8#32
  let v147 : BitVec 32 := Scalar.addi v103 c8_i32_93
  v147
def k0_mult7 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_96 : BitVec 32 := 16#32
  let v154 : BitVec 32 := Scalar.addi v103 c16_i32_96
  v154
def k0_mult8 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_99 : BitVec 32 := 24#32
  let v161 : BitVec 32 := Scalar.addi v103 c24_i32_99
  v161
def k0_mult9 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c0_i32_105 : BitVec 32 := 0#32
  let v170 : BitVec 32 := Scalar.addi v103 c0_i32_105
  v170
def k0_off3 (k0_t1 : Fin k0_t1_loop.trips) (c0_i32_105 : BitVec 32) : Fin 3 → Nat :=
  let c3_106 : Index := 3#32
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let v170 : BitVec 32 := Scalar.addi v103 c0_i32_105
  let v171 : BitVec 32 := v170
  let v172 : Index := Scalar.indexCast v171
  let c0_107 : Index := 0#32
  ![3, v172.toNat, 0]
def k0_mult10 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_108 : BitVec 32 := 8#32
  let v177 : BitVec 32 := Scalar.addi v103 c8_i32_108
  v177
def k0_mult11 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_111 : BitVec 32 := 16#32
  let v184 : BitVec 32 := Scalar.addi v103 c16_i32_111
  v184
def k0_mult12 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_114 : BitVec 32 := 24#32
  let v191 : BitVec 32 := Scalar.addi v103 c24_i32_114
  v191
def k0_mult13 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c0_i32_120 : BitVec 32 := 0#32
  let v200 : BitVec 32 := Scalar.addi v103 c0_i32_120
  v200
def k0_off4 (k0_t1 : Fin k0_t1_loop.trips) (c0_i32_120 : BitVec 32) : Fin 3 → Nat :=
  let c4_121 : Index := 4#32
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let v200 : BitVec 32 := Scalar.addi v103 c0_i32_120
  let v201 : BitVec 32 := v200
  let v202 : Index := Scalar.indexCast v201
  let c0_122 : Index := 0#32
  ![4, v202.toNat, 0]
def k0_mult14 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_123 : BitVec 32 := 8#32
  let v207 : BitVec 32 := Scalar.addi v103 c8_i32_123
  v207
def k0_mult15 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_126 : BitVec 32 := 16#32
  let v214 : BitVec 32 := Scalar.addi v103 c16_i32_126
  v214
def k0_mult16 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_129 : BitVec 32 := 24#32
  let v221 : BitVec 32 := Scalar.addi v103 c24_i32_129
  v221
def k0_mult17 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c0_i32_135 : BitVec 32 := 0#32
  let v230 : BitVec 32 := Scalar.addi v103 c0_i32_135
  v230
def k0_off5 (k0_t1 : Fin k0_t1_loop.trips) (c0_i32_135 : BitVec 32) : Fin 3 → Nat :=
  let c5_136 : Index := 5#32
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let v230 : BitVec 32 := Scalar.addi v103 c0_i32_135
  let v231 : BitVec 32 := v230
  let v232 : Index := Scalar.indexCast v231
  let c0_137 : Index := 0#32
  ![5, v232.toNat, 0]
def k0_mult18 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_138 : BitVec 32 := 8#32
  let v237 : BitVec 32 := Scalar.addi v103 c8_i32_138
  v237
def k0_mult19 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_141 : BitVec 32 := 16#32
  let v244 : BitVec 32 := Scalar.addi v103 c16_i32_141
  v244
def k0_mult20 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_144 : BitVec 32 := 24#32
  let v251 : BitVec 32 := Scalar.addi v103 c24_i32_144
  v251
def k0_mult21 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c0_i32_150 : BitVec 32 := 0#32
  let v260 : BitVec 32 := Scalar.addi v103 c0_i32_150
  v260
def k0_off6 (k0_t1 : Fin k0_t1_loop.trips) (c0_i32_150 : BitVec 32) : Fin 3 → Nat :=
  let c6_151 : Index := 6#32
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let v260 : BitVec 32 := Scalar.addi v103 c0_i32_150
  let v261 : BitVec 32 := v260
  let v262 : Index := Scalar.indexCast v261
  let c0_152 : Index := 0#32
  ![6, v262.toNat, 0]
def k0_mult22 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_153 : BitVec 32 := 8#32
  let v267 : BitVec 32 := Scalar.addi v103 c8_i32_153
  v267
def k0_mult23 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_156 : BitVec 32 := 16#32
  let v274 : BitVec 32 := Scalar.addi v103 c16_i32_156
  v274
def k0_mult24 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_159 : BitVec 32 := 24#32
  let v281 : BitVec 32 := Scalar.addi v103 c24_i32_159
  v281
def k0_mult25 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c0_i32_165 : BitVec 32 := 0#32
  let v290 : BitVec 32 := Scalar.addi v103 c0_i32_165
  v290
def k0_off7 (k0_t1 : Fin k0_t1_loop.trips) (c0_i32_165 : BitVec 32) : Fin 3 → Nat :=
  let c7_166 : Index := 7#32
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let v290 : BitVec 32 := Scalar.addi v103 c0_i32_165
  let v291 : BitVec 32 := v290
  let v292 : Index := Scalar.indexCast v291
  let c0_167 : Index := 0#32
  ![7, v292.toNat, 0]
def k0_mult26 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_168 : BitVec 32 := 8#32
  let v297 : BitVec 32 := Scalar.addi v103 c8_i32_168
  v297
def k0_mult27 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_171 : BitVec 32 := 16#32
  let v304 : BitVec 32 := Scalar.addi v103 c16_i32_171
  v304
def k0_mult28 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_174 : BitVec 32 := 24#32
  let v311 : BitVec 32 := Scalar.addi v103 c24_i32_174
  v311
def k0_mult29 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_180 : BitVec 32 := 8#32
  let v320 : BitVec 32 := Scalar.addi v103 c8_i32_180
  v320
def k0_off8 (k0_t1 : Fin k0_t1_loop.trips) (c8_i32_180 : BitVec 32) : Fin 3 → Nat :=
  let c0_181 : Index := 0#32
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let v320 : BitVec 32 := Scalar.addi v103 c8_i32_180
  let v321 : BitVec 32 := v320
  let v322 : Index := Scalar.indexCast v321
  let c0_182 : Index := 0#32
  ![0, v322.toNat, 0]
def k0_mult30 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_183 : BitVec 32 := 16#32
  let v327 : BitVec 32 := Scalar.addi v103 c16_i32_183
  v327
def k0_mult31 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_186 : BitVec 32 := 24#32
  let v334 : BitVec 32 := Scalar.addi v103 c24_i32_186
  v334
def k0_mult32 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_189 : BitVec 32 := 32#32
  let v341 : BitVec 32 := Scalar.addi v103 c32_i32_189
  v341
def k0_mult33 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_194 : BitVec 32 := 8#32
  let v350 : BitVec 32 := Scalar.addi v103 c8_i32_194
  v350
def k0_mult34 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_197 : BitVec 32 := 16#32
  let v357 : BitVec 32 := Scalar.addi v103 c16_i32_197
  v357
def k0_mult35 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_200 : BitVec 32 := 24#32
  let v364 : BitVec 32 := Scalar.addi v103 c24_i32_200
  v364
def k0_mult36 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_203 : BitVec 32 := 32#32
  let v371 : BitVec 32 := Scalar.addi v103 c32_i32_203
  v371
def k0_mult37 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_208 : BitVec 32 := 8#32
  let v380 : BitVec 32 := Scalar.addi v103 c8_i32_208
  v380
def k0_mult38 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_211 : BitVec 32 := 16#32
  let v387 : BitVec 32 := Scalar.addi v103 c16_i32_211
  v387
def k0_mult39 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_214 : BitVec 32 := 24#32
  let v394 : BitVec 32 := Scalar.addi v103 c24_i32_214
  v394
def k0_mult40 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_217 : BitVec 32 := 32#32
  let v401 : BitVec 32 := Scalar.addi v103 c32_i32_217
  v401
def k0_mult41 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_222 : BitVec 32 := 8#32
  let v410 : BitVec 32 := Scalar.addi v103 c8_i32_222
  v410
def k0_mult42 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_225 : BitVec 32 := 16#32
  let v417 : BitVec 32 := Scalar.addi v103 c16_i32_225
  v417
def k0_mult43 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_228 : BitVec 32 := 24#32
  let v424 : BitVec 32 := Scalar.addi v103 c24_i32_228
  v424
def k0_mult44 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_231 : BitVec 32 := 32#32
  let v431 : BitVec 32 := Scalar.addi v103 c32_i32_231
  v431
def k0_mult45 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_236 : BitVec 32 := 8#32
  let v440 : BitVec 32 := Scalar.addi v103 c8_i32_236
  v440
def k0_mult46 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_239 : BitVec 32 := 16#32
  let v447 : BitVec 32 := Scalar.addi v103 c16_i32_239
  v447
def k0_mult47 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_242 : BitVec 32 := 24#32
  let v454 : BitVec 32 := Scalar.addi v103 c24_i32_242
  v454
def k0_mult48 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_245 : BitVec 32 := 32#32
  let v461 : BitVec 32 := Scalar.addi v103 c32_i32_245
  v461
def k0_mult49 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_250 : BitVec 32 := 8#32
  let v470 : BitVec 32 := Scalar.addi v103 c8_i32_250
  v470
def k0_mult50 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_253 : BitVec 32 := 16#32
  let v477 : BitVec 32 := Scalar.addi v103 c16_i32_253
  v477
def k0_mult51 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_256 : BitVec 32 := 24#32
  let v484 : BitVec 32 := Scalar.addi v103 c24_i32_256
  v484
def k0_mult52 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_259 : BitVec 32 := 32#32
  let v491 : BitVec 32 := Scalar.addi v103 c32_i32_259
  v491
def k0_mult53 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_264 : BitVec 32 := 8#32
  let v500 : BitVec 32 := Scalar.addi v103 c8_i32_264
  v500
def k0_mult54 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_267 : BitVec 32 := 16#32
  let v507 : BitVec 32 := Scalar.addi v103 c16_i32_267
  v507
def k0_mult55 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_270 : BitVec 32 := 24#32
  let v514 : BitVec 32 := Scalar.addi v103 c24_i32_270
  v514
def k0_mult56 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_273 : BitVec 32 := 32#32
  let v521 : BitVec 32 := Scalar.addi v103 c32_i32_273
  v521
def k0_mult57 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c8_i32_278 : BitVec 32 := 8#32
  let v530 : BitVec 32 := Scalar.addi v103 c8_i32_278
  v530
def k0_mult58 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_281 : BitVec 32 := 16#32
  let v537 : BitVec 32 := Scalar.addi v103 c16_i32_281
  v537
def k0_mult59 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_284 : BitVec 32 := 24#32
  let v544 : BitVec 32 := Scalar.addi v103 c24_i32_284
  v544
def k0_mult60 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_287 : BitVec 32 := 32#32
  let v551 : BitVec 32 := Scalar.addi v103 c32_i32_287
  v551
def k0_mult61 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_292 : BitVec 32 := 16#32
  let v560 : BitVec 32 := Scalar.addi v103 c16_i32_292
  v560
def k0_mult62 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_295 : BitVec 32 := 24#32
  let v567 : BitVec 32 := Scalar.addi v103 c24_i32_295
  v567
def k0_mult63 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_298 : BitVec 32 := 32#32
  let v574 : BitVec 32 := Scalar.addi v103 c32_i32_298
  v574
def k0_mult64 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32 : BitVec 32 := 40#32
  let v581 : BitVec 32 := Scalar.addi v103 c40_i32
  v581
def k0_mult65 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_306 : BitVec 32 := 16#32
  let v590 : BitVec 32 := Scalar.addi v103 c16_i32_306
  v590
def k0_mult66 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_309 : BitVec 32 := 24#32
  let v597 : BitVec 32 := Scalar.addi v103 c24_i32_309
  v597
def k0_mult67 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_312 : BitVec 32 := 32#32
  let v604 : BitVec 32 := Scalar.addi v103 c32_i32_312
  v604
def k0_mult68 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_315 : BitVec 32 := 40#32
  let v611 : BitVec 32 := Scalar.addi v103 c40_i32_315
  v611
def k0_mult69 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_320 : BitVec 32 := 16#32
  let v620 : BitVec 32 := Scalar.addi v103 c16_i32_320
  v620
def k0_mult70 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_323 : BitVec 32 := 24#32
  let v627 : BitVec 32 := Scalar.addi v103 c24_i32_323
  v627
def k0_mult71 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_326 : BitVec 32 := 32#32
  let v634 : BitVec 32 := Scalar.addi v103 c32_i32_326
  v634
def k0_mult72 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_329 : BitVec 32 := 40#32
  let v641 : BitVec 32 := Scalar.addi v103 c40_i32_329
  v641
def k0_mult73 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_334 : BitVec 32 := 16#32
  let v650 : BitVec 32 := Scalar.addi v103 c16_i32_334
  v650
def k0_mult74 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_337 : BitVec 32 := 24#32
  let v657 : BitVec 32 := Scalar.addi v103 c24_i32_337
  v657
def k0_mult75 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_340 : BitVec 32 := 32#32
  let v664 : BitVec 32 := Scalar.addi v103 c32_i32_340
  v664
def k0_mult76 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_343 : BitVec 32 := 40#32
  let v671 : BitVec 32 := Scalar.addi v103 c40_i32_343
  v671
def k0_mult77 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_348 : BitVec 32 := 16#32
  let v680 : BitVec 32 := Scalar.addi v103 c16_i32_348
  v680
def k0_mult78 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_351 : BitVec 32 := 24#32
  let v687 : BitVec 32 := Scalar.addi v103 c24_i32_351
  v687
def k0_mult79 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_354 : BitVec 32 := 32#32
  let v694 : BitVec 32 := Scalar.addi v103 c32_i32_354
  v694
def k0_mult80 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_357 : BitVec 32 := 40#32
  let v701 : BitVec 32 := Scalar.addi v103 c40_i32_357
  v701
def k0_mult81 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_362 : BitVec 32 := 16#32
  let v710 : BitVec 32 := Scalar.addi v103 c16_i32_362
  v710
def k0_mult82 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_365 : BitVec 32 := 24#32
  let v717 : BitVec 32 := Scalar.addi v103 c24_i32_365
  v717
def k0_mult83 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_368 : BitVec 32 := 32#32
  let v724 : BitVec 32 := Scalar.addi v103 c32_i32_368
  v724
def k0_mult84 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_371 : BitVec 32 := 40#32
  let v731 : BitVec 32 := Scalar.addi v103 c40_i32_371
  v731
def k0_mult85 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_376 : BitVec 32 := 16#32
  let v740 : BitVec 32 := Scalar.addi v103 c16_i32_376
  v740
def k0_mult86 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_379 : BitVec 32 := 24#32
  let v747 : BitVec 32 := Scalar.addi v103 c24_i32_379
  v747
def k0_mult87 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_382 : BitVec 32 := 32#32
  let v754 : BitVec 32 := Scalar.addi v103 c32_i32_382
  v754
def k0_mult88 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_385 : BitVec 32 := 40#32
  let v761 : BitVec 32 := Scalar.addi v103 c40_i32_385
  v761
def k0_mult89 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c16_i32_390 : BitVec 32 := 16#32
  let v770 : BitVec 32 := Scalar.addi v103 c16_i32_390
  v770
def k0_mult90 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_393 : BitVec 32 := 24#32
  let v777 : BitVec 32 := Scalar.addi v103 c24_i32_393
  v777
def k0_mult91 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_396 : BitVec 32 := 32#32
  let v784 : BitVec 32 := Scalar.addi v103 c32_i32_396
  v784
def k0_mult92 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_399 : BitVec 32 := 40#32
  let v791 : BitVec 32 := Scalar.addi v103 c40_i32_399
  v791
def k0_mult93 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_404 : BitVec 32 := 24#32
  let v800 : BitVec 32 := Scalar.addi v103 c24_i32_404
  v800
def k0_mult94 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_407 : BitVec 32 := 32#32
  let v807 : BitVec 32 := Scalar.addi v103 c32_i32_407
  v807
def k0_mult95 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_410 : BitVec 32 := 40#32
  let v814 : BitVec 32 := Scalar.addi v103 c40_i32_410
  v814
def k0_mult96 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c48_i32 : BitVec 32 := 48#32
  let v821 : BitVec 32 := Scalar.addi v103 c48_i32
  v821
def k0_mult97 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_417 : BitVec 32 := 24#32
  let v830 : BitVec 32 := Scalar.addi v103 c24_i32_417
  v830
def k0_mult98 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_420 : BitVec 32 := 32#32
  let v837 : BitVec 32 := Scalar.addi v103 c32_i32_420
  v837
def k0_mult99 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_423 : BitVec 32 := 40#32
  let v844 : BitVec 32 := Scalar.addi v103 c40_i32_423
  v844
def k0_mult100 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c48_i32_426 : BitVec 32 := 48#32
  let v851 : BitVec 32 := Scalar.addi v103 c48_i32_426
  v851
def k0_mult101 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_431 : BitVec 32 := 24#32
  let v860 : BitVec 32 := Scalar.addi v103 c24_i32_431
  v860
def k0_mult102 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_434 : BitVec 32 := 32#32
  let v867 : BitVec 32 := Scalar.addi v103 c32_i32_434
  v867
def k0_mult103 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_437 : BitVec 32 := 40#32
  let v874 : BitVec 32 := Scalar.addi v103 c40_i32_437
  v874
def k0_mult104 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c48_i32_440 : BitVec 32 := 48#32
  let v881 : BitVec 32 := Scalar.addi v103 c48_i32_440
  v881
def k0_mult105 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_445 : BitVec 32 := 24#32
  let v890 : BitVec 32 := Scalar.addi v103 c24_i32_445
  v890
def k0_mult106 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_448 : BitVec 32 := 32#32
  let v897 : BitVec 32 := Scalar.addi v103 c32_i32_448
  v897
def k0_mult107 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_451 : BitVec 32 := 40#32
  let v904 : BitVec 32 := Scalar.addi v103 c40_i32_451
  v904
def k0_mult108 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c48_i32_454 : BitVec 32 := 48#32
  let v911 : BitVec 32 := Scalar.addi v103 c48_i32_454
  v911
def k0_mult109 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_459 : BitVec 32 := 24#32
  let v920 : BitVec 32 := Scalar.addi v103 c24_i32_459
  v920
def k0_mult110 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_462 : BitVec 32 := 32#32
  let v927 : BitVec 32 := Scalar.addi v103 c32_i32_462
  v927
def k0_mult111 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_465 : BitVec 32 := 40#32
  let v934 : BitVec 32 := Scalar.addi v103 c40_i32_465
  v934
def k0_mult112 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c48_i32_468 : BitVec 32 := 48#32
  let v941 : BitVec 32 := Scalar.addi v103 c48_i32_468
  v941
def k0_mult113 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_473 : BitVec 32 := 24#32
  let v950 : BitVec 32 := Scalar.addi v103 c24_i32_473
  v950
def k0_mult114 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_476 : BitVec 32 := 32#32
  let v957 : BitVec 32 := Scalar.addi v103 c32_i32_476
  v957
def k0_mult115 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_479 : BitVec 32 := 40#32
  let v964 : BitVec 32 := Scalar.addi v103 c40_i32_479
  v964
def k0_mult116 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c48_i32_482 : BitVec 32 := 48#32
  let v971 : BitVec 32 := Scalar.addi v103 c48_i32_482
  v971
def k0_mult117 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_487 : BitVec 32 := 24#32
  let v980 : BitVec 32 := Scalar.addi v103 c24_i32_487
  v980
def k0_mult118 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_490 : BitVec 32 := 32#32
  let v987 : BitVec 32 := Scalar.addi v103 c32_i32_490
  v987
def k0_mult119 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_493 : BitVec 32 := 40#32
  let v994 : BitVec 32 := Scalar.addi v103 c40_i32_493
  v994
def k0_mult120 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c48_i32_496 : BitVec 32 := 48#32
  let v1001 : BitVec 32 := Scalar.addi v103 c48_i32_496
  v1001
def k0_mult121 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c24_i32_501 : BitVec 32 := 24#32
  let v1010 : BitVec 32 := Scalar.addi v103 c24_i32_501
  v1010
def k0_mult122 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c32_i32_504 : BitVec 32 := 32#32
  let v1017 : BitVec 32 := Scalar.addi v103 c32_i32_504
  v1017
def k0_mult123 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c40_i32_507 : BitVec 32 := 40#32
  let v1024 : BitVec 32 := Scalar.addi v103 c40_i32_507
  v1024
def k0_mult124 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v84 : BitVec 32 := Scalar.muli arg9 c32_i32
  let c0_i32_62 : BitVec 32 := 0#32
  let v86 : BitVec 1 := Scalar.cmpi .sgt arg9 c0_i32_62
  let v87 : BitVec 32 := Scalar.extui v86
  let c0_i32_63 : BitVec 32 := 0#32
  let v88 : BitVec 1 := Scalar.cmpi .slt arg9 c0_i32_63
  let v89 : BitVec 32 := Scalar.extui v88
  let v90 : BitVec 32 := Scalar.subi v87 v89
  let c8_i32 : BitVec 32 := 8#32
  let c0_i32_64 : BitVec 32 := 0#32
  let v91 : BitVec 1 := Scalar.cmpi .sgt c8_i32 c0_i32_64
  let v92 : BitVec 32 := Scalar.extui v91
  let c0_i32_65 : BitVec 32 := 0#32
  let v93 : BitVec 1 := Scalar.cmpi .slt c8_i32 c0_i32_65
  let v94 : BitVec 32 := Scalar.extui v93
  let v95 : BitVec 32 := Scalar.subi v92 v94
  let v96 : BitVec 1 := Scalar.cmpi .ne v90 v95
  let v97 : BitVec 32 := Scalar.remsi arg9 c8_i32
  let c0_i32_66 : BitVec 32 := 0#32
  let v98 : BitVec 1 := Scalar.cmpi .ne v97 c0_i32_66
  let v99 : BitVec 1 := Scalar.andi v96 v98
  let v85 : BitVec 32 := Scalar.divsi arg9 c8_i32
  let c1_i32_67 : BitVec 32 := 1#32
  let v100 : BitVec 32 := Scalar.subi v85 c1_i32_67
  let v101 : BitVec 32 := Scalar.select v99 v100 v85
  let c32_i32_68 : BitVec 32 := 32#32
  let v102 : BitVec 32 := Scalar.muli v101 c32_i32_68
  let v103 : BitVec 32 := Scalar.addi v84 v102
  let c48_i32_510 : BitVec 32 := 48#32
  let v1031 : BitVec 32 := Scalar.addi v103 c48_i32_510
  v1031
def k0_mult125 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_513 : BitVec 32 := 32#32
  let v1038 : BitVec 32 := Scalar.muli arg9 c32_i32_513
  let c0_i32_514 : BitVec 32 := 0#32
  let v1039 : BitVec 32 := Scalar.addi v1038 c0_i32_514
  v1039
def k0_off9 (k0_t1 : Fin k0_t1_loop.trips) (c0_i32_514 : BitVec 32) : Fin 2 → Nat :=
  let c0_i32 : BitVec 32 := 0#32
  let c1_i32 : BitVec 32 := 1#32
  let arg9 : BitVec 32 := Scf.iv c0_i32 c1_i32 k0_t1
  let c32_i32_513 : BitVec 32 := 32#32
  let v1038 : BitVec 32 := Scalar.muli arg9 c32_i32_513
  let v1039 : BitVec 32 := Scalar.addi v1038 c0_i32_514
  let v1040 : BitVec 32 := v1039
  let v1041 : Index := Scalar.indexCast v1040
  let c0_515 : Index := 0#32
  ![v1041.toNat, 0]
def k0_mult126 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_516 : BitVec 32 := 32#32
  let v1045 : BitVec 32 := Scalar.muli arg9 c32_i32_516
  let c8_i32_517 : BitVec 32 := 8#32
  let v1046 : BitVec 32 := Scalar.addi v1045 c8_i32_517
  v1046
def k0_mult127 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_519 : BitVec 32 := 32#32
  let v1052 : BitVec 32 := Scalar.muli arg9 c32_i32_519
  let c16_i32_520 : BitVec 32 := 16#32
  let v1053 : BitVec 32 := Scalar.addi v1052 c16_i32_520
  v1053
def k0_mult128 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_522 : BitVec 32 := 32#32
  let v1059 : BitVec 32 := Scalar.muli arg9 c32_i32_522
  let c24_i32_523 : BitVec 32 := 24#32
  let v1060 : BitVec 32 := Scalar.addi v1059 c24_i32_523
  v1060
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x512 : Shape := ⟨2, ![8192, 512]⟩
abbrev S31x512 : Shape := ⟨2, ![31, 512]⟩
abbrev S1x512 : Shape := ⟨2, ![1, 512]⟩
abbrev S32x256x512 : Shape := ⟨3, ![32, 256, 512]⟩
abbrev S_ : Shape := ⟨0, ![]⟩
abbrev S32x15x512 : Shape := ⟨3, ![32, 15, 512]⟩
abbrev S32x286x512 : Shape := ⟨3, ![32, 286, 512]⟩
abbrev S512 : Shape := ⟨1, ![512]⟩
abbrev S1x1x512 : Shape := ⟨3, ![1, 1, 512]⟩
abbrev S8192 : Shape := ⟨1, ![8192]⟩
abbrev S8192x1 : Shape := ⟨2, ![8192, 1]⟩

abbrev nBuf : Space → Nat
  | .hbm => 265
  | .vmem => 0
  | .smem => 0
  | _ => 0

abbrev hbmTy0_0 (i : Nat) : BufTy := match i % 128 with
  | 0 => ⟨S8192x512, .f32⟩
  | 1 => ⟨S31x512, .f32⟩
  | 2 => ⟨S1x512, .f32⟩
  | 3 => ⟨S1x512, .f32⟩
  | 4 => ⟨S1x512, .f32⟩
  | 5 => ⟨S32x256x512, .f32⟩
  | 6 => ⟨S_, .f32⟩
  | 7 => ⟨S32x15x512, .f32⟩
  | 8 => ⟨S32x286x512, .f32⟩
  | 9 => ⟨S32x256x512, .f32⟩
  | 10 => ⟨S1x512, .f32⟩
  | 11 => ⟨S512, .f32⟩
  | 12 => ⟨S1x1x512, .f32⟩
  | 13 => ⟨S32x256x512, .f32⟩
  | 14 => ⟨S32x256x512, .f32⟩
  | 15 => ⟨S_, .f32⟩
  | 16 => ⟨S32x256x512, .f32⟩
  | 17 => ⟨S32x256x512, .f32⟩
  | 18 => ⟨S32x256x512, .f32⟩
  | 19 => ⟨S1x512, .f32⟩
  | 20 => ⟨S512, .f32⟩
  | 21 => ⟨S1x1x512, .f32⟩
  | 22 => ⟨S32x256x512, .f32⟩
  | 23 => ⟨S32x256x512, .f32⟩
  | 24 => ⟨S32x256x512, .f32⟩
  | 25 => ⟨S32x256x512, .f32⟩
  | 26 => ⟨S1x512, .f32⟩
  | 27 => ⟨S512, .f32⟩
  | 28 => ⟨S1x1x512, .f32⟩
  | 29 => ⟨S32x256x512, .f32⟩
  | 30 => ⟨S32x256x512, .f32⟩
  | 31 => ⟨S32x256x512, .f32⟩
  | 32 => ⟨S32x256x512, .f32⟩
  | 33 => ⟨S1x512, .f32⟩
  | 34 => ⟨S512, .f32⟩
  | 35 => ⟨S1x1x512, .f32⟩
  | 36 => ⟨S32x256x512, .f32⟩
  | 37 => ⟨S32x256x512, .f32⟩
  | 38 => ⟨S32x256x512, .f32⟩
  | 39 => ⟨S32x256x512, .f32⟩
  | 40 => ⟨S1x512, .f32⟩
  | 41 => ⟨S512, .f32⟩
  | 42 => ⟨S1x1x512, .f32⟩
  | 43 => ⟨S32x256x512, .f32⟩
  | 44 => ⟨S32x256x512, .f32⟩
  | 45 => ⟨S32x256x512, .f32⟩
  | 46 => ⟨S32x256x512, .f32⟩
  | 47 => ⟨S1x512, .f32⟩
  | 48 => ⟨S512, .f32⟩
  | 49 => ⟨S1x1x512, .f32⟩
  | 50 => ⟨S32x256x512, .f32⟩
  | 51 => ⟨S32x256x512, .f32⟩
  | 52 => ⟨S32x256x512, .f32⟩
  | 53 => ⟨S32x256x512, .f32⟩
  | 54 => ⟨S1x512, .f32⟩
  | 55 => ⟨S512, .f32⟩
  | 56 => ⟨S1x1x512, .f32⟩
  | 57 => ⟨S32x256x512, .f32⟩
  | 58 => ⟨S32x256x512, .f32⟩
  | 59 => ⟨S32x256x512, .f32⟩
  | 60 => ⟨S32x256x512, .f32⟩
  | 61 => ⟨S1x512, .f32⟩
  | 62 => ⟨S512, .f32⟩
  | 63 => ⟨S1x1x512, .f32⟩
  | 64 => ⟨S32x256x512, .f32⟩
  | 65 => ⟨S32x256x512, .f32⟩
  | 66 => ⟨S32x256x512, .f32⟩
  | 67 => ⟨S32x256x512, .f32⟩
  | 68 => ⟨S1x512, .f32⟩
  | 69 => ⟨S512, .f32⟩
  | 70 => ⟨S1x1x512, .f32⟩
  | 71 => ⟨S32x256x512, .f32⟩
  | 72 => ⟨S32x256x512, .f32⟩
  | 73 => ⟨S32x256x512, .f32⟩
  | 74 => ⟨S32x256x512, .f32⟩
  | 75 => ⟨S1x512, .f32⟩
  | 76 => ⟨S512, .f32⟩
  | 77 => ⟨S1x1x512, .f32⟩
  | 78 => ⟨S32x256x512, .f32⟩
  | 79 => ⟨S32x256x512, .f32⟩
  | 80 => ⟨S32x256x512, .f32⟩
  | 81 => ⟨S32x256x512, .f32⟩
  | 82 => ⟨S1x512, .f32⟩
  | 83 => ⟨S512, .f32⟩
  | 84 => ⟨S1x1x512, .f32⟩
  | 85 => ⟨S32x256x512, .f32⟩
  | 86 => ⟨S32x256x512, .f32⟩
  | 87 => ⟨S32x256x512, .f32⟩
  | 88 => ⟨S32x256x512, .f32⟩
  | 89 => ⟨S1x512, .f32⟩
  | 90 => ⟨S512, .f32⟩
  | 91 => ⟨S1x1x512, .f32⟩
  | 92 => ⟨S32x256x512, .f32⟩
  | 93 => ⟨S32x256x512, .f32⟩
  | 94 => ⟨S32x256x512, .f32⟩
  | 95 => ⟨S32x256x512, .f32⟩
  | 96 => ⟨S1x512, .f32⟩
  | 97 => ⟨S512, .f32⟩
  | 98 => ⟨S1x1x512, .f32⟩
  | 99 => ⟨S32x256x512, .f32⟩
  | 100 => ⟨S32x256x512, .f32⟩
  | 101 => ⟨S32x256x512, .f32⟩
  | 102 => ⟨S32x256x512, .f32⟩
  | 103 => ⟨S1x512, .f32⟩
  | 104 => ⟨S512, .f32⟩
  | 105 => ⟨S1x1x512, .f32⟩
  | 106 => ⟨S32x256x512, .f32⟩
  | 107 => ⟨S32x256x512, .f32⟩
  | 108 => ⟨S32x256x512, .f32⟩
  | 109 => ⟨S32x256x512, .f32⟩
  | 110 => ⟨S1x512, .f32⟩
  | 111 => ⟨S512, .f32⟩
  | 112 => ⟨S1x1x512, .f32⟩
  | 113 => ⟨S32x256x512, .f32⟩
  | 114 => ⟨S32x256x512, .f32⟩
  | 115 => ⟨S32x256x512, .f32⟩
  | 116 => ⟨S32x256x512, .f32⟩
  | 117 => ⟨S1x512, .f32⟩
  | 118 => ⟨S512, .f32⟩
  | 119 => ⟨S1x1x512, .f32⟩
  | 120 => ⟨S32x256x512, .f32⟩
  | 121 => ⟨S32x256x512, .f32⟩
  | 122 => ⟨S32x256x512, .f32⟩
  | 123 => ⟨S32x256x512, .f32⟩
  | 124 => ⟨S1x512, .f32⟩
  | 125 => ⟨S512, .f32⟩
  | 126 => ⟨S1x1x512, .f32⟩
  | 127 => ⟨S32x256x512, .f32⟩
  | _ => ⟨S8192x512, .f32⟩

abbrev hbmTy0_1 (i : Nat) : BufTy := match i % 128 with
  | 0 => ⟨S32x256x512, .f32⟩
  | 1 => ⟨S32x256x512, .f32⟩
  | 2 => ⟨S32x256x512, .f32⟩
  | 3 => ⟨S1x512, .f32⟩
  | 4 => ⟨S512, .f32⟩
  | 5 => ⟨S1x1x512, .f32⟩
  | 6 => ⟨S32x256x512, .f32⟩
  | 7 => ⟨S32x256x512, .f32⟩
  | 8 => ⟨S32x256x512, .f32⟩
  | 9 => ⟨S32x256x512, .f32⟩
  | 10 => ⟨S1x512, .f32⟩
  | 11 => ⟨S512, .f32⟩
  | 12 => ⟨S1x1x512, .f32⟩
  | 13 => ⟨S32x256x512, .f32⟩
  | 14 => ⟨S32x256x512, .f32⟩
  | 15 => ⟨S32x256x512, .f32⟩
  | 16 => ⟨S32x256x512, .f32⟩
  | 17 => ⟨S1x512, .f32⟩
  | 18 => ⟨S512, .f32⟩
  | 19 => ⟨S1x1x512, .f32⟩
  | 20 => ⟨S32x256x512, .f32⟩
  | 21 => ⟨S32x256x512, .f32⟩
  | 22 => ⟨S32x256x512, .f32⟩
  | 23 => ⟨S32x256x512, .f32⟩
  | 24 => ⟨S1x512, .f32⟩
  | 25 => ⟨S512, .f32⟩
  | 26 => ⟨S1x1x512, .f32⟩
  | 27 => ⟨S32x256x512, .f32⟩
  | 28 => ⟨S32x256x512, .f32⟩
  | 29 => ⟨S32x256x512, .f32⟩
  | 30 => ⟨S32x256x512, .f32⟩
  | 31 => ⟨S1x512, .f32⟩
  | 32 => ⟨S512, .f32⟩
  | 33 => ⟨S1x1x512, .f32⟩
  | 34 => ⟨S32x256x512, .f32⟩
  | 35 => ⟨S32x256x512, .f32⟩
  | 36 => ⟨S32x256x512, .f32⟩
  | 37 => ⟨S32x256x512, .f32⟩
  | 38 => ⟨S1x512, .f32⟩
  | 39 => ⟨S512, .f32⟩
  | 40 => ⟨S1x1x512, .f32⟩
  | 41 => ⟨S32x256x512, .f32⟩
  | 42 => ⟨S32x256x512, .f32⟩
  | 43 => ⟨S32x256x512, .f32⟩
  | 44 => ⟨S32x256x512, .f32⟩
  | 45 => ⟨S1x512, .f32⟩
  | 46 => ⟨S512, .f32⟩
  | 47 => ⟨S1x1x512, .f32⟩
  | 48 => ⟨S32x256x512, .f32⟩
  | 49 => ⟨S32x256x512, .f32⟩
  | 50 => ⟨S32x256x512, .f32⟩
  | 51 => ⟨S32x256x512, .f32⟩
  | 52 => ⟨S1x512, .f32⟩
  | 53 => ⟨S512, .f32⟩
  | 54 => ⟨S1x1x512, .f32⟩
  | 55 => ⟨S32x256x512, .f32⟩
  | 56 => ⟨S32x256x512, .f32⟩
  | 57 => ⟨S32x256x512, .f32⟩
  | 58 => ⟨S32x256x512, .f32⟩
  | 59 => ⟨S1x512, .f32⟩
  | 60 => ⟨S512, .f32⟩
  | 61 => ⟨S1x1x512, .f32⟩
  | 62 => ⟨S32x256x512, .f32⟩
  | 63 => ⟨S32x256x512, .f32⟩
  | 64 => ⟨S32x256x512, .f32⟩
  | 65 => ⟨S32x256x512, .f32⟩
  | 66 => ⟨S1x512, .f32⟩
  | 67 => ⟨S512, .f32⟩
  | 68 => ⟨S1x1x512, .f32⟩
  | 69 => ⟨S32x256x512, .f32⟩
  | 70 => ⟨S32x256x512, .f32⟩
  | 71 => ⟨S32x256x512, .f32⟩
  | 72 => ⟨S32x256x512, .f32⟩
  | 73 => ⟨S1x512, .f32⟩
  | 74 => ⟨S512, .f32⟩
  | 75 => ⟨S1x1x512, .f32⟩
  | 76 => ⟨S32x256x512, .f32⟩
  | 77 => ⟨S32x256x512, .f32⟩
  | 78 => ⟨S32x256x512, .f32⟩
  | 79 => ⟨S32x256x512, .f32⟩
  | 80 => ⟨S1x512, .f32⟩
  | 81 => ⟨S512, .f32⟩
  | 82 => ⟨S1x1x512, .f32⟩
  | 83 => ⟨S32x256x512, .f32⟩
  | 84 => ⟨S32x256x512, .f32⟩
  | 85 => ⟨S32x256x512, .f32⟩
  | 86 => ⟨S32x256x512, .f32⟩
  | 87 => ⟨S1x512, .f32⟩
  | 88 => ⟨S512, .f32⟩
  | 89 => ⟨S1x1x512, .f32⟩
  | 90 => ⟨S32x256x512, .f32⟩
  | 91 => ⟨S32x256x512, .f32⟩
  | 92 => ⟨S32x256x512, .f32⟩
  | 93 => ⟨S32x256x512, .f32⟩
  | 94 => ⟨S1x512, .f32⟩
  | 95 => ⟨S512, .f32⟩
  | 96 => ⟨S1x1x512, .f32⟩
  | 97 => ⟨S32x256x512, .f32⟩
  | 98 => ⟨S32x256x512, .f32⟩
  | 99 => ⟨S32x256x512, .f32⟩
  | 100 => ⟨S8192x512, .f32⟩
  | 101 => ⟨S8192x512, .f32⟩
  | 102 => ⟨S8192x512, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S8192x512, .f32⟩
  | 110 => ⟨S8192x512, .f32⟩
  | 111 => ⟨S8192x512, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192x1, .f32⟩
  | 120 => ⟨S8192x1, .f32⟩
  | 121 => ⟨S8192x1, .f32⟩
  | 122 => ⟨S8192x512, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x512, .f32⟩

abbrev hbmTy0_2 (i : Nat) : BufTy := match i % 128 with
  | 0 => ⟨S8192x512, .f32⟩
  | 1 => ⟨S8192x512, .f32⟩
  | 2 => ⟨S_, .f32⟩
  | 3 => ⟨S8192x512, .f32⟩
  | 4 => ⟨S8192x512, .f32⟩
  | 5 => ⟨S_, .f32⟩
  | 6 => ⟨S8192x512, .f32⟩
  | 7 => ⟨S8192x512, .f32⟩
  | 8 => ⟨S8192x512, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_cst_1 : Ref sig .tc := ⟨.hbm, 231, rfl⟩
abbrev main_v224 : Ref sig .tc := ⟨.hbm, 232, rfl⟩
abbrev main_v225 : Ref sig .tc := ⟨.hbm, 233, rfl⟩
abbrev main_cst_2 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_3 : Ref sig .tc := ⟨.hbm, 240, rfl⟩
abbrev main_v231 : Ref sig .tc := ⟨.hbm, 241, rfl⟩
abbrev main_v232 : Ref sig .tc := ⟨.hbm, 242, rfl⟩
abbrev main_cst_4 : Ref sig .tc := ⟨.hbm, 243, rfl⟩
abbrev main_v233 : Ref sig .tc := ⟨.hbm, 244, rfl⟩
abbrev main_v234 : Ref sig .tc := ⟨.hbm, 245, rfl⟩
abbrev main_cst_5 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_call0_v0 : Ref sig .tc := ⟨.hbm, 256, rfl⟩
abbrev main_call0_v1 : Ref sig .tc := ⟨.hbm, 257, rfl⟩
abbrev main_call0_cst : Ref sig .tc := ⟨.hbm, 258, rfl⟩
abbrev main_call0_v2 : Ref sig .tc := ⟨.hbm, 259, rfl⟩
abbrev main_call0_v3 : Ref sig .tc := ⟨.hbm, 260, rfl⟩
abbrev main_call0_cst_0 : Ref sig .tc := ⟨.hbm, 261, rfl⟩
abbrev main_call0_v4 : Ref sig .tc := ⟨.hbm, 262, rfl⟩
abbrev main_call0_v5 : Ref sig .tc := ⟨.hbm, 263, rfl⟩
abbrev main_v244 : Ref sig .tc := ⟨.hbm, 264, rfl⟩

abbrev nD : Nat := 1
abbrev τ : Topo := Topo.v7x

variable {F : FTy → Type} [FloatOps F]
-- ==== Kernel10.lean ====
abbrev S8192x512 : Shape := ⟨2, ![8192, 512]⟩
abbrev S31x512 : Shape := ⟨2, ![31, 512]⟩
abbrev S1x512 : Shape := ⟨2, ![1, 512]⟩
abbrev S31x1x512 : Shape := ⟨3, ![31, 1, 512]⟩
abbrev S31x8x512 : Shape := ⟨3, ![31, 8, 512]⟩
abbrev S512x512 : Shape := ⟨2, ![512, 512]⟩
abbrev S8x776x512 : Shape := ⟨3, ![8, 776, 512]⟩
abbrev S776x512 : Shape := ⟨2, ![776, 512]⟩
abbrev S1x776x512 : Shape := ⟨3, ![1, 776, 512]⟩
abbrev S64x512 : Shape := ⟨2, ![64, 512]⟩
abbrev S1x64x512 : Shape := ⟨3, ![1, 64, 512]⟩
abbrev S1x768x512 : Shape := ⟨3, ![1, 768, 512]⟩
abbrev S768x512 : Shape := ⟨2, ![768, 512]⟩
abbrev S8x512 : Shape := ⟨2, ![8, 512]⟩
abbrev S1x8x512 : Shape := ⟨3, ![1, 8, 512]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S31x1x512, .f32⟩
  | .hbm, ⟨6, _⟩ => ⟨S31x8x512, .f32⟩
  | .hbm, ⟨7, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S31x8x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S8x776x512, .f32⟩
  | .local _ .vmem, ⟨9, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v72 : BitVec 32 := Scalar.addi c0_i32 c16_i32
  let c1_i32 : BitVec 32 := 1#32
  ⟨c0_i32, v72, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c0_i32_88 : BitVec 32 := 0#32
  let v134 : BitVec 32 := Scalar.addi v127 c0_i32_88
  v134
def k0_off1 (k0_t1 : Fin k0_t1_loop.trips) (c0_i32_88 : BitVec 32) : Fin 3 → Nat :=
  let c1_89 : Index := 1#32
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let v134 : BitVec 32 := Scalar.addi v127 c0_i32_88
  let v135 : BitVec 32 := v134
  let v136 : Index := Scalar.indexCast v135
  let c0_90 : Index := 0#32
  ![1, v136.toNat, 0]
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32 : BitVec 32 := 8#32
  let v141 : BitVec 32 := Scalar.addi v127 c8_i32
  v141
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_93 : BitVec 32 := 16#32
  let v148 : BitVec 32 := Scalar.addi v127 c16_i32_93
  v148
def k0_mult4 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32 : BitVec 32 := 24#32
  let v155 : BitVec 32 := Scalar.addi v127 c24_i32
  v155
def k0_mult5 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c0_i32_101 : BitVec 32 := 0#32
  let v164 : BitVec 32 := Scalar.addi v127 c0_i32_101
  v164
def k0_off2 (k0_t1 : Fin k0_t1_loop.trips) (c0_i32_101 : BitVec 32) : Fin 3 → Nat :=
  let c2_102 : Index := 2#32
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let v164 : BitVec 32 := Scalar.addi v127 c0_i32_101
  let v165 : BitVec 32 := v164
  let v166 : Index := Scalar.indexCast v165
  let c0_103 : Index := 0#32
  ![2, v166.toNat, 0]
def k0_mult6 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_104 : BitVec 32 := 8#32
  let v171 : BitVec 32 := Scalar.addi v127 c8_i32_104
  v171
def k0_mult7 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_107 : BitVec 32 := 16#32
  let v178 : BitVec 32 := Scalar.addi v127 c16_i32_107
  v178
def k0_mult8 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_110 : BitVec 32 := 24#32
  let v185 : BitVec 32 := Scalar.addi v127 c24_i32_110
  v185
def k0_mult9 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c0_i32_116 : BitVec 32 := 0#32
  let v194 : BitVec 32 := Scalar.addi v127 c0_i32_116
  v194
def k0_off3 (k0_t1 : Fin k0_t1_loop.trips) (c0_i32_116 : BitVec 32) : Fin 3 → Nat :=
  let c3_117 : Index := 3#32
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let v194 : BitVec 32 := Scalar.addi v127 c0_i32_116
  let v195 : BitVec 32 := v194
  let v196 : Index := Scalar.indexCast v195
  let c0_118 : Index := 0#32
  ![3, v196.toNat, 0]
def k0_mult10 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_119 : BitVec 32 := 8#32
  let v201 : BitVec 32 := Scalar.addi v127 c8_i32_119
  v201
def k0_mult11 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_122 : BitVec 32 := 16#32
  let v208 : BitVec 32 := Scalar.addi v127 c16_i32_122
  v208
def k0_mult12 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_125 : BitVec 32 := 24#32
  let v215 : BitVec 32 := Scalar.addi v127 c24_i32_125
  v215
def k0_mult13 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c0_i32_131 : BitVec 32 := 0#32
  let v224 : BitVec 32 := Scalar.addi v127 c0_i32_131
  v224
def k0_off4 (k0_t1 : Fin k0_t1_loop.trips) (c0_i32_131 : BitVec 32) : Fin 3 → Nat :=
  let c4_132 : Index := 4#32
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let v224 : BitVec 32 := Scalar.addi v127 c0_i32_131
  let v225 : BitVec 32 := v224
  let v226 : Index := Scalar.indexCast v225
  let c0_133 : Index := 0#32
  ![4, v226.toNat, 0]
def k0_mult14 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_134 : BitVec 32 := 8#32
  let v231 : BitVec 32 := Scalar.addi v127 c8_i32_134
  v231
def k0_mult15 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_137 : BitVec 32 := 16#32
  let v238 : BitVec 32 := Scalar.addi v127 c16_i32_137
  v238
def k0_mult16 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_140 : BitVec 32 := 24#32
  let v245 : BitVec 32 := Scalar.addi v127 c24_i32_140
  v245
def k0_mult17 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c0_i32_146 : BitVec 32 := 0#32
  let v254 : BitVec 32 := Scalar.addi v127 c0_i32_146
  v254
def k0_off5 (k0_t1 : Fin k0_t1_loop.trips) (c0_i32_146 : BitVec 32) : Fin 3 → Nat :=
  let c5_147 : Index := 5#32
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let v254 : BitVec 32 := Scalar.addi v127 c0_i32_146
  let v255 : BitVec 32 := v254
  let v256 : Index := Scalar.indexCast v255
  let c0_148 : Index := 0#32
  ![5, v256.toNat, 0]
def k0_mult18 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_149 : BitVec 32 := 8#32
  let v261 : BitVec 32 := Scalar.addi v127 c8_i32_149
  v261
def k0_mult19 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_152 : BitVec 32 := 16#32
  let v268 : BitVec 32 := Scalar.addi v127 c16_i32_152
  v268
def k0_mult20 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_155 : BitVec 32 := 24#32
  let v275 : BitVec 32 := Scalar.addi v127 c24_i32_155
  v275
def k0_mult21 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c0_i32_161 : BitVec 32 := 0#32
  let v284 : BitVec 32 := Scalar.addi v127 c0_i32_161
  v284
def k0_off6 (k0_t1 : Fin k0_t1_loop.trips) (c0_i32_161 : BitVec 32) : Fin 3 → Nat :=
  let c6_162 : Index := 6#32
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let v284 : BitVec 32 := Scalar.addi v127 c0_i32_161
  let v285 : BitVec 32 := v284
  let v286 : Index := Scalar.indexCast v285
  let c0_163 : Index := 0#32
  ![6, v286.toNat, 0]
def k0_mult22 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_164 : BitVec 32 := 8#32
  let v291 : BitVec 32 := Scalar.addi v127 c8_i32_164
  v291
def k0_mult23 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_167 : BitVec 32 := 16#32
  let v298 : BitVec 32 := Scalar.addi v127 c16_i32_167
  v298
def k0_mult24 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_170 : BitVec 32 := 24#32
  let v305 : BitVec 32 := Scalar.addi v127 c24_i32_170
  v305
def k0_mult25 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c0_i32_176 : BitVec 32 := 0#32
  let v314 : BitVec 32 := Scalar.addi v127 c0_i32_176
  v314
def k0_off7 (k0_t1 : Fin k0_t1_loop.trips) (c0_i32_176 : BitVec 32) : Fin 3 → Nat :=
  let c7_177 : Index := 7#32
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let v314 : BitVec 32 := Scalar.addi v127 c0_i32_176
  let v315 : BitVec 32 := v314
  let v316 : Index := Scalar.indexCast v315
  let c0_178 : Index := 0#32
  ![7, v316.toNat, 0]
def k0_mult26 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_179 : BitVec 32 := 8#32
  let v321 : BitVec 32 := Scalar.addi v127 c8_i32_179
  v321
def k0_mult27 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_182 : BitVec 32 := 16#32
  let v328 : BitVec 32 := Scalar.addi v127 c16_i32_182
  v328
def k0_mult28 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_185 : BitVec 32 := 24#32
  let v335 : BitVec 32 := Scalar.addi v127 c24_i32_185
  v335
def k0_mult29 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_191 : BitVec 32 := 8#32
  let v344 : BitVec 32 := Scalar.addi v127 c8_i32_191
  v344
def k0_off8 (k0_t1 : Fin k0_t1_loop.trips) (c8_i32_191 : BitVec 32) : Fin 3 → Nat :=
  let c0_192 : Index := 0#32
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let v344 : BitVec 32 := Scalar.addi v127 c8_i32_191
  let v345 : BitVec 32 := v344
  let v346 : Index := Scalar.indexCast v345
  let c0_193 : Index := 0#32
  ![0, v346.toNat, 0]
def k0_mult30 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_194 : BitVec 32 := 16#32
  let v351 : BitVec 32 := Scalar.addi v127 c16_i32_194
  v351
def k0_mult31 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_197 : BitVec 32 := 24#32
  let v358 : BitVec 32 := Scalar.addi v127 c24_i32_197
  v358
def k0_mult32 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_200 : BitVec 32 := 32#32
  let v365 : BitVec 32 := Scalar.addi v127 c32_i32_200
  v365
def k0_mult33 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_205 : BitVec 32 := 8#32
  let v374 : BitVec 32 := Scalar.addi v127 c8_i32_205
  v374
def k0_mult34 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_208 : BitVec 32 := 16#32
  let v381 : BitVec 32 := Scalar.addi v127 c16_i32_208
  v381
def k0_mult35 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_211 : BitVec 32 := 24#32
  let v388 : BitVec 32 := Scalar.addi v127 c24_i32_211
  v388
def k0_mult36 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_214 : BitVec 32 := 32#32
  let v395 : BitVec 32 := Scalar.addi v127 c32_i32_214
  v395
def k0_mult37 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_219 : BitVec 32 := 8#32
  let v404 : BitVec 32 := Scalar.addi v127 c8_i32_219
  v404
def k0_mult38 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_222 : BitVec 32 := 16#32
  let v411 : BitVec 32 := Scalar.addi v127 c16_i32_222
  v411
def k0_mult39 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_225 : BitVec 32 := 24#32
  let v418 : BitVec 32 := Scalar.addi v127 c24_i32_225
  v418
def k0_mult40 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_228 : BitVec 32 := 32#32
  let v425 : BitVec 32 := Scalar.addi v127 c32_i32_228
  v425
def k0_mult41 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_233 : BitVec 32 := 8#32
  let v434 : BitVec 32 := Scalar.addi v127 c8_i32_233
  v434
def k0_mult42 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_236 : BitVec 32 := 16#32
  let v441 : BitVec 32 := Scalar.addi v127 c16_i32_236
  v441
def k0_mult43 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_239 : BitVec 32 := 24#32
  let v448 : BitVec 32 := Scalar.addi v127 c24_i32_239
  v448
def k0_mult44 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_242 : BitVec 32 := 32#32
  let v455 : BitVec 32 := Scalar.addi v127 c32_i32_242
  v455
def k0_mult45 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_247 : BitVec 32 := 8#32
  let v464 : BitVec 32 := Scalar.addi v127 c8_i32_247
  v464
def k0_mult46 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_250 : BitVec 32 := 16#32
  let v471 : BitVec 32 := Scalar.addi v127 c16_i32_250
  v471
def k0_mult47 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_253 : BitVec 32 := 24#32
  let v478 : BitVec 32 := Scalar.addi v127 c24_i32_253
  v478
def k0_mult48 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_256 : BitVec 32 := 32#32
  let v485 : BitVec 32 := Scalar.addi v127 c32_i32_256
  v485
def k0_mult49 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_261 : BitVec 32 := 8#32
  let v494 : BitVec 32 := Scalar.addi v127 c8_i32_261
  v494
def k0_mult50 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_264 : BitVec 32 := 16#32
  let v501 : BitVec 32 := Scalar.addi v127 c16_i32_264
  v501
def k0_mult51 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_267 : BitVec 32 := 24#32
  let v508 : BitVec 32 := Scalar.addi v127 c24_i32_267
  v508
def k0_mult52 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_270 : BitVec 32 := 32#32
  let v515 : BitVec 32 := Scalar.addi v127 c32_i32_270
  v515
def k0_mult53 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_275 : BitVec 32 := 8#32
  let v524 : BitVec 32 := Scalar.addi v127 c8_i32_275
  v524
def k0_mult54 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_278 : BitVec 32 := 16#32
  let v531 : BitVec 32 := Scalar.addi v127 c16_i32_278
  v531
def k0_mult55 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_281 : BitVec 32 := 24#32
  let v538 : BitVec 32 := Scalar.addi v127 c24_i32_281
  v538
def k0_mult56 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_284 : BitVec 32 := 32#32
  let v545 : BitVec 32 := Scalar.addi v127 c32_i32_284
  v545
def k0_mult57 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c8_i32_289 : BitVec 32 := 8#32
  let v554 : BitVec 32 := Scalar.addi v127 c8_i32_289
  v554
def k0_mult58 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_292 : BitVec 32 := 16#32
  let v561 : BitVec 32 := Scalar.addi v127 c16_i32_292
  v561
def k0_mult59 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_295 : BitVec 32 := 24#32
  let v568 : BitVec 32 := Scalar.addi v127 c24_i32_295
  v568
def k0_mult60 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_298 : BitVec 32 := 32#32
  let v575 : BitVec 32 := Scalar.addi v127 c32_i32_298
  v575
def k0_mult61 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_303 : BitVec 32 := 16#32
  let v584 : BitVec 32 := Scalar.addi v127 c16_i32_303
  v584
def k0_mult62 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_306 : BitVec 32 := 24#32
  let v591 : BitVec 32 := Scalar.addi v127 c24_i32_306
  v591
def k0_mult63 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_309 : BitVec 32 := 32#32
  let v598 : BitVec 32 := Scalar.addi v127 c32_i32_309
  v598
def k0_mult64 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32 : BitVec 32 := 40#32
  let v605 : BitVec 32 := Scalar.addi v127 c40_i32
  v605
def k0_mult65 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_317 : BitVec 32 := 16#32
  let v614 : BitVec 32 := Scalar.addi v127 c16_i32_317
  v614
def k0_mult66 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_320 : BitVec 32 := 24#32
  let v621 : BitVec 32 := Scalar.addi v127 c24_i32_320
  v621
def k0_mult67 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_323 : BitVec 32 := 32#32
  let v628 : BitVec 32 := Scalar.addi v127 c32_i32_323
  v628
def k0_mult68 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_326 : BitVec 32 := 40#32
  let v635 : BitVec 32 := Scalar.addi v127 c40_i32_326
  v635
def k0_mult69 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_331 : BitVec 32 := 16#32
  let v644 : BitVec 32 := Scalar.addi v127 c16_i32_331
  v644
def k0_mult70 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_334 : BitVec 32 := 24#32
  let v651 : BitVec 32 := Scalar.addi v127 c24_i32_334
  v651
def k0_mult71 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_337 : BitVec 32 := 32#32
  let v658 : BitVec 32 := Scalar.addi v127 c32_i32_337
  v658
def k0_mult72 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_340 : BitVec 32 := 40#32
  let v665 : BitVec 32 := Scalar.addi v127 c40_i32_340
  v665
def k0_mult73 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_345 : BitVec 32 := 16#32
  let v674 : BitVec 32 := Scalar.addi v127 c16_i32_345
  v674
def k0_mult74 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_348 : BitVec 32 := 24#32
  let v681 : BitVec 32 := Scalar.addi v127 c24_i32_348
  v681
def k0_mult75 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_351 : BitVec 32 := 32#32
  let v688 : BitVec 32 := Scalar.addi v127 c32_i32_351
  v688
def k0_mult76 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_354 : BitVec 32 := 40#32
  let v695 : BitVec 32 := Scalar.addi v127 c40_i32_354
  v695
def k0_mult77 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_359 : BitVec 32 := 16#32
  let v704 : BitVec 32 := Scalar.addi v127 c16_i32_359
  v704
def k0_mult78 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_362 : BitVec 32 := 24#32
  let v711 : BitVec 32 := Scalar.addi v127 c24_i32_362
  v711
def k0_mult79 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_365 : BitVec 32 := 32#32
  let v718 : BitVec 32 := Scalar.addi v127 c32_i32_365
  v718
def k0_mult80 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_368 : BitVec 32 := 40#32
  let v725 : BitVec 32 := Scalar.addi v127 c40_i32_368
  v725
def k0_mult81 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_373 : BitVec 32 := 16#32
  let v734 : BitVec 32 := Scalar.addi v127 c16_i32_373
  v734
def k0_mult82 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_376 : BitVec 32 := 24#32
  let v741 : BitVec 32 := Scalar.addi v127 c24_i32_376
  v741
def k0_mult83 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_379 : BitVec 32 := 32#32
  let v748 : BitVec 32 := Scalar.addi v127 c32_i32_379
  v748
def k0_mult84 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_382 : BitVec 32 := 40#32
  let v755 : BitVec 32 := Scalar.addi v127 c40_i32_382
  v755
def k0_mult85 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_387 : BitVec 32 := 16#32
  let v764 : BitVec 32 := Scalar.addi v127 c16_i32_387
  v764
def k0_mult86 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_390 : BitVec 32 := 24#32
  let v771 : BitVec 32 := Scalar.addi v127 c24_i32_390
  v771
def k0_mult87 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_393 : BitVec 32 := 32#32
  let v778 : BitVec 32 := Scalar.addi v127 c32_i32_393
  v778
def k0_mult88 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_396 : BitVec 32 := 40#32
  let v785 : BitVec 32 := Scalar.addi v127 c40_i32_396
  v785
def k0_mult89 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c16_i32_401 : BitVec 32 := 16#32
  let v794 : BitVec 32 := Scalar.addi v127 c16_i32_401
  v794
def k0_mult90 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_404 : BitVec 32 := 24#32
  let v801 : BitVec 32 := Scalar.addi v127 c24_i32_404
  v801
def k0_mult91 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_407 : BitVec 32 := 32#32
  let v808 : BitVec 32 := Scalar.addi v127 c32_i32_407
  v808
def k0_mult92 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_410 : BitVec 32 := 40#32
  let v815 : BitVec 32 := Scalar.addi v127 c40_i32_410
  v815
def k0_mult93 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_415 : BitVec 32 := 24#32
  let v824 : BitVec 32 := Scalar.addi v127 c24_i32_415
  v824
def k0_mult94 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_418 : BitVec 32 := 32#32
  let v831 : BitVec 32 := Scalar.addi v127 c32_i32_418
  v831
def k0_mult95 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_421 : BitVec 32 := 40#32
  let v838 : BitVec 32 := Scalar.addi v127 c40_i32_421
  v838
def k0_mult96 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c48_i32 : BitVec 32 := 48#32
  let v845 : BitVec 32 := Scalar.addi v127 c48_i32
  v845
def k0_mult97 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_428 : BitVec 32 := 24#32
  let v854 : BitVec 32 := Scalar.addi v127 c24_i32_428
  v854
def k0_mult98 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_431 : BitVec 32 := 32#32
  let v861 : BitVec 32 := Scalar.addi v127 c32_i32_431
  v861
def k0_mult99 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_434 : BitVec 32 := 40#32
  let v868 : BitVec 32 := Scalar.addi v127 c40_i32_434
  v868
def k0_mult100 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c48_i32_437 : BitVec 32 := 48#32
  let v875 : BitVec 32 := Scalar.addi v127 c48_i32_437
  v875
def k0_mult101 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_442 : BitVec 32 := 24#32
  let v884 : BitVec 32 := Scalar.addi v127 c24_i32_442
  v884
def k0_mult102 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_445 : BitVec 32 := 32#32
  let v891 : BitVec 32 := Scalar.addi v127 c32_i32_445
  v891
def k0_mult103 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_448 : BitVec 32 := 40#32
  let v898 : BitVec 32 := Scalar.addi v127 c40_i32_448
  v898
def k0_mult104 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c48_i32_451 : BitVec 32 := 48#32
  let v905 : BitVec 32 := Scalar.addi v127 c48_i32_451
  v905
def k0_mult105 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_456 : BitVec 32 := 24#32
  let v914 : BitVec 32 := Scalar.addi v127 c24_i32_456
  v914
def k0_mult106 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_459 : BitVec 32 := 32#32
  let v921 : BitVec 32 := Scalar.addi v127 c32_i32_459
  v921
def k0_mult107 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_462 : BitVec 32 := 40#32
  let v928 : BitVec 32 := Scalar.addi v127 c40_i32_462
  v928
def k0_mult108 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c48_i32_465 : BitVec 32 := 48#32
  let v935 : BitVec 32 := Scalar.addi v127 c48_i32_465
  v935
def k0_mult109 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_470 : BitVec 32 := 24#32
  let v944 : BitVec 32 := Scalar.addi v127 c24_i32_470
  v944
def k0_mult110 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_473 : BitVec 32 := 32#32
  let v951 : BitVec 32 := Scalar.addi v127 c32_i32_473
  v951
def k0_mult111 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_476 : BitVec 32 := 40#32
  let v958 : BitVec 32 := Scalar.addi v127 c40_i32_476
  v958
def k0_mult112 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c48_i32_479 : BitVec 32 := 48#32
  let v965 : BitVec 32 := Scalar.addi v127 c48_i32_479
  v965
def k0_mult113 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_484 : BitVec 32 := 24#32
  let v974 : BitVec 32 := Scalar.addi v127 c24_i32_484
  v974
def k0_mult114 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_487 : BitVec 32 := 32#32
  let v981 : BitVec 32 := Scalar.addi v127 c32_i32_487
  v981
def k0_mult115 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_490 : BitVec 32 := 40#32
  let v988 : BitVec 32 := Scalar.addi v127 c40_i32_490
  v988
def k0_mult116 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c48_i32_493 : BitVec 32 := 48#32
  let v995 : BitVec 32 := Scalar.addi v127 c48_i32_493
  v995
def k0_mult117 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_498 : BitVec 32 := 24#32
  let v1004 : BitVec 32 := Scalar.addi v127 c24_i32_498
  v1004
def k0_mult118 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_501 : BitVec 32 := 32#32
  let v1011 : BitVec 32 := Scalar.addi v127 c32_i32_501
  v1011
def k0_mult119 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_504 : BitVec 32 := 40#32
  let v1018 : BitVec 32 := Scalar.addi v127 c40_i32_504
  v1018
def k0_mult120 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c48_i32_507 : BitVec 32 := 48#32
  let v1025 : BitVec 32 := Scalar.addi v127 c48_i32_507
  v1025
def k0_mult121 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c24_i32_512 : BitVec 32 := 24#32
  let v1034 : BitVec 32 := Scalar.addi v127 c24_i32_512
  v1034
def k0_mult122 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c32_i32_515 : BitVec 32 := 32#32
  let v1041 : BitVec 32 := Scalar.addi v127 c32_i32_515
  v1041
def k0_mult123 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c40_i32_518 : BitVec 32 := 40#32
  let v1048 : BitVec 32 := Scalar.addi v127 c40_i32_518
  v1048
def k0_mult124 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v108 : BitVec 32 := Scalar.muli arg9 c32_i32
  let c0_i32_74 : BitVec 32 := 0#32
  let v110 : BitVec 1 := Scalar.cmpi .sgt arg9 c0_i32_74
  let v111 : BitVec 32 := Scalar.extui v110
  let c0_i32_75 : BitVec 32 := 0#32
  let v112 : BitVec 1 := Scalar.cmpi .slt arg9 c0_i32_75
  let v113 : BitVec 32 := Scalar.extui v112
  let v114 : BitVec 32 := Scalar.subi v111 v113
  let c2_i32 : BitVec 32 := 2#32
  let c0_i32_76 : BitVec 32 := 0#32
  let v115 : BitVec 1 := Scalar.cmpi .sgt c2_i32 c0_i32_76
  let v116 : BitVec 32 := Scalar.extui v115
  let c0_i32_77 : BitVec 32 := 0#32
  let v117 : BitVec 1 := Scalar.cmpi .slt c2_i32 c0_i32_77
  let v118 : BitVec 32 := Scalar.extui v117
  let v119 : BitVec 32 := Scalar.subi v116 v118
  let v120 : BitVec 1 := Scalar.cmpi .ne v114 v119
  let v121 : BitVec 32 := Scalar.remsi arg9 c2_i32
  let c0_i32_78 : BitVec 32 := 0#32
  let v122 : BitVec 1 := Scalar.cmpi .ne v121 c0_i32_78
  let v123 : BitVec 1 := Scalar.andi v120 v122
  let v109 : BitVec 32 := Scalar.divsi arg9 c2_i32
  let c1_i32_79 : BitVec 32 := 1#32
  let v124 : BitVec 32 := Scalar.subi v109 c1_i32_79
  let v125 : BitVec 32 := Scalar.select v123 v124 v109
  let c32_i32_80 : BitVec 32 := 32#32
  let v126 : BitVec 32 := Scalar.muli v125 c32_i32_80
  let v127 : BitVec 32 := Scalar.addi v108 v126
  let c48_i32_521 : BitVec 32 := 48#32
  let v1055 : BitVec 32 := Scalar.addi v127 c48_i32_521
  v1055
def k0_mult125 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_524 : BitVec 32 := 32#32
  let v1062 : BitVec 32 := Scalar.muli arg9 c32_i32_524
  let c0_i32_525 : BitVec 32 := 0#32
  let v1063 : BitVec 32 := Scalar.addi v1062 c0_i32_525
  v1063
def k0_off9 (k0_t1 : Fin k0_t1_loop.trips) (c0_i32_525 : BitVec 32) : Fin 2 → Nat :=
  let c0_i32 : BitVec 32 := 0#32
  let c1_i32 : BitVec 32 := 1#32
  let arg9 : BitVec 32 := Scf.iv c0_i32 c1_i32 k0_t1
  let c32_i32_524 : BitVec 32 := 32#32
  let v1062 : BitVec 32 := Scalar.muli arg9 c32_i32_524
  let v1063 : BitVec 32 := Scalar.addi v1062 c0_i32_525
  let v1064 : BitVec 32 := v1063
  let v1065 : Index := Scalar.indexCast v1064
  let c0_526 : Index := 0#32
  ![v1065.toNat, 0]
def k0_mult126 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_527 : BitVec 32 := 32#32
  let v1069 : BitVec 32 := Scalar.muli arg9 c32_i32_527
  let c8_i32_528 : BitVec 32 := 8#32
  let v1070 : BitVec 32 := Scalar.addi v1069 c8_i32_528
  v1070
def k0_mult127 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_530 : BitVec 32 := 32#32
  let v1076 : BitVec 32 := Scalar.muli arg9 c32_i32_530
  let c16_i32_531 : BitVec 32 := 16#32
  let v1077 : BitVec 32 := Scalar.addi v1076 c16_i32_531
  v1077
def k0_mult128 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32_533 : BitVec 32 := 32#32
  let v1083 : BitVec 32 := Scalar.muli arg9 c32_i32_533
  let c24_i32_534 : BitVec 32 := 24#32
  let v1084 : BitVec 32 := Scalar.addi v1083 c24_i32_534
  v1084
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S31x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8192x512 : Shape := ⟨2, ![8192, 512]⟩
abbrev S31x512 : Shape := ⟨2, ![31, 512]⟩
abbrev S1x512 : Shape := ⟨2, ![1, 512]⟩
abbrev S128x64x512 : Shape := ⟨3, ![128, 64, 512]⟩
abbrev S_ : Shape := ⟨0, ![]⟩
abbrev S128x15x512 : Shape := ⟨3, ![128, 15, 512]⟩
abbrev S128x94x512 : Shape := ⟨3, ![128, 94, 512]⟩
abbrev S512 : Shape := ⟨1, ![512]⟩
abbrev S1x1x512 : Shape := ⟨3, ![1, 1, 512]⟩
abbrev S8192 : Shape := ⟨1, ![8192]⟩
abbrev S8192x1 : Shape := ⟨2, ![8192, 1]⟩

abbrev nBuf : Space → Nat
  | .hbm => 265
  | .vmem => 0
  | .smem => 0
  | _ => 0

abbrev hbmTy0_0 (i : Nat) : BufTy := match i % 128 with
  | 0 => ⟨S8192x512, .f32⟩
  | 1 => ⟨S31x512, .f32⟩
  | 2 => ⟨S1x512, .f32⟩
  | 3 => ⟨S1x512, .f32⟩
  | 4 => ⟨S1x512, .f32⟩
  | 5 => ⟨S128x64x512, .f32⟩
  | 6 => ⟨S_, .f32⟩
  | 7 => ⟨S128x15x512, .f32⟩
  | 8 => ⟨S128x94x512, .f32⟩
  | 9 => ⟨S128x64x512, .f32⟩
  | 10 => ⟨S1x512, .f32⟩
  | 11 => ⟨S512, .f32⟩
  | 12 => ⟨S1x1x512, .f32⟩
  | 13 => ⟨S128x64x512, .f32⟩
  | 14 => ⟨S128x64x512, .f32⟩
  | 15 => ⟨S_, .f32⟩
  | 16 => ⟨S128x64x512, .f32⟩
  | 17 => ⟨S128x64x512, .f32⟩
  | 18 => ⟨S128x64x512, .f32⟩
  | 19 => ⟨S1x512, .f32⟩
  | 20 => ⟨S512, .f32⟩
  | 21 => ⟨S1x1x512, .f32⟩
  | 22 => ⟨S128x64x512, .f32⟩
  | 23 => ⟨S128x64x512, .f32⟩
  | 24 => ⟨S128x64x512, .f32⟩
  | 25 => ⟨S128x64x512, .f32⟩
  | 26 => ⟨S1x512, .f32⟩
  | 27 => ⟨S512, .f32⟩
  | 28 => ⟨S1x1x512, .f32⟩
  | 29 => ⟨S128x64x512, .f32⟩
  | 30 => ⟨S128x64x512, .f32⟩
  | 31 => ⟨S128x64x512, .f32⟩
  | 32 => ⟨S128x64x512, .f32⟩
  | 33 => ⟨S1x512, .f32⟩
  | 34 => ⟨S512, .f32⟩
  | 35 => ⟨S1x1x512, .f32⟩
  | 36 => ⟨S128x64x512, .f32⟩
  | 37 => ⟨S128x64x512, .f32⟩
  | 38 => ⟨S128x64x512, .f32⟩
  | 39 => ⟨S128x64x512, .f32⟩
  | 40 => ⟨S1x512, .f32⟩
  | 41 => ⟨S512, .f32⟩
  | 42 => ⟨S1x1x512, .f32⟩
  | 43 => ⟨S128x64x512, .f32⟩
  | 44 => ⟨S128x64x512, .f32⟩
  | 45 => ⟨S128x64x512, .f32⟩
  | 46 => ⟨S128x64x512, .f32⟩
  | 47 => ⟨S1x512, .f32⟩
  | 48 => ⟨S512, .f32⟩
  | 49 => ⟨S1x1x512, .f32⟩
  | 50 => ⟨S128x64x512, .f32⟩
  | 51 => ⟨S128x64x512, .f32⟩
  | 52 => ⟨S128x64x512, .f32⟩
  | 53 => ⟨S128x64x512, .f32⟩
  | 54 => ⟨S1x512, .f32⟩
  | 55 => ⟨S512, .f32⟩
  | 56 => ⟨S1x1x512, .f32⟩
  | 57 => ⟨S128x64x512, .f32⟩
  | 58 => ⟨S128x64x512, .f32⟩
  | 59 => ⟨S128x64x512, .f32⟩
  | 60 => ⟨S128x64x512, .f32⟩
  | 61 => ⟨S1x512, .f32⟩
  | 62 => ⟨S512, .f32⟩
  | 63 => ⟨S1x1x512, .f32⟩
  | 64 => ⟨S128x64x512, .f32⟩
  | 65 => ⟨S128x64x512, .f32⟩
  | 66 => ⟨S128x64x512, .f32⟩
  | 67 => ⟨S128x64x512, .f32⟩
  | 68 => ⟨S1x512, .f32⟩
  | 69 => ⟨S512, .f32⟩
  | 70 => ⟨S1x1x512, .f32⟩
  | 71 => ⟨S128x64x512, .f32⟩
  | 72 => ⟨S128x64x512, .f32⟩
  | 73 => ⟨S128x64x512, .f32⟩
  | 74 => ⟨S128x64x512, .f32⟩
  | 75 => ⟨S1x512, .f32⟩
  | 76 => ⟨S512, .f32⟩
  | 77 => ⟨S1x1x512, .f32⟩
  | 78 => ⟨S128x64x512, .f32⟩
  | 79 => ⟨S128x64x512, .f32⟩
  | 80 => ⟨S128x64x512, .f32⟩
  | 81 => ⟨S128x64x512, .f32⟩
  | 82 => ⟨S1x512, .f32⟩
  | 83 => ⟨S512, .f32⟩
  | 84 => ⟨S1x1x512, .f32⟩
  | 85 => ⟨S128x64x512, .f32⟩
  | 86 => ⟨S128x64x512, .f32⟩
  | 87 => ⟨S128x64x512, .f32⟩
  | 88 => ⟨S128x64x512, .f32⟩
  | 89 => ⟨S1x512, .f32⟩
  | 90 => ⟨S512, .f32⟩
  | 91 => ⟨S1x1x512, .f32⟩
  | 92 => ⟨S128x64x512, .f32⟩
  | 93 => ⟨S128x64x512, .f32⟩
  | 94 => ⟨S128x64x512, .f32⟩
  | 95 => ⟨S128x64x512, .f32⟩
  | 96 => ⟨S1x512, .f32⟩
  | 97 => ⟨S512, .f32⟩
  | 98 => ⟨S1x1x512, .f32⟩
  | 99 => ⟨S128x64x512, .f32⟩
  | 100 => ⟨S128x64x512, .f32⟩
  | 101 => ⟨S128x64x512, .f32⟩
  | 102 => ⟨S128x64x512, .f32⟩
  | 103 => ⟨S1x512, .f32⟩
  | 104 => ⟨S512, .f32⟩
  | 105 => ⟨S1x1x512, .f32⟩
  | 106 => ⟨S128x64x512, .f32⟩
  | 107 => ⟨S128x64x512, .f32⟩
  | 108 => ⟨S128x64x512, .f32⟩
  | 109 => ⟨S128x64x512, .f32⟩
  | 110 => ⟨S1x512, .f32⟩
  | 111 => ⟨S512, .f32⟩
  | 112 => ⟨S1x1x512, .f32⟩
  | 113 => ⟨S128x64x512, .f32⟩
  | 114 => ⟨S128x64x512, .f32⟩
  | 115 => ⟨S128x64x512, .f32⟩
  | 116 => ⟨S128x64x512, .f32⟩
  | 117 => ⟨S1x512, .f32⟩
  | 118 => ⟨S512, .f32⟩
  | 119 => ⟨S1x1x512, .f32⟩
  | 120 => ⟨S128x64x512, .f32⟩
  | 121 => ⟨S128x64x512, .f32⟩
  | 122 => ⟨S128x64x512, .f32⟩
  | 123 => ⟨S128x64x512, .f32⟩
  | 124 => ⟨S1x512, .f32⟩
  | 125 => ⟨S512, .f32⟩
  | 126 => ⟨S1x1x512, .f32⟩
  | 127 => ⟨S128x64x512, .f32⟩
  | _ => ⟨S8192x512, .f32⟩

abbrev hbmTy0_1 (i : Nat) : BufTy := match i % 128 with
  | 0 => ⟨S128x64x512, .f32⟩
  | 1 => ⟨S128x64x512, .f32⟩
  | 2 => ⟨S128x64x512, .f32⟩
  | 3 => ⟨S1x512, .f32⟩
  | 4 => ⟨S512, .f32⟩
  | 5 => ⟨S1x1x512, .f32⟩
  | 6 => ⟨S128x64x512, .f32⟩
  | 7 => ⟨S128x64x512, .f32⟩
  | 8 => ⟨S128x64x512, .f32⟩
  | 9 => ⟨S128x64x512, .f32⟩
  | 10 => ⟨S1x512, .f32⟩
  | 11 => ⟨S512, .f32⟩
  | 12 => ⟨S1x1x512, .f32⟩
  | 13 => ⟨S128x64x512, .f32⟩
  | 14 => ⟨S128x64x512, .f32⟩
  | 15 => ⟨S128x64x512, .f32⟩
  | 16 => ⟨S128x64x512, .f32⟩
  | 17 => ⟨S1x512, .f32⟩
  | 18 => ⟨S512, .f32⟩
  | 19 => ⟨S1x1x512, .f32⟩
  | 20 => ⟨S128x64x512, .f32⟩
  | 21 => ⟨S128x64x512, .f32⟩
  | 22 => ⟨S128x64x512, .f32⟩
  | 23 => ⟨S128x64x512, .f32⟩
  | 24 => ⟨S1x512, .f32⟩
  | 25 => ⟨S512, .f32⟩
  | 26 => ⟨S1x1x512, .f32⟩
  | 27 => ⟨S128x64x512, .f32⟩
  | 28 => ⟨S128x64x512, .f32⟩
  | 29 => ⟨S128x64x512, .f32⟩
  | 30 => ⟨S128x64x512, .f32⟩
  | 31 => ⟨S1x512, .f32⟩
  | 32 => ⟨S512, .f32⟩
  | 33 => ⟨S1x1x512, .f32⟩
  | 34 => ⟨S128x64x512, .f32⟩
  | 35 => ⟨S128x64x512, .f32⟩
  | 36 => ⟨S128x64x512, .f32⟩
  | 37 => ⟨S128x64x512, .f32⟩
  | 38 => ⟨S1x512, .f32⟩
  | 39 => ⟨S512, .f32⟩
  | 40 => ⟨S1x1x512, .f32⟩
  | 41 => ⟨S128x64x512, .f32⟩
  | 42 => ⟨S128x64x512, .f32⟩
  | 43 => ⟨S128x64x512, .f32⟩
  | 44 => ⟨S128x64x512, .f32⟩
  | 45 => ⟨S1x512, .f32⟩
  | 46 => ⟨S512, .f32⟩
  | 47 => ⟨S1x1x512, .f32⟩
  | 48 => ⟨S128x64x512, .f32⟩
  | 49 => ⟨S128x64x512, .f32⟩
  | 50 => ⟨S128x64x512, .f32⟩
  | 51 => ⟨S128x64x512, .f32⟩
  | 52 => ⟨S1x512, .f32⟩
  | 53 => ⟨S512, .f32⟩
  | 54 => ⟨S1x1x512, .f32⟩
  | 55 => ⟨S128x64x512, .f32⟩
  | 56 => ⟨S128x64x512, .f32⟩
  | 57 => ⟨S128x64x512, .f32⟩
  | 58 => ⟨S128x64x512, .f32⟩
  | 59 => ⟨S1x512, .f32⟩
  | 60 => ⟨S512, .f32⟩
  | 61 => ⟨S1x1x512, .f32⟩
  | 62 => ⟨S128x64x512, .f32⟩
  | 63 => ⟨S128x64x512, .f32⟩
  | 64 => ⟨S128x64x512, .f32⟩
  | 65 => ⟨S128x64x512, .f32⟩
  | 66 => ⟨S1x512, .f32⟩
  | 67 => ⟨S512, .f32⟩
  | 68 => ⟨S1x1x512, .f32⟩
  | 69 => ⟨S128x64x512, .f32⟩
  | 70 => ⟨S128x64x512, .f32⟩
  | 71 => ⟨S128x64x512, .f32⟩
  | 72 => ⟨S128x64x512, .f32⟩
  | 73 => ⟨S1x512, .f32⟩
  | 74 => ⟨S512, .f32⟩
  | 75 => ⟨S1x1x512, .f32⟩
  | 76 => ⟨S128x64x512, .f32⟩
  | 77 => ⟨S128x64x512, .f32⟩
  | 78 => ⟨S128x64x512, .f32⟩
  | 79 => ⟨S128x64x512, .f32⟩
  | 80 => ⟨S1x512, .f32⟩
  | 81 => ⟨S512, .f32⟩
  | 82 => ⟨S1x1x512, .f32⟩
  | 83 => ⟨S128x64x512, .f32⟩
  | 84 => ⟨S128x64x512, .f32⟩
  | 85 => ⟨S128x64x512, .f32⟩
  | 86 => ⟨S128x64x512, .f32⟩
  | 87 => ⟨S1x512, .f32⟩
  | 88 => ⟨S512, .f32⟩
  | 89 => ⟨S1x1x512, .f32⟩
  | 90 => ⟨S128x64x512, .f32⟩
  | 91 => ⟨S128x64x512, .f32⟩
  | 92 => ⟨S128x64x512, .f32⟩
  | 93 => ⟨S128x64x512, .f32⟩
  | 94 => ⟨S1x512, .f32⟩
  | 95 => ⟨S512, .f32⟩
  | 96 => ⟨S1x1x512, .f32⟩
  | 97 => ⟨S128x64x512, .f32⟩
  | 98 => ⟨S128x64x512, .f32⟩
  | 99 => ⟨S128x64x512, .f32⟩
  | 100 => ⟨S8192x512, .f32⟩
  | 101 => ⟨S8192x512, .f32⟩
  | 102 => ⟨S8192x512, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S8192x512, .f32⟩
  | 110 => ⟨S8192x512, .f32⟩
  | 111 => ⟨S8192x512, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192x1, .f32⟩
  | 120 => ⟨S8192x1, .f32⟩
  | 121 => ⟨S8192x1, .f32⟩
  | 122 => ⟨S8192x512, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x512, .f32⟩

abbrev hbmTy0_2 (i : Nat) : BufTy := match i % 128 with
  | 0 => ⟨S8192x512, .f32⟩
  | 1 => ⟨S8192x512, .f32⟩
  | 2 => ⟨S_, .f32⟩
  | 3 => ⟨S8192x512, .f32⟩
  | 4 => ⟨S8192x512, .f32⟩
  | 5 => ⟨S_, .f32⟩
  | 6 => ⟨S8192x512, .f32⟩
  | 7 => ⟨S8192x512, .f32⟩
  | 8 => ⟨S8192x512, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_cst_1 : Ref sig .tc := ⟨.hbm, 231, rfl⟩
abbrev main_v224 : Ref sig .tc := ⟨.hbm, 232, rfl⟩
abbrev main_v225 : Ref sig .tc := ⟨.hbm, 233, rfl⟩
abbrev main_cst_2 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_3 : Ref sig .tc := ⟨.hbm, 240, rfl⟩
abbrev main_v231 : Ref sig .tc := ⟨.hbm, 241, rfl⟩
abbrev main_v232 : Ref sig .tc := ⟨.hbm, 242, rfl⟩
abbrev main_cst_4 : Ref sig .tc := ⟨.hbm, 243, rfl⟩
abbrev main_v233 : Ref sig .tc := ⟨.hbm, 244, rfl⟩
abbrev main_v234 : Ref sig .tc := ⟨.hbm, 245, rfl⟩
abbrev main_cst_5 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_call0_v0 : Ref sig .tc := ⟨.hbm, 256, rfl⟩
abbrev main_call0_v1 : Ref sig .tc := ⟨.hbm, 257, rfl⟩
abbrev main_call0_cst : Ref sig .tc := ⟨.hbm, 258, rfl⟩
abbrev main_call0_v2 : Ref sig .tc := ⟨.hbm, 259, rfl⟩
abbrev main_call0_v3 : Ref sig .tc := ⟨.hbm, 260, rfl⟩
abbrev main_call0_cst_0 : Ref sig .tc := ⟨.hbm, 261, rfl⟩
abbrev main_call0_v4 : Ref sig .tc := ⟨.hbm, 262, rfl⟩
abbrev main_call0_v5 : Ref sig .tc := ⟨.hbm, 263, rfl⟩
abbrev main_v244 : Ref sig .tc := ⟨.hbm, 264, rfl⟩

abbrev nD : Nat := 1
abbrev τ : Topo := Topo.v7x

variable {F : FTy → Type} [FloatOps F]
-- ==== Proof.MoeBase.lean ====
/-
  The feed-forward kernel's operands, what is in flight between its points, and what a point leaves: the words the
  runs of its body (`RunA` and its kin) and its frame (`MoeFrame`) are stated in.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The proof's user algebra: the pipeline library's beside the transfers' counters. -/
local notation "𝕄" => MT nD τ sig Unit (Elt F) ℕ (Pipeline.UD sig nD τ) ℕ

/-! ## The body's operands -/

/-- The four tables: the experts, the first-block flags, the row counts, the next experts. -/
abbrev tb0 : Memref sig .tc .smem S160 .i32 := Memref.whole main_arg0
abbrev tb1 : Memref sig .tc .smem S160 .i32 := Memref.whole main_arg1
abbrev tb2 : Memref sig .tc .smem S160 .i32 := Memref.whole main_arg2
abbrev tb3 : Memref sig .tc .smem S160 .i32 := Memref.whole main_arg3
/-- The two stacks of weights left in HBM. -/
abbrev hbU : Memref sig .tc .hbm S32x1024x2048 .f32 := Memref.whole main_arg5
abbrev hbD : Memref sig .tc .hbm S32x1024x1024 .f32 := Memref.whole main_arg7
/-- The landing buffers and the cast weights. -/
abbrev sc0 : Memref sig .tc .vmem S1024x2048 .f32 := Memref.whole cc0_scratch0
abbrev sc1 : Memref sig .tc .vmem S1024x1024 .f32 := Memref.whole cc0_scratch1
abbrev sc2 : Memref sig .tc .vmem S1024x2048 .bf16 := Memref.whole cc0_scratch2
abbrev sc3 : Memref sig .tc .vmem S1024x1024 .bf16 := Memref.whole cc0_scratch3

/-- One word of a table. -/
abbrev tw (M : Memref sig .tc .smem S160 .i32) (T : BufTy.Contents (Elt F) M.view.ty) (off : Fin 1 → ℕ)
    (h : ∀ a, off a + S1.size a ≤ S160.size a) : Elt F .i32 :=
  View.readAt (Elt F) M.view (Rect.unit (s := S160) off S1.size h).toLoadRect T (Shape.Idx.first (numel1_S1.symm ▸ Nat.one_pos))

/-- The word names an expert: its slabs lie inside the two stacks. -/
def OkW (w : BitVec 32) : Prop :=
  (∀ a, (k0_off9 w) a + S1x1024x2048.size a ≤ S32x1024x2048.size a)
    ∧ (∀ a, (k0_off10 w) a + S1x1024x1024.size a ≤ S32x1024x1024.size a)

/-- Expert `w`'s slab of the first stack, and of the second, as the transfers name them. -/
abbrev slabU (w : BitVec 32) (h : OkW w) : Memref sig .tc .hbm S1024x2048 .f32 :=
  (hbU.slice (Rect.unit (s := S32x1024x2048) (k0_off9 w) S1x1024x2048.size h.1) (fun _ => rfl)).squeeze S1024x2048 squeezes_S1x1024x2048_S1024x2048
abbrev slabD (w : BitVec 32) (h : OkW w) : Memref sig .tc .hbm S1024x1024 .f32 :=
  (hbD.slice (Rect.unit (s := S32x1024x1024) (k0_off10 w) S1x1024x1024.size h.2) (fun _ => rfl)).squeeze S1024x1024 squeezes_S1x1024x1024_S1024x1024

/-- What those slabs hold. -/
def gU (w : BitVec 32) (h : OkW w) (V5 : BufTy.Contents (Elt F) hbU.view.ty) : S1024x2048.Idx → Elt F .f32 :=
  (slabU w h).view.read (Elt F) V5
def gD (w : BitVec 32) (h : OkW w) (V7 : BufTy.Contents (Elt F) hbD.view.ty) : S1024x1024.Idx → Elt F .f32 :=
  (slabD w h).view.read (Elt F) V7

/-- Nothing in flight: the landing buffers at anything, the cells at zero, the stacks whole. -/
def Idle (c : Dev nD) (V5 : BufTy.Contents (Elt F) hbU.view.ty) (V7 : BufTy.Contents (Elt F) hbD.view.ty) : sProp 𝕄 :=
  iprop((∃ f, sc0.view.loc (c : Thread nD τ) ↦{fullShare} f)
      ∗ (∃ f, sc1.view.loc (c : Thread nD τ) ↦{fullShare} f)
      ∗ semVal ((c : Thread nD τ), SemLoc.dma 8) 0 ∗ semVal ((c : Thread nD τ), SemLoc.dma 9) 0
      ∗ (hbU.view.loc (c : Thread nD τ) ↦{fullShare} V5)
      ∗ (hbD.view.loc (c : Thread nD τ) ↦{fullShare} V7))

/-- Expert `w`'s two slabs in flight to the landing buffers: each cell's delivery, and the rest of each stack. -/
def InFlight (c : Dev nD) (V5 : BufTy.Contents (Elt F) hbU.view.ty) (V7 : BufTy.Contents (Elt F) hbD.view.ty)
    (w : BitVec 32) (h : OkW w) : sProp 𝕄 :=
  iprop((∃ fd, Transfers.Flight countersEmb (c : Thread nD τ) (SemLoc.dma 8) () 262144
        iprop((sc0.view.loc (c : Thread nD τ) ↦{fullShare} View.write (Elt F) sc0.view fd (gU w h V5) Finset.univ)
          ∗ (hbU.view.loc (c : Thread nD τ) ↦[(slabU w h).view.set]{fullShare} V5)))
      ∗ (hbU.view.loc (c : Thread nD τ) ↦[Finset.univ \ (slabU w h).view.set]{fullShare} V5)
      ∗ (∃ fd, Transfers.Flight countersEmb (c : Thread nD τ) (SemLoc.dma 9) () 131072
        iprop((sc1.view.loc (c : Thread nD τ) ↦{fullShare} View.write (Elt F) sc1.view fd (gD w h V7) Finset.univ)
          ∗ (hbD.view.loc (c : Thread nD τ) ↦[(slabD w h).view.set]{fullShare} V7)))
      ∗ (hbD.view.loc (c : Thread nD τ) ↦[Finset.univ \ (slabD w h).view.set]{fullShare} V7))

/-! ## What a point leaves in the result's block -/

/-- The upper half of the block: the feed-forward of its rows, or zeros where it has none; -/
def outLo (r : BitVec 32) (x5 : S512x1024.Idx → Elt F .bf16) (x7 : S1x1x2048.Idx → Elt F .f32) (x9 : S1x1x1024.Idx → Elt F .f32)
    (w2 : S1024x2048.Idx → Elt F .bf16) (w3 : S1024x1024.Idx → Elt F .bf16) : S256x1024.Idx → Elt F .bf16 :=
  if k0_cond4 r = 1#1 then
    k0_pay3 (k0_pay7 r (VecWindow.window x5 ![0, 0] S256x1024.size inb_S512x1024_S256x1024_0_0) w2 x7 w3) x9
  else k0_pay4
/-- the lower half likewise. -/
def outHi (r : BitVec 32) (x5 : S512x1024.Idx → Elt F .bf16) (x7 : S1x1x2048.Idx → Elt F .f32) (x9 : S1x1x1024.Idx → Elt F .f32)
    (w2 : S1024x2048.Idx → Elt F .bf16) (w3 : S1024x1024.Idx → Elt F .bf16) : S256x1024.Idx → Elt F .bf16 :=
  if k0_cond6 r = 1#1 then
    k0_pay5 (k0_pay8 r (VecWindow.window x5 ![256, 0] S256x1024.size inb_S512x1024_S256x1024_256_0) w2 x7 w3) x9
  else k0_pay6
/-- The block. -/
def outBlk (r : BitVec 32) (x5 : S512x1024.Idx → Elt F .bf16) (x7 : S1x1x2048.Idx → Elt F .f32) (x9 : S1x1x1024.Idx → Elt F .f32)
    (w2 : S1024x2048.Idx → Elt F .bf16) (w3 : S1024x1024.Idx → Elt F .bf16) : S512x1024.Idx → Elt F .bf16 :=
  View.canon [⟨Rect.unit (s := S512x1024) ![256, 0] S256x1024.size inb_S512x1024_S256x1024_256_0, outHi r x5 x7 x9 w2 w3⟩,
    ⟨Rect.unit (s := S512x1024) ![0, 0] S256x1024.size inb_S512x1024_S256x1024_0_0, outLo r x5 x7 x9 w2 w3⟩]

/-- The three classes of row counts: more than half a block, some rows up to half a block, none. -/
def RowClass (r : BitVec 32) : Prop :=
  (k0_cond4 r = 1#1 ∧ ¬ k0_cond5 r = 1#1 ∧ k0_cond6 r = 1#1 ∧ ¬ k0_cond7 r = 1#1)
    ∨ (k0_cond4 r = 1#1 ∧ ¬ k0_cond5 r = 1#1 ∧ ¬ k0_cond6 r = 1#1 ∧ k0_cond7 r = 1#1)
    ∨ (¬ k0_cond4 r = 1#1 ∧ k0_cond5 r = 1#1 ∧ ¬ k0_cond6 r = 1#1 ∧ k0_cond7 r = 1#1)

/-- The inputs' staging buffers at their blocks, the tables' halves. -/
def Ins (c : Dev nD) (arg5 : Memref sig .tc .vmem S512x1024 .bf16) (arg7 : Memref sig .tc .vmem S1x1x2048 .f32) (arg9 : Memref sig .tc .vmem S1x1x1024 .f32)
    (x5 : S512x1024.Idx → Elt F .bf16) (x7 : S1x1x2048.Idx → Elt F .f32) (x9 : S1x1x1024.Idx → Elt F .f32)
    (T0 T1 T2 T3 : S160.Idx → Elt F .i32) : sProp 𝕄 :=
  iprop((arg5.view.loc (c : Thread nD τ) ↦[arg5.view.set]{fullShare} arg5.view.rep x5)
      ∗ (arg7.view.loc (c : Thread nD τ) ↦[arg7.view.set]{fullShare} arg7.view.rep x7)
      ∗ (arg9.view.loc (c : Thread nD τ) ↦[arg9.view.set]{fullShare} arg9.view.rep x9)
      ∗ (tb0.view.loc (c : Thread nD τ) ↦{fullShare.right} T0)
      ∗ (tb1.view.loc (c : Thread nD τ) ↦{fullShare.right} T1)
      ∗ (tb2.view.loc (c : Thread nD τ) ↦{fullShare.right} T2)
      ∗ (tb3.view.loc (c : Thread nD τ) ↦{fullShare.right} T3))

/-- The body on its staging memrefs. -/
abbrev bodyOn (i : grid0.Coords)
    (arg5 : Memref sig .tc .vmem S512x1024 .bf16) (harg5 : arg5.IsWhole)
    (arg7 : Memref sig .tc .vmem S1x1x2048 .f32) (harg7 : arg7.IsWhole)
    (arg9 : Memref sig .tc .vmem S1x1x1024 .f32) (harg9 : arg9.IsWhole)
    (arg10 : Memref sig .tc .vmem S512x1024 .bf16) (harg10 : arg10.IsWhole) : Prog (TpuEff nD τ sig (Elt F) Λ₀ .tc) PUnit :=
  cc0_moe_experts i tb0 (Memref.isWhole_whole _) tb1 (Memref.isWhole_whole _) tb2 (Memref.isWhole_whole _) tb3 (Memref.isWhole_whole _)
    arg5 harg5 hbU (Memref.isWhole_whole _) arg7 harg7 hbD (Memref.isWhole_whole _) arg9 harg9 arg10 harg10
    sc0 (Memref.isWhole_whole _) sc1 (Memref.isWhole_whole _) sc2 (Memref.isWhole_whole _) sc3 (Memref.isWhole_whole _) cc0_scratch4

/-! ## The runs' reads, and the block from them -/

/-- A landing buffer loaded whole after its transfer reads the slab. -/
theorem ld_sc0 (f : BufTy.Contents (Elt F) sc0.view.ty) (X : S1024x2048.Idx → Elt F .f32) :
    View.readAt (Elt F) sc0.view (Rect.unit (s := S1024x2048) ![0, 0] S1024x2048.size inb_S1024x2048_S1024x2048_0_0).toLoadRect
      (View.write (Elt F) sc0.view f X Finset.univ) = X :=
  (View.readAt_full sc0.view _ inb_S1024x2048_S1024x2048_0_0).trans (View.read_write_univ _ _)
theorem ld_sc1 (f : BufTy.Contents (Elt F) sc1.view.ty) (X : S1024x1024.Idx → Elt F .f32) :
    View.readAt (Elt F) sc1.view (Rect.unit (s := S1024x1024) ![0, 0] S1024x1024.size inb_S1024x1024_S1024x1024_0_0).toLoadRect
      (View.write (Elt F) sc1.view f X Finset.univ) = X :=
  (View.readAt_full sc1.view _ inb_S1024x1024_S1024x1024_0_0).trans (View.read_write_univ _ _)

section
variable (r : BitVec 32) (x5 : S512x1024.Idx → Elt F .bf16) (x7 : S1x1x2048.Idx → Elt F .f32) (x9 : S1x1x1024.Idx → Elt F .f32)
  (w2 : S1024x2048.Idx → Elt F .bf16) (w3 : S1024x1024.Idx → Elt F .bf16)

theorem lo_pos (hc4 : k0_cond4 r = 1#1) {a : FVec F S256x1024 .bf16} {b : FVec F S1024x2048 .bf16} {d : Vec F S1x1x2048 .f32}
    {e : FVec F S1024x1024 .bf16} {g : Vec F S1x1x1024 .f32}
    (ha : a = VecWindow.window x5 ![0, 0] S256x1024.size inb_S512x1024_S256x1024_0_0) (hb : b = w2) (hd : d = x7) (he : e = w3) (hg : g = x9) :
    k0_pay3 (k0_pay7 r a b d e) g = outLo r x5 x7 x9 w2 w3 := by
  subst ha hb hd he hg; unfold outLo; rw [if_pos hc4]
theorem lo_neg (hc4 : ¬ k0_cond4 r = 1#1) : (k0_pay4 : FVec F S256x1024 .bf16) = outLo r x5 x7 x9 w2 w3 := by
  unfold outLo; rw [if_neg hc4]
theorem hi_pos (hc6 : k0_cond6 r = 1#1) {a : FVec F S256x1024 .bf16} {b : FVec F S1024x2048 .bf16} {d : Vec F S1x1x2048 .f32}
    {e : FVec F S1024x1024 .bf16} {g : Vec F S1x1x1024 .f32}
    (ha : a = VecWindow.window x5 ![256, 0] S256x1024.size inb_S512x1024_S256x1024_256_0) (hb : b = w2) (hd : d = x7) (he : e = w3) (hg : g = x9) :
    k0_pay5 (k0_pay8 r a b d e) g = outHi r x5 x7 x9 w2 w3 := by
  subst ha hb hd he hg; unfold outHi; rw [if_pos hc6]
theorem hi_neg (hc6 : ¬ k0_cond6 r = 1#1) : (k0_pay6 : FVec F S256x1024 .bf16) = outHi r x5 x7 x9 w2 w3 := by
  unfold outHi; rw [if_neg hc6]

/-- The two stores of a point leave the block. -/
theorem blk_of {arg10 : Memref sig .tc .vmem S512x1024 .bf16} {hi lo : S256x1024.Idx → Elt F .bf16}
    (hh : hi = outHi r x5 x7 x9 w2 w3) (hl : lo = outLo r x5 x7 x9 w2 w3) :
    View.read (Elt F) arg10.view (arg10.view.writes (Elt F) arg10.view.junk
      [⟨Rect.unit (s := S512x1024) ![256, 0] S256x1024.size inb_S512x1024_S256x1024_256_0, hi⟩,
       ⟨Rect.unit (s := S512x1024) ![0, 0] S256x1024.size inb_S512x1024_S256x1024_0_0, lo⟩]) = outBlk r x5 x7 x9 w2 w3 := by
  rw [View.read_writes_junk_eq_canon]; subst hh hl; rfl
end

end Cert.KernelIdeal.Hand
-- ==== Proof.RunA.lean ====
/-
  The body's run on one control path: the first point: it starts its own expert's transfers, waits for them, and starts the next expert's.
-/
module

public import proofs.«01_k».proof.Proof.MoeBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The proof's user algebra: the pipeline library's beside the transfers' counters. -/
local notation "𝕄" => MT nD τ sig Unit (Elt F) ℕ (Pipeline.UD sig nD τ) ℕ

set_option maxHeartbeats 16000000 in
/-- The first point: it starts its own expert's transfers, waits for them, and starts the next expert's. The block written is `outBlk` of the point's inputs and weights. -/
theorem runA (c : Dev nD) (i : grid0.Coords)
    (arg5 : Memref sig .tc .vmem S512x1024 .bf16) (harg5 : arg5.IsWhole)
    (arg7 : Memref sig .tc .vmem S1x1x2048 .f32) (harg7 : arg7.IsWhole)
    (arg9 : Memref sig .tc .vmem S1x1x1024 .f32) (harg9 : arg9.IsWhole)
    (arg10 : Memref sig .tc .vmem S512x1024 .bf16) (harg10 : arg10.IsWhole)
    (T0 T1 T2 T3 : S160.Idx → Elt F .i32)
    (x5 : S512x1024.Idx → Elt F .bf16) (x7 : S1x1x2048.Idx → Elt F .f32) (x9 : S1x1x1024.Idx → Elt F .f32)
    (V5 : S32x1024x2048.Idx → Elt F .f32) (V7 : S32x1024x1024.Idx → Elt F .f32)
    (hc1 : k0_cond1 i = 1#1)
    (ok0 : OkW (tw tb0 T0 ![0] inb_S160_S1_0))
    (hc2 : k0_cond2 (tw tb1 T1 (k0_off1 i) (k0_off1_inb i)) = 1#1)
    (ok1 : OkW (tw tb0 T0 (k0_off4 i) (k0_off4_inb i)))
    (hc3 : k0_cond3 (tw tb3 T3 (k0_off7 i) (k0_off7_inb i)) = 1#1)
    (ok2 : OkW (tw tb3 T3 (k0_off8 i) (k0_off8_inb i)))
    (hr : RowClass (tw tb2 T2 (k0_off1 i) (k0_off1_inb i)))
    (W : Waits sig Unit) (K : PUnit → sProp 𝕄) :
    iprop(Ins c arg5 arg7 arg9 x5 x7 x9 T0 T1 T2 T3
      ∗ (∃ d, owns (c : Thread nD τ) arg10 fullShare d)
      ∗ (∃ d, owns (c : Thread nD τ) sc2 fullShare d) ∗ (∃ d, owns (c : Thread nD τ) sc3 fullShare d)
      ∗ Idle c V5 V7
      ∗ owes (c : Thread nD τ) 0 W
      ∗ (iprop(Ins c arg5 arg7 arg9 x5 x7 x9 T0 T1 T2 T3
          ∗ owns (c : Thread nD τ) arg10 fullShare (outBlk (tw tb2 T2 (k0_off1 i) (k0_off1_inb i)) x5 x7 x9 (k0_pay1 (gU (tw tb0 T0 ![0] inb_S160_S1_0) ok0 V5)) (k0_pay2 (gD (tw tb0 T0 ![0] inb_S160_S1_0) ok0 V7)))
          ∗ owns (c : Thread nD τ) sc2 fullShare (k0_pay1 (gU (tw tb0 T0 ![0] inb_S160_S1_0) ok0 V5))
          ∗ owns (c : Thread nD τ) sc3 fullShare (k0_pay2 (gD (tw tb0 T0 ![0] inb_S160_S1_0) ok0 V7))
          ∗ InFlight c V5 V7 (tw tb3 T3 (k0_off8 i) (k0_off8_inb i)) ok2
          ∗ (∃ W', owes (c : Thread nD τ) 0 W')) -∗ K ⟨⟩))
    ⊢ wp frame (wpE (defs₀ (F := F)) Variants.none c none) Set.univ
        (bodyOn i arg5 harg5 arg7 harg7 arg9 harg9 arg10 harg10) K := by
  unfold owns Ins bodyOn Idle InFlight
  rw [cc0_moe_experts_eq_skeleton]; unfold cc0_moe_experts_skel
  iintro ⟨⟨H5, H7, H9, HT0, HT1, HT2, HT3⟩, ⟨%d10, %f10, -, H10⟩, ⟨%d2, %f2, -, HS2⟩, ⟨%d3, %f3, -, HS3⟩, ⟨⟨%f0, HS0⟩, ⟨%f1, HS1⟩, Hq0, Hq1, HU, HD⟩, HW, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  rcases hr with ⟨hc4, hc5, hc6, hc7⟩ | ⟨hc4, hc5, hc6, hc7⟩ | ⟨hc4, hc5, hc6, hc7⟩
  · sl_exec! (disch := first | (guard_target = k0_cond1 _ = _; exact hc1) | (guard_target = k0_chk1 _ _; exact ⟨fun _ => ok0.1, fun _ => ok0.2⟩) | (guard_target = k0_cond2 _ = _; exact hc2) | (guard_target = k0_chk2 _ _; exact ⟨fun _ => ok1.1, fun _ => ok1.2⟩) | (guard_target = k0_cond3 _ = _; exact hc3) | (guard_target = k0_chk3 _ _ _; exact ⟨fun _ _ => ok2.1, fun _ _ => ok2.2⟩) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_pos _ _ _ _ _ _ hc6 (View.readAt_rep_unit _ _ _ rfl _) ((View.readCov_full _ _ _ _ []).trans (congrArg k0_pay1 (ld_sc0 _ _))) (View.readAt_rep_full _ _ _) ((View.readCov_full _ _ _ _ []).trans (congrArg k0_pay2 (ld_sc1 _ _))) (View.readAt_rep_full _ _ _))
        (lo_pos _ _ _ _ _ _ hc4 (View.readAt_rep_unit _ _ _ rfl _) ((View.readCov_full _ _ _ _ []).trans (congrArg k0_pay1 (ld_sc0 _ _))) (View.readAt_rep_full _ _ _) ((View.readCov_full _ _ _ _ []).trans (congrArg k0_pay2 (ld_sc1 _ _))) (View.readAt_rep_full _ _ _))
    isplitl [HS2]
    · iexists _; isplitr; swap
      · iexact HS2
      ipureintro
      exact (View.read_writes_full _ _ _ _ []).trans (congrArg k0_pay1 (ld_sc0 _ _))
    isplitl [HS3]
    · iexists _; isplitr; swap
      · iexact HS3
      ipureintro
      exact (View.read_writes_full _ _ _ _ []).trans (congrArg k0_pay2 (ld_sc1 _ _))
    isplitl [Hq0 HU Hq1 HD]
    · isplitl [Hq0]; · iexists _; iexact Hq0
      isplitl [HU]; · iexact HU
      isplitl [Hq1]; · iexists _; iexact Hq1
      iexact HD
    iexists _; iexact HW
  · sl_exec! (disch := first | (guard_target = k0_cond1 _ = _; exact hc1) | (guard_target = k0_chk1 _ _; exact ⟨fun _ => ok0.1, fun _ => ok0.2⟩) | (guard_target = k0_cond2 _ = _; exact hc2) | (guard_target = k0_chk2 _ _; exact ⟨fun _ => ok1.1, fun _ => ok1.2⟩) | (guard_target = k0_cond3 _ = _; exact hc3) | (guard_target = k0_chk3 _ _ _; exact ⟨fun _ _ => ok2.1, fun _ _ => ok2.2⟩) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_neg _ _ _ _ _ _ hc6)
        (lo_pos _ _ _ _ _ _ hc4 (View.readAt_rep_unit _ _ _ rfl _) ((View.readCov_full _ _ _ _ []).trans (congrArg k0_pay1 (ld_sc0 _ _))) (View.readAt_rep_full _ _ _) ((View.readCov_full _ _ _ _ []).trans (congrArg k0_pay2 (ld_sc1 _ _))) (View.readAt_rep_full _ _ _))
    isplitl [HS2]
    · iexists _; isplitr; swap
      · iexact HS2
      ipureintro
      exact (View.read_writes_full _ _ _ _ []).trans (congrArg k0_pay1 (ld_sc0 _ _))
    isplitl [HS3]
    · iexists _; isplitr; swap
      · iexact HS3
      ipureintro
      exact (View.read_writes_full _ _ _ _ []).trans (congrArg k0_pay2 (ld_sc1 _ _))
    isplitl [Hq0 HU Hq1 HD]
    · isplitl [Hq0]; · iexists _; iexact Hq0
      isplitl [HU]; · iexact HU
      isplitl [Hq1]; · iexists _; iexact Hq1
      iexact HD
    iexists _; iexact HW
  · sl_exec! (disch := first | (guard_target = k0_cond1 _ = _; exact hc1) | (guard_target = k0_chk1 _ _; exact ⟨fun _ => ok0.1, fun _ => ok0.2⟩) | (guard_target = k0_cond2 _ = _; exact hc2) | (guard_target = k0_chk2 _ _; exact ⟨fun _ => ok1.1, fun _ => ok1.2⟩) | (guard_target = k0_cond3 _ = _; exact hc3) | (guard_target = k0_chk3 _ _ _; exact ⟨fun _ _ => ok2.1, fun _ _ => ok2.2⟩) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_neg _ _ _ _ _ _ hc6)
        (lo_neg _ _ _ _ _ _ hc4)
    isplitl [HS2]
    · iexists _; isplitr; swap
      · iexact HS2
      ipureintro
      exact (View.read_writes_full _ _ _ _ []).trans (congrArg k0_pay1 (ld_sc0 _ _))
    isplitl [HS3]
    · iexists _; isplitr; swap
      · iexact HS3
      ipureintro
      exact (View.read_writes_full _ _ _ _ []).trans (congrArg k0_pay2 (ld_sc1 _ _))
    isplitl [Hq0 HU Hq1 HD]
    · isplitl [Hq0]; · iexists _; iexact Hq0
      isplitl [HU]; · iexact HU
      isplitl [Hq1]; · iexists _; iexact Hq1
      iexact HD
    iexists _; iexact HW

end Cert.KernelIdeal.Hand
-- ==== Proof.RunB.lean ====
/-
  The body's run on one control path: the first point with no next expert.
-/
module

public import proofs.«01_k».proof.Proof.MoeBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The proof's user algebra: the pipeline library's beside the transfers' counters. -/
local notation "𝕄" => MT nD τ sig Unit (Elt F) ℕ (Pipeline.UD sig nD τ) ℕ

set_option maxHeartbeats 16000000 in
/-- The first point with no next expert. The block written is `outBlk` of the point's inputs and weights. -/
theorem runB (c : Dev nD) (i : grid0.Coords)
    (arg5 : Memref sig .tc .vmem S512x1024 .bf16) (harg5 : arg5.IsWhole)
    (arg7 : Memref sig .tc .vmem S1x1x2048 .f32) (harg7 : arg7.IsWhole)
    (arg9 : Memref sig .tc .vmem S1x1x1024 .f32) (harg9 : arg9.IsWhole)
    (arg10 : Memref sig .tc .vmem S512x1024 .bf16) (harg10 : arg10.IsWhole)
    (T0 T1 T2 T3 : S160.Idx → Elt F .i32)
    (x5 : S512x1024.Idx → Elt F .bf16) (x7 : S1x1x2048.Idx → Elt F .f32) (x9 : S1x1x1024.Idx → Elt F .f32)
    (V5 : S32x1024x2048.Idx → Elt F .f32) (V7 : S32x1024x1024.Idx → Elt F .f32)
    (hc1 : k0_cond1 i = 1#1)
    (ok0 : OkW (tw tb0 T0 ![0] inb_S160_S1_0))
    (hc2 : k0_cond2 (tw tb1 T1 (k0_off1 i) (k0_off1_inb i)) = 1#1)
    (ok1 : OkW (tw tb0 T0 (k0_off4 i) (k0_off4_inb i)))
    (hc3 : ¬ k0_cond3 (tw tb3 T3 (k0_off7 i) (k0_off7_inb i)) = 1#1)
    (hr : RowClass (tw tb2 T2 (k0_off1 i) (k0_off1_inb i)))
    (W : Waits sig Unit) (K : PUnit → sProp 𝕄) :
    iprop(Ins c arg5 arg7 arg9 x5 x7 x9 T0 T1 T2 T3
      ∗ (∃ d, owns (c : Thread nD τ) arg10 fullShare d)
      ∗ (∃ d, owns (c : Thread nD τ) sc2 fullShare d) ∗ (∃ d, owns (c : Thread nD τ) sc3 fullShare d)
      ∗ Idle c V5 V7
      ∗ owes (c : Thread nD τ) 0 W
      ∗ (iprop(Ins c arg5 arg7 arg9 x5 x7 x9 T0 T1 T2 T3
          ∗ owns (c : Thread nD τ) arg10 fullShare (outBlk (tw tb2 T2 (k0_off1 i) (k0_off1_inb i)) x5 x7 x9 (k0_pay1 (gU (tw tb0 T0 ![0] inb_S160_S1_0) ok0 V5)) (k0_pay2 (gD (tw tb0 T0 ![0] inb_S160_S1_0) ok0 V7)))
          ∗ owns (c : Thread nD τ) sc2 fullShare (k0_pay1 (gU (tw tb0 T0 ![0] inb_S160_S1_0) ok0 V5))
          ∗ owns (c : Thread nD τ) sc3 fullShare (k0_pay2 (gD (tw tb0 T0 ![0] inb_S160_S1_0) ok0 V7))
          ∗ Idle c V5 V7
          ∗ (∃ W', owes (c : Thread nD τ) 0 W')) -∗ K ⟨⟩))
    ⊢ wp frame (wpE (defs₀ (F := F)) Variants.none c none) Set.univ
        (bodyOn i arg5 harg5 arg7 harg7 arg9 harg9 arg10 harg10) K := by
  unfold owns Ins bodyOn Idle
  rw [cc0_moe_experts_eq_skeleton]; unfold cc0_moe_experts_skel
  iintro ⟨⟨H5, H7, H9, HT0, HT1, HT2, HT3⟩, ⟨%d10, %f10, -, H10⟩, ⟨%d2, %f2, -, HS2⟩, ⟨%d3, %f3, -, HS3⟩, ⟨⟨%f0, HS0⟩, ⟨%f1, HS1⟩, Hq0, Hq1, HU, HD⟩, HW, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  rcases hr with ⟨hc4, hc5, hc6, hc7⟩ | ⟨hc4, hc5, hc6, hc7⟩ | ⟨hc4, hc5, hc6, hc7⟩
  · sl_exec! (disch := first | (guard_target = k0_cond1 _ = _; exact hc1) | (guard_target = k0_chk1 _ _; exact ⟨fun _ => ok0.1, fun _ => ok0.2⟩) | (guard_target = k0_cond2 _ = _; exact hc2) | (guard_target = k0_chk2 _ _; exact ⟨fun _ => ok1.1, fun _ => ok1.2⟩) | (guard_target = ¬ k0_cond3 _ = _; exact hc3) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_pos _ _ _ _ _ _ hc6 (View.readAt_rep_unit _ _ _ rfl _) ((View.readCov_full _ _ _ _ []).trans (congrArg k0_pay1 (ld_sc0 _ _))) (View.readAt_rep_full _ _ _) ((View.readCov_full _ _ _ _ []).trans (congrArg k0_pay2 (ld_sc1 _ _))) (View.readAt_rep_full _ _ _))
        (lo_pos _ _ _ _ _ _ hc4 (View.readAt_rep_unit _ _ _ rfl _) ((View.readCov_full _ _ _ _ []).trans (congrArg k0_pay1 (ld_sc0 _ _))) (View.readAt_rep_full _ _ _) ((View.readCov_full _ _ _ _ []).trans (congrArg k0_pay2 (ld_sc1 _ _))) (View.readAt_rep_full _ _ _))
    isplitl [HS2]
    · iexists _; isplitr; swap
      · iexact HS2
      ipureintro
      exact (View.read_writes_full _ _ _ _ []).trans (congrArg k0_pay1 (ld_sc0 _ _))
    isplitl [HS3]
    · iexists _; isplitr; swap
      · iexact HS3
      ipureintro
      exact (View.read_writes_full _ _ _ _ []).trans (congrArg k0_pay2 (ld_sc1 _ _))
    isplitl [HS0 HS1 Hq0 Hq1 HU HD]
    · isplitl [HS0]; · iexists _; iexact HS0
      isplitl [HS1]; · iexists _; iexact HS1
      isplitl [Hq0]; · iexact Hq0
      isplitl [Hq1]; · iexact Hq1
      isplitl [HU]; · iexact HU
      iexact HD
    iexists _; iexact HW
  · sl_exec! (disch := first | (guard_target = k0_cond1 _ = _; exact hc1) | (guard_target = k0_chk1 _ _; exact ⟨fun _ => ok0.1, fun _ => ok0.2⟩) | (guard_target = k0_cond2 _ = _; exact hc2) | (guard_target = k0_chk2 _ _; exact ⟨fun _ => ok1.1, fun _ => ok1.2⟩) | (guard_target = ¬ k0_cond3 _ = _; exact hc3) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_neg _ _ _ _ _ _ hc6)
        (lo_pos _ _ _ _ _ _ hc4 (View.readAt_rep_unit _ _ _ rfl _) ((View.readCov_full _ _ _ _ []).trans (congrArg k0_pay1 (ld_sc0 _ _))) (View.readAt_rep_full _ _ _) ((View.readCov_full _ _ _ _ []).trans (congrArg k0_pay2 (ld_sc1 _ _))) (View.readAt_rep_full _ _ _))
    isplitl [HS2]
    · iexists _; isplitr; swap
      · iexact HS2
      ipureintro
      exact (View.read_writes_full _ _ _ _ []).trans (congrArg k0_pay1 (ld_sc0 _ _))
    isplitl [HS3]
    · iexists _; isplitr; swap
      · iexact HS3
      ipureintro
      exact (View.read_writes_full _ _ _ _ []).trans (congrArg k0_pay2 (ld_sc1 _ _))
    isplitl [HS0 HS1 Hq0 Hq1 HU HD]
    · isplitl [HS0]; · iexists _; iexact HS0
      isplitl [HS1]; · iexists _; iexact HS1
      isplitl [Hq0]; · iexact Hq0
      isplitl [Hq1]; · iexact Hq1
      isplitl [HU]; · iexact HU
      iexact HD
    iexists _; iexact HW
  · sl_exec! (disch := first | (guard_target = k0_cond1 _ = _; exact hc1) | (guard_target = k0_chk1 _ _; exact ⟨fun _ => ok0.1, fun _ => ok0.2⟩) | (guard_target = k0_cond2 _ = _; exact hc2) | (guard_target = k0_chk2 _ _; exact ⟨fun _ => ok1.1, fun _ => ok1.2⟩) | (guard_target = ¬ k0_cond3 _ = _; exact hc3) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_neg _ _ _ _ _ _ hc6)
        (lo_neg _ _ _ _ _ _ hc4)
    isplitl [HS2]
    · iexists _; isplitr; swap
      · iexact HS2
      ipureintro
      exact (View.read_writes_full _ _ _ _ []).trans (congrArg k0_pay1 (ld_sc0 _ _))
    isplitl [HS3]
    · iexists _; isplitr; swap
      · iexact HS3
      ipureintro
      exact (View.read_writes_full _ _ _ _ []).trans (congrArg k0_pay2 (ld_sc1 _ _))
    isplitl [HS0 HS1 Hq0 Hq1 HU HD]
    · isplitl [HS0]; · iexists _; iexact HS0
      isplitl [HS1]; · iexists _; iexact HS1
      isplitl [Hq0]; · iexact Hq0
      isplitl [Hq1]; · iexact Hq1
      isplitl [HU]; · iexact HU
      iexact HD
    iexists _; iexact HW

end Cert.KernelIdeal.Hand
-- ==== Proof.RunC.lean ====
/-
  The body's run on one control path: a later expert's first block: waits for the transfers in flight and starts the next expert's.
-/
module

public import proofs.«01_k».proof.Proof.MoeBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The proof's user algebra: the pipeline library's beside the transfers' counters. -/
local notation "𝕄" => MT nD τ sig Unit (Elt F) ℕ (Pipeline.UD sig nD τ) ℕ

set_option maxHeartbeats 16000000 in
/-- A later expert's first block: waits for the transfers in flight and starts the next expert's. The block written is `outBlk` of the point's inputs and weights. -/
theorem runC (c : Dev nD) (i : grid0.Coords)
    (arg5 : Memref sig .tc .vmem S512x1024 .bf16) (harg5 : arg5.IsWhole)
    (arg7 : Memref sig .tc .vmem S1x1x2048 .f32) (harg7 : arg7.IsWhole)
    (arg9 : Memref sig .tc .vmem S1x1x1024 .f32) (harg9 : arg9.IsWhole)
    (arg10 : Memref sig .tc .vmem S512x1024 .bf16) (harg10 : arg10.IsWhole)
    (T0 T1 T2 T3 : S160.Idx → Elt F .i32)
    (x5 : S512x1024.Idx → Elt F .bf16) (x7 : S1x1x2048.Idx → Elt F .f32) (x9 : S1x1x1024.Idx → Elt F .f32)
    (V5 : S32x1024x2048.Idx → Elt F .f32) (V7 : S32x1024x1024.Idx → Elt F .f32)
    (w : BitVec 32) (okw : OkW w)
    (hc1 : ¬ k0_cond1 i = 1#1)
    (hc2 : k0_cond2 (tw tb1 T1 (k0_off1 i) (k0_off1_inb i)) = 1#1)
    (ok1 : OkW (tw tb0 T0 (k0_off4 i) (k0_off4_inb i)))
    (hc3 : k0_cond3 (tw tb3 T3 (k0_off7 i) (k0_off7_inb i)) = 1#1)
    (ok2 : OkW (tw tb3 T3 (k0_off8 i) (k0_off8_inb i)))
    (hr : RowClass (tw tb2 T2 (k0_off1 i) (k0_off1_inb i)))
    (W : Waits sig Unit) (K : PUnit → sProp 𝕄) :
    iprop(Ins c arg5 arg7 arg9 x5 x7 x9 T0 T1 T2 T3
      ∗ (∃ d, owns (c : Thread nD τ) arg10 fullShare d)
      ∗ (∃ d, owns (c : Thread nD τ) sc2 fullShare d) ∗ (∃ d, owns (c : Thread nD τ) sc3 fullShare d)
      ∗ InFlight c V5 V7 w okw
      ∗ owes (c : Thread nD τ) 0 W
      ∗ (iprop(Ins c arg5 arg7 arg9 x5 x7 x9 T0 T1 T2 T3
          ∗ owns (c : Thread nD τ) arg10 fullShare (outBlk (tw tb2 T2 (k0_off1 i) (k0_off1_inb i)) x5 x7 x9 (k0_pay1 (gU w okw V5)) (k0_pay2 (gD w okw V7)))
          ∗ owns (c : Thread nD τ) sc2 fullShare (k0_pay1 (gU w okw V5))
          ∗ owns (c : Thread nD τ) sc3 fullShare (k0_pay2 (gD w okw V7))
          ∗ InFlight c V5 V7 (tw tb3 T3 (k0_off8 i) (k0_off8_inb i)) ok2
          ∗ (∃ W', owes (c : Thread nD τ) 0 W')) -∗ K ⟨⟩))
    ⊢ wp frame (wpE (defs₀ (F := F)) Variants.none c none) Set.univ
        (bodyOn i arg5 harg5 arg7 harg7 arg9 harg9 arg10 harg10) K := by
  unfold owns Ins bodyOn InFlight
  rw [cc0_moe_experts_eq_skeleton]; unfold cc0_moe_experts_skel
  iintro ⟨⟨H5, H7, H9, HT0, HT1, HT2, HT3⟩, ⟨%d10, %f10, -, H10⟩, ⟨%d2, %f2, -, HS2⟩, ⟨%d3, %f3, -, HS3⟩, ⟨⟨%f0, Hq0⟩, HU, ⟨%f1, Hq1⟩, HD⟩, HW, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  rcases hr with ⟨hc4, hc5, hc6, hc7⟩ | ⟨hc4, hc5, hc6, hc7⟩ | ⟨hc4, hc5, hc6, hc7⟩
  · sl_exec! (disch := first | (guard_target = ¬ k0_cond1 _ = _; exact hc1) | (guard_target = k0_cond2 _ = _; exact hc2) | (guard_target = k0_chk2 _ _; exact ⟨fun _ => ok1.1, fun _ => ok1.2⟩) | (guard_target = k0_cond3 _ = _; exact hc3) | (guard_target = k0_chk3 _ _ _; exact ⟨fun _ _ => ok2.1, fun _ _ => ok2.2⟩) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_pos _ _ _ _ _ _ hc6 (View.readAt_rep_unit _ _ _ rfl _) ((View.readCov_full _ _ _ _ []).trans (congrArg k0_pay1 (ld_sc0 _ _))) (View.readAt_rep_full _ _ _) ((View.readCov_full _ _ _ _ []).trans (congrArg k0_pay2 (ld_sc1 _ _))) (View.readAt_rep_full _ _ _))
        (lo_pos _ _ _ _ _ _ hc4 (View.readAt_rep_unit _ _ _ rfl _) ((View.readCov_full _ _ _ _ []).trans (congrArg k0_pay1 (ld_sc0 _ _))) (View.readAt_rep_full _ _ _) ((View.readCov_full _ _ _ _ []).trans (congrArg k0_pay2 (ld_sc1 _ _))) (View.readAt_rep_full _ _ _))
    isplitl [HS2]
    · iexists _; isplitr; swap
      · iexact HS2
      ipureintro
      exact (View.read_writes_full _ _ _ _ []).trans (congrArg k0_pay1 (ld_sc0 _ _))
    isplitl [HS3]
    · iexists _; isplitr; swap
      · iexact HS3
      ipureintro
      exact (View.read_writes_full _ _ _ _ []).trans (congrArg k0_pay2 (ld_sc1 _ _))
    isplitl [Hq0 HU Hq1 HD]
    · isplitl [Hq0]; · iexists _; iexact Hq0
      isplitl [HU]; · iexact HU
      isplitl [Hq1]; · iexists _; iexact Hq1
      iexact HD
    iexists _; iexact HW
  · sl_exec! (disch := first | (guard_target = ¬ k0_cond1 _ = _; exact hc1) | (guard_target = k0_cond2 _ = _; exact hc2) | (guard_target = k0_chk2 _ _; exact ⟨fun _ => ok1.1, fun _ => ok1.2⟩) | (guard_target = k0_cond3 _ = _; exact hc3) | (guard_target = k0_chk3 _ _ _; exact ⟨fun _ _ => ok2.1, fun _ _ => ok2.2⟩) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_neg _ _ _ _ _ _ hc6)
        (lo_pos _ _ _ _ _ _ hc4 (View.readAt_rep_unit _ _ _ rfl _) ((View.readCov_full _ _ _ _ []).trans (congrArg k0_pay1 (ld_sc0 _ _))) (View.readAt_rep_full _ _ _) ((View.readCov_full _ _ _ _ []).trans (congrArg k0_pay2 (ld_sc1 _ _))) (View.readAt_rep_full _ _ _))
    isplitl [HS2]
    · iexists _; isplitr; swap
      · iexact HS2
      ipureintro
      exact (View.read_writes_full _ _ _ _ []).trans (congrArg k0_pay1 (ld_sc0 _ _))
    isplitl [HS3]
    · iexists _; isplitr; swap
      · iexact HS3
      ipureintro
      exact (View.read_writes_full _ _ _ _ []).trans (congrArg k0_pay2 (ld_sc1 _ _))
    isplitl [Hq0 HU Hq1 HD]
    · isplitl [Hq0]; · iexists _; iexact Hq0
      isplitl [HU]; · iexact HU
      isplitl [Hq1]; · iexists _; iexact Hq1
      iexact HD
    iexists _; iexact HW
  · sl_exec! (disch := first | (guard_target = ¬ k0_cond1 _ = _; exact hc1) | (guard_target = k0_cond2 _ = _; exact hc2) | (guard_target = k0_chk2 _ _; exact ⟨fun _ => ok1.1, fun _ => ok1.2⟩) | (guard_target = k0_cond3 _ = _; exact hc3) | (guard_target = k0_chk3 _ _ _; exact ⟨fun _ _ => ok2.1, fun _ _ => ok2.2⟩) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_neg _ _ _ _ _ _ hc6)
        (lo_neg _ _ _ _ _ _ hc4)
    isplitl [HS2]
    · iexists _; isplitr; swap
      · iexact HS2
      ipureintro
      exact (View.read_writes_full _ _ _ _ []).trans (congrArg k0_pay1 (ld_sc0 _ _))
    isplitl [HS3]
    · iexists _; isplitr; swap
      · iexact HS3
      ipureintro
      exact (View.read_writes_full _ _ _ _ []).trans (congrArg k0_pay2 (ld_sc1 _ _))
    isplitl [Hq0 HU Hq1 HD]
    · isplitl [Hq0]; · iexists _; iexact Hq0
      isplitl [HU]; · iexact HU
      isplitl [Hq1]; · iexists _; iexact Hq1
      iexact HD
    iexists _; iexact HW

end Cert.KernelIdeal.Hand
-- ==== Proof.RunD.lean ====
/-
  The body's run on one control path: a later expert's first block with no next expert.
-/
module

public import proofs.«01_k».proof.Proof.MoeBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The proof's user algebra: the pipeline library's beside the transfers' counters. -/
local notation "𝕄" => MT nD τ sig Unit (Elt F) ℕ (Pipeline.UD sig nD τ) ℕ

set_option maxHeartbeats 16000000 in
/-- A later expert's first block with no next expert. The block written is `outBlk` of the point's inputs and weights. -/
theorem runD (c : Dev nD) (i : grid0.Coords)
    (arg5 : Memref sig .tc .vmem S512x1024 .bf16) (harg5 : arg5.IsWhole)
    (arg7 : Memref sig .tc .vmem S1x1x2048 .f32) (harg7 : arg7.IsWhole)
    (arg9 : Memref sig .tc .vmem S1x1x1024 .f32) (harg9 : arg9.IsWhole)
    (arg10 : Memref sig .tc .vmem S512x1024 .bf16) (harg10 : arg10.IsWhole)
    (T0 T1 T2 T3 : S160.Idx → Elt F .i32)
    (x5 : S512x1024.Idx → Elt F .bf16) (x7 : S1x1x2048.Idx → Elt F .f32) (x9 : S1x1x1024.Idx → Elt F .f32)
    (V5 : S32x1024x2048.Idx → Elt F .f32) (V7 : S32x1024x1024.Idx → Elt F .f32)
    (w : BitVec 32) (okw : OkW w)
    (hc1 : ¬ k0_cond1 i = 1#1)
    (hc2 : k0_cond2 (tw tb1 T1 (k0_off1 i) (k0_off1_inb i)) = 1#1)
    (ok1 : OkW (tw tb0 T0 (k0_off4 i) (k0_off4_inb i)))
    (hc3 : ¬ k0_cond3 (tw tb3 T3 (k0_off7 i) (k0_off7_inb i)) = 1#1)
    (hr : RowClass (tw tb2 T2 (k0_off1 i) (k0_off1_inb i)))
    (W : Waits sig Unit) (K : PUnit → sProp 𝕄) :
    iprop(Ins c arg5 arg7 arg9 x5 x7 x9 T0 T1 T2 T3
      ∗ (∃ d, owns (c : Thread nD τ) arg10 fullShare d)
      ∗ (∃ d, owns (c : Thread nD τ) sc2 fullShare d) ∗ (∃ d, owns (c : Thread nD τ) sc3 fullShare d)
      ∗ InFlight c V5 V7 w okw
      ∗ owes (c : Thread nD τ) 0 W
      ∗ (iprop(Ins c arg5 arg7 arg9 x5 x7 x9 T0 T1 T2 T3
          ∗ owns (c : Thread nD τ) arg10 fullShare (outBlk (tw tb2 T2 (k0_off1 i) (k0_off1_inb i)) x5 x7 x9 (k0_pay1 (gU w okw V5)) (k0_pay2 (gD w okw V7)))
          ∗ owns (c : Thread nD τ) sc2 fullShare (k0_pay1 (gU w okw V5))
          ∗ owns (c : Thread nD τ) sc3 fullShare (k0_pay2 (gD w okw V7))
          ∗ Idle c V5 V7
          ∗ (∃ W', owes (c : Thread nD τ) 0 W')) -∗ K ⟨⟩))
    ⊢ wp frame (wpE (defs₀ (F := F)) Variants.none c none) Set.univ
        (bodyOn i arg5 harg5 arg7 harg7 arg9 harg9 arg10 harg10) K := by
  unfold owns Ins bodyOn Idle InFlight
  rw [cc0_moe_experts_eq_skeleton]; unfold cc0_moe_experts_skel
  iintro ⟨⟨H5, H7, H9, HT0, HT1, HT2, HT3⟩, ⟨%d10, %f10, -, H10⟩, ⟨%d2, %f2, -, HS2⟩, ⟨%d3, %f3, -, HS3⟩, ⟨⟨%f0, Hq0⟩, HU, ⟨%f1, Hq1⟩, HD⟩, HW, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  rcases hr with ⟨hc4, hc5, hc6, hc7⟩ | ⟨hc4, hc5, hc6, hc7⟩ | ⟨hc4, hc5, hc6, hc7⟩
  · sl_exec! (disch := first | (guard_target = ¬ k0_cond1 _ = _; exact hc1) | (guard_target = k0_cond2 _ = _; exact hc2) | (guard_target = k0_chk2 _ _; exact ⟨fun _ => ok1.1, fun _ => ok1.2⟩) | (guard_target = ¬ k0_cond3 _ = _; exact hc3) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_pos _ _ _ _ _ _ hc6 (View.readAt_rep_unit _ _ _ rfl _) ((View.readCov_full _ _ _ _ []).trans (congrArg k0_pay1 (ld_sc0 _ _))) (View.readAt_rep_full _ _ _) ((View.readCov_full _ _ _ _ []).trans (congrArg k0_pay2 (ld_sc1 _ _))) (View.readAt_rep_full _ _ _))
        (lo_pos _ _ _ _ _ _ hc4 (View.readAt_rep_unit _ _ _ rfl _) ((View.readCov_full _ _ _ _ []).trans (congrArg k0_pay1 (ld_sc0 _ _))) (View.readAt_rep_full _ _ _) ((View.readCov_full _ _ _ _ []).trans (congrArg k0_pay2 (ld_sc1 _ _))) (View.readAt_rep_full _ _ _))
    isplitl [HS2]
    · iexists _; isplitr; swap
      · iexact HS2
      ipureintro
      exact (View.read_writes_full _ _ _ _ []).trans (congrArg k0_pay1 (ld_sc0 _ _))
    isplitl [HS3]
    · iexists _; isplitr; swap
      · iexact HS3
      ipureintro
      exact (View.read_writes_full _ _ _ _ []).trans (congrArg k0_pay2 (ld_sc1 _ _))
    isplitl [Hq0_dst Hq1_dst Hq0 Hq1 HU HD]
    · isplitl [Hq0_dst]; · iexists _; iexact Hq0_dst
      isplitl [Hq1_dst]; · iexists _; iexact Hq1_dst
      isplitl [Hq0]; · iexact Hq0
      isplitl [Hq1]; · iexact Hq1
      isplitl [HU]; · iexact HU
      iexact HD
    iexists _; iexact HW
  · sl_exec! (disch := first | (guard_target = ¬ k0_cond1 _ = _; exact hc1) | (guard_target = k0_cond2 _ = _; exact hc2) | (guard_target = k0_chk2 _ _; exact ⟨fun _ => ok1.1, fun _ => ok1.2⟩) | (guard_target = ¬ k0_cond3 _ = _; exact hc3) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_neg _ _ _ _ _ _ hc6)
        (lo_pos _ _ _ _ _ _ hc4 (View.readAt_rep_unit _ _ _ rfl _) ((View.readCov_full _ _ _ _ []).trans (congrArg k0_pay1 (ld_sc0 _ _))) (View.readAt_rep_full _ _ _) ((View.readCov_full _ _ _ _ []).trans (congrArg k0_pay2 (ld_sc1 _ _))) (View.readAt_rep_full _ _ _))
    isplitl [HS2]
    · iexists _; isplitr; swap
      · iexact HS2
      ipureintro
      exact (View.read_writes_full _ _ _ _ []).trans (congrArg k0_pay1 (ld_sc0 _ _))
    isplitl [HS3]
    · iexists _; isplitr; swap
      · iexact HS3
      ipureintro
      exact (View.read_writes_full _ _ _ _ []).trans (congrArg k0_pay2 (ld_sc1 _ _))
    isplitl [Hq0_dst Hq1_dst Hq0 Hq1 HU HD]
    · isplitl [Hq0_dst]; · iexists _; iexact Hq0_dst
      isplitl [Hq1_dst]; · iexists _; iexact Hq1_dst
      isplitl [Hq0]; · iexact Hq0
      isplitl [Hq1]; · iexact Hq1
      isplitl [HU]; · iexact HU
      iexact HD
    iexists _; iexact HW
  · sl_exec! (disch := first | (guard_target = ¬ k0_cond1 _ = _; exact hc1) | (guard_target = k0_cond2 _ = _; exact hc2) | (guard_target = k0_chk2 _ _; exact ⟨fun _ => ok1.1, fun _ => ok1.2⟩) | (guard_target = ¬ k0_cond3 _ = _; exact hc3) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_neg _ _ _ _ _ _ hc6)
        (lo_neg _ _ _ _ _ _ hc4)
    isplitl [HS2]
    · iexists _; isplitr; swap
      · iexact HS2
      ipureintro
      exact (View.read_writes_full _ _ _ _ []).trans (congrArg k0_pay1 (ld_sc0 _ _))
    isplitl [HS3]
    · iexists _; isplitr; swap
      · iexact HS3
      ipureintro
      exact (View.read_writes_full _ _ _ _ []).trans (congrArg k0_pay2 (ld_sc1 _ _))
    isplitl [Hq0_dst Hq1_dst Hq0 Hq1 HU HD]
    · isplitl [Hq0_dst]; · iexists _; iexact Hq0_dst
      isplitl [Hq1_dst]; · iexists _; iexact Hq1_dst
      isplitl [Hq0]; · iexact Hq0
      isplitl [Hq1]; · iexact Hq1
      isplitl [HU]; · iexact HU
      iexact HD
    iexists _; iexact HW

end Cert.KernelIdeal.Hand
-- ==== Proof.RunE.lean ====
/-
  The body's run on one control path: a block of the expert before: nothing moves.
-/
module

public import proofs.«01_k».proof.Proof.MoeBase

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The proof's user algebra: the pipeline library's beside the transfers' counters. -/
local notation "𝕄" => MT nD τ sig Unit (Elt F) ℕ (Pipeline.UD sig nD τ) ℕ

set_option maxHeartbeats 16000000 in
/-- A block of the expert before: nothing moves. The block written is `outBlk` of the point's inputs and weights. -/
theorem runE (c : Dev nD) (i : grid0.Coords)
    (arg5 : Memref sig .tc .vmem S512x1024 .bf16) (harg5 : arg5.IsWhole)
    (arg7 : Memref sig .tc .vmem S1x1x2048 .f32) (harg7 : arg7.IsWhole)
    (arg9 : Memref sig .tc .vmem S1x1x1024 .f32) (harg9 : arg9.IsWhole)
    (arg10 : Memref sig .tc .vmem S512x1024 .bf16) (harg10 : arg10.IsWhole)
    (T0 T1 T2 T3 : S160.Idx → Elt F .i32)
    (x5 : S512x1024.Idx → Elt F .bf16) (x7 : S1x1x2048.Idx → Elt F .f32) (x9 : S1x1x1024.Idx → Elt F .f32)
    (V5 : S32x1024x2048.Idx → Elt F .f32) (V7 : S32x1024x1024.Idx → Elt F .f32)
    (w2 : S1024x2048.Idx → Elt F .bf16) (w3 : S1024x1024.Idx → Elt F .bf16)
    (hc1 : ¬ k0_cond1 i = 1#1)
    (hc2 : ¬ k0_cond2 (tw tb1 T1 (k0_off1 i) (k0_off1_inb i)) = 1#1)
    (hr : RowClass (tw tb2 T2 (k0_off1 i) (k0_off1_inb i)))
    (W : Waits sig Unit) (K : PUnit → sProp 𝕄) :
    iprop(Ins c arg5 arg7 arg9 x5 x7 x9 T0 T1 T2 T3
      ∗ (∃ d, owns (c : Thread nD τ) arg10 fullShare d)
      ∗ owns (c : Thread nD τ) sc2 fullShare w2 ∗ owns (c : Thread nD τ) sc3 fullShare w3
      ∗ owes (c : Thread nD τ) 0 W
      ∗ (iprop(Ins c arg5 arg7 arg9 x5 x7 x9 T0 T1 T2 T3
          ∗ owns (c : Thread nD τ) arg10 fullShare (outBlk (tw tb2 T2 (k0_off1 i) (k0_off1_inb i)) x5 x7 x9 w2 w3)
          ∗ owns (c : Thread nD τ) sc2 fullShare w2
          ∗ owns (c : Thread nD τ) sc3 fullShare w3
          ∗ (∃ W', owes (c : Thread nD τ) 0 W')) -∗ K ⟨⟩))
    ⊢ wp frame (wpE (defs₀ (F := F)) Variants.none c none) Set.univ
        (bodyOn i arg5 harg5 arg7 harg7 arg9 harg9 arg10 harg10) K := by
  unfold owns Ins bodyOn
  rw [cc0_moe_experts_eq_skeleton]; unfold cc0_moe_experts_skel
  iintro ⟨⟨H5, H7, H9, HT0, HT1, HT2, HT3⟩, ⟨%d10, %f10, -, H10⟩, ⟨%f2, %hf2, HS2⟩, ⟨%f3, %hf3, HS3⟩, HW, Hk⟩
  have hT0 : tb0.IsWhole := Memref.isWhole_whole _
  have hT1 : tb1.IsWhole := Memref.isWhole_whole _
  have hT2 : tb2.IsWhole := Memref.isWhole_whole _
  have hT3 : tb3.IsWhole := Memref.isWhole_whole _
  rcases hr with ⟨hc4, hc5, hc6, hc7⟩ | ⟨hc4, hc5, hc6, hc7⟩ | ⟨hc4, hc5, hc6, hc7⟩
  · sl_exec! (disch := first | (guard_target = ¬ k0_cond1 _ = _; exact hc1) | (guard_target = ¬ k0_cond2 _ = _; exact hc2) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_pos _ _ _ _ _ _ hc6 (View.readAt_rep_unit _ _ _ rfl _) ((View.readAt_full sc2.view _ _).trans hf2) (View.readAt_rep_full _ _ _) ((View.readAt_full sc3.view _ _).trans hf3) (View.readAt_rep_full _ _ _))
        (lo_pos _ _ _ _ _ _ hc4 (View.readAt_rep_unit _ _ _ rfl _) ((View.readAt_full sc2.view _ _).trans hf2) (View.readAt_rep_full _ _ _) ((View.readAt_full sc3.view _ _).trans hf3) (View.readAt_rep_full _ _ _))
    isplitl [HS2]
    · iexists _; isplitr; swap
      · iexact HS2
      ipureintro
      exact hf2
    isplitl [HS3]
    · iexists _; isplitr; swap
      · iexact HS3
      ipureintro
      exact hf3
    iexists _; iexact HW
  · sl_exec! (disch := first | (guard_target = ¬ k0_cond1 _ = _; exact hc1) | (guard_target = ¬ k0_cond2 _ = _; exact hc2) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_neg _ _ _ _ _ _ hc6)
        (lo_pos _ _ _ _ _ _ hc4 (View.readAt_rep_unit _ _ _ rfl _) ((View.readAt_full sc2.view _ _).trans hf2) (View.readAt_rep_full _ _ _) ((View.readAt_full sc3.view _ _).trans hf3) (View.readAt_rep_full _ _ _))
    isplitl [HS2]
    · iexists _; isplitr; swap
      · iexact HS2
      ipureintro
      exact hf2
    isplitl [HS3]
    · iexists _; isplitr; swap
      · iexact HS3
      ipureintro
      exact hf3
    iexists _; iexact HW
  · sl_exec! (disch := first | (guard_target = ¬ k0_cond1 _ = _; exact hc1) | (guard_target = ¬ k0_cond2 _ = _; exact hc2) | (guard_target = k0_cond4 _ = _; exact hc4) | (guard_target = ¬ k0_cond4 _ = _; exact hc4) | (guard_target = k0_cond5 _ = _; exact hc5) | (guard_target = ¬ k0_cond5 _ = _; exact hc5) | (guard_target = k0_cond6 _ = _; exact hc6) | (guard_target = ¬ k0_cond6 _ = _; exact hc6) | (guard_target = k0_cond7 _ = _; exact hc7) | (guard_target = ¬ k0_cond7 _ = _; exact hc7))
    sl_step
    iapply Hk
    isplitl [H5 H7 H9 HT0 HT1 HT2 HT3]
    · isplitl [H5]; · iexact H5
      isplitl [H7]; · iexact H7
      isplitl [H9]; · iexact H9
      isplitl [HT0]; · iexact HT0
      isplitl [HT1]; · iexact HT1
      isplitl [HT2]; · iexact HT2
      iexact HT3
    isplitl [H10]
    · iexists _; isplitr; swap
      · iexact H10
      ipureintro
      exact blk_of _ _ _ _ _ _
        (hi_neg _ _ _ _ _ _ hc6)
        (lo_neg _ _ _ _ _ _ hc4)
    isplitl [HS2]
    · iexists _; isplitr; swap
      · iexact HS2
      ipureintro
      exact hf2
    isplitl [HS3]
    · iexists _; isplitr; swap
      · iexact HS3
      ipureintro
      exact hf3
    iexists _; iexact HW

end Cert.KernelIdeal.Hand
-- ==== Proof.MoePlan.lean ====
/-
  The dispatch tables as a plan: which words they hold, and what follows of the expert prefetched at each point. Then one
  point of the kernel from the invariant before it to the invariant after it, on every control path (`step`).
-/
module

public import proofs.«01_k».proof.Proof.RunA
public import proofs.«01_k».proof.Proof.RunB
public import proofs.«01_k».proof.Proof.RunC
public import proofs.«01_k».proof.Proof.RunD
public import proofs.«01_k».proof.Proof.RunE

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.WordCmp
open Idealize.ShloMosaic.Pipeline (Dat Cfg Window BodyObligation BodyObligationLoose cellOf)

variable {F : FTy → Type} [FloatOps F]

/-- The proof's user algebra: the pipeline library's beside the transfers' counters. -/
local notation "𝕄" => MT nD τ sig Unit (Elt F) ℕ (Pipeline.UD sig nD τ) ℕ

/-! ## The tables' words -/

/-- The place of word `n` of a table (places taken modulo the table's length). -/
def ix1 (n : ℕ) : S160.Idx := fun a => ⟨n % 160, by obtain rfl : a = 0 := Subsingleton.elim _ _; exact Nat.mod_lt _ (by decide)⟩
/-- Word `n` of a table. -/
def wd (T : S160.Idx → BitVec 32) (n : ℕ) : BitVec 32 := T (ix1 n)

theorem coords0 : ∀ t : Fin grid0.N, (grid0.coords t 0).val = t.val := by decide +kernel
theorem cond1_iff : ∀ t : Fin grid0.N, k0_cond1 (grid0.coords t) = 1#1 ↔ t.val = 0 := by decide +kernel
theorem cond2_iff (v : BitVec 32) : k0_cond2 v = 1#1 ↔ v = 1#32 := by
  unfold k0_cond2
  simp only [scalar_cmpi_eq, cmpi_eq_eq, scalar_extui_ofBool, decide_eq_true_eq, cmpi_ne_ite_one_zero, ofBool_decide_eq_one_iff]
theorem cond3_iff (v : BitVec 32) : k0_cond3 v = 1#1 ↔ v.toNat < 2 ^ 31 := by
  unfold k0_cond3
  simp only [scalar_cmpi_eq, cmpi_sge_zero, scalar_extui_ofBool, decide_eq_true_eq, cmpi_ne_ite_one_zero, ofBool_decide_eq_one_iff]
theorem cond4_iff (v : BitVec 32) : k0_cond4 v = 1#1 ↔ 0 < v.toInt := by
  unfold k0_cond4
  simp only [scalar_cmpi_eq, cmpi_sgt_eq, scalar_extui_ofBool, decide_eq_true_eq, cmpi_ne_ite_one_zero, ofBool_decide_eq_one_iff]; rfl
theorem cond5_iff (v : BitVec 32) : k0_cond5 v = 1#1 ↔ v.toInt ≤ 0 := by
  unfold k0_cond5
  simp only [scalar_cmpi_eq, cmpi_sle_eq, scalar_extui_ofBool, decide_eq_true_eq, cmpi_ne_ite_one_zero, ofBool_decide_eq_one_iff]; rfl
theorem cond6_iff (v : BitVec 32) : k0_cond6 v = 1#1 ↔ 256 < v.toInt := by
  unfold k0_cond6
  simp only [scalar_cmpi_eq, cmpi_sgt_eq, scalar_extui_ofBool, decide_eq_true_eq, cmpi_ne_ite_one_zero, ofBool_decide_eq_one_iff]; rfl
theorem cond7_iff (v : BitVec 32) : k0_cond7 v = 1#1 ↔ v.toInt ≤ 256 := by
  unfold k0_cond7
  simp only [scalar_cmpi_eq, cmpi_sle_eq, scalar_extui_ofBool, decide_eq_true_eq, cmpi_ne_ite_one_zero, ofBool_decide_eq_one_iff]; rfl

/-- Every count of rows is in one of the three classes. -/
theorem rowClass (r : BitVec 32) : RowClass r := by
  unfold RowClass
  simp only [cond4_iff, cond5_iff, cond6_iff, cond7_iff]
  omega

/-- A word below the number of experts names one. -/
theorem okW_of {w : BitVec 32} (h : w.toNat < 32) : OkW w := by
  constructor <;> intro a <;> fin_cases a <;> simp [k0_off9, k0_off10, S1x1024x2048, S32x1024x2048, S1x1024x1024, S32x1024x1024] <;> omega

theorem ix1_eq (n : ℕ) (hn : n < 160) (x : S160.Idx) (h : (x 0).val = n) : x = ix1 n := by
  funext a; obtain rfl : a = 0 := Subsingleton.elim _ _
  exact Fin.ext (h.trans (Nat.mod_eq_of_lt hn).symm)

section
variable (T : S160.Idx → BitVec 32) (n : ℕ) (hn : n < 160) {off : Fin 1 → ℕ} (e : off = ![n]) (h : ∀ a, off a + S1.size a ≤ S160.size a)
include hn e
theorem tw_0 : tw (F := F) tb0 T off h = wd T n := by subst e; exact congrArg T (ix1_eq n hn _ rfl)
theorem tw_1 : tw (F := F) tb1 T off h = wd T n := by subst e; exact congrArg T (ix1_eq n hn _ rfl)
theorem tw_2 : tw (F := F) tb2 T off h = wd T n := by subst e; exact congrArg T (ix1_eq n hn _ rfl)
theorem tw_3 : tw (F := F) tb3 T off h = wd T n := by subst e; exact congrArg T (ix1_eq n hn _ rfl)
end

/-! ## The plan -/

/-- What the tables of experts, first-block flags and next experts satisfy: every expert is one; a block is flagged where it is
    the first of its expert's run; the next expert of a block is that of the first flagged block after it, −1 where none is. -/
structure Plan (T0 T1 T3 : S160.Idx → BitVec 32) : Prop where
  expert : ∀ n, (wd T0 n).toNat < 32
  first0 : wd T1 0 = 1#32
  firstS : ∀ n, n + 1 < 160 → (wd T1 (n + 1) = 1#32 ↔ wd T0 (n + 1) ≠ wd T0 n)
  nextS : ∀ n, n + 1 < 160 → wd T3 n = if wd T1 (n + 1) = 1#32 then wd T0 (n + 1) else wd T3 (n + 1)
  nextL : wd T3 159 = 4294967295#32

/-- A next expert is −1 or an expert. -/
theorem Plan.next_cases {T0 T1 T3 : S160.Idx → BitVec 32} (P : Plan T0 T1 T3) (n : ℕ) (hn : n < 160) :
    wd T3 n = 4294967295#32 ∨ (wd T3 n).toNat < 32 := by
  obtain ⟨k, rfl⟩ : ∃ k, n = 159 - k := ⟨159 - n, by omega⟩
  clear hn
  induction k with
  | zero => exact Or.inl P.nextL
  | succ k ih =>
    by_cases hk : k < 159
    · have e := P.nextS (159 - (k + 1)) (by omega)
      rw [show 159 - (k + 1) + 1 = 159 - k by omega] at e
      rw [e]; split
      · exact Or.inr (P.expert _)
      · exact ih
    · rw [show 159 - (k + 1) = 159 - k by omega]; exact ih

theorem Plan.next_ok {T0 T1 T3 : S160.Idx → BitVec 32} (P : Plan T0 T1 T3) (n : ℕ) (hn : n < 160) (h : k0_cond3 (wd T3 n) = 1#1) :
    (wd T3 n).toNat < 32 := by
  rcases P.next_cases n hn with e | h'
  · rw [e] at h; exact absurd h (by decide)
  · exact h'

/-! ## The invariant between points -/

open Classical in
/-- Expert `w`'s slab of the first stack (zeros where `w` is no expert). -/
def xU (w : BitVec 32) (V5 : S32x1024x2048.Idx → Elt F .f32) : S1024x2048.Idx → Elt F .f32 :=
  if h : OkW w then gU w h V5 else fun _ => Scalar.ofBits .f32 0#32
open Classical in
/-- Likewise of the second. -/
def xD (w : BitVec 32) (V7 : S32x1024x1024.Idx → Elt F .f32) : S1024x1024.Idx → Elt F .f32 :=
  if h : OkW w then gD w h V7 else fun _ => Scalar.ofBits .f32 0#32
theorem gU_eq (w : BitVec 32) (h : OkW w) (V5 : S32x1024x2048.Idx → Elt F .f32) : gU w h V5 = xU w V5 := by unfold xU; rw [dif_pos h]
theorem gD_eq (w : BitVec 32) (h : OkW w) (V7 : S32x1024x1024.Idx → Elt F .f32) : gD w h V7 = xD w V7 := by unfold xD; rw [dif_pos h]

open Classical in
/-- The transfers' state where `w` is the next expert: its slabs in flight, or nothing where there is none. -/
def St (c : Dev nD) (V5 : S32x1024x2048.Idx → Elt F .f32) (V7 : S32x1024x1024.Idx → Elt F .f32) (w : BitVec 32) : sProp 𝕄 :=
  if h : OkW w ∧ k0_cond3 w = 1#1 then InFlight c V5 V7 w h.1 else Idle c V5 V7
theorem St_pos (c : Dev nD) (V5 : S32x1024x2048.Idx → Elt F .f32) (V7 : S32x1024x1024.Idx → Elt F .f32) (w : BitVec 32) (h : OkW w)
    (h3 : k0_cond3 w = 1#1) : (InFlight c V5 V7 w h : sProp 𝕄) = St c V5 V7 w := by unfold St; rw [dif_pos ⟨h, h3⟩]
theorem St_neg (c : Dev nD) (V5 : S32x1024x2048.Idx → Elt F .f32) (V7 : S32x1024x1024.Idx → Elt F .f32) (w : BitVec 32)
    (h3 : ¬ k0_cond3 w = 1#1) : (Idle c V5 V7 : sProp 𝕄) = St c V5 V7 w := by unfold St; rw [dif_neg fun h => h3 h.2]

/-- Before point `n`: the cast weights of the expert of the point before, the next expert's slabs on their way. -/
def PhiS (c : Dev nD) (V5 : S32x1024x2048.Idx → Elt F .f32) (V7 : S32x1024x1024.Idx → Elt F .f32) (T0 T3 : S160.Idx → BitVec 32) : ℕ → sProp 𝕄
  | 0 => iprop((∃ d, owns (c : Thread nD τ) sc2 fullShare d) ∗ (∃ d, owns (c : Thread nD τ) sc3 fullShare d) ∗ Idle c V5 V7)
  | n + 1 => iprop(owns (c : Thread nD τ) sc2 fullShare (k0_pay1 (xU (wd T0 n) V5)) ∗ owns (c : Thread nD τ) sc3 fullShare (k0_pay2 (xD (wd T0 n) V7))
      ∗ St c V5 V7 (wd T3 n))

theorem ex_owns {sp : Space} {s : Shape} {e : EltTy} (c : Dev nD) (M : Memref sig .tc sp s e) (x : s.Idx → Elt F e) :
    (owns (c : Thread nD τ) M fullShare x : sProp 𝕄) ⊢ iprop(∃ d, owns (c : Thread nD τ) M fullShare d) := by
  iintro H; iexists _; iexact H

/-- One point of the kernel. -/
theorem step (c : Dev nD) (t : Fin grid0.N)
    (arg5 : Memref sig .tc .vmem S512x1024 .bf16) (harg5 : arg5.IsWhole)
    (arg7 : Memref sig .tc .vmem S1x1x2048 .f32) (harg7 : arg7.IsWhole)
    (arg9 : Memref sig .tc .vmem S1x1x1024 .f32) (harg9 : arg9.IsWhole)
    (arg10 : Memref sig .tc .vmem S512x1024 .bf16) (harg10 : arg10.IsWhole)
    (T0 T1 T2 T3 : S160.Idx → BitVec 32) (P : Plan T0 T1 T3)
    (x5 : S512x1024.Idx → Elt F .bf16) (x7 : S1x1x2048.Idx → Elt F .f32) (x9 : S1x1x1024.Idx → Elt F .f32)
    (V5 : S32x1024x2048.Idx → Elt F .f32) (V7 : S32x1024x1024.Idx → Elt F .f32)
    (W : Waits sig Unit) (K : PUnit → sProp 𝕄) :
    iprop(Ins c arg5 arg7 arg9 x5 x7 x9 T0 T1 T2 T3
      ∗ (∃ d, owns (c : Thread nD τ) arg10 fullShare d)
      ∗ PhiS c V5 V7 T0 T3 t.val
      ∗ owes (c : Thread nD τ) 0 W
      ∗ (iprop(Ins c arg5 arg7 arg9 x5 x7 x9 T0 T1 T2 T3
          ∗ owns (c : Thread nD τ) arg10 fullShare (outBlk (wd T2 t.val) x5 x7 x9 (k0_pay1 (xU (wd T0 t.val) V5)) (k0_pay2 (xD (wd T0 t.val) V7)))
          ∗ PhiS c V5 V7 T0 T3 (t.val + 1)
          ∗ (∃ W', owes (c : Thread nD τ) 0 W')) -∗ K ⟨⟩))
    ⊢ wp frame (wpE (defs₀ (F := F)) Variants.none c none) Set.univ
        (bodyOn (grid0.coords t) arg5 harg5 arg7 harg7 arg9 harg9 arg10 harg10) K := by
  obtain ⟨n, hn⟩ := t
  have hN : n < 160 := hn
  have hc := coords0 ⟨n, hn⟩
  have e1 : k0_off1 (grid0.coords ⟨n, hn⟩) = ![n] := by rw [k0_off1_eq, hc]
  have e4 : k0_off4 (grid0.coords ⟨n, hn⟩) = ![n] := by rw [k0_off4_eq, hc]
  have e7 : k0_off7 (grid0.coords ⟨n, hn⟩) = ![n] := by rw [k0_off7_eq, hc]
  have e8 : k0_off8 (grid0.coords ⟨n, hn⟩) = ![n] := by rw [k0_off8_eq, hc]
  have h1 := cond1_iff ⟨n, hn⟩
  have w0 : tw (F := F) tb0 T0 ![0] inb_S160_S1_0 = wd T0 0 := tw_0 T0 0 (by decide) rfl _
  have w4 : tw (F := F) tb0 T0 (k0_off4 (grid0.coords ⟨n, hn⟩)) (k0_off4_inb _) = wd T0 n := tw_0 T0 n hN e4 _
  have w1 : tw (F := F) tb1 T1 (k0_off1 (grid0.coords ⟨n, hn⟩)) (k0_off1_inb _) = wd T1 n := tw_1 T1 n hN e1 _
  have w2 : tw (F := F) tb2 T2 (k0_off1 (grid0.coords ⟨n, hn⟩)) (k0_off1_inb _) = wd T2 n := tw_2 T2 n hN e1 _
  have w7 : tw (F := F) tb3 T3 (k0_off7 (grid0.coords ⟨n, hn⟩)) (k0_off7_inb _) = wd T3 n := tw_3 T3 n hN e7 _
  have w8 : tw (F := F) tb3 T3 (k0_off8 (grid0.coords ⟨n, hn⟩)) (k0_off8_inb _) = wd T3 n := tw_3 T3 n hN e8 _
  have o4 : OkW (tw (F := F) tb0 T0 (k0_off4 (grid0.coords ⟨n, hn⟩)) (k0_off4_inb _)) := w4 ▸ okW_of (P.expert n)
  have o0 : OkW (tw (F := F) tb0 T0 ![0] inb_S160_S1_0) := w0 ▸ okW_of (P.expert 0)
  have hr := rowClass (tw (F := F) tb2 T2 (k0_off1 (grid0.coords ⟨n, hn⟩)) (k0_off1_inb _))
  have o8 : k0_cond3 (wd T3 n) = 1#1 → OkW (tw (F := F) tb3 T3 (k0_off8 (grid0.coords ⟨n, hn⟩)) (k0_off8_inb _)) :=
    fun h => w8 ▸ okW_of (P.next_ok n hN h)
  cases n with
  | zero =>
    have hf : k0_cond2 (tw (F := F) tb1 T1 (k0_off1 (grid0.coords ⟨0, hn⟩)) (k0_off1_inb _)) = 1#1 := by rw [w1, cond2_iff]; exact P.first0
    by_cases h3 : k0_cond3 (wd T3 0) = 1#1
    · have R := runA c (grid0.coords ⟨0, hn⟩) arg5 harg5 arg7 harg7 arg9 harg9 arg10 harg10 T0 T1 T2 T3 x5 x7 x9 V5 V7 (h1.2 rfl) o0 hf o4 (w7 ▸ h3) (o8 h3) hr W K
      simp only [w0, w2, w8, gU_eq, gD_eq, St_pos _ _ _ _ _ h3] at R
      unfold PhiS
      iintro ⟨HI, Ho, ⟨H2, H3, HS⟩, HW, Hk⟩
      iapply R
      isplitl [HI]; · iexact HI
      isplitl [Ho]; · iexact Ho
      isplitl [H2]; · iexact H2
      isplitl [H3]; · iexact H3
      isplitl [HS]; · iexact HS
      isplitl [HW]; · iexact HW
      iintro ⟨HI, Ho, H2, H3, HS, HW⟩
      iapply Hk
      isplitl [HI]; · iexact HI
      isplitl [Ho]; · iexact Ho
      isplitl [H2 H3 HS]
      · isplitl [H2]; · iexact H2
        isplitl [H3]; · iexact H3
        iexact HS
      iexact HW
    · have R := runB c (grid0.coords ⟨0, hn⟩) arg5 harg5 arg7 harg7 arg9 harg9 arg10 harg10 T0 T1 T2 T3 x5 x7 x9 V5 V7 (h1.2 rfl) o0 hf o4 (w7 ▸ h3) hr W K
      simp only [w0, w2, gU_eq, gD_eq] at R
      unfold PhiS
      dsimp only
      rw [← St_neg c V5 V7 _ h3]
      iintro ⟨HI, Ho, ⟨H2, H3, HS⟩, HW, Hk⟩
      iapply R
      isplitl [HI]; · iexact HI
      isplitl [Ho]; · iexact Ho
      isplitl [H2]; · iexact H2
      isplitl [H3]; · iexact H3
      isplitl [HS]; · iexact HS
      isplitl [HW]; · iexact HW
      iintro ⟨HI, Ho, H2, H3, HS, HW⟩
      iapply Hk
      isplitl [HI]; · iexact HI
      isplitl [Ho]; · iexact Ho
      isplitl [H2 H3 HS]
      · isplitl [H2]; · iexact H2
        isplitl [H3]; · iexact H3
        iexact HS
      iexact HW
  | succ n =>
    have hz : ¬ k0_cond1 (grid0.coords ⟨n + 1, hn⟩) = 1#1 := fun h => absurd (h1.1 h) (Nat.succ_ne_zero n)
    have hx := P.nextS n hN
    have hy := P.firstS n hN
    by_cases hw : wd T1 (n + 1) = 1#32
    · have hf : k0_cond2 (tw (F := F) tb1 T1 (k0_off1 (grid0.coords ⟨n + 1, hn⟩)) (k0_off1_inb _)) = 1#1 := by rw [w1, cond2_iff]; exact hw
      rw [if_pos hw] at hx
      have hk := P.expert (n + 1)
      have hp : k0_cond3 (wd T0 (n + 1)) = 1#1 := (cond3_iff _).2 (by omega)
      have ow := okW_of hk
      by_cases h3 : k0_cond3 (wd T3 (n + 1)) = 1#1
      · have R := runC c (grid0.coords ⟨n + 1, hn⟩) arg5 harg5 arg7 harg7 arg9 harg9 arg10 harg10 T0 T1 T2 T3 x5 x7 x9 V5 V7 (wd T0 (n + 1)) ow hz hf o4 (w7 ▸ h3) (o8 h3) hr W K
        simp only [w2, w8, gU_eq, gD_eq, St_pos _ _ _ _ _ h3, St_pos _ _ _ _ _ hp] at R
        unfold PhiS
        simp only [hx]
        iintro ⟨HI, Ho, ⟨H2, H3, HS⟩, HW, Hk⟩
        ihave H2 := (ex_owns c sc2 _) $$ H2
        ihave H3 := (ex_owns c sc3 _) $$ H3
        iapply R
        isplitl [HI]; · iexact HI
        isplitl [Ho]; · iexact Ho
        isplitl [H2]; · iexact H2
        isplitl [H3]; · iexact H3
        isplitl [HS]; · iexact HS
        isplitl [HW]; · iexact HW
        iintro ⟨HI, Ho, H2, H3, HS, HW⟩
        iapply Hk
        isplitl [HI]; · iexact HI
        isplitl [Ho]; · iexact Ho
        isplitl [H2 H3 HS]
        · isplitl [H2]; · iexact H2
          isplitl [H3]; · iexact H3
          iexact HS
        iexact HW
      · have R := runD c (grid0.coords ⟨n + 1, hn⟩) arg5 harg5 arg7 harg7 arg9 harg9 arg10 harg10 T0 T1 T2 T3 x5 x7 x9 V5 V7 (wd T0 (n + 1)) ow hz hf o4 (w7 ▸ h3) hr W K
        simp only [w2, gU_eq, gD_eq, St_pos _ _ _ _ _ hp] at R
        unfold PhiS
        simp only [hx]
        rw [← St_neg c V5 V7 _ h3]
        iintro ⟨HI, Ho, ⟨H2, H3, HS⟩, HW, Hk⟩
        ihave H2 := (ex_owns c sc2 _) $$ H2
        ihave H3 := (ex_owns c sc3 _) $$ H3
        iapply R
        isplitl [HI]; · iexact HI
        isplitl [Ho]; · iexact Ho
        isplitl [H2]; · iexact H2
        isplitl [H3]; · iexact H3
        isplitl [HS]; · iexact HS
        isplitl [HW]; · iexact HW
        iintro ⟨HI, Ho, H2, H3, HS, HW⟩
        iapply Hk
        isplitl [HI]; · iexact HI
        isplitl [Ho]; · iexact Ho
        isplitl [H2 H3 HS]
        · isplitl [H2]; · iexact H2
          isplitl [H3]; · iexact H3
          iexact HS
        iexact HW
    · have hf : ¬ k0_cond2 (tw (F := F) tb1 T1 (k0_off1 (grid0.coords ⟨n + 1, hn⟩)) (k0_off1_inb _)) = 1#1 := by rw [w1, cond2_iff]; exact hw
      rw [if_neg hw] at hx
      have he : wd T0 (n + 1) = wd T0 n := Classical.not_not.1 fun h => hw (hy.2 h)
      have R := runE c (grid0.coords ⟨n + 1, hn⟩) arg5 harg5 arg7 harg7 arg9 harg9 arg10 harg10 T0 T1 T2 T3 x5 x7 x9 V5 V7 (k0_pay1 (xU (wd T0 n) V5)) (k0_pay2 (xD (wd T0 n) V7)) hz hf hr W K
      simp only [w2] at R
      unfold PhiS
      simp only [hx, he]
      iintro ⟨HI, Ho, ⟨H2, H3, HS⟩, HW, Hk⟩
      iapply R
      isplitl [HI]; · iexact HI
      isplitl [Ho]; · iexact Ho
      isplitl [H2]; · iexact H2
      isplitl [H3]; · iexact H3
      isplitl [HW]; · iexact HW
      iintro ⟨HI, Ho, H2, H3, HW⟩
      iapply Hk
      isplitl [HI]; · iexact HI
      isplitl [Ho]; · iexact Ho
      isplitl [H2 H3 HS]
      · isplitl [H2]; · iexact H2
        isplitl [H3]; · iexact H3
        iexact HS
      iexact HW

end Cert.KernelIdeal.Hand
-- ==== Proof.MoePre.lean ====
/- The dispatch plan read off its predicate: a block's expert is one of the 32, a block is flagged first exactly where its expert
   differs from the block before, and the next expert is read from the following block. -/
module

public import proofs.«01_k».proof.Defs
public import proofs.«01_k».proof.Proof.MoePlan
public import proofs.«01_k».proof.Proof.KMoePlan
public import proofs.«01_k».proof.Proof.Gen.Pre_dispatch_plan
public import Idealize.ShloMosaic.Lib.StableHlo.Predicate
public import Idealize.ShloMosaic.Lib.Pipeline.Value
public import Idealize.ShloMosaic.Lib.WordCmp
public import Idealize.ShloMosaic.Lib.Pointwise

@[expose] public section

noncomputable section

namespace Cert.Proof

open Idealize.ShloMosaic Idealize.SL.Sem Cert.KernelIdeal.Hand

/-- The position of block `n + 1` among the last 159. -/
def ix159 (n : ℕ) (hn : n + 1 < 160) : Cert.Pre_dispatch_plan.S159.Idx :=
  fun a => ⟨n, by obtain rfl : a = 0 := Subsingleton.elim _ _; show n < 159; omega⟩

/-- The one position of a single word. -/
def ix00 : Cert.Pre_dispatch_plan.S1.Idx :=
  fun a => ⟨0, by obtain rfl : a = 0 := Subsingleton.elim _ _; decide⟩

theorem up_eq (n : ℕ) (hn : n + 1 < 160) (h : Cert.Pre_dispatch_plan.S160.Slices ![1] Cert.Pre_dispatch_plan.S159) {α : Type} (T : Cert.Pre_dispatch_plan.S160.Idx → α) :
    extractStridedSlice Cert.Pre_dispatch_plan.S159 ![1] T h (ix159 n hn) = T (Cert.KernelIdeal.Hand.ix1 (n + 1)) :=
  congrArg T (ix1_eq (n + 1) hn _ (Nat.add_comm 1 n))

theorem at_eq (n : ℕ) (hn : n + 1 < 160) (h : Cert.Pre_dispatch_plan.S160.Slices ![0] Cert.Pre_dispatch_plan.S159) {α : Type} (T : Cert.Pre_dispatch_plan.S160.Idx → α) :
    extractStridedSlice Cert.Pre_dispatch_plan.S159 ![0] T h (ix159 n hn) = T (Cert.KernelIdeal.Hand.ix1 n) :=
  congrArg T (ix1_eq n (by omega) _ (Nat.zero_add n))

theorem ix1_val (n : ℕ) (hn : n < 160) (b : Fin Cert.KernelIdeal.S160.rank) : (Cert.KernelIdeal.Hand.ix1 n b).val = n := Nat.mod_eq_of_lt hn

set_option backward.proofsInPublic true in
/-- The predicate all ones, word by word: the plan of the tables. -/
theorem plan_of_pre {F : FTy → Type} [FloatOps F] [Cert.Pre_dispatch_plan.Facts]
    (T0 T1 T2 T3 : IVec Cert.Pre_dispatch_plan.S160 32) (a4 a5 a6 a7 a8)
    (h1 : (Cert.Pre_dispatch_plan.fn (F := F) T0 T1 T2 T3 a4 a5 a6 a7 a8).1 = fun _ => 1#1)
    (h2 : (Cert.Pre_dispatch_plan.fn (F := F) T0 T1 T2 T3 a4 a5 a6 a7 a8).2.1 = fun _ => 1#1)
    (h3 : (Cert.Pre_dispatch_plan.fn (F := F) T0 T1 T2 T3 a4 a5 a6 a7 a8).2.2 = fun _ => 1#1) :
    Cert.KernelIdeal.Hand.Plan T0 T1 T3 := by
  have one (x : Cert.Pre_dispatch_plan.S160.Idx) : (cmpi .eq T1 (broadcastInDim Cert.Pre_dispatch_plan.S160 ![] Cert.Pre_dispatch_plan.Facts.bcast_S_S160 (constantI Cert.Pre_dispatch_plan.S_ 32 1#32))) x = 1#1 ↔ T1 x = 1#32 := by
    show IntOp.cmpi .eq (T1 x) 1#32 = 1#1 ↔ _
    exact StableHlo.Predicate.cmpi_eq_iff
  have ne1 (a b : BitVec 32) : IntOp.cmpi .ne a b = 1#1 ↔ a ≠ b := by
    simp only [IntOp.cmpi, StableHlo.Predicate.ofBool_eq_one_iff, bne_iff_ne]
  refine ⟨fun n => ?_, ?_, fun n hn => ?_, fun n hn => ?_, ?_⟩
  · have e := congrFun h1 (Cert.KernelIdeal.Hand.ix1 n)
    simp only [Cert.Pre_dispatch_plan.fn, Cert.Pre_dispatch_plan.fn_part1] at e
    have e' : IntOp.andi (IntOp.cmpi .sge (T0 (Cert.KernelIdeal.Hand.ix1 n)) 0#32) (IntOp.cmpi .slt (T0 (Cert.KernelIdeal.Hand.ix1 n)) (BitVec.ofNat 32 32)) = 1#1 := e
    rw [WordCmp.andi_sge_zero_slt_ofNat (by decide), StableHlo.Predicate.ofBool_eq_one_iff, decide_eq_true_eq] at e'
    exact e'
  · have e := congrFun h2 (Cert.KernelIdeal.Hand.ix1 0)
    simp only [Cert.Pre_dispatch_plan.fn, Cert.Pre_dispatch_plan.fn_part1] at e
    have e := StableHlo.Predicate.cmpi_eq_iff.1 e
    rw [concatenate_pair_apply_left (t := Cert.Pre_dispatch_plan.S160) (s₁ := Cert.Pre_dispatch_plan.S1) (s₂ := Cert.Pre_dispatch_plan.S159) (hr := rfl) (i := ix00) (hi := fun _ => rfl)] at e
    exact (one _).1 e
  · have e := congrFun h2 (Cert.KernelIdeal.Hand.ix1 (n+1))
    simp only [Cert.Pre_dispatch_plan.fn, Cert.Pre_dispatch_plan.fn_part1] at e
    have e := StableHlo.Predicate.cmpi_eq_iff.1 e
    rw [concatenate_pair_apply_right (t := Cert.Pre_dispatch_plan.S160) (s₁ := Cert.Pre_dispatch_plan.S1) (s₂ := Cert.Pre_dispatch_plan.S159) (hr := rfl) (hr₂ := rfl) (a := 0) (j := Cert.KernelIdeal.Hand.ix1 (n + 1)) (i := ix159 n hn) (hi := fun b hb => absurd (Subsingleton.elim _ _) hb)
      (ha := (ix1_val (n + 1) hn _).symm)] at e
    rw [show ∀ (a b : IVec Cert.Pre_dispatch_plan.S159 32) i, cmpi .ne a b i = IntOp.cmpi .ne (a i) (b i) from fun _ _ _ => rfl, up_eq n hn, at_eq n hn] at e
    refine (one _).symm.trans ((iff_of_eq (congrArg (· = 1#1) e)).trans (ne1 _ _))
  · have e := congrFun h3 (Cert.KernelIdeal.Hand.ix1 n)
    simp only [Cert.Pre_dispatch_plan.fn, Cert.Pre_dispatch_plan.fn_part1, Cert.Pre_dispatch_plan.fn_where] at e
    have e := StableHlo.Predicate.cmpi_eq_iff.1 e
    rw [concatenate_pair_apply_left (t := Cert.Pre_dispatch_plan.S160) (s₁ := Cert.Pre_dispatch_plan.S159) (s₂ := Cert.Pre_dispatch_plan.S1) (hr := rfl) (i := ix159 n hn) (hi := fun b => (ix1_val n (by omega) _).symm)] at e
    rw [show ∀ (c : IVec Cert.Pre_dispatch_plan.S159 1) (a b : IVec Cert.Pre_dispatch_plan.S159 32) i, select c a b i = Scalar.select (c i) (a i) (b i) from fun _ _ _ _ => rfl, up_eq n hn, up_eq n hn, up_eq n hn] at e
    refine e.trans ?_
    unfold Scalar.select
    exact if_congr (one _) rfl rfl
  · have e := congrFun h3 (Cert.KernelIdeal.Hand.ix1 159)
    simp only [Cert.Pre_dispatch_plan.fn, Cert.Pre_dispatch_plan.fn_part1] at e
    have e := StableHlo.Predicate.cmpi_eq_iff.1 e
    rw [concatenate_pair_apply_right (t := Cert.Pre_dispatch_plan.S160) (s₁ := Cert.Pre_dispatch_plan.S159) (s₂ := Cert.Pre_dispatch_plan.S1) (hr := rfl) (hr₂ := rfl) (i := ix00) (hi := fun b hb => absurd (Subsingleton.elim _ _) hb)
      (ha := rfl)] at e
    exact e

/-- The same plan, in the words of the kernel as printed. -/
theorem Kplan {T0 T1 T3 : Cert.KernelIdeal.S160.Idx → BitVec 32} (h : Cert.KernelIdeal.Hand.Plan T0 T1 T3) :
    Cert.Kernel.Hand.Plan T0 T1 T3 := ⟨h.expert, h.first0, h.firstS, h.nextS, h.nextL⟩

end Cert.Proof

end
-- ==== Proof.MoeFrame.lean ====
/-
  The feed-forward kernel's frame: from tables that are a plan it terminates, nothing faults, its arguments end unchanged and
  every semaphore counter ends at zero; the result's array ends at the blocks `outBlk` names, point by point.
-/
module

public import proofs.«01_k».proof.Proof.MoePlan
public import Idealize.ShloMosaic.Lib.Pipeline.Quiescent
public import Idealize.ShloMosaic.Lib.Claim
public import Idealize.ShloMosaic.Lib.Pipeline.Kit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The tables as the launch holds them -/

abbrev V (c : Dev nD) (b : Ref sig .tc) : Buf (Elt F) ((c : Thread nD τ).loc b) := m ((c : Thread nD τ).loc b)
/-- The one device. -/
abbrev d0 : Dev nD := 0
theorem dev_eq (c : Dev nD) : c = d0 := Subsingleton.elim _ _

abbrev T0 : S160.Idx → BitVec 32 := V m d0 main_arg0
abbrev T1 : S160.Idx → BitVec 32 := V m d0 main_arg1
abbrev T2 : S160.Idx → BitVec 32 := V m d0 main_arg2
abbrev T3 : S160.Idx → BitVec 32 := V m d0 main_arg3

/-- The launch memory's tables are a plan. -/
abbrev PlanM : Prop := Plan (T0 m) (T1 m) (T3 m)

/-- The contents of the prefetched tables. -/
def pfN : pre0.Contents (Elt F) := fun k => V m d0 (pre0.ref k)

theorem tf2_eq (i : grid0.Coords) : cc0_transform_2 k0_off1_inb numel1_S1 (pfN m) i = ![(wd (T0 m) (i 0).val).toNat, 0, 0] := by
  unfold cc0_transform_2
  have h : (BitVec.ofNat 32 (i 0).val).toNat = (i 0).val := congrFun (k0_off1_eq i) 0
  have e : (pfN m).at 0 (Rect.unit (s := S160) ![(Scalar.indexCast (BitVec.ofNat 32 (i 0).val)).toNat] S1.size (k0_off1_inb i)) numel1_S1
      = wd (T0 m) (i 0).val := congrArg (T0 m) (ix1_eq (i 0).val (i 0).isLt _ h)
  exact congrArg (fun v : BitVec 32 => ![v.toNat, 0, 0]) e
theorem tf4_eq (i : grid0.Coords) : cc0_transform_4 k0_off1_inb numel1_S1 (pfN m) i = ![(wd (T0 m) (i 0).val).toNat, 0, 0] := by
  unfold cc0_transform_4
  have h : (BitVec.ofNat 32 (i 0).val).toNat = (i 0).val := congrFun (k0_off1_eq i) 0
  have e : (pfN m).at 0 (Rect.unit (s := S160) ![(Scalar.indexCast (BitVec.ofNat 32 (i 0).val)).toNat] S1.size (k0_off1_inb i)) numel1_S1
      = wd (T0 m) (i 0).val := congrArg (T0 m) (ix1_eq (i 0).val (i 0).isLt _ h)
  exact congrArg (fun v : BitVec 32 => ![v.toNat, 0, 0]) e

variable {m}
/-- Every block of the biases lies inside its array. -/
theorem ok_pfN (P : PlanM m) : ok0 (pfN m) := by
  constructor <;> intro i
  · refine ⟨fun a => ?_, Or.inl rfl⟩
    rw [tf2_eq]; have := P.expert (i 0).val
    fin_cases a <;> simp [S1x1x2048, S32x1x2048]; omega
  · refine ⟨fun a => ?_, Or.inl rfl⟩
    rw [tf4_eq]; have := P.expert (i 0).val
    fin_cases a <;> simp [S1x1x1024, S32x1x1024]; omega

/-- The tables' admissible contents, the pipeline at them. -/
def adm (P : PlanM m) : (pcfg0 (F := F)).Adm := ⟨pfN m, ok_pfN P⟩
abbrev cfgA (P : PlanM m) : Pipeline.Cfg sig Λ₀ := cfg0 (F := F) (adm P)
abbrev pcs (P : PlanM m) : Fin 1 → Pipeline.Cfg sig Λ₀ := Pipeline.pin (pcfgs (F := F)) fun _ => adm P

variable (P : PlanM m)

abbrev ms0_0 (t : Fin (cfgA P).N) : Memref sig .tc .vmem S512x1024 .bf16 := spec0_0.stage ((cfgA P).slots t (0 : Fin 4))
abbrev hs0_0 (t : Fin (cfgA P).N) : (ms0_0 P t).IsWhole := hstage0_0 (((cfgA P).slots t (0 : Fin 4)).cast nbuf0_0)
abbrev ms0_1 (t : Fin (cfgA P).N) : Memref sig .tc .vmem S1x1x2048 .f32 := spec0_1.stage ((cfgA P).slots t (1 : Fin 4))
abbrev hs0_1 (t : Fin (cfgA P).N) : (ms0_1 P t).IsWhole := hstage0_1 (((cfgA P).slots t (1 : Fin 4)).cast nbuf0_1)
abbrev ms0_2 (t : Fin (cfgA P).N) : Memref sig .tc .vmem S1x1x1024 .f32 := spec0_2.stage ((cfgA P).slots t (2 : Fin 4))
abbrev hs0_2 (t : Fin (cfgA P).N) : (ms0_2 P t).IsWhole := hstage0_2 (((cfgA P).slots t (2 : Fin 4)).cast nbuf0_2)
abbrev ms0_3 (t : Fin (cfgA P).N) : Memref sig .tc .vmem S512x1024 .bf16 := spec0_3.stage ((cfgA P).slots t (3 : Fin 4))
abbrev hs0_3 (t : Fin (cfgA P).N) : (ms0_3 P t).IsWhole := hstage0_3 (((cfgA P).slots t (3 : Fin 4)).cast nbuf0_3)

/-- Window `w`'s block at point `t`, read off its array at launch. -/
def iblk (c : Dev nD) (w : Fin (cfgA P).W) (t : Fin (cfgA P).N) : (((cfgA P).win w).xblock ((cfgA P).grid.coords t)).Idx → Elt F ((cfgA P).win w).elt :=
  (((cfgA P).win w).blk t).view.read (Elt F) (V m c (((cfgA P).win w).arr.view.ref))

/-- What the point leaves in the result's block. -/
def outAt (c : Dev nD) (t : Fin (cfgA P).N) : S512x1024.Idx → Elt F .bf16 :=
  outBlk (wd (T2 m) t.val) (iblk P c (0 : Fin 4) t) (iblk P c (1 : Fin 4) t) (iblk P c (2 : Fin 4) t)
    (k0_pay1 (xU (wd (T0 m) t.val) (V m c main_arg5))) (k0_pay2 (xD (wd (T0 m) t.val) (V m c main_arg7)))

/-- The tables' halves the body loads from. -/
def Tabs (c : Dev nD) : sProp 𝕄 :=
  iprop((tb0.view.loc (c : Thread nD τ) ↦{fullShare.right} T0 m)
      ∗ (tb1.view.loc (c : Thread nD τ) ↦{fullShare.right} T1 m)
      ∗ (tb2.view.loc (c : Thread nD τ) ↦{fullShare.right} T2 m)
      ∗ (tb3.view.loc (c : Thread nD τ) ↦{fullShare.right} T3 m))

/-- The invariant before point `n`. -/
def Phi (c : Dev nD) (n : ℕ) : sProp 𝕄 :=
  iprop(Tabs (m := m) c ∗ (∃ r, prngReg c r) ∗ PhiS c (V m c main_arg5) (V m c main_arg7) (T0 m) (T3 m) n)

/-- The proof data of the one pipeline on core `c`. -/
def dats (_ : Fin 1) (c : Dev nD) : Dat τ (Elt F) Unit ℕ (Pipeline.UD sig nD τ) ℕ (cfgA P) c where
  A w := V m c (((cfgA P).win w).arr.view.ref)
  after w t := match w with
    | ⟨0, _⟩ => iblk P c (0 : Fin 4) t
    | ⟨1, _⟩ => iblk P c (1 : Fin 4) t
    | ⟨2, _⟩ => iblk P c (2 : Fin 4) t
    | ⟨3, _⟩ => outAt P c t
  Φ t := Phi (m := m) c t.val
  q _ := fullShare
  owed _ := 0

theorem after0_0 (c : Dev nD) (t : Fin (cfgA P).N) : (dats P 0 c).after (0 : Fin 4) t = iblk P c (0 : Fin 4) t := rfl
theorem after0_1 (c : Dev nD) (t : Fin (cfgA P).N) : (dats P 0 c).after (1 : Fin 4) t = iblk P c (1 : Fin 4) t := rfl
theorem after0_2 (c : Dev nD) (t : Fin (cfgA P).N) : (dats P 0 c).after (2 : Fin 4) t = iblk P c (2 : Fin 4) t := rfl
theorem after0_3 (c : Dev nD) (t : Fin (cfgA P).N) : (dats P 0 c).after (3 : Fin 4) t = outAt P c t := by dsimp only [dats]

theorem before0_0 (c : Dev nD) (t : Fin (cfgA P).N) (d) : (dats P 0 c).before (0 : Fin 4) t d = iblk P c (0 : Fin 4) t :=
  ((dats P 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA P).N) (d) : (dats P 0 c).before (1 : Fin 4) t d = iblk P c (1 : Fin 4) t :=
  ((dats P 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA P).N) (d) : (dats P 0 c).before (2 : Fin 4) t d = iblk P c (2 : Fin 4) t :=
  ((dats P 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Every point stores into the result's block. -/
theorem idle3 (i : grid0.Coords) : (cfgA P).idle (3 : Fin 4) i = false := by
  have idle_of : ∀ v : BitVec 32, (!(k0_cond4 v == 1#1) && !(k0_cond5 v == 1#1) && !(k0_cond6 v == 1#1) && !(k0_cond7 v == 1#1)) = false := by
    intro v
    rcases rowClass v with ⟨h, -⟩ | ⟨h, -⟩ | ⟨-, h, -⟩ <;> simp [h]
  exact idle_of _

/-! ## The body obligation -/

abbrev bodyAt0 (t : Fin (cfgA P).N) : Prog (TpuEff nD τ sig (Elt F) Λ₀ .tc) PUnit :=
  bodyOn (grid0.coords t) (ms0_0 P t) (hs0_0 P t) (ms0_1 P t) (hs0_1 P t) (ms0_2 P t) (hs0_2 P t) (ms0_3 P t) (hs0_3 P t)

theorem sound_body (c : Dev nD) (t : Fin (cfgA P).N) :
    iprop((dats P 0 c).Φ t.castSucc ∗ (dats P 0 c).owesAt () t.castSucc
        ∗ (∃ d, owns (c : Thread nD τ) (ms0_0 P t) fullShare ((dats P 0 c).before (0 : Fin 4) t d))
        ∗ (∃ d, owns (c : Thread nD τ) (ms0_1 P t) fullShare ((dats P 0 c).before (1 : Fin 4) t d))
        ∗ (∃ d, owns (c : Thread nD τ) (ms0_2 P t) fullShare ((dats P 0 c).before (2 : Fin 4) t d))
        ∗ (∃ d, owns (c : Thread nD τ) (ms0_3 P t) fullShare ((dats P 0 c).before (3 : Fin 4) t d)))
      ⊢ wp frame (wpE (defs₀ (F := F)) Variants.none c none) Set.univ (bodyAt0 P t) fun _ =>
          iprop((dats P 0 c).Φ t.succ ∗ (dats P 0 c).owesAt () t.succ
            ∗ bigSep Finset.univ fun w : Fin (cfgA P).W =>
                match (cfgA P).idle w ((cfgA P).grid.coords t) with
                | true =>
                  match ((cfgA P).win w).flush t with
                  | false => iprop(∃ d, owns (c : Thread nD τ) (((cfgA P).win w).stage ((cfgA P).slots t w)) fullShare ((dats P 0 c).before w t d))
                  | true => owns (c : Thread nD τ) (((cfgA P).win w).stage ((cfgA P).slots t w)) fullShare ((dats P 0 c).after w t)
                | false => owns (c : Thread nD τ) (((cfgA P).win w).stage ((cfgA P).slots t w)) fullShare ((dats P 0 c).after w t)) := by
  rw [bigSep_W0]
  rewrite [idle3 P]
  simp only [before0_0, before0_1, before0_2, after0_0, after0_1, after0_2, after0_3]
  rewrite [show (dats P 0 c).Φ t.succ = Phi (m := m) c (t.val + 1) from rfl, show (dats P 0 c).Φ t.castSucc = Phi (m := m) c t.val from rfl]
  unfold Dat.owesAt Pipeline.owesWithin
  rw [show (dats P 0 c).owed t.castSucc = 0 from rfl, show (dats P 0 c).owed t.succ = 0 from rfl]
  unfold Phi Tabs
  iintro ⟨⟨⟨HT0, HT1, HT2, HT3⟩, Hg, HS⟩, ⟨%W, -, HW⟩, ⟨%e0, H0⟩, ⟨%e1, H1⟩, ⟨%e2, H2⟩, ⟨%e3, H3⟩⟩
  iapply (step c t (ms0_0 P t) (hs0_0 P t) (ms0_1 P t) (hs0_1 P t) (ms0_2 P t) (hs0_2 P t) (ms0_3 P t) (hs0_3 P t)
    (T0 m) (T1 m) (T2 m) (T3 m) P (iblk P c (0 : Fin 4) t) (iblk P c (1 : Fin 4) t) (iblk P c (2 : Fin 4) t) (V m c main_arg5) (V m c main_arg7) W _)
  unfold Ins
  isplitl [H0 H1 H2 HT0 HT1 HT2 HT3]
  · isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [HT2]; · iexact HT2
    iexact HT3
  isplitl [H3]; · iexists _; iexact H3
  isplitl [HS]; · iexact HS
  isplitl [HW]; · iexact HW
  iintro ⟨⟨H0, H1, H2, HT0, HT1, HT2, HT3⟩, H3, HS, ⟨%W', HW'⟩⟩
  isplitl [HT0 HT1 HT2 HT3 Hg HS]
  · isplitl [HT0 HT1 HT2 HT3]
    · isplitl [HT0]; · iexact HT0
      isplitl [HT1]; · iexact HT1
      isplitl [HT2]; · iexact HT2
      iexact HT3
    isplitl [Hg]; · iexact Hg
    iexact HS
  isplitl [HW']
  · iexists W'; isplitr; · ipureintro; exact fun _ _ => Or.inl trivial
    iexact HW'
  isplitl [H0]; · iapply owns_of_rep; iexact H0
  isplitl [H1]; · iapply owns_of_rep; iexact H1
  isplitl [H2]; · iapply owns_of_rep; iexact H2
  iexact H3

theorem body_obligation (c : Dev nD) : BodyObligation (dats P 0 c) (defs₀ (F := F)) Variants.none () Set.univ := fun t => by
  rw [bigSep_W0]
  exact sound_body P c t

/-! ## The launch -/

/-- The body's own cells. -/
abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
/-- The stacks of weights the body's transfers read. -/
def H0 : Finset (Ref sig .tc) := {main_arg5, main_arg7}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((hbU.view.loc (c : Thread nD τ) ↦{fullShare} V m c main_arg5) ∗ (hbD.view.loc (c : Thread nD τ) ↦{fullShare} V m c main_arg7)) := by
  rw [BI.bigSep_eq_bigSepL_of_eq [main_arg5, main_arg7] (by decide) (by decide)]; rfl

theorem prefHeld_eq (c : Dev nD) (q : Fin 4 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_arg0) ↦{q 0} v 0) ∗ (((c : Thread nD τ).loc main_arg1) ↦{q 1} v 1)
          ∗ (((c : Thread nD τ).loc main_arg2) ↦{q 2} v 2) ∗ (((c : Thread nD τ).loc main_arg3) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

theorem hin (c : Dev nD) : iprop(Pipeline.ΦD osem0 spec0 H0 (V m) c ∗ Pipeline.ΦT pre0 (adm P).1 c) ⊢ (dats P 0 c).Φ 0 := by
  rw [show (dats P 0 c).Φ 0 = Phi (m := m) c 0 from rfl, Pipeline.ΦD_eq, scopedRest0_eq, ownSems00_eq, hbmPts0_eq]
  unfold Pipeline.ΦT
  rw [prefHeld_eq]
  unfold Phi Tabs PhiS Idle
  simp only [owns_whole]
  iintro ⟨⟨⟨HS0, HS1, HS2, HS3⟩, Hg, ⟨Hq0, Hq1⟩, HU, HD⟩, HT0, HT1, HT2, HT3⟩
  isplitl [HT0 HT1 HT2 HT3]
  · isplitl [HT0]; · iexact HT0
    isplitl [HT1]; · iexact HT1
    isplitl [HT2]; · iexact HT2
    iexact HT3
  isplitl [Hg]; · iexact Hg
  isplitl [HS2]; · iexact HS2
  isplitl [HS3]; · iexact HS3
  isplitl [HS0]; · iexact HS0
  isplitl [HS1]; · iexact HS1
  isplitl [Hq0]; · iexact Hq0
  isplitl [Hq1]; · iexact Hq1
  isplitl [HU]; · iexact HU
  iexact HD

theorem hout (c : Dev nD) : (dats P 0 c).Φ (Fin.last (cfgA P).N) ⊢ Pipeline.ΦD osem0 spec0 H0 (V m) c := by
  rw [show (dats P 0 c).Φ (Fin.last (cfgA P).N) = Phi (m := m) c (159 + 1) from congrArg (Phi (m := m) c) N_0,
    Pipeline.ΦD_eq, scopedRest0_eq, ownSems00_eq, hbmPts0_eq]
  unfold Phi PhiS
  dsimp only
  rw [← St_neg c _ _ _ (by rw [P.nextL]; decide)]
  unfold Idle
  simp only [owns_whole]
  iintro ⟨-, Hg, HS2, HS3, HS0, HS1, Hq0, Hq1, HU, HD⟩
  isplitl [HS0 HS1 HS2 HS3]
  · isplitl [HS0]; · iexact HS0
    isplitl [HS1]; · iexact HS1
    isplitl [HS2]; · iexists _; iexact HS2
    iexists _; iexact HS3
  isplitl [Hg]; · iexact Hg
  isplitl [Hq0 Hq1]
  · isplitl [Hq0]; · iexact Hq0
    iexact Hq1
  isplitl [HU]; · iexact HU
  iexact HD

theorem hmain : Pipeline.HMainP (Ix := Unit) (Name := ℕ) (U := Pipeline.UD sig nD τ) (Lvl := ℕ) pcfgs 0 defs₀ Variants.none m (main (F := F)) (V m) :=
  Pipeline.hmainP_region pcfgs 0 defs₀ Variants.none m main fun c => (main_chain c).trans rfl

theorem V_pre (c : Dev nD) (k : Fin 4) : V m c (pre0.ref k) = (adm P).1 k := by rw [dev_eq c]; rfl

set_option backward.isDefEq.respectTransparency.types false in
theorem run_main : θ_run defs (onTc (τ := τ) (main (F := F))) (s₀ m ρ)
    (fun r => Pipeline.FramePost (pcs P) (dats P) 0 (V m) r ∧ r.2.sem = fun _ => 0) :=
  Pipeline.θ_run_frameP_dma (Q' := _) pcfgs (fun _ => adm P) (dats P) (0 : Fin 1) launch0 osem0 defs₀ Variants.none ownSemFacts0 H0 H0_sub m ρ main
    (hbody := fun c => (body_obligation P c).loose) (hshare := fun c => (dats P 0 c).share_full fun _ => rfl)
    (howed := fun _ _ => rfl) (V := V m) (hmain := hmain) (hA := fun _ _ => rfl) (hpf := V_pre P)
    (hin := hin P) (hout := hout P)

/-- The arguments' arrays at the end, and the result's. -/
theorem run_all : θ_run defs (onTc (τ := τ) (main (F := F))) ⟨m, fun _ => 0, ρ⟩ (fun r => (∀ c : Dev nD,
      r.2.mem ((c.tc : Thread nD τ).loc main_v0) = (dats P 0 c).arrAt (3 : Fin 4) (cfgA P).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(h.1 c).1 (3 : Fin 4),
      (h.1 c).2 main_arg0 (Pipeline.mem_restRefs_of (win := spec0) main_arg0 (by decide) (by decide)),
      (h.1 c).2 main_arg1 (Pipeline.mem_restRefs_of (win := spec0) main_arg1 (by decide) (by decide)),
      (h.1 c).2 main_arg2 (Pipeline.mem_restRefs_of (win := spec0) main_arg2 (by decide) (by decide)),
      (h.1 c).2 main_arg3 (Pipeline.mem_restRefs_of (win := spec0) main_arg3 (by decide) (by decide)),
      ((h.1 c).1 (0 : Fin 4)).trans ((dats P 0 c).arrAt_in (0 : Fin 4) rfl _),
      (h.1 c).2 main_arg5 (Pipeline.mem_restRefs_of (win := spec0) main_arg5 (by decide) (by decide)),
      ((h.1 c).1 (1 : Fin 4)).trans ((dats P 0 c).arrAt_in (1 : Fin 4) rfl _),
      (h.1 c).2 main_arg7 (Pipeline.mem_restRefs_of (win := spec0) main_arg7 (by decide) (by decide)),
      ((h.1 c).1 (2 : Fin 4)).trans ((dats P 0 c).arrAt_in (2 : Fin 4) rfl _)⟩, h.2⟩) (run_main ρ P)

end Cert.KernelIdeal.Hand
-- ==== Proof.MoeClaims.lean ====
/- The frames of both readings of the kernel and of the reference. -/
module

public import proofs.«01_k».proof.Proof.MoePre
public import proofs.«01_k».proof.Proof.MoeFrame
public import proofs.«01_k».proof.Proof.KMoeFrame
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import Idealize.ShloMosaic.Lib.Quiescent

@[expose] public section

noncomputable section

namespace Cert.Proof

open Idealize.ShloMosaic Idealize.SL.Sem

theorem ideal_plan (m : (ℓ : Loc Cert.KernelIdeal.nD Cert.KernelIdeal.τ Cert.KernelIdeal.sig) → Buf (Elt Ideal) ℓ)
    (h : Cert.Pre_KernelIdeal (hPre_dispatch_plan := Cert.Pre_dispatch_plan.Gen.facts) m) : Cert.KernelIdeal.Hand.PlanM m :=
  plan_of_pre (F := Ideal) _ _ _ _ _ _ _ _ _ (h 0).1 (h 0).2.1 (h 0).2.2

theorem kernel_plan (m : (ℓ : Loc Cert.Kernel.nD Cert.Kernel.τ Cert.Kernel.sig) → Buf (Elt Bits) ℓ)
    (h : Cert.Pre_Kernel (hPre_dispatch_plan := Cert.Pre_dispatch_plan.Gen.facts) m) : Cert.Kernel.Hand.PlanM m :=
  Kplan (plan_of_pre (F := Bits) _ _ _ _ _ _ _ _ _ (h 0).1 (h 0).2.1 (h 0).2.2)

theorem frame_K : Cert.quiescent_Kernel (hKernel := Cert.Kernel.Gen.facts) (hPre_dispatch_plan := Cert.Pre_dispatch_plan.Gen.facts) :=
  fun m ρ h => (θ_run Cert.Kernel.defs _ _).mono (fun _ p => ⟨fun c => (p.1 c).2, p.2⟩) (Cert.Kernel.Hand.run_all ρ (kernel_plan m h))

theorem frame_I : Cert.quiescent_KernelIdeal (hKernelIdeal := Cert.KernelIdeal.Gen.facts) (hPre_dispatch_plan := Cert.Pre_dispatch_plan.Gen.facts) :=
  fun m ρ h => (θ_run Cert.KernelIdeal.defs _ _).mono (fun _ p => ⟨fun c => (p.1 c).2, p.2⟩) (Cert.KernelIdeal.Hand.run_all ρ (ideal_plan m h))

theorem frame_R : Cert.quiescent_ReferenceIdeal (hReferenceIdeal := Cert.ReferenceIdeal.Gen.facts) :=
  fun m ρ _ => (θ_run Cert.ReferenceIdeal.defs _ _).mono (fun r p => ⟨fun c => (p c).2, sem_eq_zero_of_no_sems rfl r.2⟩)
    (Cert.ReferenceIdeal.Value.run m ρ)

end Cert.Proof

end
-- ==== Proof.MoePay.lean ====
/- The feed-forward of one row, over the extended reals, and what a half block's computation holds at an index: that
   feed-forward of the row, where the row is live. -/
module

public import proofs.«01_k».proof.Proof.MoePlan
public import Idealize.ShloMosaic.Lib.Pointwise
public import Idealize.ShloMosaic.Lib.Tactic.WordOmega

@[expose] public section

noncomputable section

namespace Cert.Proof

open Idealize.ShloMosaic

/-- The clamped gate of hidden unit `f`: at most seven. -/
def gate (x : Fin 1024 → EReal) (W : Fin 1024 → Fin 2048 → EReal) (b : Fin 2048 → EReal) (f : Fin 1024) : EReal :=
  min (∑ k, x k * W k ⟨f.val, by omega⟩ + b ⟨f.val, by omega⟩) (Ideal.ofBits .f32 0x40E00000#32)

/-- The clamped linear part of hidden unit `f`: between minus seven and seven. -/
def lin (x : Fin 1024 → EReal) (W : Fin 1024 → Fin 2048 → EReal) (b : Fin 2048 → EReal) (f : Fin 1024) : EReal :=
  min (Ideal.ofBits .f32 0x40E00000#32) (max (Ideal.ofBits .f32 0xC0E00000#32)
    (∑ k, x k * W k ⟨1024 + f.val, by omega⟩ + b ⟨1024 + f.val, by omega⟩))

/-- One output of the feed-forward of the row `x`: the gated hidden units against one column of the second weights. -/
def ffn (x : Fin 1024 → EReal) (W : Fin 1024 → Fin 2048 → EReal) (b : Fin 2048 → EReal) (D : Fin 1024 → EReal) (d : EReal) : EReal :=
  ∑ f, gate x W b f * Ideal.div 1 (1 + Ideal.exp (-(Ideal.ofBits .f32 0x3FD9DB23#32 * gate x W b f))) * (lin x W b f + 1) * D f + d

end Cert.Proof

namespace Cert.KernelIdeal.Hand

open Cert.KernelIdeal Cert.KernelIdeal.Gen
open Idealize.ShloMosaic

/-- The live test of row `i` against `r` rows from `b` on. -/
theorem live_of (r b : BitVec 32) (i : ℕ) (h : (i : ℤ) < r.toInt - b.toInt) (hb : 0 ≤ b.toInt) (hi : i < 2 ^ 31) :
    IntOp.cmpi CmpIPredicate.slt (BitVec.ofNat 32 i) (Scalar.subi r b) = 1#1 := by
  rw [BitVec.toInt_eq_toNat_cond] at hb
  rw [BitVec.toInt_eq_toNat_cond, BitVec.toInt_eq_toNat_cond] at h
  have e : (r - b).toNat = r.toNat - b.toNat := by rw [BitVec.toNat_sub]; omega
  show IntOp.cmpi CmpIPredicate.slt (BitVec.ofNat 32 i) (r - b) = 1#1
  have := r.isLt
  have := b.isLt
  word_omega

variable (r : BitVec 32) (x : S256x1024.Idx → Ideal .bf16) (w2 : S1024x2048.Idx → Ideal .bf16) (b2 : S1x1x2048.Idx → Ideal .f32)
  (w3 : S1024x1024.Idx → Ideal .bf16) (b3 : S1x1x1024.Idx → Ideal .f32) (i : Fin 256) (j : Fin 1024)

set_option maxRecDepth 16384 in
theorem payLo_at (h : IntOp.cmpi CmpIPredicate.slt (BitVec.ofNat 32 i.val) (Scalar.subi r 0#32) = 1#1) :
    k0_pay3 (F := Ideal) (k0_pay7 (F := Ideal) r x w2 b2 w3) b3 (ix2 i j)
      = Cert.Proof.ffn (fun k => x (ix2 i k)) (fun k f => w2 (ix2 k f)) (fun f => b2 (ix3 (0 : Fin 1) (0 : Fin 1) f)) (fun f => w3 (ix2 f j)) (b3 (ix3 (0 : Fin 1) (0 : Fin 1) j)) := by
  pointwise [k0_pay3, k0_pay7]
  simp only [h, Scalar.select, zero_sub]
  rfl

set_option maxRecDepth 16384 in
theorem payHi_at (h : IntOp.cmpi CmpIPredicate.slt (BitVec.ofNat 32 i.val) (Scalar.subi r 256#32) = 1#1) :
    k0_pay5 (F := Ideal) (k0_pay8 (F := Ideal) r x w2 b2 w3) b3 (ix2 i j)
      = Cert.Proof.ffn (fun k => x (ix2 i k)) (fun k f => w2 (ix2 k f)) (fun f => b2 (ix3 (0 : Fin 1) (0 : Fin 1) f)) (fun f => w3 (ix2 f j)) (b3 (ix3 (0 : Fin 1) (0 : Fin 1) j)) := by
  pointwise [k0_pay5, k0_pay8]
  simp only [h, Scalar.select, zero_sub]
  rfl

end Cert.KernelIdeal.Hand

end
-- ==== Proof.MoeBlk.lean ====
/- The blocks a grid point works on, read at an index of the arrays they come from. -/
module

public import proofs.«01_k».proof.Proof.MoeFrame
public import proofs.«01_k».proof.Proof.MoePay
public import Idealize.ShloMosaic.Lib.Pipeline.Covers

@[expose] public section

noncomputable section

namespace Cert.KernelIdeal.Hand

open Cert.KernelIdeal Cert.KernelIdeal.Gen
open Idealize.ShloMosaic Idealize.ShloMosaic.TcCoe
open Idealize.ShloMosaic.Pipeline (Dat Cfg Window)

/-! ## The halves of the result's block -/

section Halves
variable (r : BitVec 32) (x5 : S512x1024.Idx → Elt Ideal .bf16) (x7 : S1x1x2048.Idx → Elt Ideal .f32) (x9 : S1x1x1024.Idx → Elt Ideal .f32)
  (w2 : S1024x2048.Idx → Elt Ideal .bf16) (w3 : S1024x1024.Idx → Elt Ideal .bf16) (i : Fin 512) (j : Fin 1024)

theorem outBlk_hi (h : 256 ≤ i.val) : outBlk r x5 x7 x9 w2 w3 (ix2 i j) = outHi r x5 x7 x9 w2 w3 (ix2 (⟨i.val - 256, by omega⟩ : Fin 256) j) := by
  unfold outBlk
  have e : (ix2 i j : S512x1024.Idx) = (Rect.unit (s := S512x1024) ![256, 0] S256x1024.size inb_S512x1024_S256x1024_256_0).emb
      (ix2 (⟨i.val - 256, by omega⟩ : Fin 256) j) := by
    funext a
    refine Fin.ext ?_
    match a with
    | ⟨0, _⟩ => show i.val = 256 + 1 * (i.val - 256); omega
    | ⟨1, _⟩ => show j.val = 0 + 1 * j.val; omega
  rw [e]
  exact View.canon_cons_emb _ _ _ _

theorem outBlk_lo (h : i.val < 256) : outBlk r x5 x7 x9 w2 w3 (ix2 i j) = outLo r x5 x7 x9 w2 w3 (ix2 (⟨i.val, h⟩ : Fin 256) j) := by
  unfold outBlk
  have e : (ix2 i j : S512x1024.Idx) = (Rect.unit (s := S512x1024) ![0, 0] S256x1024.size inb_S512x1024_S256x1024_0_0).emb
      (ix2 (⟨i.val, h⟩ : Fin 256) j) := by
    funext a
    refine Fin.ext ?_
    match a with
    | ⟨0, _⟩ => show i.val = 0 + 1 * i.val; omega
    | ⟨1, _⟩ => show j.val = 0 + 1 * j.val; omega
  rw [View.canon_cons_of_not_mem]
  · rw [e]
    exact View.canon_cons_emb _ _ _ _
  · intro hm
    have := (Rect.mem_set_unit (inb := inb_S512x1024_S256x1024_256_0)).mp hm 0
    have h1 : 256 ≤ i.val := this.1
    omega

/-- The block at a live row: the feed-forward of that row. -/
theorem outBlk_at (h : (i.val : ℤ) < r.toInt) : outBlk r x5 x7 x9 w2 w3 (ix2 i j)
    = Cert.Proof.ffn (fun k => x5 (ix2 i k)) (fun k f => w2 (ix2 k f)) (fun f => x7 (ix3 (0 : Fin 1) (0 : Fin 1) f)) (fun f => w3 (ix2 f j))
        (x9 (ix3 (0 : Fin 1) (0 : Fin 1) j)) := by
  by_cases hi : i.val < 256
  · rw [outBlk_lo _ _ _ _ _ _ _ _ hi]
    unfold outLo
    rw [if_pos ((cond4_iff r).mpr (by omega))]
    refine (payLo_at r _ w2 x7 w3 x9 ⟨i.val, hi⟩ j (live_of r 0#32 i.val (by simpa using h) (by decide) (by omega))).trans ?_
    refine congrArg (fun x => Cert.Proof.ffn x _ _ _ _) (funext fun k => congrArg x5 (funext fun a => Fin.ext ?_))
    match a with
    | ⟨0, _⟩ => show 0 + 1 * i.val = i.val; omega
    | ⟨1, _⟩ => show 0 + 1 * k.val = k.val; omega
  · rw [outBlk_hi _ _ _ _ _ _ _ _ (by omega)]
    unfold outHi
    rw [if_pos ((cond6_iff r).mpr (by omega))]
    refine (payHi_at r _ w2 x7 w3 x9 ⟨i.val - 256, by omega⟩ j (live_of r 256#32 (i.val - 256) (by
      show ((i.val - 256 : ℕ) : ℤ) < r.toInt - 256; omega) (by decide) (by omega))).trans ?_
    refine congrArg (fun x => Cert.Proof.ffn x _ _ _ _) (funext fun k => congrArg x5 (funext fun a => Fin.ext ?_))
    match a with
    | ⟨0, _⟩ => show 256 + 1 * (i.val - 256) = i.val; omega
    | ⟨1, _⟩ => show 0 + 1 * k.val = k.val; omega

end Halves

/-! ## The slabs of the two stacks -/

section Slabs
variable {F : FTy → Type} [FloatOps F]

theorem xU_at (w : BitVec 32) (V5 : S32x1024x2048.Idx → Elt F .f32) (e : Fin 32) (he : w.toNat = e.val) (k : Fin 1024) (f : Fin 2048) :
    xU w V5 (ix2 k f) = V5 (ix3 e k f) := by
  rw [← gU_eq w (okW_of (by omega)) V5]
  show V5 ((Rect.unit (s := S32x1024x2048) (k0_off9 w) S1x1024x2048.size _).emb
    (Shape.reshapeEquiv (Shape.Squeezes.numel_eq squeezes_S1x1024x2048_S1024x2048) (ix2 k f))) = _
  pointwise
  refine congrArg V5 (funext fun a => Fin.ext ?_)
  match a with
  | ⟨0, _⟩ => show w.toNat + 1 * 0 = e.val; omega
  | ⟨1, _⟩ => show 0 + 1 * k.val = k.val; omega
  | ⟨2, _⟩ => show 0 + 1 * f.val = f.val; omega

theorem xD_at (w : BitVec 32) (V7 : S32x1024x1024.Idx → Elt F .f32) (e : Fin 32) (he : w.toNat = e.val) (k : Fin 1024) (f : Fin 1024) :
    xD w V7 (ix2 k f) = V7 (ix3 e k f) := by
  rw [← gD_eq w (okW_of (by omega)) V7]
  show V7 ((Rect.unit (s := S32x1024x1024) (k0_off10 w) S1x1024x1024.size _).emb
    (Shape.reshapeEquiv (Shape.Squeezes.numel_eq squeezes_S1x1024x1024_S1024x1024) (ix2 k f))) = _
  pointwise
  refine congrArg V7 (funext fun a => Fin.ext ?_)
  match a with
  | ⟨0, _⟩ => show w.toNat + 1 * 0 = e.val; omega
  | ⟨1, _⟩ => show 0 + 1 * k.val = k.val; omega
  | ⟨2, _⟩ => show 0 + 1 * f.val = f.val; omega

end Slabs

/-! ## The windows' blocks -/

section Blocks
variable {F : FTy → Type} [FloatOps F] {m : (ℓ : Loc nD τ sig) → Buf (Elt F) ℓ} (P : PlanM m) (c : Dev nD) (t : Fin (cfgA P).N)

theorem tf0_eq : ∀ t : Fin grid0.N, cc0_transform_0 (grid0.coords t) = ![t.val, 0] := by decide +kernel
theorem tf5_eq : ∀ t : Fin grid0.N, cc0_transform_5 (grid0.coords t) = ![t.val, 0] := by decide +kernel

theorem iblk0_at (i : Fin 512) (k : Fin 1024) (s : Fin 81920) (hs : s.val = 512 * t.val + i.val) :
    (iblk P c (0 : Fin 4) t : S512x1024.Idx → Elt F .bf16) (ix2 i k) = (V m c main_arg4 : S81920x1024.Idx → Elt F .bf16) (ix2 s k) := by
  unfold iblk
  refine congrArg (V m c main_arg4 : S81920x1024.Idx → Elt F .bf16) (funext fun a => Fin.ext ?_)
  have hv := Window.rect_emb_val ((cfgA P).win (0 : Fin 4)) t (ix2 i k)
  have hx : ∀ a, ((cfgA P).win (0 : Fin 4)).index t a = (![t.val, 0] : Fin 2 → ℕ) a := fun a => congrFun (tf0_eq t) a
  match a with
  | ⟨0, _⟩ =>
    refine (hv 0).trans ?_
    rw [hx]
    show t.val * 512 + i.val = s.val
    omega
  | ⟨1, _⟩ =>
    refine (hv 1).trans ?_
    rw [hx]
    show 0 * 1024 + k.val = k.val
    omega

theorem iblk1_at (e : Fin 32) (he : (wd (T0 m) t.val).toNat = e.val) (f : Fin 2048) :
    (iblk P c (1 : Fin 4) t : S1x1x2048.Idx → Elt F .f32) (ix3 (0 : Fin 1) (0 : Fin 1) f) = (V m c main_arg6 : S32x1x2048.Idx → Elt F .f32) (ix3 e (0 : Fin 1) f) := by
  unfold iblk
  refine congrArg (V m c main_arg6 : S32x1x2048.Idx → Elt F .f32) (funext fun a => Fin.ext ?_)
  have hv := Window.rect_emb_val ((cfgA P).win (1 : Fin 4)) t (ix3 (0 : Fin 1) (0 : Fin 1) f)
  have hx : ∀ a, ((cfgA P).win (1 : Fin 4)).index t a = (![(wd (T0 m) t.val).toNat, 0, 0] : Fin 3 → ℕ) a := fun a => by
    have := tf2_eq m (grid0.coords t)
    rw [coords0] at this
    exact congrFun this a
  match a with
  | ⟨0, _⟩ =>
    refine (hv 0).trans ?_
    rw [hx]
    show (wd (T0 m) t.val).toNat * 1 + 0 = e.val
    omega
  | ⟨1, _⟩ =>
    refine (hv 1).trans ?_
    rw [hx]
    rfl
  | ⟨2, _⟩ =>
    refine (hv 2).trans ?_
    rw [hx]
    show 0 * 2048 + f.val = f.val
    omega

theorem iblk2_at (e : Fin 32) (he : (wd (T0 m) t.val).toNat = e.val) (f : Fin 1024) :
    (iblk P c (2 : Fin 4) t : S1x1x1024.Idx → Elt F .f32) (ix3 (0 : Fin 1) (0 : Fin 1) f) = (V m c main_arg8 : S32x1x1024.Idx → Elt F .f32) (ix3 e (0 : Fin 1) f) := by
  unfold iblk
  refine congrArg (V m c main_arg8 : S32x1x1024.Idx → Elt F .f32) (funext fun a => Fin.ext ?_)
  have hv := Window.rect_emb_val ((cfgA P).win (2 : Fin 4)) t (ix3 (0 : Fin 1) (0 : Fin 1) f)
  have hx : ∀ a, ((cfgA P).win (2 : Fin 4)).index t a = (![(wd (T0 m) t.val).toNat, 0, 0] : Fin 3 → ℕ) a := fun a => by
    have := tf4_eq m (grid0.coords t)
    rw [coords0] at this
    exact congrFun this a
  match a with
  | ⟨0, _⟩ =>
    refine (hv 0).trans ?_
    rw [hx]
    show (wd (T0 m) t.val).toNat * 1 + 0 = e.val
    omega
  | ⟨1, _⟩ =>
    refine (hv 1).trans ?_
    rw [hx]
    rfl
  | ⟨2, _⟩ =>
    refine (hv 2).trans ?_
    rw [hx]
    show 0 * 1024 + f.val = f.val
    omega

/-! ## The result's array -/

/-- The array's index under the result's block at point `t`. -/
theorem oblk_emb (i : Fin 512) (j : Fin 1024) (s : Fin 81920) (hs : s.val = 512 * t.val + i.val) :
    ((((cfgA P).win (3 : Fin 4)).blk t).view.emb (ix2 i j) : S81920x1024.Idx) = ix2 s j := by
  refine funext fun a => Fin.ext ?_
  have hv := Window.rect_emb_val ((cfgA P).win (3 : Fin 4)) t (ix2 i j)
  have hx : ∀ a, ((cfgA P).win (3 : Fin 4)).index t a = (![t.val, 0] : Fin 2 → ℕ) a := fun a => congrFun (tf5_eq t) a
  match a with
  | ⟨0, _⟩ =>
    refine (hv 0).trans ?_
    rw [hx]
    show t.val * 512 + i.val = s.val
    omega
  | ⟨1, _⟩ =>
    refine (hv 1).trans ?_
    rw [hx]
    show 0 * 1024 + j.val = j.val
    omega

theorem covers3 : ((cfgA P).win (3 : Fin 4)).Covers := by
  refine Window.covers_of_index_surj _ rfl (show ∀ a : Fin 2, 0 < S512x1024.size a by decide) fun β => ?_
  have n0 : ((cfgA P).win (3 : Fin 4)).nblk (0 : Fin 2) = 160 := by
    show (81920 + 512 - 1) / 512 = 160
    rfl
  have n1 : ((cfgA P).win (3 : Fin 4)).nblk (1 : Fin 2) = 1 := by
    show (1024 + 1024 - 1) / 1024 = 1
    rfl
  have b0 : (β (0 : Fin 2)).val < 160 := Nat.lt_of_lt_of_eq (β (0 : Fin 2)).isLt n0
  refine ⟨(⟨(β (0 : Fin 2)).val, b0⟩ : Fin 160), fun a => ?_⟩
  have hx : ((cfgA P).win (3 : Fin 4)).index (⟨(β (0 : Fin 2)).val, b0⟩ : Fin 160) a
    = (![(β (0 : Fin 2)).val, 0] : Fin 2 → ℕ) a := congrFun (tf5_eq _) a
  rw [hx]
  match a with
  | ⟨0, _⟩ => rfl
  | ⟨1, _⟩ =>
    have : (β (1 : Fin 2)).val < 1 := Nat.lt_of_lt_of_eq (β (1 : Fin 2)).isLt n1
    show 0 = (β (1 : Fin 2)).val
    omega

end Blocks

/-! ## The final array at a filled slot -/

section Final
variable {m : (ℓ : Loc nD τ sig) → Buf (Elt Ideal) ℓ} (P : PlanM m) (c : Dev nD)

/-- At a slot `i` of its block below that block's count of rows, the array ends holding the feed-forward of the slot's row. -/
theorem final_at (s : Fin 81920) (j : Fin 1024) (e : Fin 32) (he : (wd (T0 m) (s.val / 512)).toNat = e.val)
    (hl : ((s.val % 512 : ℕ) : ℤ) < (wd (T2 m) (s.val / 512)).toInt) :
    ((dats P 0 c).arrAt (3 : Fin 4) (cfgA P).N : S81920x1024.Idx → EReal) (ix2 s j)
      = Cert.Proof.ffn (fun k => (V m c main_arg4 : S81920x1024.Idx → EReal) (ix2 s k))
        (fun k f => (V m c main_arg5 : S32x1024x2048.Idx → EReal) (ix3 e k f))
        (fun f => (V m c main_arg6 : S32x1x2048.Idx → EReal) (ix3 e (0 : Fin 1) f))
        (fun f => (V m c main_arg7 : S32x1024x1024.Idx → EReal) (ix3 e f j))
        ((V m c main_arg8 : S32x1x1024.Idx → EReal) (ix3 e (0 : Fin 1) j)) := by
  refine (dats P 0 c).arrAt_forall_of_covers (3 : Fin 4) (fun i v => i = (ix2 s j : S81920x1024.Idx) → v = _) (covers3 P) (fun t hf y => ?_) (ix2 s j)
    (Memref.isWhole_whole _) rfl
  intro hy
  obtain ⟨i, j', rfl⟩ : ∃ (i : Fin 512) (j' : Fin 1024), (y : S512x1024.Idx) = ix2 i j' := ⟨y 0, y 1, eq_ix2 y⟩
  have ht : t.val < 160 := t.isLt
  rw [oblk_emb P t i j' ⟨512 * t.val + i.val, by omega⟩ rfl] at hy
  have h0 : 512 * t.val + i.val = s.val := congrArg (fun x : S81920x1024.Idx => (x 0).val) hy
  have h1 : j'.val = j.val := congrArg (fun x : S81920x1024.Idx => (x 1).val) hy
  obtain rfl : j' = j := Fin.ext h1
  rw [show s.val / 512 = t.val by omega] at he hl
  rw [show s.val % 512 = i.val by omega] at hl
  show (dats P 0 c).after (3 : Fin 4) t (ix2 i j') = _
  rw [after0_3]
  unfold outAt
  refine (outBlk_at _ _ _ _ _ _ i j' hl).trans ?_
  have e4 := fun k => iblk0_at P c t i k s h0.symm
  have e6 := fun f => iblk1_at P c t e he f
  have e8 := fun f => iblk2_at P c t e he f
  have e5 := fun k f => xU_at (F := Ideal) (wd (T0 m) t.val) (V m c main_arg5) e he k f
  have e7 := fun k f => xD_at (F := Ideal) (wd (T0 m) t.val) (V m c main_arg7) e he k f
  have p1 : ∀ (X : S1024x2048.Idx → Elt Ideal .f32) (k : Fin 1024) (f : Fin 2048), (k0_pay1 (F := Ideal) X : S1024x2048.Idx → EReal) (ix2 k f) = X (ix2 k f) := by
    intro X k f
    pointwise [k0_pay1]
  have p2 : ∀ (X : S1024x1024.Idx → Elt Ideal .f32) (k : Fin 1024) (f : Fin 1024), (k0_pay2 (F := Ideal) X : S1024x1024.Idx → EReal) (ix2 k f) = X (ix2 k f) := by
    intro X k f
    pointwise [k0_pay2]
  refine (congr (congr (congr (congr (congrArg Cert.Proof.ffn (funext e4)) (funext fun k => funext fun f => (p1 _ k f).trans (e5 k f)))
    (funext e6)) (funext fun f => (p2 _ f j').trans (e7 f j'))) (e8 j'))

end Final

end Cert.KernelIdeal.Hand

end
-- ==== Proof.MoeGather.lean ====
/- A table of matrices taken at one index per block: the gather along its first axis, read at an index. -/
module

public import Idealize.ShloMosaic.Lib.Pointwise
public import Idealize.ShloMosaic.Lib.WordCmp

@[expose] public section

noncomputable section

namespace Cert.Proof

open Idealize.ShloMosaic

/-- The dimension numbers of `x[idx]` for `x` of `[N, A, B]` and one index per block of `[n]`. -/
abbrev slabDims (N A B n : ℕ)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Where the index of block `t` names the table's entry `e`, the result at `(t, a, b)` is the table's at `(e, a, b)`. -/
theorem gather_slab {α : Type} {N A B n : ℕ}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (t : Fin n) (a : Fin A) (b : Fin B) (e : Fin N)
    (he : (idx (ix2 t (0 : Fin 1))).toInt = e.val) :
    Host.gather (slabDims N A B n wf) x idx (ix3 t a b) = x (ix3 e a b) := by
  unfold Host.gather
  refine congrArg x (funext fun d => Fin.ext ?_)
  show (slabDims N A B n wf).start (ix3 t a b) idx d + (slabDims N A B n wf).batchCoord (ix3 t a b) d
      + (slabDims N A B n wf).offCoord (ix3 t a b) d = _
  rw [GatherDims.batchCoord_eq_zero _ _ _ List.not_mem_nil, Nat.add_zero]
  match d with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 3) ∈ (slabDims N A B n wf).startIndexMap from List.mem_singleton.mpr rfl)).trans ?_
    have hsi : (slabDims N A B n wf).siIdx (ix3 t a b) ⟨List.idxOf (0 : Fin 3) (slabDims N A B n wf).startIndexMap,
        List.idxOf_lt_length_iff.2 (List.mem_singleton.mpr rfl)⟩ = ix2 t (0 : Fin 1) := by
      funext c
      refine Fin.ext ?_
      match c with
      | ⟨0, _⟩ => rfl
      | ⟨1, _⟩ => rfl
    show min (idx ((slabDims N A B n wf).siIdx (ix3 t a b) ⟨List.idxOf (0 : Fin 3) (slabDims N A B n wf).startIndexMap,
        List.idxOf_lt_length_iff.2 (List.mem_singleton.mpr rfl)⟩)).toInt.toNat (N - 1) = e.val
    rw [hsi, he]
    have := e.isLt
    omega
  | ⟨1, _⟩ =>
    have hs : (slabDims N A B n wf).start (ix3 t a b) idx (1 : Fin 3) = 0 := by
      unfold GatherDims.start
      exact dif_neg (fun h : (1 : Fin 3) ∈ ([0] : List (Fin 3)) => absurd h (by decide))
    have ho : (slabDims N A B n wf).offCoord (ix3 t a b) (1 : Fin 3) = (ix3 t a b (1 : Fin 3)).val := by
      unfold GatherDims.offCoord
      exact (dif_pos ((GatherDims.mem_sKept _ _).mpr ⟨fun h : (1 : Fin 3) ∈ ([0] : List (Fin 3)) => absurd h (by decide), List.not_mem_nil⟩)).trans rfl
    show (slabDims N A B n wf).start (ix3 t a b) idx (1 : Fin 3) + (slabDims N A B n wf).offCoord (ix3 t a b) (1 : Fin 3) = _
    rw [hs, ho, Nat.zero_add]
    rfl
  | ⟨2, _⟩ =>
    have hs : (slabDims N A B n wf).start (ix3 t a b) idx (2 : Fin 3) = 0 := by
      unfold GatherDims.start
      exact dif_neg (fun h : (2 : Fin 3) ∈ ([0] : List (Fin 3)) => absurd h (by decide))
    have ho : (slabDims N A B n wf).offCoord (ix3 t a b) (2 : Fin 3) = (ix3 t a b (2 : Fin 3)).val := by
      unfold GatherDims.offCoord
      exact (dif_pos ((GatherDims.mem_sKept _ _).mpr ⟨fun h : (2 : Fin 3) ∈ ([0] : List (Fin 3)) => absurd h (by decide), List.not_mem_nil⟩)).trans rfl
    show (slabDims N A B n wf).start (ix3 t a b) idx (2 : Fin 3) + (slabDims N A B n wf).offCoord (ix3 t a b) (2 : Fin 3) = _
    rw [hs, ho, Nat.zero_add]
    rfl

end Cert.Proof

end
-- ==== Proof.MoeRef.lean ====
/- The reference at an index: the feed-forward of the slot's row against the weights of its block's expert. -/
module

public import proofs.«01_k».proof.Proof.Gen.ReferenceIdeal.Run
public import proofs.«01_k».proof.Proof.MoeGather
public import proofs.«01_k».proof.Proof.MoePay
public import Idealize.ShloMosaic.Lib.Tactic.CleanTypes
public import Idealize.ShloMosaic.Lib.Tactic.WordOmega

@[expose] public section

noncomputable section

namespace Cert.ReferenceIdeal.Hand

open Cert.ReferenceIdeal Cert.ReferenceIdeal.Gen Cert.ReferenceIdeal.Value
open Idealize.ShloMosaic Idealize.ShloMosaic.TcCoe

theorem toInt_small {w : BitVec 32} (h : w.toNat < 32) : w.toInt = (w.toNat : ℤ) := by
  rw [BitVec.toInt_eq_toNat_cond, if_pos (by omega)]

set_option maxRecDepth 16384 in
/-- A table of experts read through the wrap of negative indices is the table where every word is below 32. -/
theorem wrap_at (T : S160.Idx → BitVec 32) (t : Fin 160) (h : (T (ix1 t)).toNat < 32) :
    ((broadcastInDim S160x1 ![0] bcast_S160_S160x1_0 (select (cmpi .slt T (broadcastInDim S160 ![] bcast_S_S160 (constantI S_ 32 0#32)))
      (addi T (broadcastInDim S160 ![] bcast_S_S160 (constantI S_ 32 32#32))) T)) (ix2 t (0 : Fin 1))).toInt = ((⟨(T (ix1 t)).toNat, h⟩ : Fin 32).val : ℤ) := by
  pointwise
  generalize T (ix1 t) = w at h
  have hs : IntOp.cmpi CmpIPredicate.slt w 0#32 = 0#1 := by
    word_omega
  rw [hs]
  exact toInt_small h

theorem g5_at (x : S32x1024x2048.Idx → EReal) (idx : IVec S160x1 32) (t : Fin 160) (a : Fin 1024) (b : Fin 2048) (e : Fin 32)
    (he : (idx (ix2 t (0 : Fin 1))).toInt = e.val) : Host.gather gather_S32x1024x2048_S160x1_S160x1024x2048_12_0_n_n_0_1_110242048 x idx (ix3 t a b) = x (ix3 e a b) :=
  Cert.Proof.gather_slab gather_S32x1024x2048_S160x1_S160x1024x2048_12_0_n_n_0_1_110242048.wf x idx t a b e he
theorem g6_at (x : S32x1x2048.Idx → EReal) (idx : IVec S160x1 32) (t : Fin 160) (a : Fin 1) (b : Fin 2048) (e : Fin 32)
    (he : (idx (ix2 t (0 : Fin 1))).toInt = e.val) : Host.gather gather_S32x1x2048_S160x1_S160x1x2048_12_0_n_n_0_1_112048 x idx (ix3 t a b) = x (ix3 e a b) :=
  Cert.Proof.gather_slab gather_S32x1x2048_S160x1_S160x1x2048_12_0_n_n_0_1_112048.wf x idx t a b e he
theorem g7_at (x : S32x1024x1024.Idx → EReal) (idx : IVec S160x1 32) (t : Fin 160) (a : Fin 1024) (b : Fin 1024) (e : Fin 32)
    (he : (idx (ix2 t (0 : Fin 1))).toInt = e.val) : Host.gather gather_S32x1024x1024_S160x1_S160x1024x1024_12_0_n_n_0_1_110241024 x idx (ix3 t a b) = x (ix3 e a b) :=
  Cert.Proof.gather_slab gather_S32x1024x1024_S160x1_S160x1024x1024_12_0_n_n_0_1_110241024.wf x idx t a b e he
theorem g8_at (x : S32x1x1024.Idx → EReal) (idx : IVec S160x1 32) (t : Fin 160) (a : Fin 1) (b : Fin 1024) (e : Fin 32)
    (he : (idx (ix2 t (0 : Fin 1))).toInt = e.val) : Host.gather gather_S32x1x1024_S160x1_S160x1x1024_12_0_n_n_0_1_111024 x idx (ix3 t a b) = x (ix3 e a b) :=
  Cert.Proof.gather_slab gather_S32x1x1024_S160x1_S160x1x1024_12_0_n_n_0_1_111024.wf x idx t a b e he

set_option maxRecDepth 16384 in
set_option maxHeartbeats 4000000 in
theorem ref_at (m : (ℓ : Loc nD τ sig) → Buf (Elt Ideal) ℓ) (c : Dev nD) (i : Fin 81920) (j : Fin 1024)
    (t : Fin 160) (ht : t.val = i.val / 512) (e : Fin 32)
    (he : (m ((c.tc : Thread nD τ).loc main_arg0) : S160.Idx → BitVec 32) (ix1 t) = BitVec.ofNat 32 e.val) :
    (res_main_v54 m c : S81920x1024.Idx → Ideal .bf16) (ix2 i j)
      = Cert.Proof.ffn (fun k => (m ((c.tc : Thread nD τ).loc main_arg4) : S81920x1024.Idx → EReal) (ix2 i k))
        (fun k f => (m ((c.tc : Thread nD τ).loc main_arg5) : S32x1024x2048.Idx → EReal) (ix3 e k f))
        (fun f => (m ((c.tc : Thread nD τ).loc main_arg6) : S32x1x2048.Idx → EReal) (ix3 e (0 : Fin 1) f))
        (fun f => (m ((c.tc : Thread nD τ).loc main_arg7) : S32x1024x1024.Idx → EReal) (ix3 e f j))
        ((m ((c.tc : Thread nD τ).loc main_arg8) : S32x1x1024.Idx → EReal) (ix3 e (0 : Fin 1) j)) := by
  have hw := wrap_at (m ((c.tc : Thread nD τ).loc main_arg0)) t (by rw [he]; have := e.isLt; simp; omega)
  have hv : ((m ((c.tc : Thread nD τ).loc main_arg0) : S160.Idx → BitVec 32) (ix1 t)).toNat = e.val := by
    rw [he]; have := e.isLt; simp; omega
  simp only [hv] at hw
  have hb : i.val / 512 < 160 := Nat.div_lt_of_lt_mul i.isLt
  obtain rfl : t = ⟨i.val / 512, hb⟩ := Fin.ext ht
  unfold res_main_v54
  clean_types
  have g5 := fun (a : Fin 1024) (b : Fin 2048) => g5_at (m ((c.tc : Thread nD τ).loc main_arg5)) _ _ a b e hw
  have g6 := fun (a : Fin 1) (b : Fin 2048) => g6_at (m ((c.tc : Thread nD τ).loc main_arg6)) _ _ a b e hw
  have g7 := fun (a : Fin 1024) (b : Fin 1024) => g7_at (m ((c.tc : Thread nD τ).loc main_arg7)) _ _ a b e hw
  have g8 := fun (a : Fin 1) (b : Fin 1024) => g8_at (m ((c.tc : Thread nD τ).loc main_arg8)) _ _ a b e hw
  pointwise
  simp only [g5, g6, g7, g8]
  rfl

end Cert.ReferenceIdeal.Hand

end
-- ==== Proof.MoeValue.lean ====
/- The value claim: wherever the tables mark a slot as filled, the kernel's array and the reference's hold the same
   extended real, the feed-forward of the slot's row. -/
module

public import proofs.«01_k».proof.Defs
public import proofs.«01_k».proof.Proof.Gen.On_filled_slots
public import proofs.«01_k».proof.Proof.MoeClaims
public import proofs.«01_k».proof.Proof.MoeBlk
public import proofs.«01_k».proof.Proof.MoeRef

@[expose] public section

noncomputable section

namespace Cert.Proof

open Idealize.ShloMosaic Idealize.SL.Sem

set_option maxRecDepth 16384 in
/-- The mask read at an index: the slot's place in its block is below the block's count of rows. -/
theorem filled_at [Cert.On_filled_slots.Facts] (T0 T1 T2 T3 : IVec Cert.On_filled_slots.S160 32) (a4 a5 a6 a7 a8) (s : Fin 81920) (j : Fin 1024)
    (h : Cert.On_filled_slots.fn (F := Ideal) T0 T1 T2 T3 a4 a5 a6 a7 a8 (ix2 s j) = 1#1) :
    ((s.val % 512 : ℕ) : ℤ) < (Cert.KernelIdeal.Hand.wd T2 (s.val / 512)).toInt := by
  have hb : s.val / 512 < 160 := Nat.div_lt_of_lt_mul s.isLt
  have e : Cert.KernelIdeal.Hand.wd T2 (s.val / 512) = T2 (Idealize.ShloMosaic.ix1 (⟨s.val / 512, hb⟩ : Fin 160)) :=
    congrArg T2 (Cert.KernelIdeal.Hand.ix1_eq _ hb _ rfl).symm
  rw [e]
  revert h
  pointwise [Cert.On_filled_slots.fn]
  generalize T2 _ = w
  intro h
  rw [BitVec.toInt_eq_toNat_cond]
  have := w.isLt
  word_omega

theorem frame_Rp : Cert.quiescent_ReferenceIdeal_pre_dispatch_plan (hReferenceIdeal := Cert.ReferenceIdeal.Gen.facts)
    (hPre_dispatch_plan := Cert.Pre_dispatch_plan.Gen.facts) :=
  fun m ρ _ => frame_R m ρ trivial

theorem value : Cert.algebraic_KernelIdeal_ReferenceIdeal_on_filled_slots (hKernelIdeal := Cert.KernelIdeal.Gen.facts)
    (hReferenceIdeal := Cert.ReferenceIdeal.Gen.facts) (hPre_dispatch_plan := Cert.Pre_dispatch_plan.Gen.facts)
    (hOn_filled_slots := Cert.On_filled_slots.Gen.facts) := by
  intro m g m' g' hpre hag
  have P := ideal_plan m hpre
  refine ⟨fun c => (Cert.KernelIdeal.Hand.dats P 0 c).arrAt (3 : Fin 4) (Cert.KernelIdeal.Hand.cfgA P).N,
    (θ_run Cert.KernelIdeal.defs _ _).mono (fun r p c => ⟨fun i _ => congrFun (p.1 c).1 i, (p.1 c).2⟩) (Cert.KernelIdeal.Hand.run_all g P),
    (θ_run Cert.ReferenceIdeal.defs _ _).mono (fun r p c => ⟨fun i hi => ?_, (p c).2⟩) (Cert.ReferenceIdeal.Value.run m' g')⟩
  rw [(p c).1]
  obtain ⟨s, j, rfl⟩ : ∃ (s : Fin 81920) (j : Fin 1024), i = ix2 s j := ⟨i 0, i 1, eq_ix2 i⟩
  obtain ⟨h0, -, -, -, h4, h5, h6, h7, h8⟩ := hag c
  have hb : s.val / 512 < 160 := Nat.div_lt_of_lt_mul s.isLt
  obtain rfl : c = Cert.KernelIdeal.Hand.d0 := Cert.KernelIdeal.Hand.dev_eq c
  have hw : (Cert.KernelIdeal.Hand.wd (Cert.KernelIdeal.Hand.T0 m) (s.val / 512)).toNat < 32 := P.expert _
  have e : Cert.KernelIdeal.Hand.wd (Cert.KernelIdeal.Hand.T0 m) (s.val / 512)
      = Cert.KernelIdeal.Hand.T0 m (Idealize.ShloMosaic.ix1 (⟨s.val / 512, hb⟩ : Fin 160)) :=
    congrArg (Cert.KernelIdeal.Hand.T0 m) (Cert.KernelIdeal.Hand.ix1_eq _ hb _ rfl).symm
  have hk := Cert.KernelIdeal.Hand.final_at P Cert.KernelIdeal.Hand.d0 s j ⟨_, hw⟩ rfl (filled_at _ _ _ _ _ _ _ _ _ s j hi)
  have hr := Cert.ReferenceIdeal.Hand.ref_at m' Cert.KernelIdeal.Hand.d0 s j ⟨s.val / 512, hb⟩ rfl ⟨_, hw⟩ (by
    rw [h0]
    refine e.symm.trans ?_
    show _ = BitVec.ofNat 32 (BitVec.toNat _)
    rw [BitVec.ofNat_toNat, BitVec.setWidth_eq])
  rw [h4, h5, h6, h7, h8] at hr
  exact hr.trans hk.symm

end Cert.Proof

end
-- ==== Proof.InBase.lean ====
/- One entry of the input projection and one of the residual sum, over the extended reals. -/
module

public import Idealize.ShloMosaic.Lib.Pointwise

@[expose] public section

noncomputable section

namespace Cert.Proof

open Idealize.ShloMosaic

/-- The row `x` over the root of its mean square. -/
def normed (x : Fin 1024 → EReal) (k : Fin 1024) : EReal :=
  x k * Ideal.rsqrt (Ideal.div (∑ l, x l * x l) (Ideal.ofBits .f32 0x44800000#32) + Ideal.ofBits .f32 0x358637BD#32)

/-- One entry of the projection: the row normed, weighted by `g`, scaled by one more than `sc` and shifted by `sh`, against the column `w`. -/
def inProj (x g sc sh w : Fin 1024 → EReal) : EReal :=
  ∑ k, (normed x k * g k * (1 + sc k) + sh k) * w k

/-- A value gated by the logistic function of another. -/
def glu (a b : EReal) : EReal := a * Ideal.div 1 (1 + Ideal.exp (-b))

/-- One entry of the layer's result: the token plus the gated, normed and weighted sum of its four experts' rows. -/
def residual (x gt g : Fin 1024 → EReal) (gate : Fin 4 → EReal) (y : Fin 4 → Fin 1024 → EReal) (k : Fin 1024) : EReal :=
  x k + gt k * (normed (fun l => ∑ q, gate q * y q l) k * g k)

end Cert.Proof

end
-- ==== Proof.In2.lean ====
/- The input projection of the latent tokens: what the three result arrays of the kernel hold at an index. -/
module

public import proofs.«01_k».proof.Proof.InBase
public import proofs.«01_k».proof.Proof.Gen.Kernel2Ideal.Value
public import Idealize.ShloMosaic.Lib.Pipeline.Covers

@[expose] public section

noncomputable section

namespace Cert.Kernel2Ideal.Hand

open Cert.Kernel2Ideal Cert.Kernel2Ideal.Gen
open Idealize.ShloMosaic Idealize.ShloMosaic.TcCoe
open Idealize.ShloMosaic.Pipeline (Dat Cfg Window)

set_option maxRecDepth 16384 in
/-- The body's product at an index. -/
theorem pay_at (v0 : S1x6x1024.Idx → Ideal .f32) (v2 : S1024x1024.Idx → Ideal .f32) (v3 : S1x1024.Idx → Ideal .f32)
    (v25 : S1024x2944.Idx → Ideal .bf16) (i : Fin 1024) (j : Fin 2944) :
    k0_pay2 (F := Ideal) v0 v2 v3 v25 (ix2 i j) = Cert.Proof.inProj (fun k => v2 (ix2 i k)) (fun k => v3 (ix2 (0 : Fin 1) k))
      (fun k => v0 (ix3 (0 : Fin 1) (1 : Fin 6) k)) (fun k => v0 (ix3 (0 : Fin 1) (0 : Fin 6) k)) (fun k => v25 (ix2 k j)) := by
  pointwise [k0_pay2]
  rfl

variable (m : (ℓ : Loc nD τ sig) → Buf (Elt Ideal) ℓ) (c : Dev nD)

theorem tf0_eq : ∀ t : Fin grid0.N, cc0_transform_0 (grid0.coords t) = ![t.val, 0] := by decide +kernel
theorem tf1_eq : ∀ t : Fin grid0.N, cc0_transform_1 (grid0.coords t) = ![t.val, 0, 0] := by decide +kernel
theorem tf2_eq : ∀ t : Fin grid0.N, cc0_transform_2 (grid0.coords t) = ![0, 0] := by decide +kernel
theorem tf3_eq : ∀ t : Fin grid0.N, cc0_transform_3 (grid0.coords t) = ![0, 0] := by decide +kernel
theorem tf4_eq : ∀ t : Fin grid0.N, cc0_transform_4 (grid0.coords t) = ![t.val, 0] := by decide +kernel
theorem tf5_eq : ∀ t : Fin grid0.N, cc0_transform_5 (grid0.coords t) = ![t.val, 0] := by decide +kernel
theorem tf6_eq : ∀ t : Fin grid0.N, cc0_transform_6 (grid0.coords t) = ![t.val, 0] := by decide +kernel

/-! ## The blocks of the arguments -/

section Blocks
variable (t : Fin cfg0.N)

theorem blk0_at (i k : Fin 1024) (s : Fin 8192) (hs : s.val = 1024 * t.val + i.val) :
    (iblk m c 0 t : S1024x1024.Idx → EReal) (ix2 i k) = (V m c main_arg0 : S8192x1024.Idx → EReal) (ix2 s k) := by
  unfold iblk
  refine congrArg (V m c main_arg0 : S8192x1024.Idx → EReal) (funext fun a => Fin.ext ?_)
  refine (Window.rect_emb_val (cfg0.win 0) t (ix2 i k) a).trans ?_
  rw [show (cfg0.win 0).index t a = _ from congrFun (tf0_eq t) a]
  match a with
  | ⟨0, _⟩ => show t.val * 1024 + i.val = s.val; omega
  | ⟨1, _⟩ => show 0 * 1024 + k.val = k.val; omega

theorem blk1_at (q : Fin 6) (k : Fin 1024) (b : Fin 8) (hb : b.val = t.val) :
    (iblk m c 1 t : S1x6x1024.Idx → EReal) (ix3 (0 : Fin 1) q k) = (V m c main_arg1 : S8x6x1024.Idx → EReal) (ix3 b q k) := by
  unfold iblk
  refine congrArg (V m c main_arg1 : S8x6x1024.Idx → EReal) (funext fun a => Fin.ext ?_)
  refine (Window.rect_emb_val (cfg0.win 1) t (ix3 (0 : Fin 1) q k) a).trans ?_
  rw [show (cfg0.win 1).index t a = _ from congrFun (tf1_eq t) a]
  match a with
  | ⟨0, _⟩ => show t.val * 1 + 0 = b.val; omega
  | ⟨1, _⟩ => show 0 * 6 + q.val = q.val; omega
  | ⟨2, _⟩ => show 0 * 1024 + k.val = k.val; omega

theorem blk2_at (k : Fin 1024) :
    (iblk m c 2 t : S1x1024.Idx → EReal) (ix2 (0 : Fin 1) k) = (V m c main_arg2 : S1x1024.Idx → EReal) (ix2 (0 : Fin 1) k) := by
  unfold iblk
  refine congrArg (V m c main_arg2 : S1x1024.Idx → EReal) (funext fun a => Fin.ext ?_)
  refine (Window.rect_emb_val (cfg0.win 2) t (ix2 (0 : Fin 1) k) a).trans ?_
  rw [show (cfg0.win 2).index t a = _ from congrFun (tf2_eq t) a]
  match a with
  | ⟨0, _⟩ => rfl
  | ⟨1, _⟩ => show 0 * 1024 + k.val = k.val; omega

theorem blk3_at (k : Fin 1024) (j : Fin 2944) :
    (iblk m c 3 t : S1024x2944.Idx → EReal) (ix2 k j) = (V m c main_arg3 : S1024x2944.Idx → EReal) (ix2 k j) := by
  unfold iblk
  refine congrArg (V m c main_arg3 : S1024x2944.Idx → EReal) (funext fun a => Fin.ext ?_)
  refine (Window.rect_emb_val (cfg0.win 3) t (ix2 k j) a).trans ?_
  rw [show (cfg0.win 3).index t a = _ from congrFun (tf3_eq t) a]
  match a with
  | ⟨0, _⟩ => show 0 * 1024 + k.val = k.val; omega
  | ⟨1, _⟩ => show 0 * 2944 + j.val = j.val; omega

end Blocks

/-- The projection of token `s` at column `j`. -/
def proj (s : Fin 8192) (j : Fin 2944) : EReal :=
  Cert.Proof.inProj (fun k => (V m c main_arg0 : S8192x1024.Idx → EReal) (ix2 s k)) (fun k => (V m c main_arg2 : S1x1024.Idx → EReal) (ix2 (0 : Fin 1) k))
    (fun k => (V m c main_arg1 : S8x6x1024.Idx → EReal) (ix3 (⟨s.val / 1024, by omega⟩ : Fin 8) (1 : Fin 6) k))
    (fun k => (V m c main_arg1 : S8x6x1024.Idx → EReal) (ix3 (⟨s.val / 1024, by omega⟩ : Fin 8) (0 : Fin 6) k))
    (fun k => (V m c main_arg3 : S1024x2944.Idx → EReal) (ix2 k j))

/-- The body's product at grid point `t`, read at row `i`: the projection of token `1024 t + i`. -/
theorem prod_at (t : Fin cfg0.N) (i : Fin 1024) (j : Fin 2944) (s : Fin 8192) (hs : s.val = 1024 * t.val + i.val) :
    k0_pay2 (F := Ideal) (View.ld (iblk m c 1 t) r0_0) (View.ld (iblk m c 0 t) r0_1) (View.ld (iblk m c 2 t) r0_2) (View.ld (iblk m c 3 t) r0_3) (ix2 i j)
      = proj m c s j := by
  have hb : s.val / 1024 = t.val := by omega
  have e0 : View.ld (iblk m c 1 t) r0_0 = iblk m c 1 t := View.ld_unit_zero (funext fun a => by fin_cases a <;> rfl) _ _
  have e1 : View.ld (iblk m c 0 t) r0_1 = iblk m c 0 t := View.ld_unit_zero (funext fun a => by fin_cases a <;> rfl) _ _
  have e2 : View.ld (iblk m c 2 t) r0_2 = iblk m c 2 t := View.ld_unit_zero (funext fun a => by fin_cases a <;> rfl) _ _
  have e3 : View.ld (iblk m c 3 t) r0_3 = iblk m c 3 t := View.ld_unit_zero (funext fun a => by fin_cases a <;> rfl) _ _
  rw [e0, e1, e2, e3]
  refine (pay_at _ _ _ _ i j).trans ?_
  unfold proj
  exact congr (congr (congr (congr (congrArg Cert.Proof.inProj (funext fun k => blk0_at m c t i k s hs)) (funext fun k => blk2_at m c t k))
    (funext fun k => blk1_at m c t 1 k _ hb)) (funext fun k => blk1_at m c t 0 k _ hb)) (funext fun k => blk3_at m c t k j)

/-! ## The result arrays -/

theorem emb4 (t : Fin cfg0.N) (i : Fin 1024) (j : Fin 512) (s : Fin 8192) (hs : s.val = 1024 * t.val + i.val) :
    ((((cfg0.win 4).blk t).view.emb (ix2 i j)) : S8192x512.Idx) = ix2 s j := by
  refine funext fun a => Fin.ext ?_
  refine (Window.rect_emb_val (cfg0.win 4) t (ix2 i j) a).trans ?_
  rw [show (cfg0.win 4).index t a = _ from congrFun (tf4_eq t) a]
  match a with
  | ⟨0, _⟩ => show t.val * 1024 + i.val = s.val; omega
  | ⟨1, _⟩ => show 0 * 512 + j.val = j.val; omega

theorem covers4 : (cfg0.win 4).Covers := by
  refine Window.covers_of_index_surj _ rfl (show ∀ a : Fin 2, 0 < S1024x512.size a by decide) fun β => ?_
  have b0 : (β (0 : Fin 2)).val < 8 := Nat.lt_of_lt_of_eq (β (0 : Fin 2)).isLt (show (8192 + 1024 - 1) / 1024 = 8 from rfl)
  have b1 : (β (1 : Fin 2)).val < 1 := Nat.lt_of_lt_of_eq (β (1 : Fin 2)).isLt (show (512 + 512 - 1) / 512 = 1 from rfl)
  refine ⟨(⟨(β (0 : Fin 2)).val, b0⟩ : Fin 8), fun a => ?_⟩
  rw [show (cfg0.win 4).index (⟨(β (0 : Fin 2)).val, b0⟩ : Fin 8) a = _ from congrFun (tf4_eq _) a]
  match a with
  | ⟨0, _⟩ => rfl
  | ⟨1, _⟩ => show 0 = (β (1 : Fin 2)).val; omega

theorem emb5 (t : Fin cfg0.N) (i : Fin 1024) (j : Fin 1536) (s : Fin 8192) (hs : s.val = 1024 * t.val + i.val) :
    ((((cfg0.win 5).blk t).view.emb (ix2 i j)) : S8192x1536.Idx) = ix2 s j := by
  refine funext fun a => Fin.ext ?_
  refine (Window.rect_emb_val (cfg0.win 5) t (ix2 i j) a).trans ?_
  rw [show (cfg0.win 5).index t a = _ from congrFun (tf5_eq t) a]
  match a with
  | ⟨0, _⟩ => show t.val * 1024 + i.val = s.val; omega
  | ⟨1, _⟩ => show 0 * 1536 + j.val = j.val; omega

theorem covers5 : (cfg0.win 5).Covers := by
  refine Window.covers_of_index_surj _ rfl (show ∀ a : Fin 2, 0 < S1024x1536.size a by decide) fun β => ?_
  have b0 : (β (0 : Fin 2)).val < 8 := Nat.lt_of_lt_of_eq (β (0 : Fin 2)).isLt (show (8192 + 1024 - 1) / 1024 = 8 from rfl)
  have b1 : (β (1 : Fin 2)).val < 1 := Nat.lt_of_lt_of_eq (β (1 : Fin 2)).isLt (show (1536 + 1536 - 1) / 1536 = 1 from rfl)
  refine ⟨(⟨(β (0 : Fin 2)).val, b0⟩ : Fin 8), fun a => ?_⟩
  rw [show (cfg0.win 5).index (⟨(β (0 : Fin 2)).val, b0⟩ : Fin 8) a = _ from congrFun (tf5_eq _) a]
  match a with
  | ⟨0, _⟩ => rfl
  | ⟨1, _⟩ => show 0 = (β (1 : Fin 2)).val; omega

theorem emb6 (t : Fin cfg0.N) (i : Fin 1024) (j : Fin 384) (s : Fin 8192) (hs : s.val = 1024 * t.val + i.val) :
    ((((cfg0.win 6).blk t).view.emb (ix2 i j)) : S8192x384.Idx) = ix2 s j := by
  refine funext fun a => Fin.ext ?_
  refine (Window.rect_emb_val (cfg0.win 6) t (ix2 i j) a).trans ?_
  rw [show (cfg0.win 6).index t a = _ from congrFun (tf6_eq t) a]
  match a with
  | ⟨0, _⟩ => show t.val * 1024 + i.val = s.val; omega
  | ⟨1, _⟩ => show 0 * 384 + j.val = j.val; omega

theorem covers6 : (cfg0.win 6).Covers := by
  refine Window.covers_of_index_surj _ rfl (show ∀ a : Fin 2, 0 < S1024x384.size a by decide) fun β => ?_
  have b0 : (β (0 : Fin 2)).val < 8 := Nat.lt_of_lt_of_eq (β (0 : Fin 2)).isLt (show (8192 + 1024 - 1) / 1024 = 8 from rfl)
  have b1 : (β (1 : Fin 2)).val < 1 := Nat.lt_of_lt_of_eq (β (1 : Fin 2)).isLt (show (384 + 384 - 1) / 384 = 1 from rfl)
  refine ⟨(⟨(β (0 : Fin 2)).val, b0⟩ : Fin 8), fun a => ?_⟩
  rw [show (cfg0.win 6).index (⟨(β (0 : Fin 2)).val, b0⟩ : Fin 8) a = _ from congrFun (tf6_eq _) a]
  match a with
  | ⟨0, _⟩ => rfl
  | ⟨1, _⟩ => show 0 = (β (1 : Fin 2)).val; omega

/-- The gate as the body computes it. -/
theorem glu_eq (a b : Ideal .f32) : FloatOps.mulf a (FloatOps.divf (Scalar.ofBits .f32 0x3F800000#32) (FloatOps.addf (Scalar.ofBits .f32 0x3F800000#32)
    (FloatOps.exp (FloatOps.subf (Scalar.ofBits .f32 0x00000000#32) b)))) = Cert.Proof.glu a b := by
  pointwise
  simp only [zero_sub]
  rfl

/-- The first result: the convolution's value gated by its gate. -/
theorem final4 (s : Fin 8192) (j : Fin 512) :
    ((dats m 0 c).arrAt 4 cfg0.N : S8192x512.Idx → EReal) (ix2 s j) = Cert.Proof.glu (proj m c s ⟨j.val, by omega⟩) (proj m c s ⟨j.val + 512, by omega⟩) := by
  refine (dats m 0 c).arrAt_forall_of_covers 4 (fun i v => i = (ix2 s j : S8192x512.Idx) → v = _) covers4 (fun t hf y => ?_) (ix2 s j)
    (Memref.isWhole_whole _) rfl
  intro hy
  obtain ⟨i, j', rfl⟩ : ∃ (i : Fin 1024) (j' : Fin 512), (y : S1024x512.Idx) = ix2 i j' := ⟨y 0, y 1, eq_ix2 y⟩
  have ht : t.val < 8 := t.isLt
  rw [emb4 t i j' ⟨1024 * t.val + i.val, by omega⟩ rfl] at hy
  have h0 : 1024 * t.val + i.val = s.val := congrArg (fun x : S8192x512.Idx => (x 0).val) hy
  have h1 : j'.val = j.val := congrArg (fun x : S8192x512.Idx => (x 1).val) hy
  obtain rfl : j' = j := Fin.ext h1
  show (dats m 0 c).after 4 t (ix2 i j') = _
  rw [after0_4]
  unfold out0_4
  refine (Value.canon4_eq _ _ _ _ (ix2 i j')).trans ?_
  refine (glu_eq _ _).trans ?_
  rw [show Value.ix4_0 (ix2 i j') = ix2 i (⟨j'.val, by omega⟩ : Fin 2944) from eq_ix2 _,
    show Value.ix4_1 (ix2 i j') = ix2 i (⟨j'.val + 512, by omega⟩ : Fin 2944) from eq_ix2 _]
  exact congr (congrArg Cert.Proof.glu (prod_at m c t i _ s h0.symm)) (prod_at m c t i _ s h0.symm)

/-- The second result: receptance, keys and values. -/
theorem final5 (s : Fin 8192) (j : Fin 1536) :
    ((dats m 0 c).arrAt 5 cfg0.N : S8192x1536.Idx → EReal) (ix2 s j) = proj m c s ⟨j.val + 1024, by omega⟩ := by
  refine (dats m 0 c).arrAt_forall_of_covers 5 (fun i v => i = (ix2 s j : S8192x1536.Idx) → v = _) covers5 (fun t hf y => ?_) (ix2 s j)
    (Memref.isWhole_whole _) rfl
  intro hy
  obtain ⟨i, j', rfl⟩ : ∃ (i : Fin 1024) (j' : Fin 1536), (y : S1024x1536.Idx) = ix2 i j' := ⟨y 0, y 1, eq_ix2 y⟩
  have ht : t.val < 8 := t.isLt
  rw [emb5 t i j' ⟨1024 * t.val + i.val, by omega⟩ rfl] at hy
  have h0 : 1024 * t.val + i.val = s.val := congrArg (fun x : S8192x1536.Idx => (x 0).val) hy
  have h1 : j'.val = j.val := congrArg (fun x : S8192x1536.Idx => (x 1).val) hy
  obtain rfl : j' = j := Fin.ext h1
  show (dats m 0 c).after 5 t (ix2 i j') = _
  rw [after0_5]
  unfold out0_5
  refine (Value.canon5_eq _ _ _ _ (ix2 i j')).trans ?_
  show k0_pay2 (F := Ideal) _ _ _ _ (Value.ix5_0 (ix2 i j')) = _
  rw [show Value.ix5_0 (ix2 i j') = ix2 i (⟨j'.val + 1024, by omega⟩ : Fin 2944) from eq_ix2 _]
  exact prod_at m c t i _ s h0.symm

/-- The third result: the low-rank projections. -/
theorem final6 (s : Fin 8192) (j : Fin 384) :
    ((dats m 0 c).arrAt 6 cfg0.N : S8192x384.Idx → EReal) (ix2 s j) = proj m c s ⟨j.val + 2560, by omega⟩ := by
  refine (dats m 0 c).arrAt_forall_of_covers 6 (fun i v => i = (ix2 s j : S8192x384.Idx) → v = _) covers6 (fun t hf y => ?_) (ix2 s j)
    (Memref.isWhole_whole _) rfl
  intro hy
  obtain ⟨i, j', rfl⟩ : ∃ (i : Fin 1024) (j' : Fin 384), (y : S1024x384.Idx) = ix2 i j' := ⟨y 0, y 1, eq_ix2 y⟩
  have ht : t.val < 8 := t.isLt
  rw [emb6 t i j' ⟨1024 * t.val + i.val, by omega⟩ rfl] at hy
  have h0 : 1024 * t.val + i.val = s.val := congrArg (fun x : S8192x384.Idx => (x 0).val) hy
  have h1 : j'.val = j.val := congrArg (fun x : S8192x384.Idx => (x 1).val) hy
  obtain rfl : j' = j := Fin.ext h1
  show (dats m 0 c).after 6 t (ix2 i j') = _
  rw [after0_6]
  unfold out0_6
  refine (Value.canon6_eq _ _ _ _ (ix2 i j')).trans ?_
  show k0_pay2 (F := Ideal) _ _ _ _ (Value.ix6_0 (ix2 i j')) = _
  rw [show Value.ix6_0 (ix2 i j') = ix2 i (⟨j'.val + 2560, by omega⟩ : Fin 2944) from eq_ix2 _]
  exact prod_at m c t i _ s h0.symm

end Cert.Kernel2Ideal.Hand

end
-- ==== Proof.In2Value.lean ====
/- The input projection of the latent tokens: the reference at an index, and the claims. -/
module

public import proofs.«01_k».proof.Defs
public import proofs.«01_k».proof.Proof.In2
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Reference2Ideal.Run
public import Idealize.ShloMosaic.Lib.Quiescent
public import Idealize.ShloMosaic.Lib.Tactic.CleanTypes

@[expose] public section

noncomputable section

namespace Cert.Reference2Ideal.Hand

open Cert.Reference2Ideal Cert.Reference2Ideal.Gen
open Idealize.ShloMosaic Idealize.ShloMosaic.TcCoe

/-- The reference's product as an array. -/
def prod (x : FVec Ideal S8192x1024 .f32) (mod : FVec Ideal S8x6x1024 .f32) (g : FVec Ideal S1x1024 .f32) (w : FVec Ideal S1024x2944 .bf16) :
    FVec Ideal S8192x2944 .f32 :=
  shapeCast S8192x2944 (Host.dotGeneral (F := Ideal) dot_S8x1024x1024_S1024x2944_S8x1024x2944_2_0_01_1_n_n none (addf (mulf (mulf (mulf (shapeCast _ x shapeCasts_S8192x1024_S8x1024x1024) (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf (shapeCast _ x shapeCasts_S8192x1024_S8x1024x1024) (shapeCast _ x shapeCasts_S8192x1024_S8x1024x1024)) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![1, 2] bcast_S1x1024_S1x1x1024_1_2 g))) (broadcastInDim S8x1024x1024 ![0, 1, 2] bcast_S8x1x1024_S8x1024x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1024 ![0, 1, 0] mod slices_S8x6x1024_S8x1x1024_0_1_0) shapeCasts_S8x1x1024_S8x1024))))) (broadcastInDim S8x1024x1024 ![0, 1, 2] bcast_S8x1x1024_S8x1024x1024_0_1_2 (broadcastInDim S8x1x1024 ![0, 2] bcast_S8x1024_S8x1x1024_0_2 (shapeCast _ (extractStridedSlice S8x1x1024 ![0, 0, 0] mod slices_S8x6x1024_S8x1x1024_0_0_0) shapeCasts_S8x1x1024_S8x1024)))) (extf .f32 w bitsLt_bf16_f32)) shapeCasts_S8x1024x2944_S8192x2944

set_option maxRecDepth 16384 in
/-- The reference's product at an index. -/
theorem prod_at (x : FVec Ideal S8192x1024 .f32) (mod : FVec Ideal S8x6x1024 .f32) (g : FVec Ideal S1x1024 .f32) (w : FVec Ideal S1024x2944 .bf16)
    (s : Fin 8192) (j : Fin 2944) :
    prod x mod g w (ix2 s j) = Cert.Proof.inProj (fun k => x (ix2 s k)) (fun k => g (ix2 (0 : Fin 1) k))
      (fun k => mod (ix3 (⟨s.val / 1024, by omega⟩ : Fin 8) (1 : Fin 6) k)) (fun k => mod (ix3 (⟨s.val / 1024, by omega⟩ : Fin 8) (0 : Fin 6) k))
      (fun k => w (ix2 k j)) := by
  unfold prod
  clean_types
  pointwise
  rfl

end Cert.Reference2Ideal.Hand

namespace Cert.Proof

open Idealize.ShloMosaic Idealize.SL.Sem

theorem frame_K2 : Cert.quiescent_Kernel2 (hKernel2 := Cert.Kernel2.Gen.facts) := fun m ρ _ => Cert.Kernel2.Gen.frame m ρ
theorem frame_I2 : Cert.quiescent_Kernel2Ideal (hKernel2Ideal := Cert.Kernel2Ideal.Gen.facts) := fun m ρ _ => Cert.Kernel2Ideal.Gen.frame m ρ
theorem frame_R2 : Cert.quiescent_Reference2Ideal (hReference2Ideal := Cert.Reference2Ideal.Gen.facts) :=
  fun m ρ _ => (θ_run Cert.Reference2Ideal.defs _ _).mono (fun r p => ⟨fun c => (p c).2.2.2, sem_eq_zero_of_no_sems rfl r.2⟩)
    (Cert.Reference2Ideal.Value.run m ρ)

open Cert.Reference2Ideal Cert.Reference2Ideal.Gen in
/-- The three results as the reference builds them from its product, at an index. -/
theorem ref2_first (p : FVec Ideal S8192x2944 .f32) (s : Fin 8192) (j : Fin 512) :
    (mulf (F := Ideal) (φ := .f32) (extractStridedSlice S8192x512 ![0, 0] p slices_S8192x2944_S8192x512_0_0) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 512] p slices_S8192x2944_S8192x512_0_512)))))) (ix2 s j)
      = glu (p (ix2 s (⟨j.val, by omega⟩ : Fin 2944))) (p (ix2 s (⟨512 + j.val, by omega⟩ : Fin 2944))) := by
  pointwise
  rfl

open Cert.Reference2Ideal Cert.Reference2Ideal.Gen in
theorem ref2_second (p : FVec Ideal S8192x2944 .f32) (s : Fin 8192) (j : Fin 1536) :
    extractStridedSlice S8192x1536 ![0, 1024] p slices_S8192x2944_S8192x1536_0_1024 (ix2 s j) = p (ix2 s (⟨1024 + j.val, by omega⟩ : Fin 2944)) := by
  pointwise

open Cert.Reference2Ideal Cert.Reference2Ideal.Gen in
theorem ref2_third (p : FVec Ideal S8192x2944 .f32) (s : Fin 8192) (j : Fin 384) :
    extractStridedSlice S8192x384 ![0, 2560] p slices_S8192x2944_S8192x384_0_2560 (ix2 s j) = p (ix2 s (⟨2560 + j.val, by omega⟩ : Fin 2944)) := by
  pointwise

theorem value2 : Cert.algebraic_Kernel2Ideal_Reference2Ideal (hKernel2Ideal := Cert.Kernel2Ideal.Gen.facts)
    (hReference2Ideal := Cert.Reference2Ideal.Gen.facts) := by
  intro m g m' g' _ hag
  have hp : ∀ (c : Dev Cert.Kernel2Ideal.nD) (s : Fin 8192) (j : Fin 2944),
      Cert.Reference2Ideal.Hand.prod (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3)) (ix2 s j) = Cert.Kernel2Ideal.Hand.proj m c s j := by
    intro c s j
    obtain ⟨h0, h1, h2, h3⟩ := hag c
    rw [h0, h1, h2, h3]
    exact Cert.Reference2Ideal.Hand.prod_at _ _ _ _ s j
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N,
    fun c => (Cert.Kernel2Ideal.Gen.dats m 0 c).arrAt 6 Cert.Kernel2Ideal.cfg0.N, Cert.Kernel2Ideal.Value.run_blocks m g,
    (θ_run Cert.Reference2Ideal.defs _ _).mono (fun r p c => ⟨(p c).1.trans (funext fun i => ?_), (p c).2.1.trans (funext fun i => ?_),
      (p c).2.2.1.trans (funext fun i => ?_), (p c).2.2.2⟩) (Cert.Reference2Ideal.Value.run m' g')⟩
  · obtain ⟨s, j, rfl⟩ : ∃ (s : Fin 8192) (j : Fin 512), i = ix2 s j := ⟨i 0, i 1, eq_ix2 i⟩
    exact (ref2_first (Cert.Reference2Ideal.Hand.prod _ _ _ _) s j).trans
      ((congr (congrArg glu (hp c s _)) ((hp c s _).trans (congrArg (Cert.Kernel2Ideal.Hand.proj m c s) (Fin.ext (Nat.add_comm _ _))))).trans (Cert.Kernel2Ideal.Hand.final4 m c s j).symm)
  · obtain ⟨s, j, rfl⟩ : ∃ (s : Fin 8192) (j : Fin 1536), i = ix2 s j := ⟨i 0, i 1, eq_ix2 i⟩
    exact (ref2_second (Cert.Reference2Ideal.Hand.prod _ _ _ _) s j).trans (((hp c s _).trans (congrArg (Cert.Kernel2Ideal.Hand.proj m c s) (Fin.ext (Nat.add_comm _ _)))).trans (Cert.Kernel2Ideal.Hand.final5 m c s j).symm)
  · obtain ⟨s, j, rfl⟩ : ∃ (s : Fin 8192) (j : Fin 384), i = ix2 s j := ⟨i 0, i 1, eq_ix2 i⟩
    exact (ref2_third (Cert.Reference2Ideal.Hand.prod _ _ _ _) s j).trans (((hp c s _).trans (congrArg (Cert.Kernel2Ideal.Hand.proj m c s) (Fin.ext (Nat.add_comm _ _)))).trans (Cert.Kernel2Ideal.Hand.final6 m c s j).symm)

end Cert.Proof

end
-- ==== Proof.In3.lean ====
/- The input projection of the context tokens: what the three result arrays of the kernel hold at an index. -/
module

public import proofs.«01_k».proof.Proof.InBase
public import proofs.«01_k».proof.Proof.Gen.Kernel3Ideal.Value
public import Idealize.ShloMosaic.Lib.Pipeline.Covers

@[expose] public section

noncomputable section

namespace Cert.Kernel3Ideal.Hand

open Cert.Kernel3Ideal Cert.Kernel3Ideal.Gen
open Idealize.ShloMosaic Idealize.ShloMosaic.TcCoe
open Idealize.ShloMosaic.Pipeline (Dat Cfg Window)

set_option maxRecDepth 16384 in
/-- The body's product at an index. -/
theorem pay_at (v0 : S1x6x1024.Idx → Ideal .f32) (v2 : S1024x1024.Idx → Ideal .f32) (v3 : S1x1024.Idx → Ideal .f32)
    (v25 : S1024x2944.Idx → Ideal .bf16) (i : Fin 1024) (j : Fin 2944) :
    k0_pay2 (F := Ideal) v0 v2 v3 v25 (ix2 i j) = Cert.Proof.inProj (fun k => v2 (ix2 i k)) (fun k => v3 (ix2 (0 : Fin 1) k))
      (fun k => v0 (ix3 (0 : Fin 1) (1 : Fin 6) k)) (fun k => v0 (ix3 (0 : Fin 1) (0 : Fin 6) k)) (fun k => v25 (ix2 k j)) := by
  pointwise [k0_pay2]
  rfl

variable (m : (ℓ : Loc nD τ sig) → Buf (Elt Ideal) ℓ) (c : Dev nD)

theorem tf0_eq : ∀ t : Fin grid0.N, cc0_transform_0 (grid0.coords t) = ![t.val, 0] := by decide +kernel
theorem tf1_eq : ∀ t : Fin grid0.N, cc0_transform_1 (grid0.coords t) = ![0, 0, 0] := by decide +kernel
theorem tf2_eq : ∀ t : Fin grid0.N, cc0_transform_2 (grid0.coords t) = ![0, 0] := by decide +kernel
theorem tf3_eq : ∀ t : Fin grid0.N, cc0_transform_3 (grid0.coords t) = ![0, 0] := by decide +kernel
theorem tf4_eq : ∀ t : Fin grid0.N, cc0_transform_4 (grid0.coords t) = ![t.val, 0] := by decide +kernel
theorem tf5_eq : ∀ t : Fin grid0.N, cc0_transform_5 (grid0.coords t) = ![t.val, 0] := by decide +kernel
theorem tf6_eq : ∀ t : Fin grid0.N, cc0_transform_6 (grid0.coords t) = ![t.val, 0] := by decide +kernel

/-! ## The blocks of the arguments -/

section Blocks
variable (t : Fin cfg0.N)

theorem blk0_at (i k : Fin 1024) (s : Fin 8192) (hs : s.val = 1024 * t.val + i.val) :
    (iblk m c 0 t : S1024x1024.Idx → EReal) (ix2 i k) = (V m c main_arg0 : S8192x1024.Idx → EReal) (ix2 s k) := by
  unfold iblk
  refine congrArg (V m c main_arg0 : S8192x1024.Idx → EReal) (funext fun a => Fin.ext ?_)
  refine (Window.rect_emb_val (cfg0.win 0) t (ix2 i k) a).trans ?_
  rw [show (cfg0.win 0).index t a = _ from congrFun (tf0_eq t) a]
  match a with
  | ⟨0, _⟩ => show t.val * 1024 + i.val = s.val; omega
  | ⟨1, _⟩ => show 0 * 1024 + k.val = k.val; omega

theorem blk1_at (q : Fin 6) (k : Fin 1024) :
    (iblk m c 1 t : S1x6x1024.Idx → EReal) (ix3 (0 : Fin 1) q k) = (V m c main_arg1 : S1x6x1024.Idx → EReal) (ix3 (0 : Fin 1) q k) := by
  unfold iblk
  refine congrArg (V m c main_arg1 : S1x6x1024.Idx → EReal) (funext fun a => Fin.ext ?_)
  refine (Window.rect_emb_val (cfg0.win 1) t (ix3 (0 : Fin 1) q k) a).trans ?_
  rw [show (cfg0.win 1).index t a = _ from congrFun (tf1_eq t) a]
  match a with
  | ⟨0, _⟩ => rfl
  | ⟨1, _⟩ => show 0 * 6 + q.val = q.val; omega
  | ⟨2, _⟩ => show 0 * 1024 + k.val = k.val; omega

theorem blk2_at (k : Fin 1024) :
    (iblk m c 2 t : S1x1024.Idx → EReal) (ix2 (0 : Fin 1) k) = (V m c main_arg2 : S1x1024.Idx → EReal) (ix2 (0 : Fin 1) k) := by
  unfold iblk
  refine congrArg (V m c main_arg2 : S1x1024.Idx → EReal) (funext fun a => Fin.ext ?_)
  refine (Window.rect_emb_val (cfg0.win 2) t (ix2 (0 : Fin 1) k) a).trans ?_
  rw [show (cfg0.win 2).index t a = _ from congrFun (tf2_eq t) a]
  match a with
  | ⟨0, _⟩ => rfl
  | ⟨1, _⟩ => show 0 * 1024 + k.val = k.val; omega

theorem blk3_at (k : Fin 1024) (j : Fin 2944) :
    (iblk m c 3 t : S1024x2944.Idx → EReal) (ix2 k j) = (V m c main_arg3 : S1024x2944.Idx → EReal) (ix2 k j) := by
  unfold iblk
  refine congrArg (V m c main_arg3 : S1024x2944.Idx → EReal) (funext fun a => Fin.ext ?_)
  refine (Window.rect_emb_val (cfg0.win 3) t (ix2 k j) a).trans ?_
  rw [show (cfg0.win 3).index t a = _ from congrFun (tf3_eq t) a]
  match a with
  | ⟨0, _⟩ => show 0 * 1024 + k.val = k.val; omega
  | ⟨1, _⟩ => show 0 * 2944 + j.val = j.val; omega

end Blocks

/-- The projection of token `s` at column `j`. -/
def proj (s : Fin 8192) (j : Fin 2944) : EReal :=
  Cert.Proof.inProj (fun k => (V m c main_arg0 : S8192x1024.Idx → EReal) (ix2 s k)) (fun k => (V m c main_arg2 : S1x1024.Idx → EReal) (ix2 (0 : Fin 1) k))
    (fun k => (V m c main_arg1 : S1x6x1024.Idx → EReal) (ix3 (0 : Fin 1) (1 : Fin 6) k))
    (fun k => (V m c main_arg1 : S1x6x1024.Idx → EReal) (ix3 (0 : Fin 1) (0 : Fin 6) k))
    (fun k => (V m c main_arg3 : S1024x2944.Idx → EReal) (ix2 k j))

/-- The body's product at grid point `t`, read at row `i`: the projection of token `1024 t + i`. -/
theorem prod_at (t : Fin cfg0.N) (i : Fin 1024) (j : Fin 2944) (s : Fin 8192) (hs : s.val = 1024 * t.val + i.val) :
    k0_pay2 (F := Ideal) (View.ld (iblk m c 1 t) r0_0) (View.ld (iblk m c 0 t) r0_1) (View.ld (iblk m c 2 t) r0_2) (View.ld (iblk m c 3 t) r0_3) (ix2 i j)
      = proj m c s j := by
  have e0 : View.ld (iblk m c 1 t) r0_0 = iblk m c 1 t := View.ld_unit_zero (funext fun a => by fin_cases a <;> rfl) _ _
  have e1 : View.ld (iblk m c 0 t) r0_1 = iblk m c 0 t := View.ld_unit_zero (funext fun a => by fin_cases a <;> rfl) _ _
  have e2 : View.ld (iblk m c 2 t) r0_2 = iblk m c 2 t := View.ld_unit_zero (funext fun a => by fin_cases a <;> rfl) _ _
  have e3 : View.ld (iblk m c 3 t) r0_3 = iblk m c 3 t := View.ld_unit_zero (funext fun a => by fin_cases a <;> rfl) _ _
  rw [e0, e1, e2, e3]
  refine (pay_at _ _ _ _ i j).trans ?_
  unfold proj
  exact congr (congr (congr (congr (congrArg Cert.Proof.inProj (funext fun k => blk0_at m c t i k s hs)) (funext fun k => blk2_at m c t k))
    (funext fun k => blk1_at m c t 1 k)) (funext fun k => blk1_at m c t 0 k)) (funext fun k => blk3_at m c t k j)

/-! ## The result arrays -/

theorem emb4 (t : Fin cfg0.N) (i : Fin 1024) (j : Fin 512) (s : Fin 8192) (hs : s.val = 1024 * t.val + i.val) :
    ((((cfg0.win 4).blk t).view.emb (ix2 i j)) : S8192x512.Idx) = ix2 s j := by
  refine funext fun a => Fin.ext ?_
  refine (Window.rect_emb_val (cfg0.win 4) t (ix2 i j) a).trans ?_
  rw [show (cfg0.win 4).index t a = _ from congrFun (tf4_eq t) a]
  match a with
  | ⟨0, _⟩ => show t.val * 1024 + i.val = s.val; omega
  | ⟨1, _⟩ => show 0 * 512 + j.val = j.val; omega

theorem covers4 : (cfg0.win 4).Covers := by
  refine Window.covers_of_index_surj _ rfl (show ∀ a : Fin 2, 0 < S1024x512.size a by decide) fun β => ?_
  have b0 : (β (0 : Fin 2)).val < 8 := Nat.lt_of_lt_of_eq (β (0 : Fin 2)).isLt (show (8192 + 1024 - 1) / 1024 = 8 from rfl)
  have b1 : (β (1 : Fin 2)).val < 1 := Nat.lt_of_lt_of_eq (β (1 : Fin 2)).isLt (show (512 + 512 - 1) / 512 = 1 from rfl)
  refine ⟨(⟨(β (0 : Fin 2)).val, b0⟩ : Fin 8), fun a => ?_⟩
  rw [show (cfg0.win 4).index (⟨(β (0 : Fin 2)).val, b0⟩ : Fin 8) a = _ from congrFun (tf4_eq _) a]
  match a with
  | ⟨0, _⟩ => rfl
  | ⟨1, _⟩ => show 0 = (β (1 : Fin 2)).val; omega

theorem emb5 (t : Fin cfg0.N) (i : Fin 1024) (j : Fin 1536) (s : Fin 8192) (hs : s.val = 1024 * t.val + i.val) :
    ((((cfg0.win 5).blk t).view.emb (ix2 i j)) : S8192x1536.Idx) = ix2 s j := by
  refine funext fun a => Fin.ext ?_
  refine (Window.rect_emb_val (cfg0.win 5) t (ix2 i j) a).trans ?_
  rw [show (cfg0.win 5).index t a = _ from congrFun (tf5_eq t) a]
  match a with
  | ⟨0, _⟩ => show t.val * 1024 + i.val = s.val; omega
  | ⟨1, _⟩ => show 0 * 1536 + j.val = j.val; omega

theorem covers5 : (cfg0.win 5).Covers := by
  refine Window.covers_of_index_surj _ rfl (show ∀ a : Fin 2, 0 < S1024x1536.size a by decide) fun β => ?_
  have b0 : (β (0 : Fin 2)).val < 8 := Nat.lt_of_lt_of_eq (β (0 : Fin 2)).isLt (show (8192 + 1024 - 1) / 1024 = 8 from rfl)
  have b1 : (β (1 : Fin 2)).val < 1 := Nat.lt_of_lt_of_eq (β (1 : Fin 2)).isLt (show (1536 + 1536 - 1) / 1536 = 1 from rfl)
  refine ⟨(⟨(β (0 : Fin 2)).val, b0⟩ : Fin 8), fun a => ?_⟩
  rw [show (cfg0.win 5).index (⟨(β (0 : Fin 2)).val, b0⟩ : Fin 8) a = _ from congrFun (tf5_eq _) a]
  match a with
  | ⟨0, _⟩ => rfl
  | ⟨1, _⟩ => show 0 = (β (1 : Fin 2)).val; omega

theorem emb6 (t : Fin cfg0.N) (i : Fin 1024) (j : Fin 384) (s : Fin 8192) (hs : s.val = 1024 * t.val + i.val) :
    ((((cfg0.win 6).blk t).view.emb (ix2 i j)) : S8192x384.Idx) = ix2 s j := by
  refine funext fun a => Fin.ext ?_
  refine (Window.rect_emb_val (cfg0.win 6) t (ix2 i j) a).trans ?_
  rw [show (cfg0.win 6).index t a = _ from congrFun (tf6_eq t) a]
  match a with
  | ⟨0, _⟩ => show t.val * 1024 + i.val = s.val; omega
  | ⟨1, _⟩ => show 0 * 384 + j.val = j.val; omega

theorem covers6 : (cfg0.win 6).Covers := by
  refine Window.covers_of_index_surj _ rfl (show ∀ a : Fin 2, 0 < S1024x384.size a by decide) fun β => ?_
  have b0 : (β (0 : Fin 2)).val < 8 := Nat.lt_of_lt_of_eq (β (0 : Fin 2)).isLt (show (8192 + 1024 - 1) / 1024 = 8 from rfl)
  have b1 : (β (1 : Fin 2)).val < 1 := Nat.lt_of_lt_of_eq (β (1 : Fin 2)).isLt (show (384 + 384 - 1) / 384 = 1 from rfl)
  refine ⟨(⟨(β (0 : Fin 2)).val, b0⟩ : Fin 8), fun a => ?_⟩
  rw [show (cfg0.win 6).index (⟨(β (0 : Fin 2)).val, b0⟩ : Fin 8) a = _ from congrFun (tf6_eq _) a]
  match a with
  | ⟨0, _⟩ => rfl
  | ⟨1, _⟩ => show 0 = (β (1 : Fin 2)).val; omega

/-- The gate as the body computes it. -/
theorem glu_eq (a b : Ideal .f32) : FloatOps.mulf a (FloatOps.divf (Scalar.ofBits .f32 0x3F800000#32) (FloatOps.addf (Scalar.ofBits .f32 0x3F800000#32)
    (FloatOps.exp (FloatOps.subf (Scalar.ofBits .f32 0x00000000#32) b)))) = Cert.Proof.glu a b := by
  pointwise
  simp only [zero_sub]
  rfl

/-- The first result: the convolution's value gated by its gate. -/
theorem final4 (s : Fin 8192) (j : Fin 512) :
    ((dats m 0 c).arrAt 4 cfg0.N : S8192x512.Idx → EReal) (ix2 s j) = Cert.Proof.glu (proj m c s ⟨j.val, by omega⟩) (proj m c s ⟨j.val + 512, by omega⟩) := by
  refine (dats m 0 c).arrAt_forall_of_covers 4 (fun i v => i = (ix2 s j : S8192x512.Idx) → v = _) covers4 (fun t hf y => ?_) (ix2 s j)
    (Memref.isWhole_whole _) rfl
  intro hy
  obtain ⟨i, j', rfl⟩ : ∃ (i : Fin 1024) (j' : Fin 512), (y : S1024x512.Idx) = ix2 i j' := ⟨y 0, y 1, eq_ix2 y⟩
  have ht : t.val < 8 := t.isLt
  rw [emb4 t i j' ⟨1024 * t.val + i.val, by omega⟩ rfl] at hy
  have h0 : 1024 * t.val + i.val = s.val := congrArg (fun x : S8192x512.Idx => (x 0).val) hy
  have h1 : j'.val = j.val := congrArg (fun x : S8192x512.Idx => (x 1).val) hy
  obtain rfl : j' = j := Fin.ext h1
  show (dats m 0 c).after 4 t (ix2 i j') = _
  rw [after0_4]
  unfold out0_4
  refine (Value.canon4_eq _ _ _ _ (ix2 i j')).trans ?_
  refine (glu_eq _ _).trans ?_
  rw [show Value.ix4_0 (ix2 i j') = ix2 i (⟨j'.val, by omega⟩ : Fin 2944) from eq_ix2 _,
    show Value.ix4_1 (ix2 i j') = ix2 i (⟨j'.val + 512, by omega⟩ : Fin 2944) from eq_ix2 _]
  exact congr (congrArg Cert.Proof.glu (prod_at m c t i _ s h0.symm)) (prod_at m c t i _ s h0.symm)

/-- The second result: receptance, keys and values. -/
theorem final5 (s : Fin 8192) (j : Fin 1536) :
    ((dats m 0 c).arrAt 5 cfg0.N : S8192x1536.Idx → EReal) (ix2 s j) = proj m c s ⟨j.val + 1024, by omega⟩ := by
  refine (dats m 0 c).arrAt_forall_of_covers 5 (fun i v => i = (ix2 s j : S8192x1536.Idx) → v = _) covers5 (fun t hf y => ?_) (ix2 s j)
    (Memref.isWhole_whole _) rfl
  intro hy
  obtain ⟨i, j', rfl⟩ : ∃ (i : Fin 1024) (j' : Fin 1536), (y : S1024x1536.Idx) = ix2 i j' := ⟨y 0, y 1, eq_ix2 y⟩
  have ht : t.val < 8 := t.isLt
  rw [emb5 t i j' ⟨1024 * t.val + i.val, by omega⟩ rfl] at hy
  have h0 : 1024 * t.val + i.val = s.val := congrArg (fun x : S8192x1536.Idx => (x 0).val) hy
  have h1 : j'.val = j.val := congrArg (fun x : S8192x1536.Idx => (x 1).val) hy
  obtain rfl : j' = j := Fin.ext h1
  show (dats m 0 c).after 5 t (ix2 i j') = _
  rw [after0_5]
  unfold out0_5
  refine (Value.canon5_eq _ _ _ _ (ix2 i j')).trans ?_
  show k0_pay2 (F := Ideal) _ _ _ _ (Value.ix5_0 (ix2 i j')) = _
  rw [show Value.ix5_0 (ix2 i j') = ix2 i (⟨j'.val + 1024, by omega⟩ : Fin 2944) from eq_ix2 _]
  exact prod_at m c t i _ s h0.symm

/-- The third result: the low-rank projections. -/
theorem final6 (s : Fin 8192) (j : Fin 384) :
    ((dats m 0 c).arrAt 6 cfg0.N : S8192x384.Idx → EReal) (ix2 s j) = proj m c s ⟨j.val + 2560, by omega⟩ := by
  refine (dats m 0 c).arrAt_forall_of_covers 6 (fun i v => i = (ix2 s j : S8192x384.Idx) → v = _) covers6 (fun t hf y => ?_) (ix2 s j)
    (Memref.isWhole_whole _) rfl
  intro hy
  obtain ⟨i, j', rfl⟩ : ∃ (i : Fin 1024) (j' : Fin 384), (y : S1024x384.Idx) = ix2 i j' := ⟨y 0, y 1, eq_ix2 y⟩
  have ht : t.val < 8 := t.isLt
  rw [emb6 t i j' ⟨1024 * t.val + i.val, by omega⟩ rfl] at hy
  have h0 : 1024 * t.val + i.val = s.val := congrArg (fun x : S8192x384.Idx => (x 0).val) hy
  have h1 : j'.val = j.val := congrArg (fun x : S8192x384.Idx => (x 1).val) hy
  obtain rfl : j' = j := Fin.ext h1
  show (dats m 0 c).after 6 t (ix2 i j') = _
  rw [after0_6]
  unfold out0_6
  refine (Value.canon6_eq _ _ _ _ (ix2 i j')).trans ?_
  show k0_pay2 (F := Ideal) _ _ _ _ (Value.ix6_0 (ix2 i j')) = _
  rw [show Value.ix6_0 (ix2 i j') = ix2 i (⟨j'.val + 2560, by omega⟩ : Fin 2944) from eq_ix2 _]
  exact prod_at m c t i _ s h0.symm

end Cert.Kernel3Ideal.Hand

end
-- ==== Proof.In3Value.lean ====
/- The input projection of the context tokens: the reference at an index, and the claims. -/
module

public import proofs.«01_k».proof.Defs
public import proofs.«01_k».proof.Proof.In3
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Reference3Ideal.Run
public import Idealize.ShloMosaic.Lib.Quiescent
public import Idealize.ShloMosaic.Lib.Tactic.CleanTypes

@[expose] public section

noncomputable section

namespace Cert.Reference3Ideal.Hand

open Cert.Reference3Ideal Cert.Reference3Ideal.Gen
open Idealize.ShloMosaic Idealize.ShloMosaic.TcCoe

/-- The reference's product as an array. -/
def prod (x : FVec Ideal S8192x1024 .f32) (mod : FVec Ideal S1x6x1024 .f32) (g : FVec Ideal S1x1024 .f32) (w : FVec Ideal S1024x2944 .bf16) :
    FVec Ideal S8192x2944 .f32 :=
  shapeCast S8192x2944 (Host.dotGeneral (F := Ideal) dot_S32x256x1024_S1024x2944_S32x256x2944_2_0_01_1_n_n none (addf (mulf (mulf (mulf (shapeCast _ x shapeCasts_S8192x1024_S32x256x1024) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (shapeCast _ x shapeCasts_S8192x1024_S32x256x1024) (shapeCast _ x shapeCasts_S8192x1024_S32x256x1024)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![1, 2] bcast_S1x1024_S1x1x1024_1_2 g))) (broadcastInDim S32x256x1024 ![0, 1, 2] bcast_S1x1x1024_S32x256x1024_0_1_2 (addf (broadcastInDim S1x1x1024 ![] bcast_S_S1x1x1024 (constant S_ .f32 0x3F800000#32)) (broadcastInDim S1x1x1024 ![0, 2] bcast_S1x1024_S1x1x1024_0_2 (shapeCast _ (extractStridedSlice S1x1x1024 ![0, 1, 0] mod slices_S1x6x1024_S1x1x1024_0_1_0) shapeCasts_S1x1x1024_S1x1024))))) (broadcastInDim S32x256x1024 ![0, 1, 2] bcast_S1x1x1024_S32x256x1024_0_1_2 (broadcastInDim S1x1x1024 ![0, 2] bcast_S1x1024_S1x1x1024_0_2 (shapeCast _ (extractStridedSlice S1x1x1024 ![0, 0, 0] mod slices_S1x6x1024_S1x1x1024_0_0_0) shapeCasts_S1x1x1024_S1x1024)))) (extf .f32 w bitsLt_bf16_f32)) shapeCasts_S32x256x2944_S8192x2944

set_option maxRecDepth 16384 in
/-- The reference's product at an index. -/
theorem prod_at (x : FVec Ideal S8192x1024 .f32) (mod : FVec Ideal S1x6x1024 .f32) (g : FVec Ideal S1x1024 .f32) (w : FVec Ideal S1024x2944 .bf16)
    (s : Fin 8192) (j : Fin 2944) :
    prod x mod g w (ix2 s j) = Cert.Proof.inProj (fun k => x (ix2 s k)) (fun k => g (ix2 (0 : Fin 1) k))
      (fun k => mod (ix3 (0 : Fin 1) (1 : Fin 6) k)) (fun k => mod (ix3 (0 : Fin 1) (0 : Fin 6) k))
      (fun k => w (ix2 k j)) := by
  unfold prod
  clean_types
  pointwise
  rfl

end Cert.Reference3Ideal.Hand

namespace Cert.Proof

open Idealize.ShloMosaic Idealize.SL.Sem

theorem frame_K3 : Cert.quiescent_Kernel3 (hKernel3 := Cert.Kernel3.Gen.facts) := fun m ρ _ => Cert.Kernel3.Gen.frame m ρ
theorem frame_I3 : Cert.quiescent_Kernel3Ideal (hKernel3Ideal := Cert.Kernel3Ideal.Gen.facts) := fun m ρ _ => Cert.Kernel3Ideal.Gen.frame m ρ
theorem frame_R3 : Cert.quiescent_Reference3Ideal (hReference3Ideal := Cert.Reference3Ideal.Gen.facts) :=
  fun m ρ _ => (θ_run Cert.Reference3Ideal.defs _ _).mono (fun r p => ⟨fun c => (p c).2.2.2, sem_eq_zero_of_no_sems rfl r.2⟩)
    (Cert.Reference3Ideal.Value.run m ρ)

open Cert.Reference3Ideal Cert.Reference3Ideal.Gen in
/-- The three results as the reference builds them from its product, at an index. -/
theorem ref3_first (p : FVec Ideal S8192x2944 .f32) (s : Fin 8192) (j : Fin 512) :
    (mulf (F := Ideal) (φ := .f32) (extractStridedSlice S8192x512 ![0, 0] p slices_S8192x2944_S8192x512_0_0) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 512] p slices_S8192x2944_S8192x512_0_512)))))) (ix2 s j)
      = glu (p (ix2 s (⟨j.val, by omega⟩ : Fin 2944))) (p (ix2 s (⟨512 + j.val, by omega⟩ : Fin 2944))) := by
  pointwise
  rfl

open Cert.Reference3Ideal Cert.Reference3Ideal.Gen in
theorem ref3_second (p : FVec Ideal S8192x2944 .f32) (s : Fin 8192) (j : Fin 1536) :
    extractStridedSlice S8192x1536 ![0, 1024] p slices_S8192x2944_S8192x1536_0_1024 (ix2 s j) = p (ix2 s (⟨1024 + j.val, by omega⟩ : Fin 2944)) := by
  pointwise

open Cert.Reference3Ideal Cert.Reference3Ideal.Gen in
theorem ref3_third (p : FVec Ideal S8192x2944 .f32) (s : Fin 8192) (j : Fin 384) :
    extractStridedSlice S8192x384 ![0, 2560] p slices_S8192x2944_S8192x384_0_2560 (ix2 s j) = p (ix2 s (⟨2560 + j.val, by omega⟩ : Fin 2944)) := by
  pointwise

theorem value3 : Cert.algebraic_Kernel3Ideal_Reference3Ideal (hKernel3Ideal := Cert.Kernel3Ideal.Gen.facts)
    (hReference3Ideal := Cert.Reference3Ideal.Gen.facts) := by
  intro m g m' g' _ hag
  have hp : ∀ (c : Dev Cert.Kernel3Ideal.nD) (s : Fin 8192) (j : Fin 2944),
      Cert.Reference3Ideal.Hand.prod (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3)) (ix2 s j) = Cert.Kernel3Ideal.Hand.proj m c s j := by
    intro c s j
    obtain ⟨h0, h1, h2, h3⟩ := hag c
    rw [h0, h1, h2, h3]
    exact Cert.Reference3Ideal.Hand.prod_at _ _ _ _ s j
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N,
    fun c => (Cert.Kernel3Ideal.Gen.dats m 0 c).arrAt 6 Cert.Kernel3Ideal.cfg0.N, Cert.Kernel3Ideal.Value.run_blocks m g,
    (θ_run Cert.Reference3Ideal.defs _ _).mono (fun r p c => ⟨(p c).1.trans (funext fun i => ?_), (p c).2.1.trans (funext fun i => ?_),
      (p c).2.2.1.trans (funext fun i => ?_), (p c).2.2.2⟩) (Cert.Reference3Ideal.Value.run m' g')⟩
  · obtain ⟨s, j, rfl⟩ : ∃ (s : Fin 8192) (j : Fin 512), i = ix2 s j := ⟨i 0, i 1, eq_ix2 i⟩
    exact (ref3_first (Cert.Reference3Ideal.Hand.prod _ _ _ _) s j).trans
      ((congr (congrArg glu (hp c s _)) ((hp c s _).trans (congrArg (Cert.Kernel3Ideal.Hand.proj m c s) (Fin.ext (Nat.add_comm _ _))))).trans (Cert.Kernel3Ideal.Hand.final4 m c s j).symm)
  · obtain ⟨s, j, rfl⟩ : ∃ (s : Fin 8192) (j : Fin 1536), i = ix2 s j := ⟨i 0, i 1, eq_ix2 i⟩
    exact (ref3_second (Cert.Reference3Ideal.Hand.prod _ _ _ _) s j).trans (((hp c s _).trans (congrArg (Cert.Kernel3Ideal.Hand.proj m c s) (Fin.ext (Nat.add_comm _ _)))).trans (Cert.Kernel3Ideal.Hand.final5 m c s j).symm)
  · obtain ⟨s, j, rfl⟩ : ∃ (s : Fin 8192) (j : Fin 384), i = ix2 s j := ⟨i 0, i 1, eq_ix2 i⟩
    exact (ref3_third (Cert.Reference3Ideal.Hand.prod _ _ _ _) s j).trans (((hp c s _).trans (congrArg (Cert.Kernel3Ideal.Hand.proj m c s) (Fin.ext (Nat.add_comm _ _)))).trans (Cert.Kernel3Ideal.Hand.final6 m c s j).symm)

end Cert.Proof

end
-- ==== Proof.Fin4.lean ====
/- The residual sum of the latent tokens: what the kernel's result holds at an index, the reference at an index, and the claims. -/
module

public import proofs.«01_k».proof.Defs
public import proofs.«01_k».proof.Proof.InBase
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Lib.Pipeline.Covers
public import Idealize.ShloMosaic.Lib.Quiescent
public import Idealize.ShloMosaic.Lib.Tactic.CleanTypes

@[expose] public section

noncomputable section

namespace Cert.Kernel4Ideal.Hand

open Cert.Kernel4Ideal Cert.Kernel4Ideal.Gen
open Idealize.ShloMosaic Idealize.ShloMosaic.TcCoe
open Idealize.ShloMosaic.Pipeline (Dat Cfg Window)

set_option maxRecDepth 16384 in
/-- The body's result at an index. -/
theorem pay_at (x : S1024x1024.Idx → Ideal .f32) (y0 y1 y2 y3 : S1x1024x1024.Idx → Ideal .bf16) (r : S1024x128.Idx → Ideal .f32)
    (v : S1x6x1024.Idx → Ideal .f32) (g : S1x1024.Idx → Ideal .f32) (i k : Fin 1024) :
    k0_pay1 (F := Ideal) (k0_pay2 r y0 y1 y2 y3) x (k0_pay3 v) g (k0_pay4 r y0 y1 y2 y3) (ix2 i k)
      = Cert.Proof.residual (fun k => x (ix2 i k)) (fun k => v (ix3 (0 : Fin 1) (5 : Fin 6) k)) (fun k => g (ix2 (0 : Fin 1) k))
        (fun q => r (ix2 i (⟨4 + q.val, by omega⟩ : Fin 128))) (fun q k => ![y0, y1, y2, y3] q (ix3 (0 : Fin 1) i k)) k := by
  unfold Cert.Proof.residual
  simp only [Fin.sum_univ_four]
  pointwise [k0_pay1, k0_pay2, k0_pay3, k0_pay4]
  rfl

/-- The body's load of an expert's rows, at an index. -/
theorem row_at (x : Vec Ideal S4x1024x1024 .bf16) (q : Fin 4) (i k : Fin 1024) :
    (![View.ld x r0_2, View.ld x r0_3, View.ld x r0_4, View.ld x r0_5] : Fin 4 → Vec Ideal S1x1024x1024 .bf16) q (ix3 (0 : Fin 1) i k)
      = (x : S4x1024x1024.Idx → EReal) (ix3 q i k) := by
  have h : ∀ (o : Fin 4) (inb : ∀ a, ![o.val, 0, 0] a + S1x1024x1024.size a ≤ S4x1024x1024.size a),
      View.ld (x : S4x1024x1024.Idx → Elt Ideal .bf16) (Rect.unit (s := S4x1024x1024) ![o.val, 0, 0] S1x1024x1024.size inb) (ix3 (0 : Fin 1) i k)
        = (x : S4x1024x1024.Idx → EReal) (ix3 o i k) := fun o inb => by
    refine congrArg (x : S4x1024x1024.Idx → EReal) (funext fun a => Fin.ext ?_)
    match a with
    | ⟨0, _⟩ => show o.val + 1 * 0 = o.val; omega
    | ⟨1, _⟩ => show 0 + 1 * i.val = i.val; omega
    | ⟨2, _⟩ => show 0 + 1 * k.val = k.val; omega
  match q with
  | ⟨0, _⟩ => exact h 0 _
  | ⟨1, _⟩ => exact h 1 _
  | ⟨2, _⟩ => exact h 2 _
  | ⟨3, _⟩ => exact h 3 _

/-- What the body stores, at an index: the residual sum of the block's row. -/
theorem stored_at (x0 : Vec Ideal S1024x1024 .f32) (x1 : Vec Ideal S4x1024x1024 .bf16) (x2 : Vec Ideal S1024x128 .f32)
    (x3 : Vec Ideal S1x6x1024 .f32) (x4 : Vec Ideal S1x1024 .f32) (i k : Fin 1024) :
    (out0_5 (F := Ideal) x0 x1 x2 x3 x4 : S1024x1024.Idx → EReal) (ix2 i k)
      = Cert.Proof.residual (fun k => x0 (ix2 i k)) (fun k => x3 (ix3 (0 : Fin 1) (5 : Fin 6) k)) (fun k => x4 (ix2 (0 : Fin 1) k))
        (fun q => x2 (ix2 i (⟨4 + q.val, by omega⟩ : Fin 128))) (fun q k => x1 (ix3 q i k)) k := by
  have e0 : View.ld (x0 : S1024x1024.Idx → Elt Ideal .f32) r0_6 = x0 := View.ld_unit_zero (funext fun a => by fin_cases a <;> rfl) _ _
  have e2 : View.ld (x2 : S1024x128.Idx → Elt Ideal .f32) r0_1 = x2 := View.ld_unit_zero (funext fun a => by fin_cases a <;> rfl) _ _
  have e3 : View.ld (x3 : S1x6x1024.Idx → Elt Ideal .f32) r0_0 = x3 := View.ld_unit_zero (funext fun a => by fin_cases a <;> rfl) _ _
  have e4 : View.ld (x4 : S1x1024.Idx → Elt Ideal .f32) r0_7 = x4 := View.ld_unit_zero (funext fun a => by fin_cases a <;> rfl) _ _
  unfold out0_5
  rw [e0, e2, e3, e4]
  refine (congrFun (View.canon_unit_zero (funext fun a => by fin_cases a <;> rfl) _ _) (ix2 i k)).trans ?_
  refine (pay_at _ _ _ _ _ _ _ _ i k).trans ?_
  exact congrFun (congrArg (Cert.Proof.residual _ _ _ _) (funext fun q => funext fun k => row_at x1 q i k)) k

variable (m : (ℓ : Loc nD τ sig) → Buf (Elt Ideal) ℓ) (c : Dev nD)

theorem tf0_eq : ∀ t : Fin grid0.N, cc0_transform_0 (grid0.coords t) = ![t.val, 0] := by decide +kernel
theorem tf1_eq : ∀ t : Fin grid0.N, cc0_transform_1 (grid0.coords t) = ![0, t.val, 0] := by decide +kernel
theorem tf2_eq : ∀ t : Fin grid0.N, cc0_transform_2 (grid0.coords t) = ![t.val, 0] := by decide +kernel
theorem tf3_eq : ∀ t : Fin grid0.N, cc0_transform_3 (grid0.coords t) = ![t.val, 0, 0] := by decide +kernel
theorem tf4_eq : ∀ t : Fin grid0.N, cc0_transform_4 (grid0.coords t) = ![0, 0] := by decide +kernel
theorem tf5_eq : ∀ t : Fin grid0.N, cc0_transform_5 (grid0.coords t) = ![t.val, 0] := by decide +kernel

section Blocks
variable (t : Fin cfg0.N)

theorem blk0_at (i k : Fin 1024) (s : Fin 8192) (hs : s.val = 1024 * t.val + i.val) :
    (iblk m c 0 t : S1024x1024.Idx → EReal) (ix2 i k) = (V m c main_arg0 : S8192x1024.Idx → EReal) (ix2 s k) := by
  unfold iblk
  refine congrArg (V m c main_arg0 : S8192x1024.Idx → EReal) (funext fun a => Fin.ext ?_)
  refine (Window.rect_emb_val (cfg0.win 0) t (ix2 i k) a).trans ?_
  rw [show (cfg0.win 0).index t a = _ from congrFun (tf0_eq t) a]
  match a with
  | ⟨0, _⟩ => show t.val * 1024 + i.val = s.val; omega
  | ⟨1, _⟩ => show 0 * 1024 + k.val = k.val; omega

theorem blk1_at (q : Fin 4) (i k : Fin 1024) (s : Fin 8192) (hs : s.val = 1024 * t.val + i.val) :
    (iblk m c 1 t : S4x1024x1024.Idx → EReal) (ix3 q i k) = (V m c main_arg1 : S4x8192x1024.Idx → EReal) (ix3 q s k) := by
  unfold iblk
  refine congrArg (V m c main_arg1 : S4x8192x1024.Idx → EReal) (funext fun a => Fin.ext ?_)
  refine (Window.rect_emb_val (cfg0.win 1) t (ix3 q i k) a).trans ?_
  rw [show (cfg0.win 1).index t a = _ from congrFun (tf1_eq t) a]
  match a with
  | ⟨0, _⟩ => show 0 * 4 + q.val = q.val; omega
  | ⟨1, _⟩ => show t.val * 1024 + i.val = s.val; omega
  | ⟨2, _⟩ => show 0 * 1024 + k.val = k.val; omega

theorem blk2_at (i : Fin 1024) (l : Fin 128) (s : Fin 8192) (hs : s.val = 1024 * t.val + i.val) :
    (iblk m c 2 t : S1024x128.Idx → EReal) (ix2 i l) = (V m c main_arg2 : S8192x128.Idx → EReal) (ix2 s l) := by
  unfold iblk
  refine congrArg (V m c main_arg2 : S8192x128.Idx → EReal) (funext fun a => Fin.ext ?_)
  refine (Window.rect_emb_val (cfg0.win 2) t (ix2 i l) a).trans ?_
  rw [show (cfg0.win 2).index t a = _ from congrFun (tf2_eq t) a]
  match a with
  | ⟨0, _⟩ => show t.val * 1024 + i.val = s.val; omega
  | ⟨1, _⟩ => show 0 * 128 + l.val = l.val; omega

theorem blk3_at (q : Fin 6) (k : Fin 1024) (b : Fin 8) (hb : b.val = t.val) :
    (iblk m c 3 t : S1x6x1024.Idx → EReal) (ix3 (0 : Fin 1) q k) = (V m c main_arg3 : S8x6x1024.Idx → EReal) (ix3 b q k) := by
  unfold iblk
  refine congrArg (V m c main_arg3 : S8x6x1024.Idx → EReal) (funext fun a => Fin.ext ?_)
  refine (Window.rect_emb_val (cfg0.win 3) t (ix3 (0 : Fin 1) q k) a).trans ?_
  rw [show (cfg0.win 3).index t a = _ from congrFun (tf3_eq t) a]
  match a with
  | ⟨0, _⟩ => show t.val * 1 + 0 = b.val; omega
  | ⟨1, _⟩ => show 0 * 6 + q.val = q.val; omega
  | ⟨2, _⟩ => show 0 * 1024 + k.val = k.val; omega

theorem blk4_at (k : Fin 1024) :
    (iblk m c 4 t : S1x1024.Idx → EReal) (ix2 (0 : Fin 1) k) = (V m c main_arg4 : S1x1024.Idx → EReal) (ix2 (0 : Fin 1) k) := by
  unfold iblk
  refine congrArg (V m c main_arg4 : S1x1024.Idx → EReal) (funext fun a => Fin.ext ?_)
  refine (Window.rect_emb_val (cfg0.win 4) t (ix2 (0 : Fin 1) k) a).trans ?_
  rw [show (cfg0.win 4).index t a = _ from congrFun (tf4_eq t) a]
  match a with
  | ⟨0, _⟩ => rfl
  | ⟨1, _⟩ => show 0 * 1024 + k.val = k.val; omega

end Blocks

/-- The residual sum of token `s` at column `k`. -/
def token (s : Fin 8192) (k : Fin 1024) : EReal :=
  Cert.Proof.residual (fun k => (V m c main_arg0 : S8192x1024.Idx → EReal) (ix2 s k))
    (fun k => (V m c main_arg3 : S8x6x1024.Idx → EReal) (ix3 (⟨s.val / 1024, by omega⟩ : Fin 8) (5 : Fin 6) k))
    (fun k => (V m c main_arg4 : S1x1024.Idx → EReal) (ix2 (0 : Fin 1) k))
    (fun q => (V m c main_arg2 : S8192x128.Idx → EReal) (ix2 s (⟨4 + q.val, by omega⟩ : Fin 128)))
    (fun q k => (V m c main_arg1 : S4x8192x1024.Idx → EReal) (ix3 q s k)) k

/-- What grid point `t` leaves at row `i` of its block: the residual sum of token `1024 t + i`. -/
theorem out_at (t : Fin cfg0.N) (i k : Fin 1024) (s : Fin 8192) (hs : s.val = 1024 * t.val + i.val) :
    (out0_5 (F := Ideal) (iblk m c 0 t) (iblk m c 1 t) (iblk m c 2 t) (iblk m c 3 t) (iblk m c 4 t) : S1024x1024.Idx → EReal) (ix2 i k) = token m c s k := by
  have hb : s.val / 1024 = t.val := by omega
  refine (stored_at _ _ _ _ _ i k).trans ?_
  unfold token
  refine congrFun (congr (congr (congr (congr (congrArg Cert.Proof.residual (funext fun k => blk0_at m c t i k s hs)) (funext fun k => blk3_at m c t 5 k _ hb))
    (funext fun k => blk4_at m c t k)) (funext fun q => blk2_at m c t i _ s hs)) (funext fun q => funext fun k => ?_)) k
  exact blk1_at m c t q i k s hs

theorem emb5 (t : Fin cfg0.N) (i k : Fin 1024) (s : Fin 8192) (hs : s.val = 1024 * t.val + i.val) :
    ((((cfg0.win 5).blk t).view.emb (ix2 i k)) : S8192x1024.Idx) = ix2 s k := by
  refine funext fun a => Fin.ext ?_
  refine (Window.rect_emb_val (cfg0.win 5) t (ix2 i k) a).trans ?_
  rw [show (cfg0.win 5).index t a = _ from congrFun (tf5_eq t) a]
  match a with
  | ⟨0, _⟩ => show t.val * 1024 + i.val = s.val; omega
  | ⟨1, _⟩ => show 0 * 1024 + k.val = k.val; omega

theorem covers5 : (cfg0.win 5).Covers := by
  refine Window.covers_of_index_surj _ rfl (show ∀ a : Fin 2, 0 < S1024x1024.size a by decide) fun β => ?_
  have b0 : (β (0 : Fin 2)).val < 8 := Nat.lt_of_lt_of_eq (β (0 : Fin 2)).isLt (show (8192 + 1024 - 1) / 1024 = 8 from rfl)
  have b1 : (β (1 : Fin 2)).val < 1 := Nat.lt_of_lt_of_eq (β (1 : Fin 2)).isLt (show (1024 + 1024 - 1) / 1024 = 1 from rfl)
  refine ⟨(⟨(β (0 : Fin 2)).val, b0⟩ : Fin 8), fun a => ?_⟩
  rw [show (cfg0.win 5).index (⟨(β (0 : Fin 2)).val, b0⟩ : Fin 8) a = _ from congrFun (tf5_eq _) a]
  match a with
  | ⟨0, _⟩ => rfl
  | ⟨1, _⟩ => show 0 = (β (1 : Fin 2)).val; omega

/-- The result array. -/
theorem final5 (s : Fin 8192) (k : Fin 1024) :
    ((dats m 0 c).arrAt 5 cfg0.N : S8192x1024.Idx → EReal) (ix2 s k) = token m c s k := by
  refine (dats m 0 c).arrAt_forall_of_covers 5 (fun i v => i = (ix2 s k : S8192x1024.Idx) → v = _) covers5 (fun t hf y => ?_) (ix2 s k)
    (Memref.isWhole_whole _) rfl
  intro hy
  obtain ⟨i, k', rfl⟩ : ∃ i k' : Fin 1024, (y : S1024x1024.Idx) = ix2 i k' := ⟨y 0, y 1, eq_ix2 y⟩
  have ht : t.val < 8 := t.isLt
  rw [emb5 t i k' ⟨1024 * t.val + i.val, by omega⟩ rfl] at hy
  have h0 : 1024 * t.val + i.val = s.val := congrArg (fun x : S8192x1024.Idx => (x 0).val) hy
  have h1 : k'.val = k.val := congrArg (fun x : S8192x1024.Idx => (x 1).val) hy
  obtain rfl : k' = k := Fin.ext h1
  show (dats m 0 c).after 5 t (ix2 i k') = _
  rw [after0_5]
  exact out_at m c t i k' s h0.symm

end Cert.Kernel4Ideal.Hand

namespace Cert.Reference4Ideal.Hand

open Cert.Reference4Ideal Cert.Reference4Ideal.Gen
open Idealize.ShloMosaic Idealize.ShloMosaic.TcCoe

set_option maxRecDepth 16384 in
/-- The reference's result at an index. -/
theorem ref_at (x : FVec Ideal S8192x1024 .f32) (y4 : FVec Ideal S4x8192x1024 .bf16) (route : FVec Ideal S8192x128 .f32)
    (mod : FVec Ideal S8x6x1024 .f32) (g : FVec Ideal S1x1024 .f32) (s : Fin 8192) (k : Fin 1024) :
    (shapeCast S8192x1024 (addf (F := Ideal) (φ := .f32) (shapeCast _ x shapeCasts_S8192x1024_S8x1024x1024) (mulf (broadcastInDim S8x1024x1024 ![0, 1, 2] bcast_S8x1x1024_S8x1024x1024_0_1_2 (broadcastInDim S8x1x1024 ![0, 2] bcast_S8x1024_S8x1x1024_0_2 (shapeCast _ (extractStridedSlice S8x1x1024 ![0, 5, 0] mod slices_S8x6x1024_S8x1x1024_0_5_0) shapeCasts_S8x1x1024_S8x1024))) (mulf (mulf (shapeCast _ (Host.dotGeneral (F := Ideal) dot_S8192x4_S4x8192x1024_S8192x1024_1_0_n_2_0_1 none (extractStridedSlice S8192x4 ![0, 4] route slices_S8192x128_S8192x4_0_4) (extf .f32 y4 bitsLt_bf16_f32)) shapeCasts_S8192x1024_S8x1024x1024) (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf (shapeCast _ (Host.dotGeneral (F := Ideal) dot_S8192x4_S4x8192x1024_S8192x1024_1_0_n_2_0_1 none (extractStridedSlice S8192x4 ![0, 4] route slices_S8192x128_S8192x4_0_4) (extf .f32 y4 bitsLt_bf16_f32)) shapeCasts_S8192x1024_S8x1024x1024) (shapeCast _ (Host.dotGeneral (F := Ideal) dot_S8192x4_S4x8192x1024_S8192x1024_1_0_n_2_0_1 none (extractStridedSlice S8192x4 ![0, 4] route slices_S8192x128_S8192x4_0_4) (extf .f32 y4 bitsLt_bf16_f32)) shapeCasts_S8192x1024_S8x1024x1024)) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![1, 2] bcast_S1x1024_S1x1x1024_1_2 g))))) shapeCasts_S8x1024x1024_S8192x1024 : FVec Ideal S8192x1024 .f32) (ix2 s k)
      = Cert.Proof.residual (fun k => x (ix2 s k)) (fun k => mod (ix3 (⟨s.val / 1024, by omega⟩ : Fin 8) (5 : Fin 6) k)) (fun k => g (ix2 (0 : Fin 1) k))
        (fun q => route (ix2 s (⟨4 + q.val, by omega⟩ : Fin 128))) (fun q k => y4 (ix3 q s k)) k := by
  clean_types
  pointwise
  rfl

end Cert.Reference4Ideal.Hand

namespace Cert.Proof

open Idealize.ShloMosaic Idealize.SL.Sem

theorem frame_K4 : Cert.quiescent_Kernel4 (hKernel4 := Cert.Kernel4.Gen.facts) := fun m ρ _ => Cert.Kernel4.Gen.frame m ρ
theorem frame_I4 : Cert.quiescent_Kernel4Ideal (hKernel4Ideal := Cert.Kernel4Ideal.Gen.facts) := fun m ρ _ => Cert.Kernel4Ideal.Gen.frame m ρ
theorem frame_R4 : Cert.quiescent_Reference4Ideal (hReference4Ideal := Cert.Reference4Ideal.Gen.facts) :=
  fun m ρ _ => (θ_run Cert.Reference4Ideal.defs _ _).mono (fun r p => ⟨fun c => (p c).2, sem_eq_zero_of_no_sems rfl r.2⟩)
    (Cert.Reference4Ideal.Value.run m ρ)

theorem value4 : Cert.algebraic_Kernel4Ideal_Reference4Ideal (hKernel4Ideal := Cert.Kernel4Ideal.Gen.facts)
    (hReference4Ideal := Cert.Reference4Ideal.Gen.facts) := by
  intro m g m' g' _ hag
  refine ⟨fun c => (Cert.Kernel4Ideal.Gen.dats m 0 c).arrAt 5 Cert.Kernel4Ideal.cfg0.N, Cert.Kernel4Ideal.Value.run_blocks m g,
    (θ_run Cert.Reference4Ideal.defs _ _).mono (fun r p c => ⟨(p c).1.trans (funext fun i => ?_), (p c).2⟩) (Cert.Reference4Ideal.Value.run m' g')⟩
  obtain ⟨s, k, rfl⟩ : ∃ (s : Fin 8192) (k : Fin 1024), i = ix2 s k := ⟨i 0, i 1, eq_ix2 i⟩
  obtain ⟨h0, h1, h2, h3, h4⟩ := hag c
  rw [h0, h1, h2, h3, h4]
  exact (Cert.Reference4Ideal.Hand.ref_at _ _ _ _ _ s k).trans (Cert.Kernel4Ideal.Hand.final5 m c s k).symm

end Cert.Proof

end
-- ==== Proof.Fin5.lean ====
/- The residual sum of the context tokens: what the kernel's result holds at an index, the reference at an index, and the claims. -/
module

public import proofs.«01_k».proof.Defs
public import proofs.«01_k».proof.Proof.Fin4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.Covers
public import Idealize.ShloMosaic.Lib.Quiescent
public import Idealize.ShloMosaic.Lib.Tactic.CleanTypes

@[expose] public section

noncomputable section

namespace Cert.Kernel5Ideal.Hand

open Cert.Kernel5Ideal Cert.Kernel5Ideal.Gen
open Idealize.ShloMosaic Idealize.ShloMosaic.TcCoe
open Idealize.ShloMosaic.Pipeline (Dat Cfg Window)

/-- The body is that of the latent tokens' call. -/
theorem stored_at (x0 : Vec Ideal S1024x1024 .f32) (x1 : Vec Ideal S4x1024x1024 .bf16) (x2 : Vec Ideal S1024x128 .f32)
    (x3 : Vec Ideal S1x6x1024 .f32) (x4 : Vec Ideal S1x1024 .f32) (i k : Fin 1024) :
    (out0_5 (F := Ideal) x0 x1 x2 x3 x4 : S1024x1024.Idx → EReal) (ix2 i k)
      = Cert.Proof.residual (fun k => x0 (ix2 i k)) (fun k => x3 (ix3 (0 : Fin 1) (5 : Fin 6) k)) (fun k => x4 (ix2 (0 : Fin 1) k))
        (fun q => x2 (ix2 i (⟨4 + q.val, by omega⟩ : Fin 128))) (fun q k => x1 (ix3 q i k)) k :=
  Cert.Kernel4Ideal.Hand.stored_at x0 x1 x2 x3 x4 i k

variable (m : (ℓ : Loc nD τ sig) → Buf (Elt Ideal) ℓ) (c : Dev nD)

theorem tf0_eq : ∀ t : Fin grid0.N, cc0_transform_0 (grid0.coords t) = ![t.val, 0] := by decide +kernel
theorem tf1_eq : ∀ t : Fin grid0.N, cc0_transform_1 (grid0.coords t) = ![0, t.val, 0] := by decide +kernel
theorem tf2_eq : ∀ t : Fin grid0.N, cc0_transform_2 (grid0.coords t) = ![t.val, 0] := by decide +kernel
theorem tf3_eq : ∀ t : Fin grid0.N, cc0_transform_3 (grid0.coords t) = ![0, 0, 0] := by decide +kernel
theorem tf4_eq : ∀ t : Fin grid0.N, cc0_transform_4 (grid0.coords t) = ![0, 0] := by decide +kernel
theorem tf5_eq : ∀ t : Fin grid0.N, cc0_transform_5 (grid0.coords t) = ![t.val, 0] := by decide +kernel

section Blocks
variable (t : Fin cfg0.N)

theorem blk0_at (i k : Fin 1024) (s : Fin 8192) (hs : s.val = 1024 * t.val + i.val) :
    (iblk m c 0 t : S1024x1024.Idx → EReal) (ix2 i k) = (V m c main_arg0 : S8192x1024.Idx → EReal) (ix2 s k) := by
  unfold iblk
  refine congrArg (V m c main_arg0 : S8192x1024.Idx → EReal) (funext fun a => Fin.ext ?_)
  refine (Window.rect_emb_val (cfg0.win 0) t (ix2 i k) a).trans ?_
  rw [show (cfg0.win 0).index t a = _ from congrFun (tf0_eq t) a]
  match a with
  | ⟨0, _⟩ => show t.val * 1024 + i.val = s.val; omega
  | ⟨1, _⟩ => show 0 * 1024 + k.val = k.val; omega

theorem blk1_at (q : Fin 4) (i k : Fin 1024) (s : Fin 8192) (hs : s.val = 1024 * t.val + i.val) :
    (iblk m c 1 t : S4x1024x1024.Idx → EReal) (ix3 q i k) = (V m c main_arg1 : S4x8192x1024.Idx → EReal) (ix3 q s k) := by
  unfold iblk
  refine congrArg (V m c main_arg1 : S4x8192x1024.Idx → EReal) (funext fun a => Fin.ext ?_)
  refine (Window.rect_emb_val (cfg0.win 1) t (ix3 q i k) a).trans ?_
  rw [show (cfg0.win 1).index t a = _ from congrFun (tf1_eq t) a]
  match a with
  | ⟨0, _⟩ => show 0 * 4 + q.val = q.val; omega
  | ⟨1, _⟩ => show t.val * 1024 + i.val = s.val; omega
  | ⟨2, _⟩ => show 0 * 1024 + k.val = k.val; omega

theorem blk2_at (i : Fin 1024) (l : Fin 128) (s : Fin 8192) (hs : s.val = 1024 * t.val + i.val) :
    (iblk m c 2 t : S1024x128.Idx → EReal) (ix2 i l) = (V m c main_arg2 : S8192x128.Idx → EReal) (ix2 s l) := by
  unfold iblk
  refine congrArg (V m c main_arg2 : S8192x128.Idx → EReal) (funext fun a => Fin.ext ?_)
  refine (Window.rect_emb_val (cfg0.win 2) t (ix2 i l) a).trans ?_
  rw [show (cfg0.win 2).index t a = _ from congrFun (tf2_eq t) a]
  match a with
  | ⟨0, _⟩ => show t.val * 1024 + i.val = s.val; omega
  | ⟨1, _⟩ => show 0 * 128 + l.val = l.val; omega

theorem blk3_at (q : Fin 6) (k : Fin 1024) :
    (iblk m c 3 t : S1x6x1024.Idx → EReal) (ix3 (0 : Fin 1) q k) = (V m c main_arg3 : S1x6x1024.Idx → EReal) (ix3 (0 : Fin 1) q k) := by
  unfold iblk
  refine congrArg (V m c main_arg3 : S1x6x1024.Idx → EReal) (funext fun a => Fin.ext ?_)
  refine (Window.rect_emb_val (cfg0.win 3) t (ix3 (0 : Fin 1) q k) a).trans ?_
  rw [show (cfg0.win 3).index t a = _ from congrFun (tf3_eq t) a]
  match a with
  | ⟨0, _⟩ => rfl
  | ⟨1, _⟩ => show 0 * 6 + q.val = q.val; omega
  | ⟨2, _⟩ => show 0 * 1024 + k.val = k.val; omega

theorem blk4_at (k : Fin 1024) :
    (iblk m c 4 t : S1x1024.Idx → EReal) (ix2 (0 : Fin 1) k) = (V m c main_arg4 : S1x1024.Idx → EReal) (ix2 (0 : Fin 1) k) := by
  unfold iblk
  refine congrArg (V m c main_arg4 : S1x1024.Idx → EReal) (funext fun a => Fin.ext ?_)
  refine (Window.rect_emb_val (cfg0.win 4) t (ix2 (0 : Fin 1) k) a).trans ?_
  rw [show (cfg0.win 4).index t a = _ from congrFun (tf4_eq t) a]
  match a with
  | ⟨0, _⟩ => rfl
  | ⟨1, _⟩ => show 0 * 1024 + k.val = k.val; omega

end Blocks

/-- The residual sum of token `s` at column `k`. -/
def token (s : Fin 8192) (k : Fin 1024) : EReal :=
  Cert.Proof.residual (fun k => (V m c main_arg0 : S8192x1024.Idx → EReal) (ix2 s k))
    (fun k => (V m c main_arg3 : S1x6x1024.Idx → EReal) (ix3 (0 : Fin 1) (5 : Fin 6) k))
    (fun k => (V m c main_arg4 : S1x1024.Idx → EReal) (ix2 (0 : Fin 1) k))
    (fun q => (V m c main_arg2 : S8192x128.Idx → EReal) (ix2 s (⟨4 + q.val, by omega⟩ : Fin 128)))
    (fun q k => (V m c main_arg1 : S4x8192x1024.Idx → EReal) (ix3 q s k)) k

/-- What grid point `t` leaves at row `i` of its block: the residual sum of token `1024 t + i`. -/
theorem out_at (t : Fin cfg0.N) (i k : Fin 1024) (s : Fin 8192) (hs : s.val = 1024 * t.val + i.val) :
    (out0_5 (F := Ideal) (iblk m c 0 t) (iblk m c 1 t) (iblk m c 2 t) (iblk m c 3 t) (iblk m c 4 t) : S1024x1024.Idx → EReal) (ix2 i k) = token m c s k := by
  refine (stored_at _ _ _ _ _ i k).trans ?_
  unfold token
  refine congrFun (congr (congr (congr (congr (congrArg Cert.Proof.residual (funext fun k => blk0_at m c t i k s hs)) (funext fun k => blk3_at m c t 5 k))
    (funext fun k => blk4_at m c t k)) (funext fun q => blk2_at m c t i _ s hs)) (funext fun q => funext fun k => ?_)) k
  exact blk1_at m c t q i k s hs

theorem emb5 (t : Fin cfg0.N) (i k : Fin 1024) (s : Fin 8192) (hs : s.val = 1024 * t.val + i.val) :
    ((((cfg0.win 5).blk t).view.emb (ix2 i k)) : S8192x1024.Idx) = ix2 s k := by
  refine funext fun a => Fin.ext ?_
  refine (Window.rect_emb_val (cfg0.win 5) t (ix2 i k) a).trans ?_
  rw [show (cfg0.win 5).index t a = _ from congrFun (tf5_eq t) a]
  match a with
  | ⟨0, _⟩ => show t.val * 1024 + i.val = s.val; omega
  | ⟨1, _⟩ => show 0 * 1024 + k.val = k.val; omega

theorem covers5 : (cfg0.win 5).Covers := by
  refine Window.covers_of_index_surj _ rfl (show ∀ a : Fin 2, 0 < S1024x1024.size a by decide) fun β => ?_
  have b0 : (β (0 : Fin 2)).val < 8 := Nat.lt_of_lt_of_eq (β (0 : Fin 2)).isLt (show (8192 + 1024 - 1) / 1024 = 8 from rfl)
  have b1 : (β (1 : Fin 2)).val < 1 := Nat.lt_of_lt_of_eq (β (1 : Fin 2)).isLt (show (1024 + 1024 - 1) / 1024 = 1 from rfl)
  refine ⟨(⟨(β (0 : Fin 2)).val, b0⟩ : Fin 8), fun a => ?_⟩
  rw [show (cfg0.win 5).index (⟨(β (0 : Fin 2)).val, b0⟩ : Fin 8) a = _ from congrFun (tf5_eq _) a]
  match a with
  | ⟨0, _⟩ => rfl
  | ⟨1, _⟩ => show 0 = (β (1 : Fin 2)).val; omega

/-- The result array. -/
theorem final5 (s : Fin 8192) (k : Fin 1024) :
    ((dats m 0 c).arrAt 5 cfg0.N : S8192x1024.Idx → EReal) (ix2 s k) = token m c s k := by
  refine (dats m 0 c).arrAt_forall_of_covers 5 (fun i v => i = (ix2 s k : S8192x1024.Idx) → v = _) covers5 (fun t hf y => ?_) (ix2 s k)
    (Memref.isWhole_whole _) rfl
  intro hy
  obtain ⟨i, k', rfl⟩ : ∃ i k' : Fin 1024, (y : S1024x1024.Idx) = ix2 i k' := ⟨y 0, y 1, eq_ix2 y⟩
  have ht : t.val < 8 := t.isLt
  rw [emb5 t i k' ⟨1024 * t.val + i.val, by omega⟩ rfl] at hy
  have h0 : 1024 * t.val + i.val = s.val := congrArg (fun x : S8192x1024.Idx => (x 0).val) hy
  have h1 : k'.val = k.val := congrArg (fun x : S8192x1024.Idx => (x 1).val) hy
  obtain rfl : k' = k := Fin.ext h1
  show (dats m 0 c).after 5 t (ix2 i k') = _
  rw [after0_5]
  exact out_at m c t i k' s h0.symm

end Cert.Kernel5Ideal.Hand

namespace Cert.Reference5Ideal.Hand

open Cert.Reference5Ideal Cert.Reference5Ideal.Gen
open Idealize.ShloMosaic Idealize.ShloMosaic.TcCoe

set_option maxRecDepth 16384 in
/-- The reference's result at an index. -/
theorem ref_at (x : FVec Ideal S8192x1024 .f32) (y4 : FVec Ideal S4x8192x1024 .bf16) (route : FVec Ideal S8192x128 .f32)
    (mod : FVec Ideal S1x6x1024 .f32) (g : FVec Ideal S1x1024 .f32) (s : Fin 8192) (k : Fin 1024) :
    (shapeCast S8192x1024 (addf (F := Ideal) (φ := .f32) (shapeCast _ x shapeCasts_S8192x1024_S32x256x1024) (mulf (broadcastInDim S32x256x1024 ![0, 1, 2] bcast_S1x1x1024_S32x256x1024_0_1_2 (broadcastInDim S1x1x1024 ![0, 2] bcast_S1x1024_S1x1x1024_0_2 (shapeCast _ (extractStridedSlice S1x1x1024 ![0, 5, 0] mod slices_S1x6x1024_S1x1x1024_0_5_0) shapeCasts_S1x1x1024_S1x1024))) (mulf (mulf (shapeCast _ (Host.dotGeneral (F := Ideal) dot_S8192x4_S4x8192x1024_S8192x1024_1_0_n_2_0_1 none (extractStridedSlice S8192x4 ![0, 4] route slices_S8192x128_S8192x4_0_4) (extf .f32 y4 bitsLt_bf16_f32)) shapeCasts_S8192x1024_S32x256x1024) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (shapeCast _ (Host.dotGeneral (F := Ideal) dot_S8192x4_S4x8192x1024_S8192x1024_1_0_n_2_0_1 none (extractStridedSlice S8192x4 ![0, 4] route slices_S8192x128_S8192x4_0_4) (extf .f32 y4 bitsLt_bf16_f32)) shapeCasts_S8192x1024_S32x256x1024) (shapeCast _ (Host.dotGeneral (F := Ideal) dot_S8192x4_S4x8192x1024_S8192x1024_1_0_n_2_0_1 none (extractStridedSlice S8192x4 ![0, 4] route slices_S8192x128_S8192x4_0_4) (extf .f32 y4 bitsLt_bf16_f32)) shapeCasts_S8192x1024_S32x256x1024)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![1, 2] bcast_S1x1024_S1x1x1024_1_2 g))))) shapeCasts_S32x256x1024_S8192x1024 : FVec Ideal S8192x1024 .f32) (ix2 s k)
      = Cert.Proof.residual (fun k => x (ix2 s k)) (fun k => mod (ix3 (0 : Fin 1) (5 : Fin 6) k)) (fun k => g (ix2 (0 : Fin 1) k))
        (fun q => route (ix2 s (⟨4 + q.val, by omega⟩ : Fin 128))) (fun q k => y4 (ix3 q s k)) k := by
  clean_types
  pointwise
  rfl

end Cert.Reference5Ideal.Hand

namespace Cert.Proof

open Idealize.ShloMosaic Idealize.SL.Sem

theorem frame_K5 : Cert.quiescent_Kernel5 (hKernel5 := Cert.Kernel5.Gen.facts) := fun m ρ _ => Cert.Kernel5.Gen.frame m ρ
theorem frame_I5 : Cert.quiescent_Kernel5Ideal (hKernel5Ideal := Cert.Kernel5Ideal.Gen.facts) := fun m ρ _ => Cert.Kernel5Ideal.Gen.frame m ρ
theorem frame_R5 : Cert.quiescent_Reference5Ideal (hReference5Ideal := Cert.Reference5Ideal.Gen.facts) :=
  fun m ρ _ => (θ_run Cert.Reference5Ideal.defs _ _).mono (fun r p => ⟨fun c => (p c).2, sem_eq_zero_of_no_sems rfl r.2⟩)
    (Cert.Reference5Ideal.Value.run m ρ)

theorem value5 : Cert.algebraic_Kernel5Ideal_Reference5Ideal (hKernel5Ideal := Cert.Kernel5Ideal.Gen.facts)
    (hReference5Ideal := Cert.Reference5Ideal.Gen.facts) := by
  intro m g m' g' _ hag
  refine ⟨fun c => (Cert.Kernel5Ideal.Gen.dats m 0 c).arrAt 5 Cert.Kernel5Ideal.cfg0.N, Cert.Kernel5Ideal.Value.run_blocks m g,
    (θ_run Cert.Reference5Ideal.defs _ _).mono (fun r p c => ⟨(p c).1.trans (funext fun i => ?_), (p c).2⟩) (Cert.Reference5Ideal.Value.run m' g')⟩
  obtain ⟨s, k, rfl⟩ : ∃ (s : Fin 8192) (k : Fin 1024), i = ix2 s k := ⟨i 0, i 1, eq_ix2 i⟩
  obtain ⟨h0, h1, h2, h3, h4⟩ := hag c
  rw [h0, h1, h2, h3, h4]
  exact (Cert.Reference5Ideal.Hand.ref_at _ _ _ _ _ s k).trans (Cert.Kernel5Ideal.Hand.final5 m c s k).symm

end Cert.Proof

end
-- ==== Proof.OutBase.lean ====
/- One entry of the mixing layer's output rows over the extended reals, and the sums by heads of finite rows. -/
module

public import proofs.«01_k».proof.Proof.InBase

@[expose] public section

noncomputable section

namespace Cert.Proof

open Idealize.ShloMosaic

/-- A value that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.one : IsReal 1 := ⟨1, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

theorem IsReal.sub_self {x : EReal} (hx : IsReal x) : x - x = 0 := by
  obtain ⟨a, rfl⟩ := hx; rw [← EReal.coe_sub, _root_.sub_self]; rfl

/-- A value whose magnitude is less than the infinity is a real number. -/
theorem isReal_of_abs_lt {x : EReal} (h : max x (-x) < ⊤) : IsReal x := by
  induction x with
  | bot => simp at h
  | coe r => exact ⟨r, rfl⟩
  | top => simp at h

/-- The logistic function. -/
def sg (x : EReal) : EReal := Ideal.div 1 (1 + Ideal.exp (-x))

/-- The logistic function's values are real numbers. -/
theorem isReal_sg (x : EReal) : IsReal (sg x) := by
  induction x with
  | bot => exact ⟨0, Ideal.logistic_bot⟩
  | top => exact ⟨1, Ideal.logistic_top⟩
  | coe r =>
    have h : (1 : EReal) + Ideal.exp (-(r : EReal)) = ((1 + Real.exp (-r) : ℝ) : EReal) := rfl
    have hp : (0 : ℝ) < 1 + Real.exp (-r) := by positivity
    refine ⟨1 * (1 + Real.exp (-r))⁻¹, ?_⟩
    unfold sg
    rw [h]
    unfold Ideal.div
    rw [if_neg (by exact_mod_cast hp.ne')]
    rw [EReal.coe_mul, EReal.coe_inv]; rfl

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  rw [Ideal.ofBits_one_f32]; rfl

/-- A quotient by sixty-four is a product with a sixty-fourth. -/
theorem div_64 (x : EReal) : Ideal.div x (Ideal.ofBits .f32 0x42800000#32) = x * Ideal.ofBits .f32 0x3C800000#32 := by
  rw [ofBits_64, ofBits_64th]
  unfold Ideal.div
  rw [if_neg (by exact_mod_cast (by norm_num : (64 : ℝ) ≠ 0)), ← EReal.coe_inv]
  norm_num

/-- Column `n` of the head that column `q` lies in. -/
def inHead (q : Fin 512) (n : Fin 64) : Fin 512 := ⟨64 * (q.val / 64) + n.val, by omega⟩

/-- The sum over the head that column `q` lies in. -/
def headSum (x : Fin 512 → EReal) (q : Fin 512) : EReal := ∑ n, x (inHead q n)

/-- An entry less the mean of its head. -/
def centred (x : Fin 512 → EReal) (q : Fin 512) : EReal := x q - Ideal.div (headSum x q) (Ideal.ofBits .f32 0x42800000#32)

/-- An entry normed over its head. -/
def headNorm (x : Fin 512 → EReal) (q : Fin 512) : EReal :=
  centred x q * Ideal.rsqrt (Ideal.div (headSum (fun l => centred x l * centred x l) q) (Ideal.ofBits .f32 0x42800000#32) + Ideal.ofBits .f32 0x3A27C5AC#32)

/-- The bonus of one direction: the head's sum of receptances against keys, times the value. -/
def bonus (r k v ka rk a : Fin 512 → EReal) (q : Fin 512) : EReal :=
  headSum (fun l => r l * (k l * (1 + (a l - 1) * ka l)) * rk l) q * v q

/-- An entry of the heads' part of the mixed row. -/
def headOut (o r k v ka rk a b gn gb g : Fin 512 → EReal) (q : Fin 512) : EReal :=
  (headNorm o q * gn q + gb q + (bonus r k v ka rk a q + bonus r k v ka rk b q)) * g q

/-- An entry of the projected row: the convolution's part and the heads' part against a column. -/
def mixed (cv hd : Fin 512 → EReal) (W : Fin 1024 → Fin 1024 → EReal) (k : Fin 1024) : EReal :=
  ∑ l : Fin 512, cv l * W ⟨l.val, by omega⟩ k + ∑ l : Fin 512, hd l * W ⟨512 + l.val, by omega⟩ k

/-- An entry of a row with another row, normed, weighted and gated, added. -/
def addNormed (x gt g y : Fin 1024 → EReal) (k : Fin 1024) : EReal := x k + gt k * (normed y k * g k)

/-- An entry of a row normed, weighted, scaled and shifted. -/
def scaled (x g sc sh : Fin 1024 → EReal) (k : Fin 1024) : EReal := normed x k * g k * (1 + sc k) + sh k

/-- The rate of a direction in a row: the low-rank product of the row against the direction's factor, in the logistic function. -/
def rate (a0 : Fin 512 → EReal) (u : Fin 128 → EReal) (A : Fin 128 → Fin 512 → EReal) (q : Fin 512) : EReal :=
  sg (a0 q + ∑ l, u l * A l q)

/-- The gate of a row. -/
def gateRow (u : Fin 128 → EReal) (G : Fin 128 → Fin 512 → EReal) (q : Fin 512) : EReal := ∑ l, sg (u l) * G l q

/-- The two directions' bonuses, by one sum over the head. -/
theorem bonus_add (r k v ka rk a b : Fin 512 → EReal) (hr : ∀ l, IsReal (r l)) (hk : ∀ l, IsReal (k l)) (hv : ∀ l, IsReal (v l))
    (hka : ∀ l, IsReal (ka l)) (hrk : ∀ l, IsReal (rk l)) (ha : ∀ l, IsReal (a l)) (hb : ∀ l, IsReal (b l)) (q : Fin 512) :
    headSum (fun l => r l * k l * rk l * (Ideal.ofBits .f32 0x40000000#32 + (a l + b l - Ideal.ofBits .f32 0x40000000#32) * ka l)) q * v q
      = bonus r k v ka rk a q + bonus r k v ka rk b q := by
  choose r' hr using hr; choose k' hk using hk; choose v' hv using hv; choose ka' hka using hka
  choose rk' hrk using hrk; choose a' ha using ha; choose b' hb using hb
  unfold bonus headSum
  rw [ofBits_two]
  simp only [hr, hk, hv, hka, hrk, ha, hb]
  have h1 : (1 : EReal) = ((1 : ℝ) : EReal) := rfl
  rw [h1]
  simp only [← EReal.coe_add, ← EReal.coe_sub, ← EReal.coe_mul, ← coe_sum]
  congr 1
  rw [← add_mul, ← Finset.sum_add_distrib]
  congr 1
  exact Finset.sum_congr rfl fun n _ => by ring

/-- Sixty-four of a block's columns picked by a mask of ones and zeros. -/
theorem sum_mask (f : Fin 128 → EReal) (j : Fin 128) :
    ∑ k : Fin 128, f k * (if k.val / 64 = j.val / 64 then (1 : EReal) else 0) = ∑ n : Fin 64, f ⟨64 * (j.val / 64) + n.val, by omega⟩ := by
  have e := Fin.sum_univ_add (fun k : Fin (64 + 64) => f k * (if k.val / 64 = j.val / 64 then (1 : EReal) else 0))
  refine Eq.trans e ?_
  have hl : ∀ n : Fin 64, n.val / 64 = 0 := fun n => by omega
  have hr : ∀ n : Fin 64, (64 + n.val) / 64 = 1 := fun n => by omega
  have hj : j.val / 64 = 0 ∨ j.val / 64 = 1 := by omega
  simp only [Fin.val_castAdd, Fin.val_natAdd, hl, hr]
  rcases hj with hj | hj
  · simp only [hj, if_true, one_ne_zero, if_false, mul_one, mul_zero, Finset.sum_const_zero, add_zero]
    exact Finset.sum_congr rfl fun n _ => congrArg f (Fin.ext (by simp))
  · simp only [hj, if_true, zero_ne_one, if_false, mul_one, mul_zero, Finset.sum_const_zero, zero_add]
    exact Finset.sum_congr rfl fun n _ => congrArg f (Fin.ext (by simp; omega))

end Cert.Proof

end
-- ==== Proof.OutA.lean ====
/- The heads' part of the mixing output projection's body: one block of two heads at an index. -/
module

public import proofs.«01_k».proof.Proof.OutBase
public import proofs.«01_k».proof.Proof.Gen.Kernel6Ideal.Skeleton

@[expose] public section

noncomputable section

namespace Cert.Kernel6Ideal.Hand

open Cert.Kernel6Ideal Cert.Kernel6Ideal.Gen Cert.Proof
open Idealize.ShloMosaic Idealize.ShloMosaic.TcCoe

/-- The body's quotient by sixty-four, rounded down. -/
def by64 (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem by64_eq : ∀ i : Fin 128, by64 (BitVec.ofNat 32 i.val) = BitVec.ofNat 32 (i.val / 64) := by decide +kernel

/-- The body's mask of two heads. -/
def mask : FVec Ideal S128x128 .bf16 :=
  k0_pay16 (iota .tc S128x128 32 [0] iota_S128x128_d0_w32) (iota .tc S128x128 32 [1] iota_S128x128_d1_w32) 64#32 k0_pay14 k0_pay15

set_option maxRecDepth 16384 in
/-- The mask at an index: one where the two columns lie in one head. -/
theorem mask_at (i j : Fin 128) : mask (ix2 i j) = if i.val / 64 = j.val / 64 then (1 : EReal) else 0 := by
  unfold mask
  pointwise [k0_pay14, k0_pay15, k0_pay16]
  have e : ∀ x y : BitVec 32, (FloatOps.sitofp FTy.f32 (BitVec.setWidth 32 (IntOp.cmpi CmpIPredicate.eq x y)) : Ideal .f32) = if x = y then (1 : EReal) else 0 := fun x y => by
    by_cases h : x = y
    · subst h; rw [if_pos rfl]
      show (((BitVec.setWidth 32 (IntOp.cmpi CmpIPredicate.eq x x)).toInt : ℝ) : EReal) = 1
      rw [show IntOp.cmpi CmpIPredicate.eq x x = 1#1 by simp [IntOp.cmpi]]
      norm_num
    · rw [if_neg h]
      show (((BitVec.setWidth 32 (IntOp.cmpi CmpIPredicate.eq x y)).toInt : ℝ) : EReal) = 0
      rw [show IntOp.cmpi CmpIPredicate.eq x y = 0#1 by show BitVec.ofBool (x == y) = 0#1; rw [beq_false_of_ne h]; rfl]
      norm_num
  refine (e (by64 (BitVec.ofNat 32 i.val)) (by64 (BitVec.ofNat 32 j.val))).trans ?_
  rw [by64_eq, by64_eq]
  have hi : i.val / 64 = 0 ∨ i.val / 64 = 1 := by omega
  have hj : j.val / 64 = 0 ∨ j.val / 64 = 1 := by omega
  rcases hi with hi | hi <;> rcases hj with hj | hj <;> simp [hi, hj]

/-- A block's columns summed by heads: each entry's high and low parts against the mask written twice. -/
def sums (x : FVec Ideal S512x128 .f32) (w : FVec Ideal S128x128 .bf16) : FVec Ideal S512x128 .f32 :=
  matmul dot_S512x256_S256x128_S512x128_1_0_0_1_n_n none
    (concatenate S512x256 1 [⟨S512x128, truncf .bf16 x bitsLt_bf16_f32⟩, ⟨S512x128, truncf .bf16 (subf x (extf .f32 (truncf .bf16 x bitsLt_bf16_f32) bitsLt_bf16_f32)) bitsLt_bf16_f32⟩] concatenates_S512x128_S512x128_S512x256_d1)
    (concatenate S256x128 0 [⟨S128x128, w⟩, ⟨S128x128, w⟩] concatenates_S128x128_S128x128_S256x128_d0)
    (constant S512x128 .f32 0x00000000#32)

set_option maxRecDepth 16384 in
/-- The sums of a block of real numbers at an index. -/
theorem sums_at (x : FVec Ideal S512x128 .f32) (i : Fin 512) (j : Fin 128) (h : ∀ l : Fin 128, IsReal (x (ix2 i l))) :
    sums x mask (ix2 i j) = ∑ n : Fin 64, x (ix2 i (⟨64 * (j.val / 64) + n.val, by omega⟩ : Fin 128)) := by
  have e : sums x mask (ix2 i j) = ∑ l : Fin 128, x (ix2 i l) * mask (ix2 l j) + ∑ l : Fin 128, (x (ix2 i l) - x (ix2 i l)) * mask (ix2 l j) := by
    pointwise [sums]
  rw [e]
  simp only [fun l => (h l).sub_self, zero_mul, Finset.sum_const_zero, add_zero, mask_at]
  exact sum_mask (fun l => x (ix2 i l)) j

/-- A block less its heads' means. -/
def less (o : FVec Ideal S512x128 .f32) (w : FVec Ideal S128x128 .bf16) : FVec Ideal S512x128 .f32 :=
  subf o (mulf (sums o w) (broadcast S512x128 (Scalar.ofBits .f32 0x3C800000#32)))

/-- The heads' part of the mixed row over one block of two heads. -/
def part (o b v g : FVec Ideal S512x128 .f32) (gn gb : Vec Ideal S1x128 .f32) (w : FVec Ideal S128x128 .bf16) : FVec Ideal S512x128 .f32 :=
  mulf (addf (addf (mulf (mulf (less o w) (rsqrt (addf (mulf (sums (mulf (less o w) (less o w)) w) (broadcast S512x128 (Scalar.ofBits .f32 0x3C800000#32))) (broadcast S512x128 (Scalar.ofBits .f32 0x3A27C5AC#32)))))
    (broadcastTo S512x128 gn broadcasts_S1x128_S512x128)) (broadcastTo S512x128 gb broadcasts_S1x128_S512x128)) (mulf (sums b w) v)) g

/-- A block less its heads' means, at an index. -/
theorem less_at (o : FVec Ideal S512x128 .f32) (i : Fin 512) (j : Fin 128) (O : Fin 512 → EReal) (p : Fin 4)
    (ho : ∀ l : Fin 128, o (ix2 i l) = O ⟨128 * p.val + l.val, by omega⟩) (hO : ∀ q, IsReal (O q)) :
    less o mask (ix2 i j) = centred O ⟨128 * p.val + j.val, by omega⟩ := by
  have e : less o mask (ix2 i j) = o (ix2 i j) - sums o mask (ix2 i j) * Ideal.ofBits .f32 0x3C800000#32 := by pointwise [less]
  rw [e, sums_at o i j (fun l => by rw [ho]; exact hO _)]
  unfold centred headSum
  rw [div_64, ho]
  refine congrArg (fun s => _ - s * _) (Finset.sum_congr rfl fun n _ => ?_)
  rw [ho]
  exact congrArg O (Fin.ext (by show 128 * p.val + (64 * (j.val / 64) + n.val) = 64 * ((128 * p.val + j.val) / 64) + n.val; omega))

theorem isReal_headSum {O : Fin 512 → EReal} (h : ∀ q, IsReal (O q)) (q : Fin 512) : IsReal (headSum O q) := IsReal.sum fun n => h _

theorem isReal_centred {O : Fin 512 → EReal} (h : ∀ q, IsReal (O q)) (q : Fin 512) : IsReal (centred O q) := by
  unfold centred
  rw [div_64, ofBits_64th]
  exact (h q).sub ((isReal_headSum h q).mul ⟨_, rfl⟩)

/-- One block's part at an index. -/
theorem part_at (o b v g : FVec Ideal S512x128 .f32) (gn gb : Vec Ideal S1x128 .f32) (i : Fin 512) (j : Fin 128)
    (O B V G GN GB : Fin 512 → EReal) (p : Fin 4)
    (ho : ∀ l : Fin 128, o (ix2 i l) = O ⟨128 * p.val + l.val, by omega⟩) (hO : ∀ q, IsReal (O q))
    (hb : ∀ l : Fin 128, b (ix2 i l) = B ⟨128 * p.val + l.val, by omega⟩) (hB : ∀ q, IsReal (B q))
    (hv : v (ix2 i j) = V ⟨128 * p.val + j.val, by omega⟩) (hg : g (ix2 i j) = G ⟨128 * p.val + j.val, by omega⟩)
    (hgn : (gn : S1x128.Idx → EReal) (ix2 (0 : Fin 1) j) = GN ⟨128 * p.val + j.val, by omega⟩)
    (hgb : (gb : S1x128.Idx → EReal) (ix2 (0 : Fin 1) j) = GB ⟨128 * p.val + j.val, by omega⟩) :
    part o b v g gn gb mask (ix2 i j)
      = (headNorm O ⟨128 * p.val + j.val, by omega⟩ * GN ⟨128 * p.val + j.val, by omega⟩ + GB ⟨128 * p.val + j.val, by omega⟩
          + headSum B ⟨128 * p.val + j.val, by omega⟩ * V ⟨128 * p.val + j.val, by omega⟩) * G ⟨128 * p.val + j.val, by omega⟩ := by
  have e : part o b v g gn gb mask (ix2 i j)
      = (less o mask (ix2 i j) * Ideal.rsqrt (sums (mulf (less o mask) (less o mask)) mask (ix2 i j) * Ideal.ofBits .f32 0x3C800000#32 + Ideal.ofBits .f32 0x3A27C5AC#32)
          * (gn : S1x128.Idx → EReal) (ix2 (0 : Fin 1) j) + (gb : S1x128.Idx → EReal) (ix2 (0 : Fin 1) j) + sums b mask (ix2 i j) * v (ix2 i j)) * g (ix2 i j) := by
    pointwise [part]
  have hl : ∀ l : Fin 128, less o mask (ix2 i l) = centred O ⟨128 * p.val + l.val, by omega⟩ := fun l => less_at o i l O p ho hO
  have hm : ∀ l : Fin 128, mulf (less o mask) (less o mask) (ix2 i l)
      = centred O ⟨128 * p.val + l.val, by omega⟩ * centred O ⟨128 * p.val + l.val, by omega⟩ := fun l => by rw [← hl]; rfl
  have hq : ∀ n : Fin 64, (⟨128 * p.val + (64 * (j.val / 64) + n.val), by omega⟩ : Fin 512) = inHead ⟨128 * p.val + j.val, by omega⟩ n :=
    fun n => Fin.ext (by show 128 * p.val + (64 * (j.val / 64) + n.val) = 64 * ((128 * p.val + j.val) / 64) + n.val; omega)
  rw [e, hl, hv, hg, hgn, hgb, sums_at _ i j (fun l => by rw [hm]; exact (isReal_centred hO _).mul (isReal_centred hO _)),
    sums_at b i j (fun l => by rw [hb]; exact hB _)]
  unfold headNorm headSum
  rw [div_64]
  simp only [hm, hb, hq]

theorem part0_eq (v9 v51 v65 v54 : FVec Ideal S512x512 .f32) (w : FVec Ideal S128x128 .bf16) (gn gb : Vec Ideal S1x128 .f32) :
    k0_pay18 v9 v51 v65 w (k0_pay17 v54) gn gb
      = part (extractStridedSlice S512x128 ![0, 0] v54 slices_S512x512_o0_0_S512x128) (extractStridedSlice S512x128 ![0, 0] v51 slices_S512x512_o0_0_S512x128)
          (extractStridedSlice S512x128 ![0, 0] v9 slices_S512x512_o0_0_S512x128) (extractStridedSlice S512x128 ![0, 0] v65 slices_S512x512_o0_0_S512x128) gn gb w := rfl

theorem part1_eq (v9 v51 v65 v54 : FVec Ideal S512x512 .f32) (w : FVec Ideal S128x128 .bf16) (gn gb : Vec Ideal S1x128 .f32) :
    k0_pay22 v9 v51 v65 w (k0_pay19 v54) (k0_pay20 v54) (k0_pay21 w) gn gb
      = part (extractStridedSlice S512x128 ![0, 128] v54 slices_S512x512_o0_128_S512x128) (extractStridedSlice S512x128 ![0, 128] v51 slices_S512x512_o0_128_S512x128)
          (extractStridedSlice S512x128 ![0, 128] v9 slices_S512x512_o0_128_S512x128) (extractStridedSlice S512x128 ![0, 128] v65 slices_S512x512_o0_128_S512x128) gn gb w := rfl

theorem part2_eq (v9 v51 v65 v54 : FVec Ideal S512x512 .f32) (w : FVec Ideal S128x128 .bf16) (gn gb : Vec Ideal S1x128 .f32) :
    k0_pay24 v9 v51 v65 w (k0_pay23 v54 w) gn gb
      = part (extractStridedSlice S512x128 ![0, 256] v54 slices_S512x512_o0_256_S512x128) (extractStridedSlice S512x128 ![0, 256] v51 slices_S512x512_o0_256_S512x128)
          (extractStridedSlice S512x128 ![0, 256] v9 slices_S512x512_o0_256_S512x128) (extractStridedSlice S512x128 ![0, 256] v65 slices_S512x512_o0_256_S512x128) gn gb w := rfl

theorem mix_eq (v9 v51 v65 v54 : FVec Ideal S512x512 .f32) (w : FVec Ideal S128x128 .bf16) (a0 a1 a2 : FVec Ideal S512x128 .f32) (gn gb : Vec Ideal S1x128 .f32)
    (cv : Vec Ideal S512x512 .f32) (W : Vec Ideal S1024x1024 .bf16) :
    k0_pay27 v9 v51 v65 w a0 a1 a2 (k0_pay25 v54 w) (k0_pay26 v54 w) gn gb cv W
      = matmul (φ₁ := .bf16) (φ₂ := .bf16) dot_S512x1024_S1024x1024_S512x1024_1_0_0_1_n_n none
          (truncf .bf16 (concatenate S512x1024 1 [⟨S512x512, cv⟩, ⟨S512x128, a0⟩, ⟨S512x128, a1⟩, ⟨S512x128, a2⟩, ⟨S512x128,
            part (extractStridedSlice S512x128 ![0, 384] v54 slices_S512x512_o0_384_S512x128) (extractStridedSlice S512x128 ![0, 384] v51 slices_S512x512_o0_384_S512x128)
              (extractStridedSlice S512x128 ![0, 384] v9 slices_S512x512_o0_384_S512x128) (extractStridedSlice S512x128 ![0, 384] v65 slices_S512x512_o0_384_S512x128) gn gb w⟩]
            concatenates_S512x512_S512x128_S512x128_S512x128_S512x128_S512x1024_d1) bitsLt_bf16_f32) W (constant S512x1024 .f32 0x00000000#32) := rfl

end Cert.Kernel6Ideal.Hand

end
-- ==== Proof.OutB.lean ====
/- The mixing output projection's body: the projected row, the attended row and the next normed row at an index. -/
module

public import proofs.«01_k».proof.Proof.OutA

@[expose] public section

noncomputable section

namespace Cert.Kernel6Ideal.Hand

open Cert.Kernel6Ideal Cert.Kernel6Ideal.Gen Cert.Proof
open Idealize.ShloMosaic Idealize.ShloMosaic.TcCoe

set_option maxRecDepth 16384 in
theorem rate_at (v6 : Vec Ideal S512x384 .f32) (a0 : Vec Ideal S1x512 .f32) (A : Vec Ideal S1x128x512 .bf16) (i q : Fin 512) :
    k0_pay8 (F := Ideal) v6 a0 A (ix2 i q)
      = rate (fun q => (a0 : S1x512.Idx → EReal) (ix2 (0 : Fin 1) q)) (fun l => (v6 : S512x384.Idx → EReal) (ix2 i (⟨128 + l.val, by omega⟩ : Fin 384)))
          (fun l q => (A : S1x128x512.Idx → EReal) (ix3 (0 : Fin 1) l q)) q := by
  unfold rate sg
  pointwise [k0_pay8, k0_pay7]
  simp only [zero_sub]

set_option maxRecDepth 16384 in
theorem gate_at (v6 : Vec Ideal S512x384 .f32) (G : Vec Ideal S128x512 .bf16) (i q : Fin 512) :
    k0_pay13 (F := Ideal) v6 G (ix2 i q)
      = gateRow (fun l => (v6 : S512x384.Idx → EReal) (ix2 i (⟨256 + l.val, by omega⟩ : Fin 384))) (fun l q => (G : S128x512.Idx → EReal) (ix2 l q)) q := by
  unfold gateRow sg
  pointwise [k0_pay13]
  simp only [zero_sub]

set_option maxRecDepth 16384 in
theorem bonus_at (r k a : FVec Ideal S512x512 .f32) (v6 : Vec Ideal S512x384 .f32) (a0 : Vec Ideal S1x512 .f32) (A : Vec Ideal S1x128x512 .bf16) (rk ka : Vec Ideal S1x512 .f32) (i q : Fin 512) :
    k0_pay11 (F := Ideal) r k a (k0_pay9 v6 a0 A) k0_pay10 rk ka (ix2 i q)
      = r (ix2 i q) * k (ix2 i q) * (rk : S1x512.Idx → EReal) (ix2 (0 : Fin 1) q) * (Ideal.ofBits .f32 0x40000000#32 + (a (ix2 i q) +
          rate (fun q => (a0 : S1x512.Idx → EReal) (ix2 (0 : Fin 1) q)) (fun l => (v6 : S512x384.Idx → EReal) (ix2 i (⟨128 + l.val, by omega⟩ : Fin 384)))
          (fun l q => (A : S1x128x512.Idx → EReal) (ix3 (0 : Fin 1) l q)) q - Ideal.ofBits .f32 0x40000000#32) * (ka : S1x512.Idx → EReal) (ix2 (0 : Fin 1) q)) := by
  unfold rate sg
  pointwise [k0_pay11, k0_pay10, k0_pay9, k0_pay7]
  simp only [zero_sub]

set_option maxRecDepth 16384 in
theorem cat_at (cv : Vec Ideal S512x512 .f32) (a0 a1 a2 a3 : FVec Ideal S512x128 .f32) (W : Vec Ideal S1024x1024 .bf16) (i : Fin 512) (k : Fin 1024) (hd : Fin 512 → EReal)
    (h0 : ∀ l : Fin 128, a0 (ix2 i l) = hd ⟨l.val, by omega⟩) (h1 : ∀ l : Fin 128, a1 (ix2 i l) = hd ⟨128 + l.val, by omega⟩)
    (h2 : ∀ l : Fin 128, a2 (ix2 i l) = hd ⟨256 + l.val, by omega⟩) (h3 : ∀ l : Fin 128, a3 (ix2 i l) = hd ⟨384 + l.val, by omega⟩) :
    matmul (φ₁ := .bf16) (φ₂ := .bf16) dot_S512x1024_S1024x1024_S512x1024_1_0_0_1_n_n none
          (truncf .bf16 (concatenate S512x1024 1 [⟨S512x512, cv⟩, ⟨S512x128, a0⟩, ⟨S512x128, a1⟩, ⟨S512x128, a2⟩, ⟨S512x128, a3⟩]
            concatenates_S512x512_S512x128_S512x128_S512x128_S512x128_S512x1024_d1) bitsLt_bf16_f32) W (constant S512x1024 .f32 0x00000000#32) (ix2 i k)
      = mixed (fun l => (cv : S512x512.Idx → EReal) (ix2 i l)) hd (fun l k => (W : S1024x1024.Idx → EReal) (ix2 l k)) k := by
  unfold mixed
  pointwise
  refine (Fin.sum_univ_add (a := 512) (b := 512) _).trans (congrArg₂ (· + ·) (Finset.sum_congr rfl fun l _ => ?_) (Finset.sum_congr rfl fun l _ => ?_))
  · refine congrArg₂ (· * ·) (dif_pos (show (Fin.castAdd 512 l).val < 512 from l.isLt)) rfl
  · have e : (Fin.natAdd 512 l).val - 512 = l.val := by simp
    refine congrArg₂ (· * ·) ((dif_neg (show ¬ (Fin.natAdd 512 l).val < 512 by simp)).trans ?_) rfl
    split
    · rw [h0]; exact congrArg hd (Fin.ext e)
    · split
      · rw [h1]; exact congrArg hd (Fin.ext (by show 128 + ((Fin.natAdd 512 l).val - 512 - 128) = l.val; omega))
      · split
        · rw [h2]; exact congrArg hd (Fin.ext (by show 256 + ((Fin.natAdd 512 l).val - 512 - 128 - 128) = l.val; omega))
        · rw [h3]; exact congrArg hd (Fin.ext (by show 384 + ((Fin.natAdd 512 l).val - 512 - 128 - 128 - 128) = l.val; omega))

/-- The body's projected row, from the block's rows. -/
def mixB (yf yb cv : Vec Ideal S512x512 .f32) (v5 : Vec Ideal S512x1536 .f32) (v6 : Vec Ideal S512x384 .f32) (a0 a1 : Vec Ideal S1x512 .f32)
    (A0 A1 : Vec Ideal S1x128x512 .bf16) (ka rk : Vec Ideal S1x512 .f32) (gn0 gb0 gn1 gb1 gn2 gb2 gn3 gb3 : Vec Ideal S1x128 .f32) (G : Vec Ideal S128x512 .bf16)
    (W : Vec Ideal S1024x1024 .bf16) : FVec Ideal S512x1024 .f32 :=
  k0_pay27 (k0_pay6 v5) (k0_pay11 (k0_pay4 v5) (k0_pay5 v5) (k0_pay8 v6 a0 A0) (k0_pay9 v6 a1 A1) k0_pay10 rk ka) (k0_pay13 v6 G) mask
    (k0_pay18 (k0_pay6 v5) (k0_pay11 (k0_pay4 v5) (k0_pay5 v5) (k0_pay8 v6 a0 A0) (k0_pay9 v6 a1 A1) k0_pay10 rk ka) (k0_pay13 v6 G) mask (k0_pay17 (k0_pay12 yf yb)) gn0 gb0)
    (k0_pay22 (k0_pay6 v5) (k0_pay11 (k0_pay4 v5) (k0_pay5 v5) (k0_pay8 v6 a0 A0) (k0_pay9 v6 a1 A1) k0_pay10 rk ka) (k0_pay13 v6 G) mask (k0_pay19 (k0_pay12 yf yb)) (k0_pay20 (k0_pay12 yf yb)) (k0_pay21 mask) gn1 gb1)
    (k0_pay24 (k0_pay6 v5) (k0_pay11 (k0_pay4 v5) (k0_pay5 v5) (k0_pay8 v6 a0 A0) (k0_pay9 v6 a1 A1) k0_pay10 rk ka) (k0_pay13 v6 G) mask (k0_pay23 (k0_pay12 yf yb) mask) gn2 gb2)
    (k0_pay25 (k0_pay12 yf yb) mask) (k0_pay26 (k0_pay12 yf yb) mask) gn3 gb3 cv W

set_option maxRecDepth 16384 in
/-- A slice of two heads' columns at an index. -/
theorem slice_at (x : FVec Ideal S512x512 .f32) (i : Fin 512) (l : Fin 128) :
    extractStridedSlice S512x128 ![0, 0] x slices_S512x512_o0_0_S512x128 (ix2 i l) = x (ix2 i ⟨128 * (0 : Fin 4).val + l.val, by omega⟩)
    ∧ extractStridedSlice S512x128 ![0, 128] x slices_S512x512_o0_128_S512x128 (ix2 i l) = x (ix2 i ⟨128 * (1 : Fin 4).val + l.val, by omega⟩)
    ∧ extractStridedSlice S512x128 ![0, 256] x slices_S512x512_o0_256_S512x128 (ix2 i l) = x (ix2 i ⟨128 * (2 : Fin 4).val + l.val, by omega⟩)
    ∧ extractStridedSlice S512x128 ![0, 384] x slices_S512x512_o0_384_S512x128 (ix2 i l) = x (ix2 i ⟨128 * (3 : Fin 4).val + l.val, by omega⟩) := by
  refine ⟨?_, ?_, ?_, ?_⟩ <;> pointwise <;> rfl

/-- The heads' part of row `i` of a block. -/
def headsB (yf yb : Vec Ideal S512x512 .f32) (v5 : Vec Ideal S512x1536 .f32) (v6 : Vec Ideal S512x384 .f32) (a0 a1 : Vec Ideal S1x512 .f32)
    (A0 A1 : Vec Ideal S1x128x512 .bf16) (ka rk : Vec Ideal S1x512 .f32) (GN GB : Fin 512 → EReal) (G : Vec Ideal S128x512 .bf16) (i : Fin 512) : Fin 512 → EReal :=
  headOut (fun q => (yf : S512x512.Idx → EReal) (ix2 i q) + (yb : S512x512.Idx → EReal) (ix2 i q))
            (fun q => (v5 : S512x1536.Idx → EReal) (ix2 i (⟨q.val, by omega⟩ : Fin 1536))) (fun q => (v5 : S512x1536.Idx → EReal) (ix2 i (⟨512 + q.val, by omega⟩ : Fin 1536)))
            (fun q => (v5 : S512x1536.Idx → EReal) (ix2 i (⟨1024 + q.val, by omega⟩ : Fin 1536)))
            (fun q => (ka : S1x512.Idx → EReal) (ix2 (0 : Fin 1) q)) (fun q => (rk : S1x512.Idx → EReal) (ix2 (0 : Fin 1) q))
            (rate (fun q => (a0 : S1x512.Idx → EReal) (ix2 (0 : Fin 1) q)) (fun l => (v6 : S512x384.Idx → EReal) (ix2 i (⟨128 + l.val, by omega⟩ : Fin 384))) (fun l q => (A0 : S1x128x512.Idx → EReal) (ix3 (0 : Fin 1) l q)))
            (rate (fun q => (a1 : S1x512.Idx → EReal) (ix2 (0 : Fin 1) q)) (fun l => (v6 : S512x384.Idx → EReal) (ix2 i (⟨128 + l.val, by omega⟩ : Fin 384))) (fun l q => (A1 : S1x128x512.Idx → EReal) (ix3 (0 : Fin 1) l q)))
            GN GB (gateRow (fun l => (v6 : S512x384.Idx → EReal) (ix2 i (⟨256 + l.val, by omega⟩ : Fin 384))) (fun l q => (G : S128x512.Idx → EReal) (ix2 l q)))

set_option maxRecDepth 16384 in
/-- One block's part of the body's row, from the block's rows. -/
theorem head_at (yf yb : Vec Ideal S512x512 .f32) (v5 : Vec Ideal S512x1536 .f32) (v6 : Vec Ideal S512x384 .f32) (a0 a1 : Vec Ideal S1x512 .f32)
    (A0 A1 : Vec Ideal S1x128x512 .bf16) (ka rk : Vec Ideal S1x512 .f32) (G : Vec Ideal S128x512 .bf16) (i : Fin 512) (GN GB : Fin 512 → EReal)
    (hf : ∀ q, IsReal ((yf : S512x512.Idx → EReal) (ix2 i q))) (hb' : ∀ q, IsReal ((yb : S512x512.Idx → EReal) (ix2 i q)))
    (h5 : ∀ q, IsReal ((v5 : S512x1536.Idx → EReal) (ix2 i q))) (hka : ∀ q, IsReal ((ka : S1x512.Idx → EReal) (ix2 (0 : Fin 1) q)))
    (hrk : ∀ q, IsReal ((rk : S1x512.Idx → EReal) (ix2 (0 : Fin 1) q)))
    (p : Fin 4) (j : Fin 128) (o b v g : FVec Ideal S512x128 .f32) (gn gb : Vec Ideal S1x128 .f32)
    (ho : ∀ l : Fin 128, o (ix2 i l) = k0_pay12 (F := Ideal) yf yb (ix2 i ⟨128 * p.val + l.val, by omega⟩))
    (hb : ∀ l : Fin 128, b (ix2 i l) = k0_pay11 (F := Ideal) (k0_pay4 v5) (k0_pay5 v5) (k0_pay8 v6 a0 A0) (k0_pay9 v6 a1 A1) k0_pay10 rk ka (ix2 i ⟨128 * p.val + l.val, by omega⟩))
    (hv : v (ix2 i j) = k0_pay6 (F := Ideal) v5 (ix2 i ⟨128 * p.val + j.val, by omega⟩))
    (hg : g (ix2 i j) = k0_pay13 (F := Ideal) v6 G (ix2 i ⟨128 * p.val + j.val, by omega⟩))
    (hgn : (gn : S1x128.Idx → EReal) (ix2 (0 : Fin 1) j) = GN ⟨128 * p.val + j.val, by omega⟩)
    (hgb : (gb : S1x128.Idx → EReal) (ix2 (0 : Fin 1) j) = GB ⟨128 * p.val + j.val, by omega⟩) :
    part o b v g gn gb mask (ix2 i j) = headsB yf yb v5 v6 a0 a1 A0 A1 ka rk GN GB G i ⟨128 * p.val + j.val, by omega⟩ := by
  have e4 : ∀ q, k0_pay4 (F := Ideal) v5 (ix2 i q) = (v5 : S512x1536.Idx → EReal) (ix2 i (⟨q.val, by omega⟩ : Fin 1536)) := fun q => by pointwise [k0_pay4]
  have e5 : ∀ q, k0_pay5 (F := Ideal) v5 (ix2 i q) = (v5 : S512x1536.Idx → EReal) (ix2 i (⟨512 + q.val, by omega⟩ : Fin 1536)) := fun q => by pointwise [k0_pay5]
  have e6 : ∀ q, k0_pay6 (F := Ideal) v5 (ix2 i q) = (v5 : S512x1536.Idx → EReal) (ix2 i (⟨1024 + q.val, by omega⟩ : Fin 1536)) := fun q => by pointwise [k0_pay6]
  have e12 : ∀ q, k0_pay12 (F := Ideal) yf yb (ix2 i q) = (yf : S512x512.Idx → EReal) (ix2 i q) + (yb : S512x512.Idx → EReal) (ix2 i q) := fun q => by pointwise [k0_pay12]
  have hB : ∀ q, IsReal (k0_pay11 (F := Ideal) (k0_pay4 v5) (k0_pay5 v5) (k0_pay8 v6 a0 A0) (k0_pay9 v6 a1 A1) k0_pay10 rk ka (ix2 i q)) := fun q => by
    rw [bonus_at, rate_at, e4, e5, ofBits_two]
    exact (((h5 _).mul (h5 _)).mul (hrk _)).mul (IsReal.add ⟨_, rfl⟩ ((((isReal_sg _).add (isReal_sg _)).sub ⟨_, rfl⟩).mul (hka _)))
  have hO : ∀ q, IsReal (k0_pay12 (F := Ideal) yf yb (ix2 i q)) := fun q => by rw [e12]; exact (hf q).add (hb' q)
  refine (part_at o b v g gn gb i j (fun q => k0_pay12 (F := Ideal) yf yb (ix2 i q)) (fun q => k0_pay11 (F := Ideal) (k0_pay4 v5) (k0_pay5 v5) (k0_pay8 v6 a0 A0) (k0_pay9 v6 a1 A1) k0_pay10 rk ka (ix2 i q))
    (fun q => k0_pay6 (F := Ideal) v5 (ix2 i q)) (fun q => k0_pay13 (F := Ideal) v6 G (ix2 i q)) GN GB p ho hO hb hB hv hg hgn hgb).trans ?_
  simp only [e12, bonus_at, rate_at, gate_at, e4, e5, e6]
  unfold headsB headOut
  refine congrArg₂ (· * ·) (congrArg₂ (· + ·) rfl ?_) rfl
  exact bonus_add _ _ _ _ _ _ _ (fun _ => h5 _) (fun _ => h5 _) (fun _ => h5 _) hka hrk (fun _ => isReal_sg _) (fun _ => isReal_sg _) _

set_option maxRecDepth 16384 in
/-- The body's projected row at an index. -/
theorem mixB_at (yf yb cv : Vec Ideal S512x512 .f32) (v5 : Vec Ideal S512x1536 .f32) (v6 : Vec Ideal S512x384 .f32) (a0 a1 : Vec Ideal S1x512 .f32)
    (A0 A1 : Vec Ideal S1x128x512 .bf16) (ka rk : Vec Ideal S1x512 .f32) (gn0 gb0 gn1 gb1 gn2 gb2 gn3 gb3 : Vec Ideal S1x128 .f32) (G : Vec Ideal S128x512 .bf16)
    (W : Vec Ideal S1024x1024 .bf16) (i : Fin 512) (k : Fin 1024) (GN GB : Fin 512 → EReal)
    (hn : ∀ (p : Fin 4) (j : Fin 128), (![gn0, gn1, gn2, gn3] p : S1x128.Idx → EReal) (ix2 (0 : Fin 1) j) = GN ⟨128 * p.val + j.val, by omega⟩)
    (hb : ∀ (p : Fin 4) (j : Fin 128), (![gb0, gb1, gb2, gb3] p : S1x128.Idx → EReal) (ix2 (0 : Fin 1) j) = GB ⟨128 * p.val + j.val, by omega⟩)
    (hf : ∀ q, IsReal ((yf : S512x512.Idx → EReal) (ix2 i q))) (hb' : ∀ q, IsReal ((yb : S512x512.Idx → EReal) (ix2 i q)))
    (h5 : ∀ q, IsReal ((v5 : S512x1536.Idx → EReal) (ix2 i q))) (hka : ∀ q, IsReal ((ka : S1x512.Idx → EReal) (ix2 (0 : Fin 1) q)))
    (hrk : ∀ q, IsReal ((rk : S1x512.Idx → EReal) (ix2 (0 : Fin 1) q))) :
    mixB yf yb cv v5 v6 a0 a1 A0 A1 ka rk gn0 gb0 gn1 gb1 gn2 gb2 gn3 gb3 G W (ix2 i k)
      = mixed (fun l => (cv : S512x512.Idx → EReal) (ix2 i l))
          (headsB yf yb v5 v6 a0 a1 A0 A1 ka rk GN GB G i)
          (fun l k => (W : S1024x1024.Idx → EReal) (ix2 l k)) k := by
  unfold mixB
  rw [part0_eq, part1_eq, part2_eq, mix_eq]
  refine cat_at _ _ _ _ _ _ i k (headsB yf yb v5 v6 a0 a1 A0 A1 ka rk GN GB G i) (fun l => ?_) (fun l => ?_) (fun l => ?_) (fun l => ?_)
  · exact (head_at yf yb v5 v6 a0 a1 A0 A1 ka rk G i GN GB hf hb' h5 hka hrk 0 l _ _ _ _ _ _ (fun l => (slice_at _ i l).1) (fun l => (slice_at _ i l).1) (slice_at _ i l).1 (slice_at _ i l).1 (hn 0 l) (hb 0 l)).trans
      (congrArg _ (Fin.ext (by show 128 * 0 + l.val = l.val; omega)))
  · exact head_at yf yb v5 v6 a0 a1 A0 A1 ka rk G i GN GB hf hb' h5 hka hrk 1 l _ _ _ _ _ _ (fun l => (slice_at _ i l).2.1) (fun l => (slice_at _ i l).2.1) (slice_at _ i l).2.1 (slice_at _ i l).2.1 (hn 1 l) (hb 1 l)
  · exact head_at yf yb v5 v6 a0 a1 A0 A1 ka rk G i GN GB hf hb' h5 hka hrk 2 l _ _ _ _ _ _ (fun l => (slice_at _ i l).2.2.1) (fun l => (slice_at _ i l).2.2.1) (slice_at _ i l).2.2.1 (slice_at _ i l).2.2.1 (hn 2 l) (hb 2 l)
  · exact head_at yf yb v5 v6 a0 a1 A0 A1 ka rk G i GN GB hf hb' h5 hka hrk 3 l _ _ _ _ _ _ (fun l => (slice_at _ i l).2.2.2) (fun l => (slice_at _ i l).2.2.2) (slice_at _ i l).2.2.2 (slice_at _ i l).2.2.2 (hn 3 l) (hb 3 l)

set_option maxRecDepth 16384 in
/-- The body's next normed row at an index, from its attended row. -/
theorem next_at (M : FVec Ideal S512x1024 .f32) (D : FVec Ideal S512x1 .f32) (x : Vec Ideal S512x1024 .f32) (v3 : Vec Ideal S1x6x1024 .f32) (s : FVec Ideal S1x1024 .f32)
    (pg qg : Vec Ideal S1x1024 .f32) (e : Ideal .f32) (i : Fin 512) (k : Fin 1024) :
    k0_pay32 (F := Ideal) (k0_pay3 v3) M x s pg D e qg (ix2 i k)
      = scaled (fun k => k0_pay30 M x s pg D e (ix2 i k))
          (fun k => (qg : S1x1024.Idx → EReal) (ix2 (0 : Fin 1) k)) (fun k => (v3 : S1x6x1024.Idx → EReal) (ix3 (0 : Fin 1) (4 : Fin 6) k))
          (fun k => (v3 : S1x6x1024.Idx → EReal) (ix3 (0 : Fin 1) (3 : Fin 6) k)) k := by
  unfold scaled normed
  pointwise [k0_pay32, k0_pay31, k0_pay3]

set_option maxRecDepth 16384 in
/-- The body's attended row and next normed row at an index, from its projected row. -/
theorem rows_at (M : FVec Ideal S512x1024 .f32) (D : FVec Ideal S512x1 .f32) (x : Vec Ideal S512x1024 .f32) (v3 : Vec Ideal S1x6x1024 .f32) (pg qg : Vec Ideal S1x1024 .f32) (i : Fin 512) (k : Fin 1024)
    (hD : D (ix2 i (0 : Fin 1)) = Ideal.div (∑ l, M (ix2 i l) * M (ix2 i l)) (Ideal.ofBits .f32 0x44800000#32)) :
    k0_pay30 (F := Ideal) M x (k0_pay28 (k0_pay3 v3)) pg D (Scalar.ofBits .f32 0x358637BD#32) (ix2 i k)
      = addNormed (fun k => (x : S512x1024.Idx → EReal) (ix2 i k)) (fun k => (v3 : S1x6x1024.Idx → EReal) (ix3 (0 : Fin 1) (2 : Fin 6) k))
          (fun k => (pg : S1x1024.Idx → EReal) (ix2 (0 : Fin 1) k)) (fun k => M (ix2 i k)) k
    ∧ k0_pay32 (F := Ideal) (k0_pay3 v3) M x (k0_pay28 (k0_pay3 v3)) pg D (Scalar.ofBits .f32 0x358637BD#32) qg (ix2 i k)
      = scaled (addNormed (fun k => (x : S512x1024.Idx → EReal) (ix2 i k)) (fun k => (v3 : S1x6x1024.Idx → EReal) (ix3 (0 : Fin 1) (2 : Fin 6) k))
          (fun k => (pg : S1x1024.Idx → EReal) (ix2 (0 : Fin 1) k)) (fun k => M (ix2 i k)))
          (fun k => (qg : S1x1024.Idx → EReal) (ix2 (0 : Fin 1) k)) (fun k => (v3 : S1x6x1024.Idx → EReal) (ix3 (0 : Fin 1) (4 : Fin 6) k))
          (fun k => (v3 : S1x6x1024.Idx → EReal) (ix3 (0 : Fin 1) (3 : Fin 6) k)) k := by
  have e : ∀ k, k0_pay30 (F := Ideal) M x (k0_pay28 (k0_pay3 v3)) pg D (Scalar.ofBits .f32 0x358637BD#32) (ix2 i k)
      = addNormed (fun k => (x : S512x1024.Idx → EReal) (ix2 i k)) (fun k => (v3 : S1x6x1024.Idx → EReal) (ix3 (0 : Fin 1) (2 : Fin 6) k))
          (fun k => (pg : S1x1024.Idx → EReal) (ix2 (0 : Fin 1) k)) (fun k => M (ix2 i k)) k := fun k => by
    unfold addNormed normed
    rw [← hD]
    pointwise [k0_pay30, k0_pay28, k0_pay3]
  refine ⟨e k, ?_⟩
  refine (next_at M D x v3 (k0_pay28 (k0_pay3 v3)) pg qg _ i k).trans ?_
  exact congrArg (fun y : Fin 1024 → EReal => scaled y _ _ _ k) (funext e)

end Cert.Kernel6Ideal.Hand

end
-- ==== Proof.OutC.lean ====
/- The mixing output projection of the latent tokens: what the body stores at a point, from the point's blocks. -/
module

public import proofs.«01_k».proof.Proof.OutB
public import proofs.«01_k».proof.Proof.Gen.Kernel6Ideal.Value
public import Idealize.ShloMosaic.Lib.WholeRead

@[expose] public section

noncomputable section

namespace Cert.Kernel6Ideal.Hand

open Cert.Kernel6Ideal Cert.Kernel6Ideal.Gen Cert.Proof
open Idealize.ShloMosaic Idealize.ShloMosaic.TcCoe
open Idealize.ShloMosaic.Pipeline (Dat Cfg Window)

/-- A load of a rectangle through a whole staging buffer's view reads the rectangle of its contents. -/
theorem rd {s : Shape} {e : EltTy} {a : Memref sig .tc .vmem s e} (h : a.IsWhole) (X : s.Idx → Elt Ideal e) (off size : Fin s.rank → Nat)
    (inb : ∀ d, off d + size d ≤ s.size d) :
    View.readAt (Elt Ideal) a.view (Rect.unit (s := s) off size inb).toLoadRect (h.unread X) = View.ld X (Rect.unit (s := s) off size inb) :=
  funext fun x => h.readAt_unread X _ x

/-- The projected rows, from a point's blocks. -/
def mixX (x2 x3 x4 : Vec Ideal S512x512 .f32) (x5 : Vec Ideal S512x1536 .f32) (x6 : Vec Ideal S512x384 .f32) (x7 : Vec Ideal S2x128x512 .bf16) (x8 : Vec Ideal S2x512 .f32)
    (x9 x10 x11 x12 : Vec Ideal S1x512 .f32) (x13 : Vec Ideal S128x512 .bf16) (x14 : Vec Ideal S1024x1024 .bf16) : FVec Ideal S512x1024 .f32 :=
  mixB (View.ld (x3 : S512x512.Idx → Elt Ideal .f32) (Rect.unit (s := S512x512) ![0, 0] S512x512.size inb_S512x512_S512x512_0_0))
    (View.ld (x4 : S512x512.Idx → Elt Ideal .f32) (Rect.unit (s := S512x512) ![0, 0] S512x512.size inb_S512x512_S512x512_0_0))
    (View.ld (x2 : S512x512.Idx → Elt Ideal .f32) (Rect.unit (s := S512x512) ![0, 0] S512x512.size inb_S512x512_S512x512_0_0))
    (View.ld (x5 : S512x1536.Idx → Elt Ideal .f32) (Rect.unit (s := S512x1536) ![0, 0] S512x1536.size inb_S512x1536_S512x1536_0_0))
    (View.ld (x6 : S512x384.Idx → Elt Ideal .f32) (Rect.unit (s := S512x384) ![0, 0] S512x384.size inb_S512x384_S512x384_0_0))
    (View.ld (x8 : S2x512.Idx → Elt Ideal .f32) (Rect.unit (s := S2x512) ![0, 0] S1x512.size inb_S2x512_S1x512_0_0))
    (View.ld (x8 : S2x512.Idx → Elt Ideal .f32) (Rect.unit (s := S2x512) ![1, 0] S1x512.size inb_S2x512_S1x512_1_0))
    (View.ld (x7 : S2x128x512.Idx → Elt Ideal .bf16) (Rect.unit (s := S2x128x512) ![0, 0, 0] S1x128x512.size inb_S2x128x512_S1x128x512_0_0_0))
    (View.ld (x7 : S2x128x512.Idx → Elt Ideal .bf16) (Rect.unit (s := S2x128x512) ![1, 0, 0] S1x128x512.size inb_S2x128x512_S1x128x512_1_0_0))
    (View.ld (x9 : S1x512.Idx → Elt Ideal .f32) (Rect.unit (s := S1x512) ![0, 0] S1x512.size inb_S1x512_S1x512_0_0))
    (View.ld (x10 : S1x512.Idx → Elt Ideal .f32) (Rect.unit (s := S1x512) ![0, 0] S1x512.size inb_S1x512_S1x512_0_0))
    (View.ld (x11 : S1x512.Idx → Elt Ideal .f32) (Rect.unit (s := S1x512) ![0, 0] S1x128.size inb_S1x512_S1x128_0_0))
    (View.ld (x12 : S1x512.Idx → Elt Ideal .f32) (Rect.unit (s := S1x512) ![0, 0] S1x128.size inb_S1x512_S1x128_0_0))
    (View.ld (x11 : S1x512.Idx → Elt Ideal .f32) (Rect.unit (s := S1x512) ![0, 128] S1x128.size inb_S1x512_S1x128_0_128))
    (View.ld (x12 : S1x512.Idx → Elt Ideal .f32) (Rect.unit (s := S1x512) ![0, 128] S1x128.size inb_S1x512_S1x128_0_128))
    (View.ld (x11 : S1x512.Idx → Elt Ideal .f32) (Rect.unit (s := S1x512) ![0, 256] S1x128.size inb_S1x512_S1x128_0_256))
    (View.ld (x12 : S1x512.Idx → Elt Ideal .f32) (Rect.unit (s := S1x512) ![0, 256] S1x128.size inb_S1x512_S1x128_0_256))
    (View.ld (x11 : S1x512.Idx → Elt Ideal .f32) (Rect.unit (s := S1x512) ![0, 384] S1x128.size inb_S1x512_S1x128_0_384))
    (View.ld (x12 : S1x512.Idx → Elt Ideal .f32) (Rect.unit (s := S1x512) ![0, 384] S1x128.size inb_S1x512_S1x128_0_384))
    (View.ld (x13 : S128x512.Idx → Elt Ideal .bf16) (Rect.unit (s := S128x512) ![0, 0] S128x512.size inb_S128x512_S128x512_0_0))
    (View.ld (x14 : S1024x1024.Idx → Elt Ideal .bf16) (Rect.unit (s := S1024x1024) ![0, 0] S1024x1024.size inb_S1024x1024_S1024x1024_0_0))

/-- The mean squares of a block's rows. -/
def meanSq (M : FVec Ideal S512x1024 .f32) : FVec Ideal S512x1 .f32 :=
  divf (shapeCast S512x1 (multiReduction .add [1] S512 (mulf M M) 0x00000000#32 reduces_S512x1024_S512 (.inl rfl) rfl) shapeCasts_S512_S512x1)
    (broadcast S512x1 (Scalar.ofBits .f32 0x44800000#32))

set_option maxRecDepth 16384 in
theorem meanSq_at (M : FVec Ideal S512x1024 .f32) (i : Fin 512) :
    meanSq M (ix2 i (0 : Fin 1)) = Ideal.div (∑ l, M (ix2 i l) * M (ix2 i l)) (Ideal.ofBits .f32 0x44800000#32) := by
  pointwise [meanSq]

/-- The attended rows, from a point's blocks. -/
def x1X (x0 : Vec Ideal S512x1024 .f32) (x1 : Vec Ideal S1x6x1024 .f32) (x15 : Vec Ideal S1x1024 .f32) (M : FVec Ideal S512x1024 .f32) : FVec Ideal S512x1024 .f32 :=
  k0_pay30 M (View.ld (x0 : S512x1024.Idx → Elt Ideal .f32) (Rect.unit (s := S512x1024) ![0, 0] S512x1024.size inb_S512x1024_S512x1024_0_0))
    (k0_pay28 (k0_pay3 (View.ld (x1 : S1x6x1024.Idx → Elt Ideal .f32) (Rect.unit (s := S1x6x1024) ![0, 0, 0] S1x6x1024.size inb_S1x6x1024_S1x6x1024_0_0_0))))
    (View.ld (x15 : S1x1024.Idx → Elt Ideal .f32) (Rect.unit (s := S1x1024) ![0, 0] S1x1024.size inb_S1x1024_S1x1024_0_0)) (meanSq M) (Scalar.ofBits .f32 0x358637BD#32)

/-- The next normed rows, from a point's blocks. -/
def h2X (x0 : Vec Ideal S512x1024 .f32) (x1 : Vec Ideal S1x6x1024 .f32) (x15 x16 : Vec Ideal S1x1024 .f32) (M : FVec Ideal S512x1024 .f32) : FVec Ideal S512x1024 .bf16 :=
  k0_pay32 (k0_pay3 (View.ld (x1 : S1x6x1024.Idx → Elt Ideal .f32) (Rect.unit (s := S1x6x1024) ![0, 0, 0] S1x6x1024.size inb_S1x6x1024_S1x6x1024_0_0_0)))
    M (View.ld (x0 : S512x1024.Idx → Elt Ideal .f32) (Rect.unit (s := S512x1024) ![0, 0] S512x1024.size inb_S512x1024_S512x1024_0_0))
    (k0_pay28 (k0_pay3 (View.ld (x1 : S1x6x1024.Idx → Elt Ideal .f32) (Rect.unit (s := S1x6x1024) ![0, 0, 0] S1x6x1024.size inb_S1x6x1024_S1x6x1024_0_0_0))))
    (View.ld (x15 : S1x1024.Idx → Elt Ideal .f32) (Rect.unit (s := S1x1024) ![0, 0] S1x1024.size inb_S1x1024_S1x1024_0_0)) (meanSq M) (Scalar.ofBits .f32 0x358637BD#32)
    (View.ld (x16 : S1x1024.Idx → Elt Ideal .f32) (Rect.unit (s := S1x1024) ![0, 0] S1x1024.size inb_S1x1024_S1x1024_0_0))

variable (m : (ℓ : Loc nD τ sig) → Buf (Elt Ideal) ℓ) (c : Dev nD)

/-- The projected rows of point `t`. -/
def mixT (t : Fin cfg0.N) : FVec Ideal S512x1024 .f32 :=
  mixX (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

set_option maxHeartbeats 1000000 in
/-- What every point stores in the attended rows' block. -/
theorem out19_eq (t : Fin cfg0.N) : (outsAt0 m c t.val t.isLt).1 = x1X (iblk m c 0 t) (iblk m c 1 t) (iblk m c 15 t) (mixT m c t) := by
  by_cases h0 : t.val % 16 = 0
  · rw [outsAt0_A m c t h0]
    dsimp only
    unfold out0_A_19
    rw [View.read_writes_junk_eq_canon]
    refine (View.canon_unit_zero (funext fun a => by fin_cases a <;> rfl) _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.cst_99, kernelRun0_A.sl.v66, kernelRun0_A.sl.v67, rd]
    rfl
  · rw [outsAt0_B m c t h0]
    dsimp only
    unfold out0_B_19
    rw [View.read_writes_junk_eq_canon]
    refine (View.canon_unit_zero (funext fun a => by fin_cases a <;> rfl) _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.cst_99, kernelRun0_B.sl.v66, kernelRun0_B.sl.v67, rd]
    rfl

set_option maxHeartbeats 1000000 in
/-- What every point stores in the next normed rows' block. -/
theorem out20_eq (t : Fin cfg0.N) : (outsAt0 m c t.val t.isLt).2.1 = h2X (iblk m c 0 t) (iblk m c 1 t) (iblk m c 15 t) (iblk m c 16 t) (mixT m c t) := by
  by_cases h0 : t.val % 16 = 0
  · rw [outsAt0_A m c t h0]
    dsimp only
    unfold out0_A_20
    rw [View.read_writes_junk_eq_canon]
    refine (View.canon_unit_zero (funext fun a => by fin_cases a <;> rfl) _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.cst_99, kernelRun0_A.sl.v66, kernelRun0_A.sl.v67, rd]
    rfl
  · rw [outsAt0_B m c t h0]
    dsimp only
    unfold out0_B_20
    rw [View.read_writes_junk_eq_canon]
    refine (View.canon_unit_zero (funext fun a => by fin_cases a <;> rfl) _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.cst_99, kernelRun0_B.sl.v66, kernelRun0_B.sl.v67, rd]
    rfl

end Cert.Kernel6Ideal.Hand

end
-- ==== Proof.OutD.lean ====
/- The mixing output projection of the latent tokens: the two row arrays at an index. -/
module

public import proofs.«01_k».proof.Proof.OutC
public import Idealize.ShloMosaic.Lib.Pipeline.Covers

@[expose] public section

noncomputable section

namespace Cert.Proof

/-- The projected row of a token, from its rows of the arguments and the weights. -/
def outRow (cv yf yb : Fin 512 → EReal) (rkv : Fin 1536 → EReal) (lora : Fin 384 → EReal) (a2 : Fin 2 → Fin 128 → Fin 512 → EReal) (a0 : Fin 2 → Fin 512 → EReal)
    (ka rk gn gb : Fin 512 → EReal) (g2 : Fin 128 → Fin 512 → EReal) (W : Fin 1024 → Fin 1024 → EReal) : Fin 1024 → EReal :=
  mixed cv (headOut (fun q => yf q + yb q) (fun q => rkv ⟨q.val, by omega⟩) (fun q => rkv ⟨512 + q.val, by omega⟩) (fun q => rkv ⟨1024 + q.val, by omega⟩) ka rk
    (rate (a0 0) (fun l => lora ⟨128 + l.val, by omega⟩) (a2 0)) (rate (a0 1) (fun l => lora ⟨128 + l.val, by omega⟩) (a2 1)) gn gb
    (gateRow (fun l => lora ⟨256 + l.val, by omega⟩) g2)) W

/-- The attended row of a token. -/
def attended (x : Fin 1024 → EReal) (mod : Fin 6 → Fin 1024 → EReal) (g y : Fin 1024 → EReal) : Fin 1024 → EReal := addNormed x (mod 2) g y

/-- The next normed row of a token. -/
def following (x : Fin 1024 → EReal) (mod : Fin 6 → Fin 1024 → EReal) (g h y : Fin 1024 → EReal) : Fin 1024 → EReal :=
  scaled (attended x mod g y) h (mod 4) (mod 3)

end Cert.Proof

namespace Cert.Kernel6Ideal.Hand

open Cert.Kernel6Ideal Cert.Kernel6Ideal.Gen Cert.Proof
open Idealize.ShloMosaic Idealize.ShloMosaic.TcCoe
open Idealize.ShloMosaic.Pipeline (Dat Cfg Window)

/-- A load of one row of two. -/
theorem pair_at (x : Vec Ideal S2x512 .f32) (o : Fin 2) (inb : ∀ a, ![o.val, 0] a + S1x512.size a ≤ S2x512.size a) (q : Fin 512) :
    (View.ld (x : S2x512.Idx → Elt Ideal .f32) (Rect.unit (s := S2x512) ![o.val, 0] S1x512.size inb) : S1x512.Idx → EReal) (ix2 (0 : Fin 1) q) = (x : S2x512.Idx → EReal) (ix2 o q) := by
  refine congrArg (x : S2x512.Idx → EReal) (funext fun a => Fin.ext ?_)
  match a with
  | ⟨0, _⟩ => show o.val + 1 * 0 = o.val; omega
  | ⟨1, _⟩ => show 0 + 1 * q.val = q.val; omega

/-- A load of one matrix of two. -/
theorem slab_at (x : Vec Ideal S2x128x512 .bf16) (o : Fin 2) (inb : ∀ a, ![o.val, 0, 0] a + S1x128x512.size a ≤ S2x128x512.size a) (l : Fin 128) (q : Fin 512) :
    (View.ld (x : S2x128x512.Idx → Elt Ideal .bf16) (Rect.unit (s := S2x128x512) ![o.val, 0, 0] S1x128x512.size inb) : S1x128x512.Idx → EReal) (ix3 (0 : Fin 1) l q) = (x : S2x128x512.Idx → EReal) (ix3 o l q) := by
  refine congrArg (x : S2x128x512.Idx → EReal) (funext fun a => Fin.ext ?_)
  match a with
  | ⟨0, _⟩ => show o.val + 1 * 0 = o.val; omega
  | ⟨1, _⟩ => show 0 + 1 * l.val = l.val; omega
  | ⟨2, _⟩ => show 0 + 1 * q.val = q.val; omega

/-- A load of a quarter of a row. -/
theorem quarter_at (x : Vec Ideal S1x512 .f32) (o : ℕ) (inb : ∀ a, ![0, o] a + S1x128.size a ≤ S1x512.size a) (j : Fin 128) (q : Fin 512) (h : q.val = o + j.val) :
    (View.ld (x : S1x512.Idx → Elt Ideal .f32) (Rect.unit (s := S1x512) ![0, o] S1x128.size inb) : S1x128.Idx → EReal) (ix2 (0 : Fin 1) j) = (x : S1x512.Idx → EReal) (ix2 (0 : Fin 1) q) := by
  refine congrArg (x : S1x512.Idx → EReal) (funext fun a => Fin.ext ?_)
  match a with
  | ⟨0, _⟩ => rfl
  | ⟨1, _⟩ => show o + 1 * j.val = q.val; omega

/-- The four quarters of a row. -/
theorem quarters_at (x : Vec Ideal S1x512 .f32) (p : Fin 4) (j : Fin 128) :
    (![View.ld (x : S1x512.Idx → Elt Ideal .f32) (Rect.unit (s := S1x512) ![0, 0] S1x128.size inb_S1x512_S1x128_0_0),
       View.ld (x : S1x512.Idx → Elt Ideal .f32) (Rect.unit (s := S1x512) ![0, 128] S1x128.size inb_S1x512_S1x128_0_128),
       View.ld (x : S1x512.Idx → Elt Ideal .f32) (Rect.unit (s := S1x512) ![0, 256] S1x128.size inb_S1x512_S1x128_0_256),
       View.ld (x : S1x512.Idx → Elt Ideal .f32) (Rect.unit (s := S1x512) ![0, 384] S1x128.size inb_S1x512_S1x128_0_384)] p : S1x128.Idx → EReal) (ix2 (0 : Fin 1) j)
      = (x : S1x512.Idx → EReal) (ix2 (0 : Fin 1) (⟨128 * p.val + j.val, by omega⟩ : Fin 512)) := by
  match p with
  | ⟨0, _⟩ => exact quarter_at x 0 _ j _ rfl
  | ⟨1, _⟩ => exact quarter_at x 128 _ j _ rfl
  | ⟨2, _⟩ => exact quarter_at x 256 _ j _ rfl
  | ⟨3, _⟩ => exact quarter_at x 384 _ j _ rfl

/-- The projected rows at an index. -/
theorem mixX_at (x2 x3 x4 : Vec Ideal S512x512 .f32) (x5 : Vec Ideal S512x1536 .f32) (x6 : Vec Ideal S512x384 .f32) (x7 : Vec Ideal S2x128x512 .bf16) (x8 : Vec Ideal S2x512 .f32)
    (x9 x10 x11 x12 : Vec Ideal S1x512 .f32) (x13 : Vec Ideal S128x512 .bf16) (x14 : Vec Ideal S1024x1024 .bf16) (i : Fin 512) (k : Fin 1024)
    (hf : ∀ q, IsReal ((x3 : S512x512.Idx → EReal) (ix2 i q))) (hb' : ∀ q, IsReal ((x4 : S512x512.Idx → EReal) (ix2 i q)))
    (h5 : ∀ q, IsReal ((x5 : S512x1536.Idx → EReal) (ix2 i q))) (hka : ∀ q, IsReal ((x9 : S1x512.Idx → EReal) (ix2 (0 : Fin 1) q)))
    (hrk : ∀ q, IsReal ((x10 : S1x512.Idx → EReal) (ix2 (0 : Fin 1) q))) :
    mixX x2 x3 x4 x5 x6 x7 x8 x9 x10 x11 x12 x13 x14 (ix2 i k)
      = outRow (fun q => (x2 : S512x512.Idx → EReal) (ix2 i q)) (fun q => (x3 : S512x512.Idx → EReal) (ix2 i q)) (fun q => (x4 : S512x512.Idx → EReal) (ix2 i q))
          (fun q => (x5 : S512x1536.Idx → EReal) (ix2 i q)) (fun q => (x6 : S512x384.Idx → EReal) (ix2 i q)) (fun o l q => (x7 : S2x128x512.Idx → EReal) (ix3 o l q))
          (fun o q => (x8 : S2x512.Idx → EReal) (ix2 o q)) (fun q => (x9 : S1x512.Idx → EReal) (ix2 (0 : Fin 1) q)) (fun q => (x10 : S1x512.Idx → EReal) (ix2 (0 : Fin 1) q))
          (fun q => (x11 : S1x512.Idx → EReal) (ix2 (0 : Fin 1) q)) (fun q => (x12 : S1x512.Idx → EReal) (ix2 (0 : Fin 1) q))
          (fun l q => (x13 : S128x512.Idx → EReal) (ix2 l q)) (fun l q => (x14 : S1024x1024.Idx → EReal) (ix2 l q)) k := by
  have e2 : View.ld (x2 : S512x512.Idx → Elt Ideal .f32) (Rect.unit (s := S512x512) ![0, 0] S512x512.size inb_S512x512_S512x512_0_0) = x2 := View.ld_unit_zero (funext fun a => by fin_cases a <;> rfl) _ _
  have e3 : View.ld (x3 : S512x512.Idx → Elt Ideal .f32) (Rect.unit (s := S512x512) ![0, 0] S512x512.size inb_S512x512_S512x512_0_0) = x3 := View.ld_unit_zero (funext fun a => by fin_cases a <;> rfl) _ _
  have e4 : View.ld (x4 : S512x512.Idx → Elt Ideal .f32) (Rect.unit (s := S512x512) ![0, 0] S512x512.size inb_S512x512_S512x512_0_0) = x4 := View.ld_unit_zero (funext fun a => by fin_cases a <;> rfl) _ _
  have e5 : View.ld (x5 : S512x1536.Idx → Elt Ideal .f32) (Rect.unit (s := S512x1536) ![0, 0] S512x1536.size inb_S512x1536_S512x1536_0_0) = x5 := View.ld_unit_zero (funext fun a => by fin_cases a <;> rfl) _ _
  have e6 : View.ld (x6 : S512x384.Idx → Elt Ideal .f32) (Rect.unit (s := S512x384) ![0, 0] S512x384.size inb_S512x384_S512x384_0_0) = x6 := View.ld_unit_zero (funext fun a => by fin_cases a <;> rfl) _ _
  have e9 : View.ld (x9 : S1x512.Idx → Elt Ideal .f32) (Rect.unit (s := S1x512) ![0, 0] S1x512.size inb_S1x512_S1x512_0_0) = x9 := View.ld_unit_zero (funext fun a => by fin_cases a <;> rfl) _ _
  have e10 : View.ld (x10 : S1x512.Idx → Elt Ideal .f32) (Rect.unit (s := S1x512) ![0, 0] S1x512.size inb_S1x512_S1x512_0_0) = x10 := View.ld_unit_zero (funext fun a => by fin_cases a <;> rfl) _ _
  have e13 : View.ld (x13 : S128x512.Idx → Elt Ideal .bf16) (Rect.unit (s := S128x512) ![0, 0] S128x512.size inb_S128x512_S128x512_0_0) = x13 := View.ld_unit_zero (funext fun a => by fin_cases a <;> rfl) _ _
  have e14 : View.ld (x14 : S1024x1024.Idx → Elt Ideal .bf16) (Rect.unit (s := S1024x1024) ![0, 0] S1024x1024.size inb_S1024x1024_S1024x1024_0_0) = x14 := View.ld_unit_zero (funext fun a => by fin_cases a <;> rfl) _ _
  unfold mixX
  rw [e2, e3, e4, e5, e6, e9, e10, e13, e14]
  refine (mixB_at _ _ _ _ _ _ _ _ _ _ _ _ _ _ _ _ _ _ _ _ _ i k (fun q => (x11 : S1x512.Idx → EReal) (ix2 (0 : Fin 1) q)) (fun q => (x12 : S1x512.Idx → EReal) (ix2 (0 : Fin 1) q))
    (quarters_at x11) (quarters_at x12) hf hb' h5 hka hrk).trans ?_
  unfold outRow headsB
  have s0 := slab_at x7 0 inb_S2x128x512_S1x128x512_0_0_0
  have s1 := slab_at x7 1 inb_S2x128x512_S1x128x512_1_0_0
  have p0 := pair_at x8 0 inb_S2x512_S1x512_0_0
  have p1 := pair_at x8 1 inb_S2x512_S1x512_1_0
  have r0 := congr (congrArg (fun a => rate a fun l => (x6 : S512x384.Idx → EReal) (ix2 i (⟨128 + l.val, by omega⟩ : Fin 384))) (funext p0)) (funext fun l => funext (s0 l))
  have r1 := congr (congrArg (fun a => rate a fun l => (x6 : S512x384.Idx → EReal) (ix2 i (⟨128 + l.val, by omega⟩ : Fin 384))) (funext p1)) (funext fun l => funext (s1 l))
  exact congrFun (congrFun (congrArg (mixed _) (congrFun (congrFun (congrFun (congr (congrArg (headOut _ _ _ _ _ _) r0) r1) _) _) _)) _) k

/-- What the body stores, at an index. -/
theorem stored_at (x0 : Vec Ideal S512x1024 .f32) (x1 : Vec Ideal S1x6x1024 .f32) (x15 x16 : Vec Ideal S1x1024 .f32) (M : FVec Ideal S512x1024 .f32) (i : Fin 512) (k : Fin 1024) :
    x1X x0 x1 x15 M (ix2 i k) = attended (fun k => (x0 : S512x1024.Idx → EReal) (ix2 i k)) (fun o k => (x1 : S1x6x1024.Idx → EReal) (ix3 (0 : Fin 1) o k))
        (fun k => (x15 : S1x1024.Idx → EReal) (ix2 (0 : Fin 1) k)) (fun k => M (ix2 i k)) k
    ∧ h2X x0 x1 x15 x16 M (ix2 i k) = following (fun k => (x0 : S512x1024.Idx → EReal) (ix2 i k)) (fun o k => (x1 : S1x6x1024.Idx → EReal) (ix3 (0 : Fin 1) o k))
        (fun k => (x15 : S1x1024.Idx → EReal) (ix2 (0 : Fin 1) k)) (fun k => (x16 : S1x1024.Idx → EReal) (ix2 (0 : Fin 1) k)) (fun k => M (ix2 i k)) k := by
  have e0 : View.ld (x0 : S512x1024.Idx → Elt Ideal .f32) (Rect.unit (s := S512x1024) ![0, 0] S512x1024.size inb_S512x1024_S512x1024_0_0) = x0 := View.ld_unit_zero (funext fun a => by fin_cases a <;> rfl) _ _
  have e1 : View.ld (x1 : S1x6x1024.Idx → Elt Ideal .f32) (Rect.unit (s := S1x6x1024) ![0, 0, 0] S1x6x1024.size inb_S1x6x1024_S1x6x1024_0_0_0) = x1 := View.ld_unit_zero (funext fun a => by fin_cases a <;> rfl) _ _
  have e15 : View.ld (x15 : S1x1024.Idx → Elt Ideal .f32) (Rect.unit (s := S1x1024) ![0, 0] S1x1024.size inb_S1x1024_S1x1024_0_0) = x15 := View.ld_unit_zero (funext fun a => by fin_cases a <;> rfl) _ _
  have e16 : View.ld (x16 : S1x1024.Idx → Elt Ideal .f32) (Rect.unit (s := S1x1024) ![0, 0] S1x1024.size inb_S1x1024_S1x1024_0_0) = x16 := View.ld_unit_zero (funext fun a => by fin_cases a <;> rfl) _ _
  unfold x1X h2X
  rw [e0, e1, e15, e16]
  exact rows_at M (meanSq M) x0 x1 x15 x16 i k (meanSq_at M i)

end Cert.Kernel6Ideal.Hand

end
-- ==== Proof.OutR.lean ====
/- The mixing output projection's reference: the projected rows, and the latent tokens' results at an index. -/
module

public import proofs.«01_k».proof.Proof.OutD
public import proofs.«01_k».proof.Proof.Gen.Reference6Ideal.Run
public import Idealize.ShloMosaic.Lib.Tactic.CleanTypes

@[expose] public section

noncomputable section

namespace Cert.Reference6Ideal.Hand

open Cert.Reference6Ideal Cert.Reference6Ideal.Gen Cert.Reference6Ideal.Value Cert.Proof
open Idealize.ShloMosaic Idealize.ShloMosaic.TcCoe

/-- The column of a head's entry. -/
def col (h : Fin 8) (n : Fin 64) : Fin 512 := ⟨h.val * 64 + n.val, by omega⟩

theorem inHead_col (h : Fin 8) (n l : Fin 64) : inHead (col h n) l = col h l :=
  Fin.ext (by show 64 * ((h.val * 64 + n.val) / 64) + l.val = h.val * 64 + l.val; omega)

/-- The sums over the heads. -/
def sumsV (x : FVec Ideal S8192x8x64 .f32) : FVec Ideal S8192x8x1 .f32 :=
  broadcastInDim S8192x8x1 ![0, 1] bcast_S8192x8_S8192x8x1_0_1 (Host.reduceAdd x (constant S_ .f32 0x00000000#32) reducesTo_S8192x8x64_S8192x8_d2 h_S_)

/-- The means over the heads. -/
def meanV (x : FVec Ideal S8192x8x64 .f32) : FVec Ideal S8192x8x1 .f32 :=
  Host.divf (sumsV x) (broadcastInDim S8192x8x1 ![] bcast_S_S8192x8x1 (constant S_ .f32 0x42800000#32))

/-- The entries less their heads' means. -/
def centV (x : FVec Ideal S8192x8x64 .f32) : FVec Ideal S8192x8x64 .f32 :=
  subf x (broadcastInDim S8192x8x64 ![0, 1, 2] bcast_S8192x8x1_S8192x8x64_0_1_2 (meanV x))

/-- The centred entries over the roots of their heads' mean squares. -/
def overV (x : FVec Ideal S8192x8x64 .f32) : FVec Ideal S8192x8x64 .f32 :=
  mulf x (broadcastInDim S8192x8x64 ![0, 1, 2] bcast_S8192x8x1_S8192x8x64_0_1_2
    (Host.rsqrt (addf (meanV (mulf x x)) (broadcastInDim S8192x8x1 ![] bcast_S_S8192x8x1 (constant S_ .f32 0x3A27C5AC#32)))))

/-- A direction's rates, from its offset's row and its factor. -/
def rateV (lora : FVec Ideal S8192x384 .f32) (a0 : FVec Ideal S1x512 .f32) (a2 : FVec Ideal S1x128x512 .bf16) : FVec Ideal S8192x512 .f32 :=
  Host.divf (broadcastInDim S8192x512 ![] bcast_S_S8192x512 (constant S_ .f32 0x3F800000#32)) (addf (broadcastInDim S8192x512 ![] bcast_S_S8192x512 (constant S_ .f32 0x3F800000#32))
    (Host.exp (Host.negf (addf (broadcastInDim S8192x512 ![0, 1] bcast_S1x512_S8192x512_0_1 (broadcastInDim S1x512 ![1] bcast_S512_S1x512_1 (shapeCast _ a0 shapeCasts_S1x512_S512)))
      (Host.dotGeneral dot_S8192x128_S128x512_S8192x512_1_0_0_1_n_n none (extractStridedSlice S8192x128 ![0, 128] lora slices_S8192x384_S8192x128_0_128)
        (extf .f32 (shapeCast _ a2 shapeCasts_S1x128x512_S128x512) bitsLt_bf16_f32))))))

/-- A row for every token, by heads. -/
def byHeads (x : FVec Ideal S1x512 .f32) : FVec Ideal S8192x8x64 .f32 :=
  broadcastInDim S8192x8x64 ![0, 1, 2] bcast_S1x8x64_S8192x8x64_0_1_2 (broadcastInDim S1x8x64 ![1, 2] bcast_S8x64_S1x8x64_1_2 (shapeCast _ x shapeCasts_S1x512_S8x64))

/-- A direction's bonus, from its rates. -/
def bonusV (r k v : FVec Ideal S8192x8x64 .f32) (ka rk : FVec Ideal S1x512 .f32) (a : FVec Ideal S8192x512 .f32) : FVec Ideal S8192x8x64 .f32 :=
  mulf (broadcastInDim S8192x8x64 ![0, 1, 2] bcast_S8192x8x1_S8192x8x64_0_1_2 (sumsV (mulf (mulf r (mulf k (addf (broadcastInDim S8192x8x64 ![] bcast_S_S8192x8x64 (constant S_ .f32 0x3F800000#32))
    (mulf (subf (shapeCast _ a shapeCasts_S8192x512_S8192x8x64) (broadcastInDim S8192x8x64 ![] bcast_S_S8192x8x64 (constant S_ .f32 0x3F800000#32))) (byHeads ka))))) (byHeads rk)))) v

/-- A third of the receptances, keys and values, by heads. -/
def thirdV (rkv : FVec Ideal S8192x1536 .f32) (o : ℕ) (h : S8192x1536.Slices ![0, o] S8192x512) : FVec Ideal S8192x8x64 .f32 :=
  shapeCast _ (extractStridedSlice S8192x512 ![0, o] rkv h) shapeCasts_S8192x512_S8192x8x64

/-- The heads' rows: the two directions' sum normed by heads, and the bonuses. -/
def headsV (yf yb : FVec Ideal S8192x512 .f32) (rkv : FVec Ideal S8192x1536 .f32) (lora : FVec Ideal S8192x384 .f32) (a2 : FVec Ideal S2x128x512 .bf16) (a0 : FVec Ideal S2x512 .f32)
    (ka rk gn gb : FVec Ideal S1x512 .f32) : FVec Ideal S8192x512 .f32 :=
  addf (addf (mulf (shapeCast _ (overV (centV (addf (shapeCast _ yf shapeCasts_S8192x512_S8192x8x64) (shapeCast _ yb shapeCasts_S8192x512_S8192x8x64)))) shapeCasts_S8192x8x64_S8192x512)
      (broadcastInDim S8192x512 ![0, 1] bcast_S1x512_S8192x512_0_1 gn)) (broadcastInDim S8192x512 ![0, 1] bcast_S1x512_S8192x512_0_1 gb))
    (shapeCast _ (addf
      (bonusV (thirdV rkv 0 slices_S8192x1536_S8192x512_0_0) (thirdV rkv 512 slices_S8192x1536_S8192x512_0_512) (thirdV rkv 1024 slices_S8192x1536_S8192x512_0_1024) ka rk
        (rateV lora (extractStridedSlice S1x512 ![0, 0] a0 slices_S2x512_S1x512_0_0) (extractStridedSlice S1x128x512 ![0, 0, 0] a2 slices_S2x128x512_S1x128x512_0_0_0)))
      (bonusV (thirdV rkv 0 slices_S8192x1536_S8192x512_0_0) (thirdV rkv 512 slices_S8192x1536_S8192x512_0_512) (thirdV rkv 1024 slices_S8192x1536_S8192x512_0_1024) ka rk
        (rateV lora (extractStridedSlice S1x512 ![1, 0] a0 slices_S2x512_S1x512_1_0) (extractStridedSlice S1x128x512 ![1, 0, 0] a2 slices_S2x128x512_S1x128x512_1_0_0))))
      shapeCasts_S8192x8x64_S8192x512)

/-- The projected rows. -/
def projV (cv : FVec Ideal S8192x512 .f32) (lora : FVec Ideal S8192x384 .f32) (hd : FVec Ideal S8192x512 .f32) (g2 : FVec Ideal S128x512 .bf16) (W : FVec Ideal S1024x1024 .bf16) :
    FVec Ideal S8192x1024 .f32 :=
  Host.dotGeneral dot_S8192x1024_S1024x1024_S8192x1024_1_0_0_1_n_n none (concatenate S8192x1024 1 [⟨S8192x512, cv⟩, ⟨S8192x512, (mulf hd (Host.dotGeneral dot_S8192x128_S128x512_S8192x512_1_0_0_1_n_n none
    (Host.divf (broadcastInDim S8192x128 ![] bcast_S_S8192x128 (constant S_ .f32 0x3F800000#32)) (addf (broadcastInDim S8192x128 ![] bcast_S_S8192x128 (constant S_ .f32 0x3F800000#32))
      (Host.exp (Host.negf (extractStridedSlice S8192x128 ![0, 256] lora slices_S8192x384_S8192x128_0_256))))) (extf .f32 g2 bitsLt_bf16_f32)))⟩]
    concatenates_S8192x512_S8192x512_S8192x1024_d1) (extf .f32 W bitsLt_bf16_f32)

section At

variable (s : Fin 8192) (h : Fin 8) (n : Fin 64)

set_option maxRecDepth 16384 in
theorem centV_at (x : FVec Ideal S8192x8x64 .f32) (f : Fin 512 → EReal) (e : ∀ n, x (ix3 s h n) = f (col h n)) : centV x (ix3 s h n) = centred f (col h n) := by
  unfold centred headSum
  simp only [inHead_col, ← e]
  pointwise [centV, meanV, sumsV]

set_option maxRecDepth 16384 in
theorem overV_at (x : FVec Ideal S8192x8x64 .f32) (f : Fin 512 → EReal) (e : ∀ n, x (ix3 s h n) = centred f (col h n)) : overV x (ix3 s h n) = headNorm f (col h n) := by
  unfold headNorm headSum
  simp only [inHead_col, ← e]
  pointwise [overV, meanV, sumsV]

set_option maxRecDepth 16384 in
theorem rateV_at (lora : FVec Ideal S8192x384 .f32) (a0 : FVec Ideal S1x512 .f32) (a2 : FVec Ideal S1x128x512 .bf16) (q : Fin 512) :
    rateV lora a0 a2 (ix2 s q) = rate (fun q => a0 (ix2 (0 : Fin 1) q)) (fun l => lora (ix2 s (⟨128 + l.val, by omega⟩ : Fin 384))) (fun l q => a2 (ix3 (0 : Fin 1) l q)) q := by
  unfold rate sg
  pointwise [rateV]

set_option maxRecDepth 16384 in
theorem bonusV_at (r k v : FVec Ideal S8192x8x64 .f32) (ka rk : FVec Ideal S1x512 .f32) (a : FVec Ideal S8192x512 .f32) (fr fk fv fa : Fin 512 → EReal)
    (er : ∀ n, r (ix3 s h n) = fr (col h n)) (ek : ∀ n, k (ix3 s h n) = fk (col h n)) (ev : ∀ n, v (ix3 s h n) = fv (col h n)) (ea : ∀ n, a (ix2 s (col h n)) = fa (col h n)) :
    bonusV r k v ka rk a (ix3 s h n) = bonus fr fk fv (fun q => ka (ix2 (0 : Fin 1) q)) (fun q => rk (ix2 (0 : Fin 1) q)) fa (col h n) := by
  unfold bonus headSum
  simp only [inHead_col, ← er, ← ek, ← ev, ← ea]
  unfold col
  pointwise [bonusV, byHeads, sumsV]

set_option maxRecDepth 16384 in
theorem thirdV_at (rkv : FVec Ideal S8192x1536 .f32) :
    thirdV rkv 0 slices_S8192x1536_S8192x512_0_0 (ix3 s h n) = rkv (ix2 s (⟨(col h n).val, by omega⟩ : Fin 1536))
    ∧ thirdV rkv 512 slices_S8192x1536_S8192x512_0_512 (ix3 s h n) = rkv (ix2 s (⟨512 + (col h n).val, by omega⟩ : Fin 1536))
    ∧ thirdV rkv 1024 slices_S8192x1536_S8192x512_0_1024 (ix3 s h n) = rkv (ix2 s (⟨1024 + (col h n).val, by omega⟩ : Fin 1536)) := by
  unfold col
  refine ⟨?_, ?_, ?_⟩ <;> pointwise [thirdV]

set_option maxRecDepth 16384 in
theorem join_at (N B0 B1 : FVec Ideal S8192x8x64 .f32) (gn gb : FVec Ideal S1x512 .f32) :
    addf (addf (mulf (shapeCast _ N shapeCasts_S8192x8x64_S8192x512) (broadcastInDim S8192x512 ![0, 1] bcast_S1x512_S8192x512_0_1 gn)) (broadcastInDim S8192x512 ![0, 1] bcast_S1x512_S8192x512_0_1 gb))
        (shapeCast _ (addf B0 B1) shapeCasts_S8192x8x64_S8192x512) (ix2 s (col h n))
      = N (ix3 s h n) * gn (ix2 (0 : Fin 1) (col h n)) + gb (ix2 (0 : Fin 1) (col h n)) + (B0 (ix3 s h n) + B1 (ix3 s h n)) := by
  unfold col
  clean_types
  pointwise

set_option maxRecDepth 16384 in
theorem both_at (yf yb : FVec Ideal S8192x512 .f32) :
    addf (shapeCast _ yf shapeCasts_S8192x512_S8192x8x64) (shapeCast _ yb shapeCasts_S8192x512_S8192x8x64) (ix3 s h n) = yf (ix2 s (col h n)) + yb (ix2 s (col h n)) := by
  unfold col
  clean_types
  pointwise

set_option maxRecDepth 16384 in
theorem row0_at (a0 : FVec Ideal S2x512 .f32) (q : Fin 512) :
    extractStridedSlice S1x512 ![0, 0] a0 slices_S2x512_S1x512_0_0 (ix2 (0 : Fin 1) q) = a0 (ix2 (0 : Fin 2) q)
    ∧ extractStridedSlice S1x512 ![1, 0] a0 slices_S2x512_S1x512_1_0 (ix2 (0 : Fin 1) q) = a0 (ix2 (1 : Fin 2) q) := by
  refine ⟨?_, ?_⟩ <;> pointwise <;> rfl

set_option maxRecDepth 16384 in
theorem row2_at (a2 : FVec Ideal S2x128x512 .bf16) (l : Fin 128) (q : Fin 512) :
    extractStridedSlice S1x128x512 ![0, 0, 0] a2 slices_S2x128x512_S1x128x512_0_0_0 (ix3 (0 : Fin 1) l q) = a2 (ix3 (0 : Fin 2) l q)
    ∧ extractStridedSlice S1x128x512 ![1, 0, 0] a2 slices_S2x128x512_S1x128x512_1_0_0 (ix3 (0 : Fin 1) l q) = a2 (ix3 (1 : Fin 2) l q) := by
  refine ⟨?_, ?_⟩ <;> pointwise <;> rfl

/-- The heads' rows at an index. -/
theorem headsV_at (yf yb : FVec Ideal S8192x512 .f32) (rkv : FVec Ideal S8192x1536 .f32) (lora : FVec Ideal S8192x384 .f32) (a2 : FVec Ideal S2x128x512 .bf16) (a0 : FVec Ideal S2x512 .f32)
    (ka rk gn gb : FVec Ideal S1x512 .f32) (q : Fin 512) :
    headsV yf yb rkv lora a2 a0 ka rk gn gb (ix2 s q)
      = headNorm (fun q => yf (ix2 s q) + yb (ix2 s q)) q * gn (ix2 (0 : Fin 1) q) + gb (ix2 (0 : Fin 1) q)
        + (bonus (fun q => rkv (ix2 s (⟨q.val, by omega⟩ : Fin 1536))) (fun q => rkv (ix2 s (⟨512 + q.val, by omega⟩ : Fin 1536))) (fun q => rkv (ix2 s (⟨1024 + q.val, by omega⟩ : Fin 1536)))
            (fun q => ka (ix2 (0 : Fin 1) q)) (fun q => rk (ix2 (0 : Fin 1) q))
            (rate (fun q => a0 (ix2 (0 : Fin 2) q)) (fun l => lora (ix2 s (⟨128 + l.val, by omega⟩ : Fin 384))) (fun l q => a2 (ix3 (0 : Fin 2) l q))) q
          + bonus (fun q => rkv (ix2 s (⟨q.val, by omega⟩ : Fin 1536))) (fun q => rkv (ix2 s (⟨512 + q.val, by omega⟩ : Fin 1536))) (fun q => rkv (ix2 s (⟨1024 + q.val, by omega⟩ : Fin 1536)))
            (fun q => ka (ix2 (0 : Fin 1) q)) (fun q => rk (ix2 (0 : Fin 1) q))
            (rate (fun q => a0 (ix2 (1 : Fin 2) q)) (fun l => lora (ix2 s (⟨128 + l.val, by omega⟩ : Fin 384))) (fun l q => a2 (ix3 (1 : Fin 2) l q))) q) := by
  obtain ⟨h, n, rfl⟩ : ∃ h n, q = col h n := ⟨⟨q.val / 64, by omega⟩, ⟨q.val % 64, by omega⟩, Fin.ext (by show q.val = q.val / 64 * 64 + q.val % 64; omega)⟩
  unfold headsV
  refine (join_at s h n _ _ _ _ _).trans ?_
  refine congrArg₂ (· + ·) (congrArg₂ (· + ·) (congrArg₂ (· * ·) ?_ rfl) rfl) (congrArg₂ (· + ·) ?_ ?_)
  · exact overV_at s h n _ _ fun n => centV_at s h n _ _ fun n => both_at s h n yf yb
  · refine bonusV_at s h n _ _ _ _ _ _ _ _ _ _ (fun n => (thirdV_at s h n rkv).1) (fun n => (thirdV_at s h n rkv).2.1) (fun n => (thirdV_at s h n rkv).2.2) fun n => ?_
    refine (rateV_at s _ _ _ _).trans ?_
    rw [show (fun q => extractStridedSlice S1x512 ![0, 0] a0 slices_S2x512_S1x512_0_0 (ix2 (0 : Fin 1) q)) = _ from funext fun q => (row0_at a0 q).1,
      show (fun l q => extractStridedSlice S1x128x512 ![0, 0, 0] a2 slices_S2x128x512_S1x128x512_0_0_0 (ix3 (0 : Fin 1) l q)) = _ from funext fun l => funext fun q => (row2_at a2 l q).1]
  · refine bonusV_at s h n _ _ _ _ _ _ _ _ _ _ (fun n => (thirdV_at s h n rkv).1) (fun n => (thirdV_at s h n rkv).2.1) (fun n => (thirdV_at s h n rkv).2.2) fun n => ?_
    refine (rateV_at s _ _ _ _).trans ?_
    rw [show (fun q => extractStridedSlice S1x512 ![1, 0] a0 slices_S2x512_S1x512_1_0 (ix2 (0 : Fin 1) q)) = _ from funext fun q => (row0_at a0 q).2,
      show (fun l q => extractStridedSlice S1x128x512 ![1, 0, 0] a2 slices_S2x128x512_S1x128x512_1_0_0 (ix3 (0 : Fin 1) l q)) = _ from funext fun l => funext fun q => (row2_at a2 l q).2]

set_option maxRecDepth 16384 in
/-- The projected rows at an index, over a sum of the joined row's columns. -/
theorem projV_at (cv : FVec Ideal S8192x512 .f32) (lora : FVec Ideal S8192x384 .f32) (hd : FVec Ideal S8192x512 .f32) (g2 : FVec Ideal S128x512 .bf16) (W : FVec Ideal S1024x1024 .bf16) (k : Fin 1024) :
    projV cv lora hd g2 W (ix2 s k)
      = mixed (fun q => cv (ix2 s q)) (fun q => hd (ix2 s q) * gateRow (fun l => lora (ix2 s (⟨256 + l.val, by omega⟩ : Fin 384))) (fun l q => g2 (ix2 l q)) q) (fun l k => W (ix2 l k)) k := by
  unfold mixed gateRow sg
  pointwise [projV]
  done

/-- The projected rows of the heads' rows at an index. -/
theorem projected_at (cv yf yb : FVec Ideal S8192x512 .f32) (rkv : FVec Ideal S8192x1536 .f32) (lora : FVec Ideal S8192x384 .f32) (a2 : FVec Ideal S2x128x512 .bf16) (a0 : FVec Ideal S2x512 .f32)
    (ka rk gn gb : FVec Ideal S1x512 .f32) (g2 : FVec Ideal S128x512 .bf16) (W : FVec Ideal S1024x1024 .bf16) (k : Fin 1024) :
    projV cv lora (headsV yf yb rkv lora a2 a0 ka rk gn gb) g2 W (ix2 s k)
      = outRow (fun q => cv (ix2 s q)) (fun q => yf (ix2 s q)) (fun q => yb (ix2 s q)) (fun q => rkv (ix2 s q)) (fun q => lora (ix2 s q)) (fun o l q => a2 (ix3 o l q)) (fun o q => a0 (ix2 o q))
          (fun q => ka (ix2 (0 : Fin 1) q)) (fun q => rk (ix2 (0 : Fin 1) q)) (fun q => gn (ix2 (0 : Fin 1) q)) (fun q => gb (ix2 (0 : Fin 1) q))
          (fun l q => g2 (ix2 l q)) (fun l k => W (ix2 l k)) k := by
  refine (projV_at s _ _ _ _ _ k).trans ?_
  simp only [headsV_at]
  rfl

end At

/-- The rows over the roots of their mean squares. -/
def rootV (y : FVec Ideal S8x1024x1024 .f32) : FVec Ideal S8x1024x1024 .f32 :=
  mulf y (broadcastInDim S8x1024x1024 ![0, 1, 2] bcast_S8x1024x1_S8x1024x1024_0_1_2 (Host.rsqrt (addf (Host.divf (broadcastInDim S8x1024x1 ![0, 1] bcast_S8x1024_S8x1024x1_0_1
    (Host.reduceAdd (mulf y y) (constant S_ .f32 0x00000000#32) reducesTo_S8x1024x1024_S8x1024_d2 h_S_)) (broadcastInDim S8x1024x1 ![] bcast_S_S8x1024x1 (constant S_ .f32 0x44800000#32)))
    (broadcastInDim S8x1024x1 ![] bcast_S_S8x1024x1 (constant S_ .f32 0x358637BD#32)))))

/-- A weight's row for every token. -/
def weightV (g : FVec Ideal S1x1024 .f32) : FVec Ideal S8x1024x1024 .f32 :=
  broadcastInDim S8x1024x1024 ![0, 1, 2] bcast_S1x1x1024_S8x1024x1024_0_1_2 (broadcastInDim S1x1x1024 ![1, 2] bcast_S1x1024_S1x1x1024_1_2 g)

/-- A modulation's row of each sequence. -/
def modV (mod : FVec Ideal S8x6x1024 .f32) (o : ℕ) (h : S8x6x1024.Slices ![0, o, 0] S8x1x1024) : FVec Ideal S8x1x1024 .f32 :=
  broadcastInDim S8x1x1024 ![0, 2] bcast_S8x1024_S8x1x1024_0_2 (shapeCast _ (extractStridedSlice S8x1x1024 ![0, o, 0] mod h) shapeCasts_S8x1x1024_S8x1024)

/-- The attended rows. -/
def attV (x : FVec Ideal S8192x1024 .f32) (mod : FVec Ideal S8x6x1024 .f32) (g : FVec Ideal S1x1024 .f32) (y : FVec Ideal S8192x1024 .f32) : FVec Ideal S8x1024x1024 .f32 :=
  addf (shapeCast _ x shapeCasts_S8192x1024_S8x1024x1024) (mulf (broadcastInDim S8x1024x1024 ![0, 1, 2] bcast_S8x1x1024_S8x1024x1024_0_1_2 (modV mod 2 slices_S8x6x1024_S8x1x1024_0_2_0))
    (mulf (rootV (shapeCast _ y shapeCasts_S8192x1024_S8x1024x1024)) (weightV g)))

/-- The next normed rows, from the attended rows. -/
def folV (z : FVec Ideal S8x1024x1024 .f32) (mod : FVec Ideal S8x6x1024 .f32) (g : FVec Ideal S1x1024 .f32) : FVec Ideal S8x1024x1024 .f32 :=
  addf (mulf (mulf (rootV z) (weightV g)) (broadcastInDim S8x1024x1024 ![0, 1, 2] bcast_S8x1x1024_S8x1024x1024_0_1_2
      (addf (broadcastInDim S8x1x1024 ![] bcast_S_S8x1x1024 (constant S_ .f32 0x3F800000#32)) (modV mod 4 slices_S8x6x1024_S8x1x1024_0_4_0))))
    (broadcastInDim S8x1024x1024 ![0, 1, 2] bcast_S8x1x1024_S8x1024x1024_0_1_2 (modV mod 3 slices_S8x6x1024_S8x1x1024_0_3_0))

/-- A sequence's token. -/
def tok (b : Fin 8) (j : Fin 1024) : Fin 8192 := ⟨b.val * 1024 + j.val, by omega⟩

section Rows

variable (b : Fin 8) (j k : Fin 1024)

set_option maxRecDepth 16384 in
theorem attV_at (x : FVec Ideal S8192x1024 .f32) (mod : FVec Ideal S8x6x1024 .f32) (g : FVec Ideal S1x1024 .f32) (y : FVec Ideal S8192x1024 .f32) :
    attV x mod g y (ix3 b j k) = attended (fun k => x (ix2 (tok b j) k)) (fun o k => mod (ix3 b o k)) (fun k => g (ix2 (0 : Fin 1) k)) (fun k => y (ix2 (tok b j) k)) k := by
  unfold attended addNormed normed tok
  pointwise [attV, rootV, weightV, modV]
  done

set_option maxRecDepth 16384 in
theorem folV_at (z : FVec Ideal S8x1024x1024 .f32) (mod : FVec Ideal S8x6x1024 .f32) (g : FVec Ideal S1x1024 .f32) :
    folV z mod g (ix3 b j k) = scaled (fun k => z (ix3 b j k)) (fun k => g (ix2 (0 : Fin 1) k)) (fun k => mod (ix3 b (4 : Fin 6) k)) (fun k => mod (ix3 b (3 : Fin 6) k)) k := by
  unfold scaled normed
  pointwise [folV, rootV, weightV, modV]
  done

set_option maxRecDepth 16384 in
theorem flat_at (z : FVec Ideal S8x1024x1024 .f32) :
    shapeCast S8192x1024 z shapeCasts_S8x1024x1024_S8192x1024 (ix2 (tok b j) k) = z (ix3 b j k) := by
  unfold tok
  pointwise

end Rows

theorem tok_eq (s : Fin 8192) : s = tok ⟨s.val / 1024, by omega⟩ ⟨s.val % 1024, by omega⟩ := Fin.ext (by show s.val = s.val / 1024 * 1024 + s.val % 1024; omega)

/-- The attended rows' result at an index. -/
theorem first_at (x : FVec Ideal S8192x1024 .f32) (mod : FVec Ideal S8x6x1024 .f32) (g : FVec Ideal S1x1024 .f32) (y : FVec Ideal S8192x1024 .f32) (s : Fin 8192) (k : Fin 1024) :
    shapeCast S8192x1024 (attV x mod g y) shapeCasts_S8x1024x1024_S8192x1024 (ix2 s k)
      = attended (fun k => x (ix2 s k)) (fun o k => mod (ix3 (⟨s.val / 1024, by omega⟩ : Fin 8) o k)) (fun k => g (ix2 (0 : Fin 1) k)) (fun k => y (ix2 s k)) k := by
  have e := (flat_at ⟨s.val / 1024, by omega⟩ ⟨s.val % 1024, by omega⟩ k (attV x mod g y)).trans (attV_at ⟨s.val / 1024, by omega⟩ ⟨s.val % 1024, by omega⟩ k x mod g y)
  rw [← tok_eq] at e
  exact e

/-- The next normed rows' result at an index. -/
theorem second_at (x : FVec Ideal S8192x1024 .f32) (mod : FVec Ideal S8x6x1024 .f32) (g q : FVec Ideal S1x1024 .f32) (y : FVec Ideal S8192x1024 .f32) (s : Fin 8192) (k : Fin 1024) :
    shapeCast S8192x1024 (folV (attV x mod g y) mod q) shapeCasts_S8x1024x1024_S8192x1024 (ix2 s k)
      = following (fun k => x (ix2 s k)) (fun o k => mod (ix3 (⟨s.val / 1024, by omega⟩ : Fin 8) o k)) (fun k => g (ix2 (0 : Fin 1) k)) (fun k => q (ix2 (0 : Fin 1) k)) (fun k => y (ix2 s k)) k := by
  have e := (flat_at ⟨s.val / 1024, by omega⟩ ⟨s.val % 1024, by omega⟩ k (folV (attV x mod g y) mod q)).trans (folV_at ⟨s.val / 1024, by omega⟩ ⟨s.val % 1024, by omega⟩ k (attV x mod g y) mod q)
  simp only [attV_at] at e
  rw [← tok_eq] at e
  exact e

variable (V0 : Valuation τ sig (Elt Ideal))

/-- The projected rows of the arguments. -/
def projA : FVec Ideal S8192x1024 .f32 :=
  projV (V0 (Proc.devRef .tc main_arg2)) (V0 (Proc.devRef .tc main_arg6))
    (headsV (V0 (Proc.devRef .tc main_arg3)) (V0 (Proc.devRef .tc main_arg4)) (V0 (Proc.devRef .tc main_arg5)) (V0 (Proc.devRef .tc main_arg6)) (V0 (Proc.devRef .tc main_arg7))
      (V0 (Proc.devRef .tc main_arg8)) (V0 (Proc.devRef .tc main_arg9)) (V0 (Proc.devRef .tc main_arg10)) (V0 (Proc.devRef .tc main_arg11)) (V0 (Proc.devRef .tc main_arg12)))
    (V0 (Proc.devRef .tc main_arg13)) (V0 (Proc.devRef .tc main_arg14))

theorem v136_eq : res_main_v136 (F := Ideal) V0 = attV (V0 (Proc.devRef .tc main_arg0)) (V0 (Proc.devRef .tc main_arg1)) (V0 (Proc.devRef .tc main_arg15)) (projA V0) := by
  rfl

end Cert.Reference6Ideal.Hand

end
-- ==== Proof.OutF.lean ====
/- The mixing output projection of the latent tokens: the claims. -/
module

public import proofs.«01_k».proof.Defs
public import proofs.«01_k».proof.Proof.OutE
public import proofs.«01_k».proof.Proof.OutR
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import proofs.«01_k».proof.Proof.Gen.Pre_finite_latents
public import Idealize.ShloMosaic.Lib.StableHlo.Predicate
public import Idealize.ShloMosaic.Lib.Quiescent

@[expose] public section

noncomputable section

namespace Cert.Proof

open Idealize.ShloMosaic Idealize.SL.Sem Idealize.ShloMosaic.TcCoe

/-- A vector below infinity in absolute value holds real numbers. -/
theorem isReal_of_bounded {s : Shape} (x : FVec Ideal s .f32) (h : (⟨0, ![]⟩ : Shape).BroadcastsInDim s (![] : Fin 0 → Fin s.rank))
    (e : cmpf .olt (Host.absf x) (broadcastInDim s ![] h (constant (F := Ideal) ⟨0, ![]⟩ .f32 0x7F800000#32)) = fun _ => 1#1) (i : s.Idx) : IsReal (x i) := by
  have e' := congrFun e i
  refine isReal_of_abs_lt ?_
  have e2 : BitVec.ofBool (decide (max (x i) (-(x i)) < Ideal.ofBits .f32 0x7F800000#32)) = 1#1 := e'
  rw [StableHlo.Predicate.ofBool_eq_one_iff, decide_eq_true_eq] at e2
  refine e2.trans_le ?_
  exact le_top

theorem finite_of_latents (m : (ℓ : Loc Cert.Kernel6Ideal.nD Cert.Kernel6Ideal.τ Cert.Kernel6Ideal.sig) → Buf (Elt Ideal) ℓ)
    (h : Cert.Pre_Kernel6Ideal_finite_latents (hPre_finite_latents := Cert.Pre_finite_latents.Gen.facts) m) (c : Dev Cert.Kernel6Ideal.nD) : Cert.Kernel6Ideal.Hand.Finite m c := by
  obtain ⟨h0, h1, h2, h3, h4⟩ := h c
  exact ⟨fun s q => isReal_of_bounded _ _ h0 (ix2 s q), fun s q => isReal_of_bounded _ _ h1 (ix2 s q), fun s q => isReal_of_bounded _ _ h2 (ix2 s q),
    fun q => isReal_of_bounded _ _ h3 (ix2 (0 : Fin 1) q), fun q => isReal_of_bounded _ _ h4 (ix2 (0 : Fin 1) q)⟩

open Cert.Reference6Ideal.Hand in
/-- The reference's projected rows are the kernel's, where the arguments agree. -/
theorem projected_agrees (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2))
    (h3 : m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3))
    (h4 : m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4))
    (h5 : m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5))
    (h6 : m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6))
    (h7 : m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7))
    (h8 : m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8))
    (h9 : m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9))
    (h10 : m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10))
    (h11 : m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11))
    (h12 : m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12))
    (h13 : m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13))
    (h14 : m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)) (s : Fin 8192) :
    (fun k => projA (StableHlo.launchContents m' c) (ix2 s k)) = Cert.Kernel6Ideal.Hand.projected m c s := by
  unfold projA
  refine (funext fun k => projected_at s _ _ _ _ _ _ _ _ _ _ _ _ _ k).trans ?_
  exact (congr (congr (congr (congr (congr (congr (congr (congr (congr (congr (congr (congr (congrArg outRow (congrArg (fun x : Cert.Kernel6Ideal.S8192x512.Idx → EReal => fun q => x (ix2 s q)) h2))
      (congrArg (fun x : Cert.Kernel6Ideal.S8192x512.Idx → EReal => fun q => x (ix2 s q)) h3))
      (congrArg (fun x : Cert.Kernel6Ideal.S8192x512.Idx → EReal => fun q => x (ix2 s q)) h4))
      (congrArg (fun x : Cert.Kernel6Ideal.S8192x1536.Idx → EReal => fun q => x (ix2 s q)) h5))
      (congrArg (fun x : Cert.Kernel6Ideal.S8192x384.Idx → EReal => fun q => x (ix2 s q)) h6))
      (congrArg (fun x : Cert.Kernel6Ideal.S2x128x512.Idx → EReal => fun o l q => x (ix3 o l q)) h7))
      (congrArg (fun x : Cert.Kernel6Ideal.S2x512.Idx → EReal => fun l q => x (ix2 l q)) h8))
      (congrArg (fun x : Cert.Kernel6Ideal.S1x512.Idx → EReal => fun q => x (ix2 (0 : Fin 1) q)) h9))
      (congrArg (fun x : Cert.Kernel6Ideal.S1x512.Idx → EReal => fun q => x (ix2 (0 : Fin 1) q)) h10))
      (congrArg (fun x : Cert.Kernel6Ideal.S1x512.Idx → EReal => fun q => x (ix2 (0 : Fin 1) q)) h11))
      (congrArg (fun x : Cert.Kernel6Ideal.S1x512.Idx → EReal => fun q => x (ix2 (0 : Fin 1) q)) h12))
      (congrArg (fun x : Cert.Kernel6Ideal.S128x512.Idx → EReal => fun l q => x (ix2 l q)) h13))
      (congrArg (fun x : Cert.Kernel6Ideal.S1024x1024.Idx → EReal => fun l q => x (ix2 l q)) h14))

theorem frame_K6 : Cert.quiescent_Kernel6 (hKernel6 := Cert.Kernel6.Gen.facts) := fun m ρ _ => Cert.Kernel6.Gen.frame m ρ
theorem frame_I6 : Cert.quiescent_Kernel6Ideal (hKernel6Ideal := Cert.Kernel6Ideal.Gen.facts) := fun m ρ _ => Cert.Kernel6Ideal.Gen.frame m ρ
theorem frame_Ip6 : Cert.quiescent_Kernel6Ideal_pre_finite_latents (hKernel6Ideal := Cert.Kernel6Ideal.Gen.facts)
    (hPre_finite_latents := Cert.Pre_finite_latents.Gen.facts) := fun m ρ _ => Cert.Kernel6Ideal.Gen.frame m ρ
theorem frame_R6 : Cert.quiescent_Reference6Ideal (hReference6Ideal := Cert.Reference6Ideal.Gen.facts) :=
  fun m ρ _ => (θ_run Cert.Reference6Ideal.defs _ _).mono (fun r p => ⟨fun c => (p c).2.2, sem_eq_zero_of_no_sems rfl r.2⟩)
    (Cert.Reference6Ideal.Value.run m ρ)
theorem frame_Rp6 : Cert.quiescent_Reference6Ideal_pre_finite_latents (hReference6Ideal := Cert.Reference6Ideal.Gen.facts)
    (hPre_finite_latents := Cert.Pre_finite_latents.Gen.facts) := fun m ρ _ => frame_R6 m ρ trivial

theorem value6 : Cert.algebraic_Kernel6Ideal_Reference6Ideal_pre_finite_latents (hKernel6Ideal := Cert.Kernel6Ideal.Gen.facts)
    (hReference6Ideal := Cert.Reference6Ideal.Gen.facts) (hPre_finite_latents := Cert.Pre_finite_latents.Gen.facts) := by
  intro m g m' g' hpre hag
  refine ⟨fun c => (Cert.Kernel6Ideal.Gen.dats m 0 c).arrAt 19 Cert.Kernel6Ideal.cfg0.N, fun c => (Cert.Kernel6Ideal.Gen.dats m 0 c).arrAt 20 Cert.Kernel6Ideal.cfg0.N,
    (θ_run Cert.Kernel6Ideal.defs _ _).mono (fun r p c => ⟨(p c).1, (p c).2.1, (p c).2.2.2.2.2⟩) (Cert.Kernel6Ideal.Value.run_blocks m g),
    (θ_run Cert.Reference6Ideal.defs _ _).mono (fun r p c => ⟨(p c).1.trans (funext fun i => ?_), (p c).2.1.trans (funext fun i => ?_), (p c).2.2⟩) (Cert.Reference6Ideal.Value.run m' g')⟩
  all_goals
    obtain ⟨s, k, rfl⟩ : ∃ (s : Fin 8192) (k : Fin 1024), i = ix2 s k := ⟨i 0, i 1, eq_ix2 i⟩
    obtain ⟨h0, h1, h2, h3, h4, h5, h6, h7, h8, h9, h10, h11, h12, h13, h14, h15, h16, h17, h18⟩ := hag c
    have H := finite_of_latents m hpre c
    have hp := projected_agrees m m' c h2 h3 h4 h5 h6 h7 h8 h9 h10 h11 h12 h13 h14 s
    have e0 := congrArg (fun x : Cert.Kernel6Ideal.S8192x1024.Idx → EReal => fun k => x (ix2 s k)) h0
    have e1 := congrArg (fun x : Cert.Kernel6Ideal.S8x6x1024.Idx → EReal => fun o k => x (ix3 (⟨s.val / 1024, by omega⟩ : Fin 8) o k)) h1
    have e15 := congrArg (fun x : Cert.Kernel6Ideal.S1x1024.Idx → EReal => fun k => x (ix2 (0 : Fin 1) k)) h15
    have e16 := congrArg (fun x : Cert.Kernel6Ideal.S1x1024.Idx → EReal => fun k => x (ix2 (0 : Fin 1) k)) h16
    rw [Cert.Reference6Ideal.Hand.v136_eq]
  · refine Eq.trans ?_ (Cert.Kernel6Ideal.Hand.final19 m c H s k).symm
    refine (Cert.Reference6Ideal.Hand.first_at _ _ _ _ s k).trans ?_
    exact congrFun (congr (congr (congr (congrArg attended e0) e1) e15) hp) k
  · refine Eq.trans ?_ (Cert.Kernel6Ideal.Hand.final20 m c H s k).symm
    refine (Cert.Reference6Ideal.Hand.second_at _ _ _ _ _ s k).trans ?_
    exact congrFun (congr (congr (congr (congr (congrArg following e0) e1) e15) e16) hp) k

end Cert.Proof

end
-- ==== Proof.OutG.lean ====
/- The mixing output projection of the context tokens: what the body stores at a point is as for the latent tokens, and the two result arrays at an index. -/
module

public import proofs.«01_k».proof.Proof.OutD
public import proofs.«01_k».proof.Proof.Gen.Kernel7Ideal.Value

@[expose] public section

noncomputable section

namespace Cert.Kernel7Ideal.Hand

open Cert.Kernel7Ideal Cert.Kernel7Ideal.Gen Cert.Proof
open Cert.Kernel6Ideal.Hand (mixX x1X h2X mixX_at stored_at)
open Idealize.ShloMosaic Idealize.ShloMosaic.TcCoe
open Idealize.ShloMosaic.Pipeline (Dat Cfg Window)

/-- A load of a rectangle through a whole staging buffer's view reads the rectangle of its contents. -/
theorem rd {s : Shape} {e : EltTy} {a : Memref sig .tc .vmem s e} (h : a.IsWhole) (X : s.Idx → Elt Ideal e) (off size : Fin s.rank → Nat)
    (inb : ∀ d, off d + size d ≤ s.size d) :
    View.readAt (Elt Ideal) a.view (Rect.unit (s := s) off size inb).toLoadRect (h.unread X) = View.ld X (Rect.unit (s := s) off size inb) :=
  funext fun x => h.readAt_unread X _ x

variable (m : (ℓ : Loc nD τ sig) → Buf (Elt Ideal) ℓ) (c : Dev nD)

/-- The projected rows of point `t`. -/
def mixT (t : Fin cfg0.N) : FVec Ideal S512x1024 .f32 :=
  mixX (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

set_option maxHeartbeats 1000000 in
/-- What every point stores in the attended rows' block. -/
theorem out19_eq (t : Fin cfg0.N) : (outsAt0 m c t.val t.isLt).1 = x1X (iblk m c 0 t) (iblk m c 1 t) (iblk m c 15 t) (mixT m c t) := by
  by_cases h0 : t.val % 16 = 0
  · rw [outsAt0_A m c t h0]
    dsimp only
    unfold out0_A_19
    rw [View.read_writes_junk_eq_canon]
    refine (View.canon_unit_zero (funext fun a => by fin_cases a <;> rfl) _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.cst_99, kernelRun0_A.sl.v66, kernelRun0_A.sl.v67, rd]
    rfl
  · rw [outsAt0_B m c t h0]
    dsimp only
    unfold out0_B_19
    rw [View.read_writes_junk_eq_canon]
    refine (View.canon_unit_zero (funext fun a => by fin_cases a <;> rfl) _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.cst_99, kernelRun0_B.sl.v66, kernelRun0_B.sl.v67, rd]
    rfl

set_option maxHeartbeats 1000000 in
/-- What every point stores in the next normed rows' block. -/
theorem out20_eq (t : Fin cfg0.N) : (outsAt0 m c t.val t.isLt).2.1 = h2X (iblk m c 0 t) (iblk m c 1 t) (iblk m c 15 t) (iblk m c 16 t) (mixT m c t) := by
  by_cases h0 : t.val % 16 = 0
  · rw [outsAt0_A m c t h0]
    dsimp only
    unfold out0_A_20
    rw [View.read_writes_junk_eq_canon]
    refine (View.canon_unit_zero (funext fun a => by fin_cases a <;> rfl) _ _).trans ?_
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.cst_99, kernelRun0_A.sl.v66, kernelRun0_A.sl.v67, rd]
    rfl
  · rw [outsAt0_B m c t h0]
    dsimp only
    unfold out0_B_20
    rw [View.read_writes_junk_eq_canon]
    refine (View.canon_unit_zero (funext fun a => by fin_cases a <;> rfl) _ _).trans ?_
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.cst_99, kernelRun0_B.sl.v66, kernelRun0_B.sl.v67, rd]
    rfl

theorem tf0_eq : ∀ t : Fin grid0.N, cc0_transform_0 (grid0.coords t) = ![t.val, 0] := by decide +kernel
theorem tf1_eq : ∀ t : Fin grid0.N, cc0_transform_1 (grid0.coords t) = ![0, 0, 0] := by decide +kernel
theorem tf2_eq : ∀ t : Fin grid0.N, cc0_transform_2 (grid0.coords t) = ![t.val, 0] := by decide +kernel
theorem tf3_eq : ∀ t : Fin grid0.N, cc0_transform_3 (grid0.coords t) = ![t.val, 0] := by decide +kernel
theorem tf4_eq : ∀ t : Fin grid0.N, cc0_transform_4 (grid0.coords t) = ![t.val, 0] := by decide +kernel
theorem tf5_eq : ∀ t : Fin grid0.N, cc0_transform_5 (grid0.coords t) = ![t.val, 0] := by decide +kernel
theorem tf6_eq : ∀ t : Fin grid0.N, cc0_transform_6 (grid0.coords t) = ![t.val, 0] := by decide +kernel
theorem tf7_eq : ∀ t : Fin grid0.N, cc0_transform_7 (grid0.coords t) = ![0, 0, 0] := by decide +kernel
theorem tf8_eq : ∀ t : Fin grid0.N, cc0_transform_8 (grid0.coords t) = ![0, 0] := by decide +kernel
theorem tf9_eq : ∀ t : Fin grid0.N, cc0_transform_9 (grid0.coords t) = ![0, 0] := by decide +kernel
theorem tf10_eq : ∀ t : Fin grid0.N, cc0_transform_10 (grid0.coords t) = ![0, 0] := by decide +kernel
theorem tf11_eq : ∀ t : Fin grid0.N, cc0_transform_11 (grid0.coords t) = ![0, 0] := by decide +kernel
theorem tf12_eq : ∀ t : Fin grid0.N, cc0_transform_12 (grid0.coords t) = ![0, 0] := by decide +kernel
theorem tf13_eq : ∀ t : Fin grid0.N, cc0_transform_13 (grid0.coords t) = ![0, 0] := by decide +kernel
theorem tf14_eq : ∀ t : Fin grid0.N, cc0_transform_14 (grid0.coords t) = ![0, 0] := by decide +kernel
theorem tf15_eq : ∀ t : Fin grid0.N, cc0_transform_15 (grid0.coords t) = ![0, 0] := by decide +kernel
theorem tf16_eq : ∀ t : Fin grid0.N, cc0_transform_16 (grid0.coords t) = ![0, 0] := by decide +kernel
theorem tf19_eq : ∀ t : Fin grid0.N, cc0_transform_19 (grid0.coords t) = ![t.val, 0] := by decide +kernel
theorem tf20_eq : ∀ t : Fin grid0.N, cc0_transform_20 (grid0.coords t) = ![t.val, 0] := by decide +kernel

section Blocks
variable (t : Fin cfg0.N)

theorem blk0_at (i : Fin 512) (k : Fin 1024) (s : Fin 8192) (hs : s.val = 512 * t.val + i.val) :
    (iblk m c 0 t : S512x1024.Idx → EReal) (ix2 i k) = (V m c main_arg0 : S8192x1024.Idx → EReal) (ix2 s k) := by
  unfold iblk
  refine congrArg (V m c main_arg0 : S8192x1024.Idx → EReal) (funext fun a => Fin.ext ?_)
  refine (Window.rect_emb_val (cfg0.win 0) t (ix2 i k) a).trans ?_
  rw [show (cfg0.win 0).index t a = _ from congrFun (tf0_eq t) a]
  match a with
  | ⟨0, _⟩ => show t.val * 512 + i.val = s.val; omega
  | ⟨1, _⟩ => show 0 * 1024 + k.val = k.val; omega

theorem blk2_at (i : Fin 512) (k : Fin 512) (s : Fin 8192) (hs : s.val = 512 * t.val + i.val) :
    (iblk m c 2 t : S512x512.Idx → EReal) (ix2 i k) = (V m c main_arg2 : S8192x512.Idx → EReal) (ix2 s k) := by
  unfold iblk
  refine congrArg (V m c main_arg2 : S8192x512.Idx → EReal) (funext fun a => Fin.ext ?_)
  refine (Window.rect_emb_val (cfg0.win 2) t (ix2 i k) a).trans ?_
  rw [show (cfg0.win 2).index t a = _ from congrFun (tf2_eq t) a]
  match a with
  | ⟨0, _⟩ => show t.val * 512 + i.val = s.val; omega
  | ⟨1, _⟩ => show 0 * 512 + k.val = k.val; omega

theorem blk3_at (i : Fin 512) (k : Fin 512) (s : Fin 8192) (hs : s.val = 512 * t.val + i.val) :
    (iblk m c 3 t : S512x512.Idx → EReal) (ix2 i k) = (V m c main_arg3 : S8192x512.Idx → EReal) (ix2 s k) := by
  unfold iblk
  refine congrArg (V m c main_arg3 : S8192x512.Idx → EReal) (funext fun a => Fin.ext ?_)
  refine (Window.rect_emb_val (cfg0.win 3) t (ix2 i k) a).trans ?_
  rw [show (cfg0.win 3).index t a = _ from congrFun (tf3_eq t) a]
  match a with
  | ⟨0, _⟩ => show t.val * 512 + i.val = s.val; omega
  | ⟨1, _⟩ => show 0 * 512 + k.val = k.val; omega

theorem blk4_at (i : Fin 512) (k : Fin 512) (s : Fin 8192) (hs : s.val = 512 * t.val + i.val) :
    (iblk m c 4 t : S512x512.Idx → EReal) (ix2 i k) = (V m c main_arg4 : S8192x512.Idx → EReal) (ix2 s k) := by
  unfold iblk
  refine congrArg (V m c main_arg4 : S8192x512.Idx → EReal) (funext fun a => Fin.ext ?_)
  refine (Window.rect_emb_val (cfg0.win 4) t (ix2 i k) a).trans ?_
  rw [show (cfg0.win 4).index t a = _ from congrFun (tf4_eq t) a]
  match a with
  | ⟨0, _⟩ => show t.val * 512 + i.val = s.val; omega
  | ⟨1, _⟩ => show 0 * 512 + k.val = k.val; omega

theorem blk5_at (i : Fin 512) (k : Fin 1536) (s : Fin 8192) (hs : s.val = 512 * t.val + i.val) :
    (iblk m c 5 t : S512x1536.Idx → EReal) (ix2 i k) = (V m c main_arg5 : S8192x1536.Idx → EReal) (ix2 s k) := by
  unfold iblk
  refine congrArg (V m c main_arg5 : S8192x1536.Idx → EReal) (funext fun a => Fin.ext ?_)
  refine (Window.rect_emb_val (cfg0.win 5) t (ix2 i k) a).trans ?_
  rw [show (cfg0.win 5).index t a = _ from congrFun (tf5_eq t) a]
  match a with
  | ⟨0, _⟩ => show t.val * 512 + i.val = s.val; omega
  | ⟨1, _⟩ => show 0 * 1536 + k.val = k.val; omega

theorem blk6_at (i : Fin 512) (k : Fin 384) (s : Fin 8192) (hs : s.val = 512 * t.val + i.val) :
    (iblk m c 6 t : S512x384.Idx → EReal) (ix2 i k) = (V m c main_arg6 : S8192x384.Idx → EReal) (ix2 s k) := by
  unfold iblk
  refine congrArg (V m c main_arg6 : S8192x384.Idx → EReal) (funext fun a => Fin.ext ?_)
  refine (Window.rect_emb_val (cfg0.win 6) t (ix2 i k) a).trans ?_
  rw [show (cfg0.win 6).index t a = _ from congrFun (tf6_eq t) a]
  match a with
  | ⟨0, _⟩ => show t.val * 512 + i.val = s.val; omega
  | ⟨1, _⟩ => show 0 * 384 + k.val = k.val; omega

theorem blk1_eq : (iblk m c 1 t : S1x6x1024.Idx → EReal) = V m c main_arg1 := by
  unfold iblk
  refine funext fun y => congrArg (V m c main_arg1 : S1x6x1024.Idx → EReal) (funext fun a => Fin.ext ?_)
  refine (Window.rect_emb_val (cfg0.win 1) t y a).trans ?_
  rw [show (cfg0.win 1).index t a = _ from congrFun (tf1_eq t) a]
  match a with
  | ⟨0, _⟩ => show 0 * 1 + (y 0).val = (y 0).val; omega
  | ⟨1, _⟩ => show 0 * 6 + (y 1).val = (y 1).val; omega
  | ⟨2, _⟩ => show 0 * 1024 + (y 2).val = (y 2).val; omega

theorem blk7_eq : (iblk m c 7 t : S2x128x512.Idx → EReal) = V m c main_arg7 := by
  unfold iblk
  refine funext fun y => congrArg (V m c main_arg7 : S2x128x512.Idx → EReal) (funext fun a => Fin.ext ?_)
  refine (Window.rect_emb_val (cfg0.win 7) t y a).trans ?_
  rw [show (cfg0.win 7).index t a = _ from congrFun (tf7_eq t) a]
  match a with
  | ⟨0, _⟩ => show 0 * 2 + (y 0).val = (y 0).val; omega
  | ⟨1, _⟩ => show 0 * 128 + (y 1).val = (y 1).val; omega
  | ⟨2, _⟩ => show 0 * 512 + (y 2).val = (y 2).val; omega

theorem blk8_eq : (iblk m c 8 t : S2x512.Idx → EReal) = V m c main_arg8 := by
  unfold iblk
  refine funext fun y => congrArg (V m c main_arg8 : S2x512.Idx → EReal) (funext fun a => Fin.ext ?_)
  refine (Window.rect_emb_val (cfg0.win 8) t y a).trans ?_
  rw [show (cfg0.win 8).index t a = _ from congrFun (tf8_eq t) a]
  match a with
  | ⟨0, _⟩ => show 0 * 2 + (y 0).val = (y 0).val; omega
  | ⟨1, _⟩ => show 0 * 512 + (y 1).val = (y 1).val; omega

theorem blk9_eq : (iblk m c 9 t : S1x512.Idx → EReal) = V m c main_arg9 := by
  unfold iblk
  refine funext fun y => congrArg (V m c main_arg9 : S1x512.Idx → EReal) (funext fun a => Fin.ext ?_)
  refine (Window.rect_emb_val (cfg0.win 9) t y a).trans ?_
  rw [show (cfg0.win 9).index t a = _ from congrFun (tf9_eq t) a]
  match a with
  | ⟨0, _⟩ => show 0 * 1 + (y 0).val = (y 0).val; omega
  | ⟨1, _⟩ => show 0 * 512 + (y 1).val = (y 1).val; omega

theorem blk10_eq : (iblk m c 10 t : S1x512.Idx → EReal) = V m c main_arg10 := by
  unfold iblk
  refine funext fun y => congrArg (V m c main_arg10 : S1x512.Idx → EReal) (funext fun a => Fin.ext ?_)
  refine (Window.rect_emb_val (cfg0.win 10) t y a).trans ?_
  rw [show (cfg0.win 10).index t a = _ from congrFun (tf10_eq t) a]
  match a with
  | ⟨0, _⟩ => show 0 * 1 + (y 0).val = (y 0).val; omega
  | ⟨1, _⟩ => show 0 * 512 + (y 1).val = (y 1).val; omega

theorem blk11_eq : (iblk m c 11 t : S1x512.Idx → EReal) = V m c main_arg11 := by
  unfold iblk
  refine funext fun y => congrArg (V m c main_arg11 : S1x512.Idx → EReal) (funext fun a => Fin.ext ?_)
  refine (Window.rect_emb_val (cfg0.win 11) t y a).trans ?_
  rw [show (cfg0.win 11).index t a = _ from congrFun (tf11_eq t) a]
  match a with
  | ⟨0, _⟩ => show 0 * 1 + (y 0).val = (y 0).val; omega
  | ⟨1, _⟩ => show 0 * 512 + (y 1).val = (y 1).val; omega

theorem blk12_eq : (iblk m c 12 t : S1x512.Idx → EReal) = V m c main_arg12 := by
  unfold iblk
  refine funext fun y => congrArg (V m c main_arg12 : S1x512.Idx → EReal) (funext fun a => Fin.ext ?_)
  refine (Window.rect_emb_val (cfg0.win 12) t y a).trans ?_
  rw [show (cfg0.win 12).index t a = _ from congrFun (tf12_eq t) a]
  match a with
  | ⟨0, _⟩ => show 0 * 1 + (y 0).val = (y 0).val; omega
  | ⟨1, _⟩ => show 0 * 512 + (y 1).val = (y 1).val; omega

theorem blk13_eq : (iblk m c 13 t : S128x512.Idx → EReal) = V m c main_arg13 := by
  unfold iblk
  refine funext fun y => congrArg (V m c main_arg13 : S128x512.Idx → EReal) (funext fun a => Fin.ext ?_)
  refine (Window.rect_emb_val (cfg0.win 13) t y a).trans ?_
  rw [show (cfg0.win 13).index t a = _ from congrFun (tf13_eq t) a]
  match a with
  | ⟨0, _⟩ => show 0 * 128 + (y 0).val = (y 0).val; omega
  | ⟨1, _⟩ => show 0 * 512 + (y 1).val = (y 1).val; omega

theorem blk14_eq : (iblk m c 14 t : S1024x1024.Idx → EReal) = V m c main_arg14 := by
  unfold iblk
  refine funext fun y => congrArg (V m c main_arg14 : S1024x1024.Idx → EReal) (funext fun a => Fin.ext ?_)
  refine (Window.rect_emb_val (cfg0.win 14) t y a).trans ?_
  rw [show (cfg0.win 14).index t a = _ from congrFun (tf14_eq t) a]
  match a with
  | ⟨0, _⟩ => show 0 * 1024 + (y 0).val = (y 0).val; omega
  | ⟨1, _⟩ => show 0 * 1024 + (y 1).val = (y 1).val; omega

theorem blk15_eq : (iblk m c 15 t : S1x1024.Idx → EReal) = V m c main_arg15 := by
  unfold iblk
  refine funext fun y => congrArg (V m c main_arg15 : S1x1024.Idx → EReal) (funext fun a => Fin.ext ?_)
  refine (Window.rect_emb_val (cfg0.win 15) t y a).trans ?_
  rw [show (cfg0.win 15).index t a = _ from congrFun (tf15_eq t) a]
  match a with
  | ⟨0, _⟩ => show 0 * 1 + (y 0).val = (y 0).val; omega
  | ⟨1, _⟩ => show 0 * 1024 + (y 1).val = (y 1).val; omega

theorem blk16_eq : (iblk m c 16 t : S1x1024.Idx → EReal) = V m c main_arg16 := by
  unfold iblk
  refine funext fun y => congrArg (V m c main_arg16 : S1x1024.Idx → EReal) (funext fun a => Fin.ext ?_)
  refine (Window.rect_emb_val (cfg0.win 16) t y a).trans ?_
  rw [show (cfg0.win 16).index t a = _ from congrFun (tf16_eq t) a]
  match a with
  | ⟨0, _⟩ => show 0 * 1 + (y 0).val = (y 0).val; omega
  | ⟨1, _⟩ => show 0 * 1024 + (y 1).val = (y 1).val; omega

end Blocks

/-- The arguments whose products are reordered hold real numbers. -/
structure Finite : Prop where
  yf : ∀ s q, IsReal ((V m c main_arg3 : S8192x512.Idx → EReal) (ix2 s q))
  yb : ∀ s q, IsReal ((V m c main_arg4 : S8192x512.Idx → EReal) (ix2 s q))
  rkv : ∀ s q, IsReal ((V m c main_arg5 : S8192x1536.Idx → EReal) (ix2 s q))
  ka : ∀ q, IsReal ((V m c main_arg9 : S1x512.Idx → EReal) (ix2 (0 : Fin 1) q))
  rk : ∀ q, IsReal ((V m c main_arg10 : S1x512.Idx → EReal) (ix2 (0 : Fin 1) q))

/-- The projected row of token `s`. -/
def projected (s : Fin 8192) : Fin 1024 → EReal :=
  outRow (fun q => (V m c main_arg2 : S8192x512.Idx → EReal) (ix2 s q)) (fun q => (V m c main_arg3 : S8192x512.Idx → EReal) (ix2 s q))
    (fun q => (V m c main_arg4 : S8192x512.Idx → EReal) (ix2 s q)) (fun q => (V m c main_arg5 : S8192x1536.Idx → EReal) (ix2 s q))
    (fun q => (V m c main_arg6 : S8192x384.Idx → EReal) (ix2 s q)) (fun o l q => (V m c main_arg7 : S2x128x512.Idx → EReal) (ix3 o l q))
    (fun o q => (V m c main_arg8 : S2x512.Idx → EReal) (ix2 o q)) (fun q => (V m c main_arg9 : S1x512.Idx → EReal) (ix2 (0 : Fin 1) q))
    (fun q => (V m c main_arg10 : S1x512.Idx → EReal) (ix2 (0 : Fin 1) q)) (fun q => (V m c main_arg11 : S1x512.Idx → EReal) (ix2 (0 : Fin 1) q))
    (fun q => (V m c main_arg12 : S1x512.Idx → EReal) (ix2 (0 : Fin 1) q)) (fun l q => (V m c main_arg13 : S128x512.Idx → EReal) (ix2 l q))
    (fun l q => (V m c main_arg14 : S1024x1024.Idx → EReal) (ix2 l q))

/-- The modulation rows. -/
def modOf : Fin 6 → Fin 1024 → EReal :=
  fun o k => (V m c main_arg1 : S1x6x1024.Idx → EReal) (ix3 (0 : Fin 1) o k)

/-- The attended row of token `s`. -/
def row19 (s : Fin 8192) : Fin 1024 → EReal :=
  attended (fun k => (V m c main_arg0 : S8192x1024.Idx → EReal) (ix2 s k)) (modOf m c) (fun k => (V m c main_arg15 : S1x1024.Idx → EReal) (ix2 (0 : Fin 1) k)) (projected m c s)

/-- The next normed row of token `s`. -/
def row20 (s : Fin 8192) : Fin 1024 → EReal :=
  following (fun k => (V m c main_arg0 : S8192x1024.Idx → EReal) (ix2 s k)) (modOf m c) (fun k => (V m c main_arg15 : S1x1024.Idx → EReal) (ix2 (0 : Fin 1) k))
    (fun k => (V m c main_arg16 : S1x1024.Idx → EReal) (ix2 (0 : Fin 1) k)) (projected m c s)

/-- The projected rows of a point's block. -/
theorem mixT_at (H : Finite m c) (t : Fin cfg0.N) (i : Fin 512) (k : Fin 1024) (s : Fin 8192) (hs : s.val = 512 * t.val + i.val) : mixT m c t (ix2 i k) = projected m c s k := by
  have h2 := fun q => blk2_at m c t i q s hs
  have h3 := fun q => blk3_at m c t i q s hs
  have h4 := fun q => blk4_at m c t i q s hs
  have h5 := fun q => blk5_at m c t i q s hs
  have h6 := fun q => blk6_at m c t i q s hs
  have h9 := blk9_eq m c t
  have h10 := blk10_eq m c t
  unfold mixT
  refine (mixX_at _ _ _ _ _ _ _ _ _ _ _ _ _ i k (fun q => ?_) (fun q => ?_) (fun q => ?_) (fun q => ?_) (fun q => ?_)).trans ?_
  · rw [h3]; exact H.yf s q
  · rw [h4]; exact H.yb s q
  · rw [h5]; exact H.rkv s q
  · rw [h9]; exact H.ka q
  · rw [h10]; exact H.rk q
  · unfold projected
    exact congrFun (congr (congr (congr (congr (congr (congr (congr (congr (congr (congr (congr (congr (congrArg outRow (funext h2)) (funext h3)) (funext h4)) (funext h5)) (funext h6))
      (congrArg (fun x : S2x128x512.Idx → EReal => fun o l q => x (ix3 o l q)) (blk7_eq m c t))) (congrArg (fun x : S2x512.Idx → EReal => fun o q => x (ix2 o q)) (blk8_eq m c t)))
      (congrArg (fun x : S1x512.Idx → EReal => fun q => x (ix2 (0 : Fin 1) q)) h9)) (congrArg (fun x : S1x512.Idx → EReal => fun q => x (ix2 (0 : Fin 1) q)) h10))
      (congrArg (fun x : S1x512.Idx → EReal => fun q => x (ix2 (0 : Fin 1) q)) (blk11_eq m c t))) (congrArg (fun x : S1x512.Idx → EReal => fun q => x (ix2 (0 : Fin 1) q)) (blk12_eq m c t)))
      (congrArg (fun x : S128x512.Idx → EReal => fun l q => x (ix2 l q)) (blk13_eq m c t))) (congrArg (fun x : S1024x1024.Idx → EReal => fun l q => x (ix2 l q)) (blk14_eq m c t))) k

/-- What a point leaves in the two blocks at row `i`: the rows of token `512 t + i`. -/
theorem out_at (H : Finite m c) (t : Fin cfg0.N) (i : Fin 512) (k : Fin 1024) (s : Fin 8192) (hs : s.val = 512 * t.val + i.val) :
    ((outsAt0 m c t.val t.isLt).1 : S512x1024.Idx → EReal) (ix2 i k) = row19 m c s k ∧ ((outsAt0 m c t.val t.isLt).2.1 : S512x1024.Idx → EReal) (ix2 i k) = row20 m c s k := by
  have h0 := funext fun k => blk0_at m c t i k s hs
  have h1 := congrArg (fun x : S1x6x1024.Idx → EReal => fun o k => x (ix3 (0 : Fin 1) o k)) (blk1_eq m c t)
  have h15 := congrArg (fun x : S1x1024.Idx → EReal => fun q => x (ix2 (0 : Fin 1) q)) (blk15_eq m c t)
  have h16 := congrArg (fun x : S1x1024.Idx → EReal => fun q => x (ix2 (0 : Fin 1) q)) (blk16_eq m c t)
  have hM := funext fun k => mixT_at m c H t i k s hs
  have e := stored_at (iblk m c 0 t) (iblk m c 1 t) (iblk m c 15 t) (iblk m c 16 t) (mixT m c t) i k
  rw [out19_eq, out20_eq]
  unfold row19 row20 modOf
  exact ⟨e.1.trans (congrFun (congr (congr (congr (congrArg attended h0) h1) h15) hM) k), e.2.trans (congrFun (congr (congr (congr (congr (congrArg following h0) h1) h15) h16) hM) k)⟩

theorem emb19 (t : Fin cfg0.N) (i : Fin 512) (k : Fin 1024) (s : Fin 8192) (hs : s.val = 512 * t.val + i.val) :
    ((((cfg0.win 19).blk t).view.emb (ix2 i k)) : S8192x1024.Idx) = ix2 s k := by
  refine funext fun a => Fin.ext ?_
  refine (Window.rect_emb_val (cfg0.win 19) t (ix2 i k) a).trans ?_
  rw [show (cfg0.win 19).index t a = _ from congrFun (tf19_eq t) a]
  match a with
  | ⟨0, _⟩ => show t.val * 512 + i.val = s.val; omega
  | ⟨1, _⟩ => show 0 * 1024 + k.val = k.val; omega

theorem emb20 (t : Fin cfg0.N) (i : Fin 512) (k : Fin 1024) (s : Fin 8192) (hs : s.val = 512 * t.val + i.val) :
    ((((cfg0.win 20).blk t).view.emb (ix2 i k)) : S8192x1024.Idx) = ix2 s k := by
  refine funext fun a => Fin.ext ?_
  refine (Window.rect_emb_val (cfg0.win 20) t (ix2 i k) a).trans ?_
  rw [show (cfg0.win 20).index t a = _ from congrFun (tf20_eq t) a]
  match a with
  | ⟨0, _⟩ => show t.val * 512 + i.val = s.val; omega
  | ⟨1, _⟩ => show 0 * 1024 + k.val = k.val; omega

theorem covers19 : (cfg0.win 19).Covers := by
  refine Window.covers_of_index_surj _ rfl (show ∀ a : Fin 2, 0 < S512x1024.size a by decide) fun β => ?_
  have b0 : (β (0 : Fin 2)).val < 16 := Nat.lt_of_lt_of_eq (β (0 : Fin 2)).isLt (show (8192 + 512 - 1) / 512 = 16 from rfl)
  have b1 : (β (1 : Fin 2)).val < 1 := Nat.lt_of_lt_of_eq (β (1 : Fin 2)).isLt (show (1024 + 1024 - 1) / 1024 = 1 from rfl)
  refine ⟨(⟨(β (0 : Fin 2)).val, b0⟩ : Fin 16), fun a => ?_⟩
  rw [show (cfg0.win 19).index (⟨(β (0 : Fin 2)).val, b0⟩ : Fin 16) a = _ from congrFun (tf19_eq _) a]
  match a with
  | ⟨0, _⟩ => rfl
  | ⟨1, _⟩ => show 0 = (β (1 : Fin 2)).val; omega

theorem covers20 : (cfg0.win 20).Covers := by
  refine Window.covers_of_index_surj _ rfl (show ∀ a : Fin 2, 0 < S512x1024.size a by decide) fun β => ?_
  have b0 : (β (0 : Fin 2)).val < 16 := Nat.lt_of_lt_of_eq (β (0 : Fin 2)).isLt (show (8192 + 512 - 1) / 512 = 16 from rfl)
  have b1 : (β (1 : Fin 2)).val < 1 := Nat.lt_of_lt_of_eq (β (1 : Fin 2)).isLt (show (1024 + 1024 - 1) / 1024 = 1 from rfl)
  refine ⟨(⟨(β (0 : Fin 2)).val, b0⟩ : Fin 16), fun a => ?_⟩
  rw [show (cfg0.win 20).index (⟨(β (0 : Fin 2)).val, b0⟩ : Fin 16) a = _ from congrFun (tf20_eq _) a]
  match a with
  | ⟨0, _⟩ => rfl
  | ⟨1, _⟩ => show 0 = (β (1 : Fin 2)).val; omega

/-- The attended rows' array. -/
theorem final19 (H : Finite m c) (s : Fin 8192) (k : Fin 1024) :
    ((dats m 0 c).arrAt 19 cfg0.N : S8192x1024.Idx → EReal) (ix2 s k) = row19 m c s k := by
  refine (dats m 0 c).arrAt_forall_of_covers 19 (fun i v => i = (ix2 s k : S8192x1024.Idx) → v = _) covers19 (fun t hf y => ?_) (ix2 s k)
    (Memref.isWhole_whole _) rfl
  intro hy
  obtain ⟨i, k', rfl⟩ : ∃ (i : Fin 512) (k' : Fin 1024), (y : S512x1024.Idx) = ix2 i k' := ⟨y 0, y 1, eq_ix2 y⟩
  have ht : t.val < 16 := t.isLt
  rw [emb19 t i k' ⟨512 * t.val + i.val, by omega⟩ rfl] at hy
  have h0 : 512 * t.val + i.val = s.val := congrArg (fun x : S8192x1024.Idx => (x 0).val) hy
  have h1 : k'.val = k.val := congrArg (fun x : S8192x1024.Idx => (x 1).val) hy
  obtain rfl : k' = k := Fin.ext h1
  show (dats m 0 c).after 19 t (ix2 i k') = _
  rw [after0_19]
  exact (out_at m c H t i k' s h0.symm).1

/-- The next normed rows' array. -/
theorem final20 (H : Finite m c) (s : Fin 8192) (k : Fin 1024) :
    ((dats m 0 c).arrAt 20 cfg0.N : S8192x1024.Idx → EReal) (ix2 s k) = row20 m c s k := by
  refine (dats m 0 c).arrAt_forall_of_covers 20 (fun i v => i = (ix2 s k : S8192x1024.Idx) → v = _) covers20 (fun t hf y => ?_) (ix2 s k)
    (Memref.isWhole_whole _) rfl
  intro hy
  obtain ⟨i, k', rfl⟩ : ∃ (i : Fin 512) (k' : Fin 1024), (y : S512x1024.Idx) = ix2 i k' := ⟨y 0, y 1, eq_ix2 y⟩
  have ht : t.val < 16 := t.isLt
  rw [emb20 t i k' ⟨512 * t.val + i.val, by omega⟩ rfl] at hy
  have h0 : 512 * t.val + i.val = s.val := congrArg (fun x : S8192x1024.Idx => (x 0).val) hy
  have h1 : k'.val = k.val := congrArg (fun x : S8192x1024.Idx => (x 1).val) hy
  obtain rfl : k' = k := Fin.ext h1
  show (dats m 0 c).after 20 t (ix2 i k') = _
  rw [after0_20]
  exact (out_at m c H t i k' s h0.symm).2

end Cert.Kernel7Ideal.Hand

end
-- ==== Proof.OutS.lean ====
/- The mixing output projection of the context tokens: the reference at an index. The projected rows are those of the latent tokens' reference. -/
module

public import proofs.«01_k».proof.Proof.OutR
public import proofs.«01_k».proof.Proof.Gen.Reference7Ideal.Run

@[expose] public section

noncomputable section

namespace Cert.Reference7Ideal.Hand

open Cert.Reference7Ideal Cert.Reference7Ideal.Gen Cert.Reference7Ideal.Value Cert.Proof
open Cert.Reference6Ideal.Hand (projV headsV)
open Idealize.ShloMosaic Idealize.ShloMosaic.TcCoe

/-- The rows over the roots of their mean squares. -/
def rootV (y : FVec Ideal S32x256x1024 .f32) : FVec Ideal S32x256x1024 .f32 :=
  mulf y (broadcastInDim S32x256x1024 ![0, 1, 2] bcast_S32x256x1_S32x256x1024_0_1_2 (Host.rsqrt (addf (Host.divf (broadcastInDim S32x256x1 ![0, 1] bcast_S32x256_S32x256x1_0_1
    (Host.reduceAdd (mulf y y) (constant S_ .f32 0x00000000#32) reducesTo_S32x256x1024_S32x256_d2 h_S_)) (broadcastInDim S32x256x1 ![] bcast_S_S32x256x1 (constant S_ .f32 0x44800000#32)))
    (broadcastInDim S32x256x1 ![] bcast_S_S32x256x1 (constant S_ .f32 0x358637BD#32)))))

/-- A weight's row for every token. -/
def weightV (g : FVec Ideal S1x1024 .f32) : FVec Ideal S32x256x1024 .f32 :=
  broadcastInDim S32x256x1024 ![0, 1, 2] bcast_S1x1x1024_S32x256x1024_0_1_2 (broadcastInDim S1x1x1024 ![1, 2] bcast_S1x1024_S1x1x1024_1_2 g)

/-- A modulation's row. -/
def modV (mod : FVec Ideal S1x6x1024 .f32) (o : ℕ) (h : S1x6x1024.Slices ![0, o, 0] S1x1x1024) : FVec Ideal S1x1x1024 .f32 :=
  broadcastInDim S1x1x1024 ![0, 2] bcast_S1x1024_S1x1x1024_0_2 (shapeCast _ (extractStridedSlice S1x1x1024 ![0, o, 0] mod h) shapeCasts_S1x1x1024_S1x1024)

/-- The attended rows. -/
def attV (x : FVec Ideal S8192x1024 .f32) (mod : FVec Ideal S1x6x1024 .f32) (g : FVec Ideal S1x1024 .f32) (y : FVec Ideal S8192x1024 .f32) : FVec Ideal S32x256x1024 .f32 :=
  addf (shapeCast _ x shapeCasts_S8192x1024_S32x256x1024) (mulf (broadcastInDim S32x256x1024 ![0, 1, 2] bcast_S1x1x1024_S32x256x1024_0_1_2 (modV mod 2 slices_S1x6x1024_S1x1x1024_0_2_0))
    (mulf (rootV (shapeCast _ y shapeCasts_S8192x1024_S32x256x1024)) (weightV g)))

/-- The next normed rows, from the attended rows. -/
def folV (z : FVec Ideal S32x256x1024 .f32) (mod : FVec Ideal S1x6x1024 .f32) (g : FVec Ideal S1x1024 .f32) : FVec Ideal S32x256x1024 .f32 :=
  addf (mulf (mulf (rootV z) (weightV g)) (broadcastInDim S32x256x1024 ![0, 1, 2] bcast_S1x1x1024_S32x256x1024_0_1_2
      (addf (broadcastInDim S1x1x1024 ![] bcast_S_S1x1x1024 (constant S_ .f32 0x3F800000#32)) (modV mod 4 slices_S1x6x1024_S1x1x1024_0_4_0))))
    (broadcastInDim S32x256x1024 ![0, 1, 2] bcast_S1x1x1024_S32x256x1024_0_1_2 (modV mod 3 slices_S1x6x1024_S1x1x1024_0_3_0))

/-- A sequence's token. -/
def tok (b : Fin 32) (j : Fin 256) : Fin 8192 := ⟨b.val * 256 + j.val, by omega⟩

section Rows

variable (b : Fin 32) (j : Fin 256) (k : Fin 1024)

set_option maxRecDepth 16384 in
theorem attV_at (x : FVec Ideal S8192x1024 .f32) (mod : FVec Ideal S1x6x1024 .f32) (g : FVec Ideal S1x1024 .f32) (y : FVec Ideal S8192x1024 .f32) :
    attV x mod g y (ix3 b j k) = attended (fun k => x (ix2 (tok b j) k)) (fun o k => mod (ix3 (0 : Fin 1) o k)) (fun k => g (ix2 (0 : Fin 1) k)) (fun k => y (ix2 (tok b j) k)) k := by
  unfold attended addNormed normed tok
  pointwise [attV, rootV, weightV, modV]
  done

set_option maxRecDepth 16384 in
theorem folV_at (z : FVec Ideal S32x256x1024 .f32) (mod : FVec Ideal S1x6x1024 .f32) (g : FVec Ideal S1x1024 .f32) :
    folV z mod g (ix3 b j k) = scaled (fun k => z (ix3 b j k)) (fun k => g (ix2 (0 : Fin 1) k)) (fun k => mod (ix3 (0 : Fin 1) (4 : Fin 6) k)) (fun k => mod (ix3 (0 : Fin 1) (3 : Fin 6) k)) k := by
  unfold scaled normed
  pointwise [folV, rootV, weightV, modV]
  done

set_option maxRecDepth 16384 in
theorem flat_at (z : FVec Ideal S32x256x1024 .f32) :
    shapeCast S8192x1024 z shapeCasts_S32x256x1024_S8192x1024 (ix2 (tok b j) k) = z (ix3 b j k) := by
  unfold tok
  pointwise

end Rows

theorem tok_eq (s : Fin 8192) : s = tok ⟨s.val / 256, by omega⟩ ⟨s.val % 256, by omega⟩ := Fin.ext (by show s.val = s.val / 256 * 256 + s.val % 256; omega)

/-- The attended rows' result at an index. -/
theorem first_at (x : FVec Ideal S8192x1024 .f32) (mod : FVec Ideal S1x6x1024 .f32) (g : FVec Ideal S1x1024 .f32) (y : FVec Ideal S8192x1024 .f32) (s : Fin 8192) (k : Fin 1024) :
    shapeCast S8192x1024 (attV x mod g y) shapeCasts_S32x256x1024_S8192x1024 (ix2 s k)
      = attended (fun k => x (ix2 s k)) (fun o k => mod (ix3 (0 : Fin 1) o k)) (fun k => g (ix2 (0 : Fin 1) k)) (fun k => y (ix2 s k)) k := by
  have e := (flat_at ⟨s.val / 256, by omega⟩ ⟨s.val % 256, by omega⟩ k (attV x mod g y)).trans (attV_at ⟨s.val / 256, by omega⟩ ⟨s.val % 256, by omega⟩ k x mod g y)
  rw [← tok_eq] at e
  exact e

/-- The next normed rows' result at an index. -/
theorem second_at (x : FVec Ideal S8192x1024 .f32) (mod : FVec Ideal S1x6x1024 .f32) (g q : FVec Ideal S1x1024 .f32) (y : FVec Ideal S8192x1024 .f32) (s : Fin 8192) (k : Fin 1024) :
    shapeCast S8192x1024 (folV (attV x mod g y) mod q) shapeCasts_S32x256x1024_S8192x1024 (ix2 s k)
      = following (fun k => x (ix2 s k)) (fun o k => mod (ix3 (0 : Fin 1) o k)) (fun k => g (ix2 (0 : Fin 1) k)) (fun k => q (ix2 (0 : Fin 1) k)) (fun k => y (ix2 s k)) k := by
  have e := (flat_at ⟨s.val / 256, by omega⟩ ⟨s.val % 256, by omega⟩ k (folV (attV x mod g y) mod q)).trans (folV_at ⟨s.val / 256, by omega⟩ ⟨s.val % 256, by omega⟩ k (attV x mod g y) mod q)
  simp only [attV_at] at e
  rw [← tok_eq] at e
  exact e

variable (V0 : Valuation τ sig (Elt Ideal))

/-- The projected rows of the arguments. -/
def projA : FVec Ideal S8192x1024 .f32 :=
  projV (V0 (Proc.devRef .tc main_arg2)) (V0 (Proc.devRef .tc main_arg6))
    (headsV (V0 (Proc.devRef .tc main_arg3)) (V0 (Proc.devRef .tc main_arg4)) (V0 (Proc.devRef .tc main_arg5)) (V0 (Proc.devRef .tc main_arg6)) (V0 (Proc.devRef .tc main_arg7))
      (V0 (Proc.devRef .tc main_arg8)) (V0 (Proc.devRef .tc main_arg9)) (V0 (Proc.devRef .tc main_arg10)) (V0 (Proc.devRef .tc main_arg11)) (V0 (Proc.devRef .tc main_arg12)))
    (V0 (Proc.devRef .tc main_arg13)) (V0 (Proc.devRef .tc main_arg14))

theorem v136_eq : res_main_v136 (F := Ideal) V0 = attV (V0 (Proc.devRef .tc main_arg0)) (V0 (Proc.devRef .tc main_arg1)) (V0 (Proc.devRef .tc main_arg15)) (projA V0) := by
  rfl

end Cert.Reference7Ideal.Hand

end
-- ==== Proof.OutH.lean ====
/- The mixing output projection of the context tokens: the claims. -/
module

public import proofs.«01_k».proof.Defs
public import proofs.«01_k».proof.Proof.OutG
public import proofs.«01_k».proof.Proof.OutS
public import proofs.«01_k».proof.Proof.OutF
public import proofs.«01_k».proof.Proof.Gen.Kernel7
public import proofs.«01_k».proof.Proof.Gen.Kernel7.Frame
public import proofs.«01_k».proof.Proof.Gen.Kernel7Ideal
public import proofs.«01_k».proof.Proof.Gen.Reference7Ideal
public import proofs.«01_k».proof.Proof.Gen.Pre_finite_contexts
public import Idealize.ShloMosaic.Lib.StableHlo.Predicate
public import Idealize.ShloMosaic.Lib.Quiescent

@[expose] public section

noncomputable section

namespace Cert.Proof

open Idealize.ShloMosaic Idealize.SL.Sem Idealize.ShloMosaic.TcCoe

theorem finite_of_contexts (m : (ℓ : Loc Cert.Kernel7Ideal.nD Cert.Kernel7Ideal.τ Cert.Kernel7Ideal.sig) → Buf (Elt Ideal) ℓ)
    (h : Cert.Pre_Kernel7Ideal_finite_contexts (hPre_finite_contexts := Cert.Pre_finite_contexts.Gen.facts) m) (c : Dev Cert.Kernel7Ideal.nD) : Cert.Kernel7Ideal.Hand.Finite m c := by
  obtain ⟨h0, h1, h2, h3, h4⟩ := h c
  exact ⟨fun s q => isReal_of_bounded _ _ h0 (ix2 s q), fun s q => isReal_of_bounded _ _ h1 (ix2 s q), fun s q => isReal_of_bounded _ _ h2 (ix2 s q),
    fun q => isReal_of_bounded _ _ h3 (ix2 (0 : Fin 1) q), fun q => isReal_of_bounded _ _ h4 (ix2 (0 : Fin 1) q)⟩

open Cert.Reference7Ideal.Hand in
/-- The reference's projected rows are the kernel's, where the arguments agree. -/
theorem projected_agrees' (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (h2 : m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2))
    (h3 : m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3))
    (h4 : m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4))
    (h5 : m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5))
    (h6 : m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6))
    (h7 : m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7))
    (h8 : m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8))
    (h9 : m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9))
    (h10 : m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10))
    (h11 : m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11))
    (h12 : m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12))
    (h13 : m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13))
    (h14 : m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)) (s : Fin 8192) :
    (fun k => projA (StableHlo.launchContents m' c) (ix2 s k)) = Cert.Kernel7Ideal.Hand.projected m c s := by
  unfold projA
  refine (funext fun k => Cert.Reference6Ideal.Hand.projected_at s _ _ _ _ _ _ _ _ _ _ _ _ _ k).trans ?_
  exact (congr (congr (congr (congr (congr (congr (congr (congr (congr (congr (congr (congr (congrArg outRow (congrArg (fun x : Cert.Kernel7Ideal.S8192x512.Idx → EReal => fun q => x (ix2 s q)) h2))
      (congrArg (fun x : Cert.Kernel7Ideal.S8192x512.Idx → EReal => fun q => x (ix2 s q)) h3))
      (congrArg (fun x : Cert.Kernel7Ideal.S8192x512.Idx → EReal => fun q => x (ix2 s q)) h4))
      (congrArg (fun x : Cert.Kernel7Ideal.S8192x1536.Idx → EReal => fun q => x (ix2 s q)) h5))
      (congrArg (fun x : Cert.Kernel7Ideal.S8192x384.Idx → EReal => fun q => x (ix2 s q)) h6))
      (congrArg (fun x : Cert.Kernel7Ideal.S2x128x512.Idx → EReal => fun o l q => x (ix3 o l q)) h7))
      (congrArg (fun x : Cert.Kernel7Ideal.S2x512.Idx → EReal => fun l q => x (ix2 l q)) h8))
      (congrArg (fun x : Cert.Kernel7Ideal.S1x512.Idx → EReal => fun q => x (ix2 (0 : Fin 1) q)) h9))
      (congrArg (fun x : Cert.Kernel7Ideal.S1x512.Idx → EReal => fun q => x (ix2 (0 : Fin 1) q)) h10))
      (congrArg (fun x : Cert.Kernel7Ideal.S1x512.Idx → EReal => fun q => x (ix2 (0 : Fin 1) q)) h11))
      (congrArg (fun x : Cert.Kernel7Ideal.S1x512.Idx → EReal => fun q => x (ix2 (0 : Fin 1) q)) h12))
      (congrArg (fun x : Cert.Kernel7Ideal.S128x512.Idx → EReal => fun l q => x (ix2 l q)) h13))
      (congrArg (fun x : Cert.Kernel7Ideal.S1024x1024.Idx → EReal => fun l q => x (ix2 l q)) h14))

theorem frame_K7 : Cert.quiescent_Kernel7 (hKernel7 := Cert.Kernel7.Gen.facts) := fun m ρ _ => Cert.Kernel7.Gen.frame m ρ
theorem frame_I7 : Cert.quiescent_Kernel7Ideal (hKernel7Ideal := Cert.Kernel7Ideal.Gen.facts) := fun m ρ _ => Cert.Kernel7Ideal.Gen.frame m ρ
theorem frame_Ip7 : Cert.quiescent_Kernel7Ideal_pre_finite_contexts (hKernel7Ideal := Cert.Kernel7Ideal.Gen.facts)
    (hPre_finite_contexts := Cert.Pre_finite_contexts.Gen.facts) := fun m ρ _ => Cert.Kernel7Ideal.Gen.frame m ρ
theorem frame_R7 : Cert.quiescent_Reference7Ideal (hReference7Ideal := Cert.Reference7Ideal.Gen.facts) :=
  fun m ρ _ => (θ_run Cert.Reference7Ideal.defs _ _).mono (fun r p => ⟨fun c => (p c).2.2, sem_eq_zero_of_no_sems rfl r.2⟩)
    (Cert.Reference7Ideal.Value.run m ρ)
theorem frame_Rp7 : Cert.quiescent_Reference7Ideal_pre_finite_contexts (hReference7Ideal := Cert.Reference7Ideal.Gen.facts)
    (hPre_finite_contexts := Cert.Pre_finite_contexts.Gen.facts) := fun m ρ _ => frame_R7 m ρ trivial

theorem value7 : Cert.algebraic_Kernel7Ideal_Reference7Ideal_pre_finite_contexts (hKernel7Ideal := Cert.Kernel7Ideal.Gen.facts)
    (hReference7Ideal := Cert.Reference7Ideal.Gen.facts) (hPre_finite_contexts := Cert.Pre_finite_contexts.Gen.facts) := by
  intro m g m' g' hpre hag
  refine ⟨fun c => (Cert.Kernel7Ideal.Gen.dats m 0 c).arrAt 19 Cert.Kernel7Ideal.cfg0.N, fun c => (Cert.Kernel7Ideal.Gen.dats m 0 c).arrAt 20 Cert.Kernel7Ideal.cfg0.N,
    (θ_run Cert.Kernel7Ideal.defs _ _).mono (fun r p c => ⟨(p c).1, (p c).2.1, (p c).2.2.2.2.2⟩) (Cert.Kernel7Ideal.Value.run_blocks m g),
    (θ_run Cert.Reference7Ideal.defs _ _).mono (fun r p c => ⟨(p c).1.trans (funext fun i => ?_), (p c).2.1.trans (funext fun i => ?_), (p c).2.2⟩) (Cert.Reference7Ideal.Value.run m' g')⟩
  all_goals
    obtain ⟨s, k, rfl⟩ : ∃ (s : Fin 8192) (k : Fin 1024), i = ix2 s k := ⟨i 0, i 1, eq_ix2 i⟩
    obtain ⟨h0, h1, h2, h3, h4, h5, h6, h7, h8, h9, h10, h11, h12, h13, h14, h15, h16, h17, h18⟩ := hag c
    have H := finite_of_contexts m hpre c
    have hp := projected_agrees' m m' c h2 h3 h4 h5 h6 h7 h8 h9 h10 h11 h12 h13 h14 s
    have e0 := congrArg (fun x : Cert.Kernel7Ideal.S8192x1024.Idx → EReal => fun k => x (ix2 s k)) h0
    have e1 := congrArg (fun x : Cert.Kernel7Ideal.S1x6x1024.Idx → EReal => fun o k => x (ix3 (0 : Fin 1) o k)) h1
    have e15 := congrArg (fun x : Cert.Kernel7Ideal.S1x1024.Idx → EReal => fun k => x (ix2 (0 : Fin 1) k)) h15
    have e16 := congrArg (fun x : Cert.Kernel7Ideal.S1x1024.Idx → EReal => fun k => x (ix2 (0 : Fin 1) k)) h16
    rw [Cert.Reference7Ideal.Hand.v136_eq]
  · refine Eq.trans ?_ (Cert.Kernel7Ideal.Hand.final19 m c H s k).symm
    refine (Cert.Reference7Ideal.Hand.first_at _ _ _ _ s k).trans ?_
    exact congrFun (congr (congr (congr (congrArg attended e0) e1) e15) hp) k
  · refine Eq.trans ?_ (Cert.Kernel7Ideal.Hand.final20 m c H s k).symm
    refine (Cert.Reference7Ideal.Hand.second_at _ _ _ _ _ s k).trans ?_
    exact congrFun (congr (congr (congr (congr (congrArg following e0) e1) e15) e16) hp) k

end Cert.Proof

end
-- ==== Proof.Mod8.lean ====
/- The modulation from the conditioning rows: what the kernel's array holds at an index, the reference, and the claims. -/
module

public import proofs.«01_k».proof.Proof.OutF
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite_conditions
public import Idealize.ShloMosaic.Lib.Pipeline.Covers

@[expose] public section

noncomputable section

namespace Cert.Proof

/-- One entry of the modulation: the conditioning row, each entry times its logistic function, against a column, and the bias. -/
def modulation (c w : Fin 1024 → EReal) (b : EReal) : EReal := ∑ k, c k * sg (c k) * w k + b

/-- The product with each factor split into itself and the nothing left of it. -/
theorem modulation_split (c w : Fin 1024 → EReal) (b : EReal) (hc : ∀ k, IsReal (c k)) (hw : ∀ k, IsReal (w k)) :
    ∑ k, c k * sg (c k) * w k + (∑ k, c k * sg (c k) * (w k - w k) + ∑ k, (c k * sg (c k) - c k * sg (c k)) * w k) + b = modulation c w b := by
  unfold modulation
  simp only [fun k => (hw k).sub_self, fun k => ((hc k).mul (isReal_sg (c k))).sub_self, mul_zero, zero_mul, Finset.sum_const_zero, add_zero]

end Cert.Proof

namespace Cert.Kernel8Ideal.Hand

open Cert.Kernel8Ideal Cert.Kernel8Ideal.Gen
open Idealize.ShloMosaic Idealize.ShloMosaic.TcCoe
open Idealize.ShloMosaic.Pipeline (Dat Cfg Window)
open Cert.Proof

set_option maxRecDepth 16384 in
/-- The body's sum of products at an index. -/
theorem pay_at (v0 : S16x1024.Idx → Ideal .f32) (v13 : S1024x512.Idx → Ideal .f32) (v23 : S1x512.Idx → Ideal .f32) (i : Fin 16) (j : Fin 512)
    (hc : ∀ k : Fin 1024, IsReal (v0 (ix2 i k))) (hw : ∀ k : Fin 1024, IsReal (v13 (ix2 k j))) :
    k0_pay1 (F := Ideal) v0 v13 v23 (ix2 i j) = modulation (fun k => v0 (ix2 i k)) (fun k => v13 (ix2 k j)) (v23 (ix2 (0 : Fin 1) j)) := by
  refine Eq.trans ?_ (modulation_split _ _ _ hc hw)
  unfold sg
  pointwise [k0_pay1]
  simp only [zero_sub]

variable (m : (ℓ : Loc nD τ sig) → Buf (Elt Ideal) ℓ) (c : Dev nD)

theorem tf0_eq : ∀ t : Fin grid0.N, cc0_transform_0 (grid0.coords t) = ![0, 0] := by decide +kernel
theorem tf1_eq : ∀ t : Fin grid0.N, cc0_transform_1 (grid0.coords t) = ![0, t.val] := by decide +kernel
theorem tf2_eq : ∀ t : Fin grid0.N, cc0_transform_2 (grid0.coords t) = ![0, t.val] := by decide +kernel
theorem tf3_eq : ∀ t : Fin grid0.N, cc0_transform_3 (grid0.coords t) = ![0, t.val] := by decide +kernel

set_option maxRecDepth 16384 in
theorem row_at (x : FVec Ideal S6144 .f32) (n : Fin 6144) : shapeCast S1x6144 x shapeCasts_S6144_S1x6144 (ix2 (0 : Fin 1) n) = x (ix1 n) := by
  pointwise

/-- The bias as the kernel reads it: the argument as one row. -/
theorem bias_at (n : Fin 6144) : (V m c main_v0 : S1x6144.Idx → EReal) (ix2 (0 : Fin 1) n) = (V m c main_arg2 : S6144.Idx → EReal) (ix1 n) := by
  have e : (V m c main_v0 : S1x6144.Idx → EReal) = shapeCast S1x6144 (V m c main_arg2 : S6144.Idx → EReal) shapeCasts_S6144_S1x6144 := by
    rw [V_main_arg2]
    rfl
  rw [e]
  exact row_at _ n

section Blocks
variable (t : Fin cfg0.N)

theorem blk0_at (i : Fin 16) (k : Fin 1024) :
    (iblk m c 0 t : S16x1024.Idx → EReal) (ix2 i k) = (V m c main_arg0 : S16x1024.Idx → EReal) (ix2 i k) := by
  unfold iblk
  refine congrArg (V m c main_arg0 : S16x1024.Idx → EReal) (funext fun a => Fin.ext ?_)
  refine (Window.rect_emb_val (cfg0.win 0) t (ix2 i k) a).trans ?_
  rw [show (cfg0.win 0).index t a = _ from congrFun (tf0_eq t) a]
  match a with
  | ⟨0, _⟩ => show 0 * 16 + i.val = i.val; omega
  | ⟨1, _⟩ => show 0 * 1024 + k.val = k.val; omega

theorem blk1_at (k : Fin 1024) (j : Fin 512) (n : Fin 6144) (hn : n.val = 512 * t.val + j.val) :
    (iblk m c 1 t : S1024x512.Idx → EReal) (ix2 k j) = (V m c main_arg1 : S1024x6144.Idx → EReal) (ix2 k n) := by
  unfold iblk
  refine congrArg (V m c main_arg1 : S1024x6144.Idx → EReal) (funext fun a => Fin.ext ?_)
  refine (Window.rect_emb_val (cfg0.win 1) t (ix2 k j) a).trans ?_
  rw [show (cfg0.win 1).index t a = _ from congrFun (tf1_eq t) a]
  match a with
  | ⟨0, _⟩ => show 0 * 1024 + k.val = k.val; omega
  | ⟨1, _⟩ => show t.val * 512 + j.val = n.val; omega

theorem blk2_at (j : Fin 512) (n : Fin 6144) (hn : n.val = 512 * t.val + j.val) :
    (iblk m c 2 t : S1x512.Idx → EReal) (ix2 (0 : Fin 1) j) = (V m c main_v0 : S1x6144.Idx → EReal) (ix2 (0 : Fin 1) n) := by
  unfold iblk
  refine congrArg (V m c main_v0 : S1x6144.Idx → EReal) (funext fun a => Fin.ext ?_)
  refine (Window.rect_emb_val (cfg0.win 2) t (ix2 (0 : Fin 1) j) a).trans ?_
  rw [show (cfg0.win 2).index t a = _ from congrFun (tf2_eq t) a]
  match a with
  | ⟨0, _⟩ => rfl
  | ⟨1, _⟩ => show t.val * 512 + j.val = n.val; omega

end Blocks

theorem emb3 (t : Fin cfg0.N) (i : Fin 16) (j : Fin 512) (n : Fin 6144) (hn : n.val = 512 * t.val + j.val) :
    ((((cfg0.win 3).blk t).view.emb (ix2 i j)) : S16x6144.Idx) = ix2 i n := by
  refine funext fun a => Fin.ext ?_
  refine (Window.rect_emb_val (cfg0.win 3) t (ix2 i j) a).trans ?_
  rw [show (cfg0.win 3).index t a = _ from congrFun (tf3_eq t) a]
  match a with
  | ⟨0, _⟩ => show 0 * 16 + i.val = i.val; omega
  | ⟨1, _⟩ => show t.val * 512 + j.val = n.val; omega

theorem covers3 : (cfg0.win 3).Covers := by
  refine Window.covers_of_index_surj _ rfl (show ∀ a : Fin 2, 0 < S16x512.size a by decide) fun β => ?_
  have b0 : (β (0 : Fin 2)).val < 1 := Nat.lt_of_lt_of_eq (β (0 : Fin 2)).isLt (show (16 + 16 - 1) / 16 = 1 from rfl)
  have b1 : (β (1 : Fin 2)).val < 12 := Nat.lt_of_lt_of_eq (β (1 : Fin 2)).isLt (show (6144 + 512 - 1) / 512 = 12 from rfl)
  refine ⟨(⟨(β (1 : Fin 2)).val, b1⟩ : Fin 12), fun a => ?_⟩
  rw [show (cfg0.win 3).index (⟨(β (1 : Fin 2)).val, b1⟩ : Fin 12) a = _ from congrFun (tf3_eq _) a]
  match a with
  | ⟨0, _⟩ => show 0 = (β (0 : Fin 2)).val; omega
  | ⟨1, _⟩ => rfl

/-- The body's sum of products at grid point `t`, read at column `j`: the modulation at column `512 t + j`. -/
theorem prod_at (hc : ∀ (i : Fin 16) (k : Fin 1024), IsReal ((V m c main_arg0 : S16x1024.Idx → EReal) (ix2 i k)))
    (hw : ∀ (k : Fin 1024) (n : Fin 6144), IsReal ((V m c main_arg1 : S1024x6144.Idx → EReal) (ix2 k n)))
    (t : Fin cfg0.N) (i : Fin 16) (j : Fin 512) (n : Fin 6144) (hn : n.val = 512 * t.val + j.val) :
    k0_pay1 (F := Ideal) (View.ld (iblk m c 0 t) r0_0) (View.ld (iblk m c 1 t) r0_1) (View.ld (iblk m c 2 t) r0_2) (ix2 i j)
      = modulation (fun k => (V m c main_arg0 : S16x1024.Idx → EReal) (ix2 i k))
        (fun k => (V m c main_arg1 : S1024x6144.Idx → EReal) (ix2 k n)) ((V m c main_arg2 : S6144.Idx → EReal) (ix1 n)) := by
  have e0 : View.ld (iblk m c 0 t) r0_0 = iblk m c 0 t := View.ld_unit_zero (funext fun a => by fin_cases a <;> rfl) _ _
  have e1 : View.ld (iblk m c 1 t) r0_1 = iblk m c 1 t := View.ld_unit_zero (funext fun a => by fin_cases a <;> rfl) _ _
  have e2 : View.ld (iblk m c 2 t) r0_2 = iblk m c 2 t := View.ld_unit_zero (funext fun a => by fin_cases a <;> rfl) _ _
  rw [e0, e1, e2]
  refine (pay_at _ _ _ i j (fun k => (congrArg IsReal (blk0_at m c t i k)).mpr (hc i k)) (fun k => (congrArg IsReal (blk1_at m c t k j n hn)).mpr (hw k n))).trans ?_
  exact congr (congr (congrArg modulation (funext fun k => blk0_at m c t i k)) (funext fun k => blk1_at m c t k j n hn))
    ((blk2_at m c t j n hn).trans (bias_at m c n))

/-- The result: the modulation of row `i` at column `n`. -/
theorem final3 (hc : ∀ (i : Fin 16) (k : Fin 1024), IsReal ((V m c main_arg0 : S16x1024.Idx → EReal) (ix2 i k)))
    (hw : ∀ (k : Fin 1024) (n : Fin 6144), IsReal ((V m c main_arg1 : S1024x6144.Idx → EReal) (ix2 k n))) (i : Fin 16) (n : Fin 6144) :
    ((dats m 0 c).arrAt 3 cfg0.N : S16x6144.Idx → EReal) (ix2 i n) = modulation (fun k => (V m c main_arg0 : S16x1024.Idx → EReal) (ix2 i k))
      (fun k => (V m c main_arg1 : S1024x6144.Idx → EReal) (ix2 k n)) ((V m c main_arg2 : S6144.Idx → EReal) (ix1 n)) := by
  refine (dats m 0 c).arrAt_forall_of_covers 3 (fun x v => x = (ix2 i n : S16x6144.Idx) → v = _) covers3 (fun t hf y => ?_) (ix2 i n)
    (Memref.isWhole_whole _) rfl
  intro hy
  obtain ⟨i', j, rfl⟩ : ∃ (i' : Fin 16) (j : Fin 512), (y : S16x512.Idx) = ix2 i' j := ⟨y 0, y 1, eq_ix2 y⟩
  have ht : t.val < 12 := t.isLt
  rw [emb3 t i' j ⟨512 * t.val + j.val, by omega⟩ rfl] at hy
  have h0 : i'.val = i.val := congrArg (fun x : S16x6144.Idx => (x 0).val) hy
  have h1 : 512 * t.val + j.val = n.val := congrArg (fun x : S16x6144.Idx => (x 1).val) hy
  obtain rfl : i' = i := Fin.ext h0
  show (dats m 0 c).after 3 t (ix2 i' j) = _
  rw [after0_3]
  unfold out0_3
  refine (congrFun (View.canon_unit_zero (funext fun a => by fin_cases a <;> rfl) _ _) (ix2 i' j)).trans ?_
  exact prod_at m c hc hw t i' j n h1.symm

end Cert.Kernel8Ideal.Hand

namespace Cert.Proof

open Idealize.ShloMosaic Idealize.SL.Sem Idealize.ShloMosaic.TcCoe

open Cert.Reference8Ideal Cert.Reference8Ideal.Gen in
set_option maxRecDepth 16384 in
/-- The reference at an index. -/
theorem ref8_at (x : FVec Ideal S16x1024 .f32) (w : FVec Ideal S1024x6144 .f32) (b : FVec Ideal S6144 .f32) (i : Fin 16) (n : Fin 6144) :
    addf (Host.dotGeneral dot_S16x1024_S1024x6144_S16x6144_1_0_0_1_n_n none (mulf x (Host.divf (broadcastInDim S16x1024 ![] bcast_S_S16x1024 (constant S_ .f32 0x3F800000#32)) (addf (broadcastInDim S16x1024 ![] bcast_S_S16x1024 (constant S_ .f32 0x3F800000#32)) (Host.exp (Host.negf x))))) w) (broadcastInDim S16x6144 ![0, 1] bcast_S1x6144_S16x6144_0_1 (broadcastInDim S1x6144 ![1] bcast_S6144_S1x6144_1 b)) (ix2 i n)
      = modulation (fun k => x (ix2 i k)) (fun k => w (ix2 k n)) (b (ix1 n)) := by
  unfold modulation sg
  pointwise

theorem frame_K8 : Cert.quiescent_Kernel8 (hKernel8 := Cert.Kernel8.Gen.facts) := fun m ρ _ => Cert.Kernel8.Gen.frame m ρ
theorem frame_I8 : Cert.quiescent_Kernel8Ideal (hKernel8Ideal := Cert.Kernel8Ideal.Gen.facts) := fun m ρ _ => Cert.Kernel8Ideal.Gen.frame m ρ
theorem frame_Ip8 : Cert.quiescent_Kernel8Ideal_pre_finite_conditions (hKernel8Ideal := Cert.Kernel8Ideal.Gen.facts)
    (hPre_finite_conditions := Cert.Pre_finite_conditions.Gen.facts) := fun m ρ _ => Cert.Kernel8Ideal.Gen.frame m ρ
theorem frame_R8 : Cert.quiescent_Reference8Ideal (hReference8Ideal := Cert.Reference8Ideal.Gen.facts) :=
  fun m ρ _ => (θ_run Cert.Reference8Ideal.defs _ _).mono (fun r p => ⟨fun c => (p c).2, sem_eq_zero_of_no_sems rfl r.2⟩)
    (Cert.Reference8Ideal.Value.run m ρ)
theorem frame_Rp8 : Cert.quiescent_Reference8Ideal_pre_finite_conditions (hReference8Ideal := Cert.Reference8Ideal.Gen.facts)
    (hPre_finite_conditions := Cert.Pre_finite_conditions.Gen.facts) := fun m ρ _ => frame_R8 m ρ trivial

theorem value8 : Cert.algebraic_Kernel8Ideal_Reference8Ideal_pre_finite_conditions (hKernel8Ideal := Cert.Kernel8Ideal.Gen.facts)
    (hReference8Ideal := Cert.Reference8Ideal.Gen.facts) (hPre_finite_conditions := Cert.Pre_finite_conditions.Gen.facts) := by
  intro m g m' g' hpre hag
  refine ⟨fun c => (Cert.Kernel8Ideal.Gen.dats m 0 c).arrAt 3 Cert.Kernel8Ideal.cfg0.N, Cert.Kernel8Ideal.Value.run_blocks m g,
    (θ_run Cert.Reference8Ideal.defs _ _).mono (fun r p c => ⟨(p c).1.trans (funext fun x => ?_), (p c).2⟩) (Cert.Reference8Ideal.Value.run m' g')⟩
  obtain ⟨i, n, rfl⟩ : ∃ (i : Fin 16) (n : Fin 6144), x = ix2 i n := ⟨x 0, x 1, eq_ix2 x⟩
  obtain ⟨h0, h1, h2⟩ := hag c
  obtain ⟨f0, f1⟩ := hpre c
  have v0 := Cert.Kernel8Ideal.Gen.V_main_arg0 m c
  have v1 := Cert.Kernel8Ideal.Gen.V_main_arg1 m c
  have v2 := Cert.Kernel8Ideal.Gen.V_main_arg2 m c
  refine Eq.trans ?_ (Cert.Kernel8Ideal.Hand.final3 m c (fun i k => v0 ▸ isReal_of_bounded _ _ f0 (ix2 i k)) (fun k n => v1 ▸ isReal_of_bounded _ _ f1 (ix2 k n)) i n).symm
  rw [h0, h1, h2, v0, v1, v2]
  exact ref8_at _ _ _ i n

end Cert.Proof

end
-- ==== Proof.CTrip.lean ====
/- One trip of the convolution's loop: the four groups of eight rows it stores, as sums over the taps. -/
module
public import proofs.«01_k».proof.Proof.Gen.Kernel9.Frame
public import proofs.«01_k».proof.Proof.Gen.Kernel9.Loops
public import proofs.«01_k».proof.Proof.OutF
public import Idealize.ShloMosaic.Lib.WritesUnit

@[expose] public section

set_option maxRecDepth 16384

noncomputable section

namespace Cert.Kernel9.Hand

open Cert.Kernel9 Cert.Kernel9.Gen
open Idealize.ShloMosaic Idealize.ShloMosaic.TcCoe

variable {F : FTy → Type} [FloatOps F]

/-- The row steps within a trip: eight rows at a time. -/
def steps : List (BitVec 32) := [0#32, 8#32, 16#32, 24#32, 32#32, 40#32, 48#32]

/-- The padded row of trip `k`'s first token, sixteen rows before it. -/
def base (k : Nat) : Nat := 32 * k + 32 * (k / 8)

theorem of_steps (P : BitVec 32 → Prop) (h : ∀ r : Fin 7, P (BitVec.ofNat 32 (8 * r.val))) : ∀ b ∈ steps, P b := by
  intro b hb
  simp only [steps, List.mem_cons, List.not_mem_nil, or_false] at hb
  rcases hb with rfl | rfl | rfl | rfl | rfl | rfl | rfl
  exacts [h 0, h 1, h 2, h 3, h 4, h 5, h 6]

theorem base_le (k : Fin k0_t1_loop.trips) : ∀ b ∈ steps, base k.val + b.toNat + 16 ≤ 576 :=
  of_steps _ ((by decide +kernel : ∀ (k : Fin k0_t1_loop.trips) (r : Fin 7), base k.val + (BitVec.ofNat 32 (8 * r.val)).toNat + 16 ≤ 576) k)

theorem off1_eq (k : Fin k0_t1_loop.trips) : ∀ b ∈ steps, k0_off1 k b = ![1, base k.val + b.toNat, 0] :=
  of_steps _ ((by decide +kernel : ∀ (k : Fin k0_t1_loop.trips) (r : Fin 7), k0_off1 k (BitVec.ofNat 32 (8 * r.val)) = ![1, base k.val + (BitVec.ofNat 32 (8 * r.val)).toNat, 0]) k)
theorem off2_eq (k : Fin k0_t1_loop.trips) : ∀ b ∈ steps, k0_off2 k b = ![2, base k.val + b.toNat, 0] :=
  of_steps _ ((by decide +kernel : ∀ (k : Fin k0_t1_loop.trips) (r : Fin 7), k0_off2 k (BitVec.ofNat 32 (8 * r.val)) = ![2, base k.val + (BitVec.ofNat 32 (8 * r.val)).toNat, 0]) k)
theorem off3_eq (k : Fin k0_t1_loop.trips) : ∀ b ∈ steps, k0_off3 k b = ![3, base k.val + b.toNat, 0] :=
  of_steps _ ((by decide +kernel : ∀ (k : Fin k0_t1_loop.trips) (r : Fin 7), k0_off3 k (BitVec.ofNat 32 (8 * r.val)) = ![3, base k.val + (BitVec.ofNat 32 (8 * r.val)).toNat, 0]) k)
theorem off4_eq (k : Fin k0_t1_loop.trips) : ∀ b ∈ steps, k0_off4 k b = ![4, base k.val + b.toNat, 0] :=
  of_steps _ ((by decide +kernel : ∀ (k : Fin k0_t1_loop.trips) (r : Fin 7), k0_off4 k (BitVec.ofNat 32 (8 * r.val)) = ![4, base k.val + (BitVec.ofNat 32 (8 * r.val)).toNat, 0]) k)
theorem off5_eq (k : Fin k0_t1_loop.trips) : ∀ b ∈ steps, k0_off5 k b = ![5, base k.val + b.toNat, 0] :=
  of_steps _ ((by decide +kernel : ∀ (k : Fin k0_t1_loop.trips) (r : Fin 7), k0_off5 k (BitVec.ofNat 32 (8 * r.val)) = ![5, base k.val + (BitVec.ofNat 32 (8 * r.val)).toNat, 0]) k)
theorem off6_eq (k : Fin k0_t1_loop.trips) : ∀ b ∈ steps, k0_off6 k b = ![6, base k.val + b.toNat, 0] :=
  of_steps _ ((by decide +kernel : ∀ (k : Fin k0_t1_loop.trips) (r : Fin 7), k0_off6 k (BitVec.ofNat 32 (8 * r.val)) = ![6, base k.val + (BitVec.ofNat 32 (8 * r.val)).toNat, 0]) k)
theorem off7_eq (k : Fin k0_t1_loop.trips) : ∀ b ∈ steps, k0_off7 k b = ![7, base k.val + b.toNat, 0] :=
  of_steps _ ((by decide +kernel : ∀ (k : Fin k0_t1_loop.trips) (r : Fin 7), k0_off7 k (BitVec.ofNat 32 (8 * r.val)) = ![7, base k.val + (BitVec.ofNat 32 (8 * r.val)).toNat, 0]) k)
theorem off8_eq (k : Fin k0_t1_loop.trips) : ∀ b ∈ steps, k0_off8 k b = ![0, base k.val + b.toNat, 0] :=
  of_steps _ ((by decide +kernel : ∀ (k : Fin k0_t1_loop.trips) (r : Fin 7), k0_off8 k (BitVec.ofNat 32 (8 * r.val)) = ![0, base k.val + (BitVec.ofNat 32 (8 * r.val)).toNat, 0]) k)
theorem off9_eq (k : Fin k0_t1_loop.trips) : ∀ b ∈ steps, k0_off9 k b = ![32 * k.val + b.toNat, 0] :=
  of_steps _ ((by decide +kernel : ∀ (k : Fin k0_t1_loop.trips) (r : Fin 7), k0_off9 k (BitVec.ofNat 32 (8 * r.val)) = ![32 * k.val + (BitVec.ofNat 32 (8 * r.val)).toNat, 0]) k)

/-- Eight rows of the padded sequence from row `p`. -/
def row (plane : Nat → Fin 512 → F .f32) (p : Nat) : Vec F S1x8x512 .f32 := fun i => plane (p + (i 1).val) (i 2)

/-- The weights of tap `t`, eight copies of the row. -/
def wrow (W : Nat → Fin 8 → Fin 512 → F .f32) (t : Nat) : Vec F S1x8x512 .f32 := fun i => W t (i 1) (i 2)

/-- The sum over the first `n` taps for the eight rows from padded row `p`, added one after another from zero. -/
def accT (W : Nat → Fin 8 → Fin 512 → F .f32) (plane : Nat → Fin 512 → F .f32) (p : Nat) : Nat → FVec F S8x512 .f32
  | 0 => broadcast S8x512 (Scalar.ofBits .f32 0x00000000#32 : F .f32)
  | n + 1 => addf (accT W plane p n) (mulf (shapeCast S8x512 (wrow W n) shapeCasts_S1x8x512_S8x512) (shapeCast S8x512 (row plane (p + n)) shapeCasts_S1x8x512_S8x512))

variable {sg : RefSig} {N M : Nat} {arg2 : Memref sg .tc .vmem S31x8x512 .f32} {arg7 : Memref sg .tc .vmem ⟨3, ![8, N, 512]⟩ .f32}
  {X2 : BufTy.Contents (Elt F) arg2.view.ty} {X7 : BufTy.Contents (Elt F) arg7.view.ty}
  {W : Nat → Fin 8 → Fin 512 → F .f32} {plane : Nat → Fin 512 → F .f32}

theorem rd7 (h7 : ∀ (i : Shape.Idx ⟨3, ![8, N, 512]⟩), (i 1).val < M → arg7.view.read (Elt F) X7 i = plane ((i 0).val + (i 1).val) (i 2))
    (off : BitVec 32 → Fin 3 → Nat) {r B : Nat} (ho : ∀ b ∈ steps, off b = ![r, B + b.toNat, 0]) (hl : ∀ b ∈ steps, B + b.toNat + 16 ≤ M)
    (b : BitVec 32) (hb : b ∈ steps) (inb : ∀ a, off b a + S1x8x512.size a ≤ (⟨3, ![8, N, 512]⟩ : Shape).size a) :
    View.readAt (Elt F) arg7.view (Rect.unit (s := ⟨3, ![8, N, 512]⟩) (off b) S1x8x512.size inb).toLoadRect X7 = row plane (B + (b.toNat + r)) := by
  have h := ho b hb
  have hn := hl b hb
  generalize off b = o at h inb
  subst h
  funext i
  have h0 : (i 0).val < 1 := (i 0).isLt
  have h1 : (i 1).val < 8 := (i 1).isLt
  rw [View.readAt_apply, h7]
  · unfold row
    congr 1
    · show (r + 1 * (i 0).val) + (B + b.toNat + 1 * (i 1).val) = B + (b.toNat + r) + (i 1).val
      omega
    · apply Fin.ext; show 0 + 1 * (i 2).val = (i 2).val; omega
  · show B + b.toNat + 1 * (i 1).val < M
    omega

theorem rd2 (h2 : ∀ (i : S31x8x512.Idx), arg2.view.read (Elt F) X2 i = W (i 0).val (i 1) (i 2))
    (t : Nat) (inb : ∀ a, (![t, 0, 0] : Fin 3 → Nat) a + S1x8x512.size a ≤ S31x8x512.size a) :
    View.readAt (Elt F) arg2.view (Rect.unit (s := S31x8x512) ![t, 0, 0] S1x8x512.size inb).toLoadRect X2 = wrow W t := by
  funext i
  have h0 : (i 0).val < 1 := (i 0).isLt
  rw [View.readAt_apply, h2]
  unfold wrow
  congr 1
  · show t + 1 * (i 0).val = t
    omega
  · apply Fin.ext; show 0 + 1 * (i 1).val = (i 1).val; omega
  · apply Fin.ext; show 0 + 1 * (i 2).val = (i 2).val; omega

section
variable {arg2 : Memref sig .tc .vmem S31x8x512 .f32} {arg7 : Memref sig .tc .vmem S8x584x512 .f32}
  {X2 : BufTy.Contents (Elt F) arg2.view.ty} {X7 : BufTy.Contents (Elt F) arg7.view.ty}

set_option maxHeartbeats 2000000 in
/-- What a trip stores in its four groups of eight rows. -/
theorem trip_pays (h2 : ∀ (i : S31x8x512.Idx), arg2.view.read (Elt F) X2 i = W (i 0).val (i 1) (i 2))
    (h7 : ∀ (i : S8x584x512.Idx), (i 1).val < 576 → arg7.view.read (Elt F) X7 i = plane ((i 0).val + (i 1).val) (i 2)) (k : Fin k0_t1_loop.trips) :
    k0_pay129 (trip_k0_t1.sl.r_120 arg2 arg7 X2 X7 k) = accT W plane (base k.val + 1) 31
    ∧ k0_pay130 (trip_k0_t1.sl.r_121 arg2 arg7 X2 X7 k) = accT W plane (base k.val + 9) 31
    ∧ k0_pay131 (trip_k0_t1.sl.r_122 arg2 arg7 X2 X7 k) = accT W plane (base k.val + 17) 31
    ∧ trip_k0_t1.sl.r_124 arg2 arg7 X2 X7 k = accT W plane (base k.val + 25) 31 := by
  refine ⟨?_, ?_, ?_, ?_⟩ <;>
  · simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, trip_k0_t1.sl.r_100, trip_k0_t1.sl.r_101, trip_k0_t1.sl.r_102, trip_k0_t1.sl.r_103, trip_k0_t1.sl.r_104, trip_k0_t1.sl.r_105, trip_k0_t1.sl.r_106, trip_k0_t1.sl.r_107, trip_k0_t1.sl.r_108, trip_k0_t1.sl.r_109, trip_k0_t1.sl.r_110, trip_k0_t1.sl.r_111, trip_k0_t1.sl.r_112, trip_k0_t1.sl.r_113, trip_k0_t1.sl.r_114, trip_k0_t1.sl.r_115, trip_k0_t1.sl.r_116, trip_k0_t1.sl.r_117, trip_k0_t1.sl.r_118, trip_k0_t1.sl.r_119, trip_k0_t1.sl.r_120, trip_k0_t1.sl.r_121, trip_k0_t1.sl.r_122, trip_k0_t1.sl.r_123, trip_k0_t1.sl.r_124, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay2, k0_pay3, k0_pay4]
    simp (disch := decide) only [rd7 h7 (k0_off1 k) (off1_eq k) (base_le k), rd7 h7 (k0_off2 k) (off2_eq k) (base_le k), rd7 h7 (k0_off3 k) (off3_eq k) (base_le k), rd7 h7 (k0_off4 k) (off4_eq k) (base_le k), rd7 h7 (k0_off5 k) (off5_eq k) (base_le k), rd7 h7 (k0_off6 k) (off6_eq k) (base_le k), rd7 h7 (k0_off7 k) (off7_eq k) (base_le k), rd7 h7 (k0_off8 k) (off8_eq k) (base_le k), rd2 h2]
    simp only [accT, shapeCast_self, Nat.add_assoc, Nat.reduceAdd, BitVec.reduceToNat, Nat.zero_add, Nat.add_zero]
end
-- ==== Proof.CAcc.lean ====
/- The convolution's sums over the taps at an index, and the loop's stores put together. -/
module
public import proofs.«01_k».proof.Proof.CTrip

@[expose] public section

set_option maxRecDepth 16384

noncomputable section

namespace Cert.Kernel9.Hand

open Cert.Kernel9 Cert.Kernel9.Gen
open Idealize.ShloMosaic Idealize.ShloMosaic.TcCoe

variable {F : FTy → Type} [FloatOps F]

/-- The sum over the first `n` taps, added one after another from zero. -/
def tapS (w x : Nat → F .f32) : Nat → F .f32
  | 0 => Scalar.ofBits .f32 0x00000000#32
  | n + 1 => FloatOps.addf (tapS w x n) (FloatOps.mulf (w n) (x n))

theorem accT_at (W : Nat → Fin 8 → Fin 512 → F .f32) (plane : Nat → Fin 512 → F .f32) (p n : Nat) (s : Fin 8) (c : Fin 512) :
    accT W plane p n (ix2 s c) = tapS (fun t => W t s c) (fun t => plane (p + t + s.val) c) n := by
  induction n with
  | zero => rfl
  | succ n ih =>
    unfold accT tapS
    rw [← ih]
    pointwise [wrow, row]

/-- The block's sums over the taps, where row `y`'s padded row is `g y`. -/
def accV (g : Nat → Nat) (W : Nat → Fin 8 → Fin 512 → F .f32) (plane : Nat → Fin 512 → F .f32) : Vec F S512x512 .f32 := fun y =>
  tapS (fun t => W t ⟨(y 0).val % 8, Nat.mod_lt _ (by decide)⟩ (y 1)) (fun t => plane (g (y 0).val + 1 + t) (y 1)) 31

section
variable {g : Nat → Nat} {B k : Nat} (hg : ∀ r, r < 32 → g (32 * k + r) = B + r)
include hg

theorem piece_at (W : Nat → Fin 8 → Fin 512 → F .f32) (plane : Nat → Fin 512 → F .f32) (j : Nat) (hj : j < 4) (y : S512x512.Idx)
    (h : 32 * k + 8 * j ≤ (y 0).val) (h' : (y 0).val - (32 * k + 8 * j) < 8) (p : Nat) (hp : p = B + (8 * j + 1)) :
    accT W plane p 31 (ix2 ⟨(y 0).val - (32 * k + 8 * j), h'⟩ (y 1)) = accV g W plane y := by
  subst hp
  refine (accT_at W plane _ 31 _ _).trans ?_
  have e : (⟨(y 0).val - (32 * k + 8 * j), h'⟩ : Fin 8) = ⟨(y 0).val % 8, Nat.mod_lt _ (by decide)⟩ := Fin.ext (by show _ - _ = _ % 8; omega)
  have e1 : g (y 0).val = B + ((y 0).val - 32 * k) := by
    rw [← hg _ (by omega)]
    exact congrArg g (by omega)
  have e2 : ∀ t, B + (8 * j + 1) + t + ((y 0).val - (32 * k + 8 * j)) = g (y 0).val + 1 + t := fun t => by omega
  unfold accV
  exact congrFun (congr (congrArg tapS (funext fun t => congrArg (fun s => W t s (y 1)) e)) (funext fun t => congrArg (fun n => plane n (y 1)) (e2 t))) 31

theorem piece_step {sg : RefSig} (arg8 : Memref sg .tc .vmem S512x512 .f32) (f : BufTy.Contents (Elt F) arg8.view.ty) (W : Nat → Fin 8 → Fin 512 → F .f32) (plane : Nat → Fin 512 → F .f32)
    (j : Nat) (hj : j < 4) (off : Fin 2 → Nat) (inb : ∀ a, off a + S8x512.size a ≤ S512x512.size a) (w : Vec F S8x512 .f32) (L : List (View.Piece (Elt F) S512x512 .f32))
    (y : S512x512.Idx) (hoff : off = ![32 * k + 8 * j, 0]) (hw : w = accT W plane (B + (8 * j + 1)) 31) (hy : (y 0).val < 32 * k + 8 * j + 8)
    (hL : (y 0).val < 32 * k + 8 * j → arg8.view.read (Elt F) (arg8.view.writes (Elt F) f L) y = accV g W plane y) :
    arg8.view.read (Elt F) (arg8.view.writes (Elt F) f (⟨Rect.unit (s := S512x512) off S8x512.size inb, w⟩ :: L)) y = accV g W plane y := by
  by_cases a : 32 * k + 8 * j ≤ (y 0).val
  · rw [View.read_writes_cons_rows_of_mem arg8.view f (d := ![512, 512]) (size := S8x512.size) inb w L y (ix2 (⟨(y 0).val - (32 * k + 8 * j), by omega⟩ : Fin 8) (y 1)) hoff (by show (y 0).val = 32 * k + 8 * j + ((y 0).val - (32 * k + 8 * j)); omega) rfl, hw]
    exact piece_at hg W plane j hj y a (by omega) _ rfl
  · rw [View.read_writes_cons_rows_of_not_mem arg8.view f (d := ![512, 512]) (size := S8x512.size) (W := 8) inb w L y hoff rfl (by omega)]
    exact hL (by omega)

/-- A trip's four stores over those before it. -/
theorem trip_step {sg : RefSig} (arg8 : Memref sg .tc .vmem S512x512 .f32) (f : BufTy.Contents (Elt F) arg8.view.ty) (W : Nat → Fin 8 → Fin 512 → F .f32) (plane : Nat → Fin 512 → F .f32)
    (off : BitVec 32 → Fin 2 → Nat) (ho : ∀ b ∈ steps, off b = ![32 * k + b.toNat, 0])
    (i0 : ∀ a, off 0#32 a + S8x512.size a ≤ S512x512.size a) (i1 : ∀ a, off 8#32 a + S8x512.size a ≤ S512x512.size a)
    (i2 : ∀ a, off 16#32 a + S8x512.size a ≤ S512x512.size a) (i3 : ∀ a, off 24#32 a + S8x512.size a ≤ S512x512.size a)
    (w0 w1 w2 w3 : Vec F S8x512 .f32) (h : w0 = accT W plane (B + 1) 31 ∧ w1 = accT W plane (B + 9) 31 ∧ w2 = accT W plane (B + 17) 31 ∧ w3 = accT W plane (B + 25) 31)
    (L : List (View.Piece (Elt F) S512x512 .f32)) (y : S512x512.Idx) (hy : (y 0).val < 32 * (k + 1))
    (hL : (y 0).val < 32 * k → arg8.view.read (Elt F) (arg8.view.writes (Elt F) f L) y = accV g W plane y) :
    arg8.view.read (Elt F) (arg8.view.writes (Elt F) f (⟨Rect.unit (s := S512x512) (off 24#32) S8x512.size i3, w3⟩ :: ⟨Rect.unit (s := S512x512) (off 16#32) S8x512.size i2, w2⟩
      :: ⟨Rect.unit (s := S512x512) (off 8#32) S8x512.size i1, w1⟩ :: ⟨Rect.unit (s := S512x512) (off 0#32) S8x512.size i0, w0⟩ :: L)) y = accV g W plane y :=
  piece_step hg arg8 f W plane 3 (by decide) _ _ _ _ y (ho 24#32 (by decide)) h.2.2.2 (by omega) fun l3 =>
  piece_step hg arg8 f W plane 2 (by decide) _ _ _ _ y (ho 16#32 (by decide)) h.2.2.1 l3 fun l2 =>
  piece_step hg arg8 f W plane 1 (by decide) _ _ _ _ y (ho 8#32 (by decide)) h.2.1 l2 fun l1 =>
  piece_step hg arg8 f W plane 0 (by decide) _ _ _ _ y (ho 0#32 (by decide)) h.1 l1 fun l0 => hL l0
end

/-- The stores of the trips before the `k`-th: the block's first `32 k` rows. -/
theorem trips_all {sg : RefSig} (arg8 : Memref sg .tc .vmem S512x512 .f32) (f : BufTy.Contents (Elt F) arg8.view.ty) (W : Nat → Fin 8 → Fin 512 → F .f32) (plane : Nat → Fin 512 → F .f32)
    {g : Nat → Nat} {B : Nat → Nat} (hg : ∀ k r, r < 32 → g (32 * k + r) = B k + r) (pb : Nat → List (View.Piece (Elt F) S512x512 .f32)) (N : Nat)
    (hpb : ∀ k, k < N → ∃ (off : BitVec 32 → Fin 2 → Nat) (_ : ∀ b ∈ steps, off b = ![32 * k + b.toNat, 0]) (i0 : ∀ a, off 0#32 a + S8x512.size a ≤ S512x512.size a)
      (i1 : ∀ a, off 8#32 a + S8x512.size a ≤ S512x512.size a) (i2 : ∀ a, off 16#32 a + S8x512.size a ≤ S512x512.size a) (i3 : ∀ a, off 24#32 a + S8x512.size a ≤ S512x512.size a)
      (w0 w1 w2 w3 : Vec F S8x512 .f32) (_ : w0 = accT W plane (B k + 1) 31 ∧ w1 = accT W plane (B k + 9) 31 ∧ w2 = accT W plane (B k + 17) 31 ∧ w3 = accT W plane (B k + 25) 31),
      pb (k + 1) = ⟨Rect.unit (s := S512x512) (off 24#32) S8x512.size i3, w3⟩ :: ⟨Rect.unit (s := S512x512) (off 16#32) S8x512.size i2, w2⟩
        :: ⟨Rect.unit (s := S512x512) (off 8#32) S8x512.size i1, w1⟩ :: ⟨Rect.unit (s := S512x512) (off 0#32) S8x512.size i0, w0⟩ :: pb k) :
    ∀ k, k ≤ N → ∀ y : S512x512.Idx, (y 0).val < 32 * k → arg8.view.read (Elt F) (arg8.view.writes (Elt F) f (pb k)) y = accV g W plane y
  | 0, _, y, hy => absurd hy (by omega)
  | k + 1, hk, y, hy => by
    obtain ⟨off, ho, i0, i1, i2, i3, w0, w1, w2, w3, h, e⟩ := hpb k hk
    rw [e]
    exact trip_step (hg k) arg8 f W plane off ho i0 i1 i2 i3 w0 w1 w2 w3 h (pb k) y hy fun l =>
      trips_all arg8 f W plane hg pb N hpb k (by omega) y l

/-- The padded row of row `y`: thirty-two rows more for each segment of 256 before it. -/
def pos (y : Nat) : Nat := y + 32 * (y / 256)

section
variable (𝒱 : Variants) (c : Dev nD) (bd : Option 𝒱.V) (i : grid0.Coords) (arg1 : Memref sig .tc .vmem S512x512 .f32) (harg1 : arg1.IsWhole) (arg2 : Memref sig .tc .vmem S31x8x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S8x584x512 .f32) (harg7 : arg7.IsWhole) (arg8 : Memref sig .tc .vmem S512x512 .f32) (harg8 : arg8.IsWhole)
  (v24 : FVec F S576x512 .f32) (X2 : BufTy.Contents (Elt F) arg2.view.ty) (X7 : BufTy.Contents (Elt F) arg7.view.ty)

theorem tripL_eq (k : Fin k0_t1_loop.trips) :
    tripL_k0_t1 (F := F) 𝒱 c bd i arg1 harg1 arg2 harg2 arg3 harg3 arg4 harg4 arg5 harg5 arg6 harg6 arg7 harg7 arg8 harg8 v24 X2 X7 k
      = [⟨Rect.unit (k0_off9 k 24#32) S8x512.size (k0_off9_inb k 3), trip_k0_t1.sl.r_124 arg2 arg7 X2 X7 k⟩,
         ⟨Rect.unit (k0_off9 k 16#32) S8x512.size (k0_off9_inb k 2), k0_pay131 (trip_k0_t1.sl.r_122 arg2 arg7 X2 X7 k)⟩,
         ⟨Rect.unit (k0_off9 k 8#32) S8x512.size (k0_off9_inb k 1), k0_pay130 (trip_k0_t1.sl.r_121 arg2 arg7 X2 X7 k)⟩,
         ⟨Rect.unit (k0_off9 k 0#32) S8x512.size (k0_off9_inb k 0), k0_pay129 (trip_k0_t1.sl.r_120 arg2 arg7 X2 X7 k)⟩] := by
  unfold tripL_k0_t1 trip_k0_t1
  rfl

variable {W : Nat → Fin 8 → Fin 512 → F .f32} {plane : Nat → Fin 512 → F .f32}
  (h2 : ∀ (i : S31x8x512.Idx), arg2.view.read (Elt F) X2 i = W (i 0).val (i 1) (i 2))
  (h7 : ∀ (i : S8x584x512.Idx), (i 1).val < 576 → arg7.view.read (Elt F) X7 i = plane ((i 0).val + (i 1).val) (i 2))
include h2 h7

theorem acc_all (f : BufTy.Contents (Elt F) arg8.view.ty) (n : Nat) (hn : n = k0_t1_loop.trips) :
    arg8.view.read (Elt F) (arg8.view.writes (Elt F) f (pb_k0_t1 (F := F) 𝒱 c bd i arg1 harg1 arg2 harg2 arg3 harg3 arg4 harg4 arg5 harg5 arg6 harg6 arg7 harg7 arg8 harg8 v24 X2 X7 n)) = accV pos W plane := by
  funext y
  have h0 : (y 0).val < 512 := (y 0).isLt
  have e : k0_t1_loop.trips = 16 := by decide +kernel
  exact trips_all arg8 f W plane (B := base) (g := pos) (fun k r hr => by unfold pos base; omega) (pb_k0_t1 (F := F) 𝒱 c bd i arg1 harg1 arg2 harg2 arg3 harg3 arg4 harg4 arg5 harg5 arg6 harg6 arg7 harg7 arg8 harg8 v24 X2 X7) k0_t1_loop.trips
    (fun k hk => ⟨k0_off9 ⟨k, hk⟩, off9_eq ⟨k, hk⟩, k0_off9_inb ⟨k, hk⟩ 0, k0_off9_inb ⟨k, hk⟩ 1, k0_off9_inb ⟨k, hk⟩ 2, k0_off9_inb ⟨k, hk⟩ 3, _, _, _, _, trip_pays h2 h7 ⟨k, hk⟩,
      (pb_k0_t1_succ (F := F) 𝒱 c bd i arg1 harg1 arg2 harg2 arg3 harg3 arg4 harg4 arg5 harg5 arg6 harg6 arg7 harg7 arg8 harg8 v24 X2 X7 ⟨k, hk⟩).trans (by rw [tripL_eq]; rfl)⟩) n (by omega) y (by omega)
end
-- ==== Proof.CPad.lean ====
/- The eight shifted copies of the padded rows, as the convolution's body lays them out. -/
module
public import proofs.«01_k».proof.Proof.CTrip

@[expose] public section

set_option maxRecDepth 16384

noncomputable section

namespace Cert.Kernel9.Hand

open Cert.Kernel9 Cert.Kernel9.Gen
open Idealize.ShloMosaic Idealize.ShloMosaic.TcCoe

variable {F : FTy → Type} [FloatOps F]

/-- The padded block: two sequences of 256 tokens, sixteen zero rows before and after each. -/
def plane (x : Vec F S512x512 .f32) (n : Nat) (c : Fin 512) : F .f32 :=
  if h : 16 ≤ n ∧ n < 272 then x (ix2 ⟨n - 16, by omega⟩ c)
  else if h : 304 ≤ n ∧ n < 560 then x (ix2 ⟨n - 48, by omega⟩ c) else Scalar.ofBits .f32 0x00000000#32

variable {sg : RefSig} {N M : Nat} {arg7 : Memref sg .tc .vmem ⟨3, ![8, N, 512]⟩ .f32} {p : Nat → Fin 512 → F .f32}

/-- The first `n` shifted copies are in place after the writes `L`. -/
def Pad (M : Nat) (arg7 : Memref sg .tc .vmem ⟨3, ![8, N, 512]⟩ .f32) (p : Nat → Fin 512 → F .f32) (L : List (View.Piece (Elt F) ⟨3, ![8, N, 512]⟩ .f32)) (n : Nat) : Prop :=
  ∀ (f : BufTy.Contents (Elt F) arg7.view.ty) (i : Shape.Idx ⟨3, ![8, N, 512]⟩), (i 0).val < n → ((i 0).val = 0 ∨ (i 1).val < M) →
    arg7.view.read (Elt F) (arg7.view.writes (Elt F) f L) i = p ((i 0).val + (i 1).val) (i 2)

theorem Pad.step {L : List (View.Piece (Elt F) ⟨3, ![8, N, 512]⟩ .f32)} {n : Nat} (h : Pad M arg7 p L n) (h0 : 0 < n) (h8 : n < 8)
    (inb : ∀ a, (![n, 0, 0] : Fin 3 → Nat) a + (![1, M, 512] : Fin 3 → Nat) a ≤ (⟨3, ![8, N, 512]⟩ : Shape).size a)
    (inb' : ∀ a, (![0, n, 0] : Fin 3 → Nat) a + (![1, M, 512] : Fin 3 → Nat) a ≤ (⟨3, ![8, N, 512]⟩ : Shape).size a) (w : Vec F ⟨3, ![1, M, 512]⟩ .f32)
    (hw : w = arg7.view.readCov L (Rect.unit (s := ⟨3, ![8, N, 512]⟩) ![0, n, 0] (![1, M, 512] : Fin 3 → Nat) inb').toLoadRect) :
    Pad M arg7 p (⟨Rect.unit (s := ⟨3, ![8, N, 512]⟩) ![n, 0, 0] (![1, M, 512] : Fin 3 → Nat) inb, w⟩ :: L) (n + 1) := by
  intro f i hi hi'
  by_cases e : (i 0).val = n
  · have h1 : (i 1).val < M := by omega
    rw [View.read_writes_cons_unit_of_mem arg7.view f inb w L i (ix3 (0 : Fin 1) (⟨(i 1).val, h1⟩ : Fin M) (i 2)) rfl (by
      intro a
      match a with
      | 0 => exact e
      | 1 => exact (Nat.zero_add _).symm
      | 2 => exact (Nat.zero_add _).symm)]
    rw [hw]
    show arg7.view.read (Elt F) (arg7.view.writes (Elt F) arg7.view.junk L) _ = _
    rw [h arg7.view.junk _ (by show 0 + 1 * 0 < n; omega) (Or.inl rfl)]
    congr 1
    · show 0 + 1 * 0 + (n + 1 * (i 1).val) = (i 0).val + (i 1).val
      omega
    · apply Fin.ext; show 0 + 1 * (i 2).val = (i 2).val; omega
  · rw [View.read_writes_cons_unit_of_not_mem arg7.view f inb w L i rfl 0 (by left; show (i 0).val < n; omega)]
    exact h f i (by omega) hi'

theorem Pad.base {arg7 : Memref sig .tc .vmem S8x584x512 .f32} (x : Vec F S512x512 .f32) :
    Pad 576 arg7 (plane x) [⟨Rect.unit (s := S8x584x512) ![0, 304, 0] S1x256x512.size inb_S8x584x512_S1x256x512_0_304_0, k0_pay135 x⟩,
      ⟨Rect.unit (s := S8x584x512) ![0, 16, 0] S1x256x512.size inb_S8x584x512_S1x256x512_0_16_0, k0_pay134 x⟩,
      ⟨Rect.unit (s := S8x584x512) ![0, 0, 0] S1x584x512.size inb_S8x584x512_S1x584x512_0_0_0, k0_pay133⟩] 1 := by
  intro f i hi _
  have e0 : (i 0).val = 0 := by omega
  have e1 : (i 1).val < 584 := (i 1).isLt
  rw [e0, Nat.zero_add]
  unfold plane
  by_cases a : 304 ≤ (i 1).val ∧ (i 1).val < 560
  · rw [dif_neg (by omega), dif_pos a]
    rw [View.read_writes_cons_unit_of_mem arg7.view f (size := S1x256x512.size) inb_S8x584x512_S1x256x512_0_304_0 _ _ i (ix3 (0 : Fin 1) (⟨(i 1).val - 304, by omega⟩ : Fin 256) (i 2)) rfl (by
      intro a
      match a with
      | 0 => exact e0
      | 1 => show (i 1).val = 304 + ((i 1).val - 304); omega
      | 2 => exact (Nat.zero_add _).symm)]
    pointwise [k0_pay135]
    congr 2
    apply Fin.ext; show 256 + ((i 1).val - 304) = (i 1).val - 48; omega
  rw [View.read_writes_cons_unit_of_not_mem arg7.view f (size := S1x256x512.size) inb_S8x584x512_S1x256x512_0_304_0 _ _ i rfl 1 (by show (i 1).val < 304 ∨ 304 + 256 ≤ (i 1).val; omega)]
  by_cases b : 16 ≤ (i 1).val ∧ (i 1).val < 272
  · rw [dif_pos b]
    rw [View.read_writes_cons_unit_of_mem arg7.view f (size := S1x256x512.size) inb_S8x584x512_S1x256x512_0_16_0 _ _ i (ix3 (0 : Fin 1) (⟨(i 1).val - 16, by omega⟩ : Fin 256) (i 2)) rfl (by
      intro a
      match a with
      | 0 => exact e0
      | 1 => show (i 1).val = 16 + ((i 1).val - 16); omega
      | 2 => exact (Nat.zero_add _).symm)]
    pointwise [k0_pay134]
  rw [View.read_writes_cons_unit_of_not_mem arg7.view f (size := S1x256x512.size) inb_S8x584x512_S1x256x512_0_16_0 _ _ i rfl 1 (by show (i 1).val < 16 ∨ 16 + 256 ≤ (i 1).val; omega), dif_neg b, dif_neg a]
  rw [View.read_writes_cons_unit_of_mem arg7.view f (size := S1x584x512.size) inb_S8x584x512_S1x584x512_0_0_0 _ _ i (ix3 (0 : Fin 1) (⟨(i 1).val, e1⟩ : Fin 584) (i 2)) rfl (by
    intro a
    match a with
    | 0 => exact e0
    | 1 => exact (Nat.zero_add _).symm
    | 2 => exact (Nat.zero_add _).symm)]
  pointwise [k0_pay133]

theorem pays_id (v : Vec F S1x576x512 .f32) : k0_pay136 v = v ∧ k0_pay137 v = v ∧ k0_pay139 (k0_pay138 v) = v ∧ k0_pay140 v = v ∧ k0_pay141 v = v ∧ k0_pay142 v = v ∧ k0_pay143 v = v := by
  simp only [k0_pay136, k0_pay137, k0_pay138, k0_pay139, k0_pay140, k0_pay141, k0_pay142, k0_pay143, shapeCast_shapeCast, and_self]
-- ==== Proof.CFrame9.lean ====
/- The contexts' convolution: its body's result and the run of the whole call. -/
module
public import proofs.«01_k».proof.Proof.CAcc
public import proofs.«01_k».proof.Proof.CPad
public import Idealize.ShloMosaic.Lib.VecWindow
public import Idealize.ShloMosaic.Lib.Claim

@[expose] public section

set_option maxRecDepth 16384

noncomputable section

namespace Cert.Kernel9.Hand

open Cert.Kernel9 Cert.Kernel9.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weights' block by tap, copy and channel. -/
def wts (x : Vec F S31x8x512 .f32) (t : Nat) (s : Fin 8) (c : Fin 512) : F .f32 :=
  if h : t < 31 then x (ix3 ⟨t, h⟩ s c) else Scalar.ofBits .f32 0x00000000#32

/-- What the body leaves in the result's block. -/
def out (x0 : Vec F S512x512 .f32) (x1 : Vec F S31x8x512 .f32) (x2 x3 x4 : Vec F S1x512 .f32) : Vec F S512x512 .f32 :=
  k0_pay1 (accV pos (wts x1) (plane x0)) x2 x3 x4

theorem wts_of (x : Vec F S31x8x512 .f32) (i : S31x8x512.Idx) : x i = wts x (i 0).val (i 1) (i 2) := by
  unfold wts
  have h : (i 0).val < 31 := (i 0).isLt
  rw [dif_pos h]
  exact congrArg x (eq_ix3 i)

set_option maxHeartbeats 2000000 in
theorem sound_kernel (c : Dev nD) (E : Set ℕ) (i : grid0.Coords) (arg1 : Memref sig .tc .vmem S512x512 .f32) (harg1 : arg1.IsWhole) (arg2 : Memref sig .tc .vmem S31x8x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S8x584x512 .f32) (harg7 : arg7.IsWhole) (arg8 : Memref sig .tc .vmem S512x512 .f32) (harg8 : arg8.IsWhole)
    (x0 : Vec F S512x512 .f32) (x1 : Vec F S31x8x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)
          ∗ (∃ d, owns (c : Thread nD τ) arg7 fullShare d) ∗ (∃ d, owns (c : Thread nD τ) arg8 fullShare d)) -∗ K ⟨⟩))
      ⊢ wp frame (wpE (defs₀ (F := F)) Variants.none c none) E (cc0_conv_module i arg1 harg1 arg2 harg2 arg3 harg3 arg4 harg4 arg5 harg5 arg6 harg6 arg7 harg7 arg8 harg8) K := by
  simp only [cc0_conv_module_eq_skeleton]; unfold cc0_conv_module_skel
  simp only [k0_part26_eq_skeleton, k0_part27_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_full arg6.view f5 _ _ _).trans ?_
    unfold out
    have q0 : Pad 576 arg7 (plane (arg1.view.read (Elt F) f0)) (sound_kernel.sl.H6_3 c arg1 f0) 1 := by
      unfold sound_kernel.sl.H6_3
      have e : View.readAt (Elt F) arg1.view (Rect.unit (s := S512x512) ![0, 0] S512x512.size inb_S512x512_S512x512_0_0).toLoadRect f0 = arg1.view.read (Elt F) f0 := View.readAt_full arg1.view f0 _
      rw [e]
      exact Pad.base _
    have q1 := q0.step (by decide) (by decide) inb_S8x584x512_S1x576x512_1_0_0 inb_S8x584x512_S1x576x512_0_1_0 (k0_pay136 (sound_kernel.sl.v13 c arg1 arg7 f0)) (pays_id _).1
    have q2 := q1.step (by decide) (by decide) inb_S8x584x512_S1x576x512_2_0_0 inb_S8x584x512_S1x576x512_0_2_0 (k0_pay137 (sound_kernel.sl.v18 c arg1 arg7 f0)) (pays_id _).2.1
    have q3 := q2.step (by decide) (by decide) inb_S8x584x512_S1x576x512_3_0_0 inb_S8x584x512_S1x576x512_0_3_0 (k0_pay139 (sound_kernel.sl.r c arg1 arg7 f0)) (pays_id _).2.2.1
    have q4 := q3.step (by decide) (by decide) inb_S8x584x512_S1x576x512_4_0_0 inb_S8x584x512_S1x576x512_0_4_0 (k0_pay140 (sound_kernel.sl.v28 c arg1 arg7 f0)) (pays_id _).2.2.2.1
    have q5 := q4.step (by decide) (by decide) inb_S8x584x512_S1x576x512_5_0_0 inb_S8x584x512_S1x576x512_0_5_0 (k0_pay141 (sound_kernel.sl.v33 c arg1 arg7 f0)) (pays_id _).2.2.2.2.1
    have q6 := q5.step (by decide) (by decide) inb_S8x584x512_S1x576x512_6_0_0 inb_S8x584x512_S1x576x512_0_6_0 (k0_pay142 (sound_kernel.sl.v38 c arg1 arg7 f0)) (pays_id _).2.2.2.2.2.1
    have q7 := q6.step (by decide) (by decide) inb_S8x584x512_S1x576x512_7_0_0 inb_S8x584x512_S1x576x512_0_7_0 (k0_pay143 (sound_kernel.sl.v43 c arg1 arg7 f0)) (pays_id _).2.2.2.2.2.2
    have ea : sound_kernel.sl.v49 c i arg1 harg1 arg2 harg2 arg3 harg3 arg4 harg4 arg5 harg5 arg6 harg6 arg7 harg7 arg8 harg8 f0 f1 f6 f7
        = accV pos (wts (arg2.view.read (Elt F) f1)) (plane (arg1.view.read (Elt F) f0)) := by
      unfold sound_kernel.sl.v49
      refine (View.readAt_full arg8.view _ _).trans ?_
      exact acc_all _ _ _ _ _ _ _ _ _ _ _ _ _ _ _ _ _ _ _ _ _ _ _ (wts_of _) (fun i hi => q7 f6 i (by have := (i 0).isLt; exact this) (Or.inr hi)) f7 _ rfl
    rw [ea]
    congr 1
    · exact View.readAt_full arg3.view f2 _
    · exact View.readAt_full arg4.view f3 _
    · exact View.readAt_full arg5.view f4 _
  isplitl [H6]
  · iexists _, _; isplitr
    swap; · iexact H6
    ipureintro; rfl
  iexists _, _; isplitr
  swap; · iexact H7
  ipureintro; rfl

variable (m : (ℓ : Loc nD τ sig) → Buf (Elt F) ℓ) (ρ : Dev nD → PrngReg)

/-- The run's data: the arrays as found, each input block as it was, and the result's block computed from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out (iblk m c 0 t) (iblk m c 1 t) (iblk m c 2 t) (iblk m c 3 t) (iblk m c 4 t) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [fun d => before0_0_of m (dats m 0 c) (A_eq m c 0) (after0_0 m c) t d, fun d => before0_1_of m (dats m 0 c) (A_eq m c 1) (after0_1 m c) t d, fun d => before0_2_of m (dats m 0 c) (A_eq m c 2) (after0_2 m c) t d, fun d => before0_3_of m (dats m 0 c) (A_eq m c 3) (after0_3 m c) t d, fun d => before0_4_of m (dats m 0 c) (A_eq m c 4) (after0_4 m c) t d]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨⟨%g0, S0⟩, ⟨%g1, S1⟩⟩, Hg⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ (iblk m c 0 t) (iblk m c 1 t) (iblk m c 2 t) (iblk m c 3 t) (iblk m c 4 t) _)
  simp only [owns_whole]
  isplitl [H0]; · iexact H0
  isplitl [H1]; · iexact H1
  isplitl [H2]; · iexact H2
  isplitl [H3]; · iexact H3
  isplitl [H4]; · iexact H4
  isplitl [H5]; · iexists _; iexact H5
  isplitl [S0]; · iexists _; iexact S0
  isplitl [S1]; · iexists _; iexact S1
  iintro ⟨H0, H1, H2, H3, H4, H5, S0, S1⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel9.Hand
-- ==== Proof.Conv9.lean ====
/- The convolution over each context's segment: what the kernel's array holds at an index, the reference, and the claims. -/
module

public import proofs.«01_k».proof.Proof.CFrame9
public import proofs.«01_k».proof.Proof.OutF
public import proofs.«01_k».proof.Proof.Gen.Kernel9Ideal.Frame
public import proofs.«01_k».proof.Proof.Gen.Reference9Ideal
public import proofs.«01_k».proof.Proof.Gen.Reference9Ideal.Run
public import Idealize.ShloMosaic.Lib.Pipeline.Covers
public import Idealize.ShloMosaic.Lib.Pipeline.Value

@[expose] public section

noncomputable section

namespace Cert.Proof

open Idealize.ShloMosaic Cert.Kernel9.Hand

/-- One entry of the row `y` with the bias `b` added, normed about its mean, weighted by `g`, shifted by `s`, and times its logistic function. -/
def normSilu (y b g s : Fin 512 → EReal) (j : Fin 512) : EReal :=
  let uc := fun k => (y k + b k) - Ideal.div (∑ l, (y l + b l)) (Ideal.ofBits .f32 0x44000000#32)
  let z := uc j * Ideal.rsqrt (Ideal.div (∑ l, uc l * uc l) (Ideal.ofBits .f32 0x44000000#32) + Ideal.ofBits .f32 0x3727C5AC#32) * g j + s j
  z * sg z

/-- The weights of a channel by tap. -/
def tapW (w : Fin 31 → EReal) (t : Nat) : EReal := if h : t < 31 then w ⟨t, h⟩ else 0

/-- What tap `t` meets at row `n`: the row fifteen before it and `t` after that, nothing outside the segment of `S` rows. -/
def tapX (S : Nat) (x : Fin 8192 → EReal) (n : Fin 8192) (t : Nat) : EReal :=
  if h : (15 ≤ n.val % S + t ∧ n.val % S + t < S + 15) ∧ S * (n.val / S) + (n.val % S + t - 15) < 8192 then x ⟨S * (n.val / S) + (n.val % S + t - 15), h.2⟩ else 0

/-- The convolution of a channel at row `n`, over segments of `S` rows. -/
def conv (S : Nat) (w : Fin 31 → EReal) (x : Fin 8192 → EReal) (n : Fin 8192) : EReal := tapS (F := Ideal) (tapW w) (tapX S x n) 31

theorem tapS_congr {w w' x x' : Nat → Ideal .f32} (N : Nat) (hw : ∀ t, t < N → w t = w' t) (hx : ∀ t, t < N → x t = x' t) : tapS w x N = tapS w' x' N := by
  induction N with
  | zero => rfl
  | succ n ih =>
    unfold tapS
    rw [ih (fun t h => hw t (by omega)) (fun t h => hx t (by omega)), hw n (by omega), hx n (by omega)]

section
open Cert.Kernel9 Cert.Kernel9.Gen

set_option maxRecDepth 16384 in
theorem norm9_at (v : FVec Ideal S512x512 .f32) (b g s : FVec Ideal S1x512 .f32) (i j : Fin 512) :
    k0_pay1 (F := Ideal) v b g s (ix2 i j) = normSilu (fun k => v (ix2 i k)) (fun k => b (ix2 (0 : Fin 1) k)) (fun k => g (ix2 (0 : Fin 1) k)) (fun k => s (ix2 (0 : Fin 1) k)) j := by
  unfold normSilu sg
  pointwise [k0_pay1]
  simp only [zero_sub]

end

section
open Cert.Reference9Ideal Cert.Reference9Ideal.Gen

section
variable {B S T : Nat} (hT : T = S + 30)
include hT

/-- What tap `t` meets at row `r` of the padded segment `b`. -/
def padX (P : FVec Ideal ⟨3, ![B, T, 512]⟩ .f32) (b : Fin B) (r : Fin S) (c : Fin 512) (t : Nat) : EReal :=
  if h : t < 31 then P (ix3 b (⟨t + r.val, by omega⟩ : Fin T) c) else 0

theorem term_at (P : FVec Ideal ⟨3, ![B, T, 512]⟩ .f32) (w : FVec Ideal S31x512 .f32) (b : Fin B) (r : Fin S) (c : Fin 512) (t : Nat) (ht : t < 31) (h1 h2 h3 h4 h5) :
    mulf (extractStridedSlice ⟨3, ![B, S, 512]⟩ ![0, t, 0] P h1) (broadcastInDim ⟨3, ![B, S, 512]⟩ ![0, 1, 2] h2 (broadcastInDim S1x1x512 ![2] h3 (shapeCast S512 (extractStridedSlice S1x512 ![t, 0] w h4) h5))) (ix3 b r c)
      = FloatOps.mulf (F := Ideal) (φ := .f32) (tapW (fun t => w (ix2 t c)) t) (padX hT P b r c t) := by
  unfold tapW padX
  rw [dif_pos ht, dif_pos ht]
  refine Eq.trans ?_ (mul_comm _ _)
  pointwise
  refine congrArg₂ (· * ·) (congrArg P (funext fun a => Fin.ext ?_)) rfl
  match a with
  | 0 => exact Nat.zero_add _
  | 1 => rfl
  | 2 => exact Nat.zero_add _

theorem padded_at (y : FVec Ideal ⟨3, ![B, S, 512]⟩ .f32) (hz h2) (b : Fin B) (r : Fin S) (c : Fin 512) (t : Nat) (ht : t < 31) :
    padX hT (concatenate ⟨3, ![B, T, 512]⟩ 1 [⟨⟨3, ![B, 15, 512]⟩, broadcastInDim ⟨3, ![B, 15, 512]⟩ ![] hz (constant S_ .f32 0x00000000#32 : FVec Ideal S_ .f32)⟩, ⟨⟨3, ![B, S, 512]⟩, y⟩, ⟨⟨3, ![B, 15, 512]⟩, broadcastInDim ⟨3, ![B, 15, 512]⟩ ![] hz (constant S_ .f32 0x00000000#32 : FVec Ideal S_ .f32)⟩] h2 : FVec Ideal ⟨3, ![B, T, 512]⟩ .f32) b r c t
      = if h : 15 ≤ r.val + t ∧ r.val + t < S + 15 then y (ix3 b ⟨r.val + t - 15, by omega⟩ c) else 0 := by
  unfold padX
  rw [dif_pos ht]
  split
  · next h =>
    pointwise
    rw [dif_neg (by omega), dif_pos (by omega)]
    refine congrArg y (funext fun a => Fin.ext ?_)
    match a with
    | 0 => rfl
    | 1 => show t + r.val - 15 = r.val + t - 15; omega
    | 2 => rfl
  · next h =>
    pointwise
    split
    · rfl
    · rw [dif_neg (by omega)]

end

/-- Thirty-one terms added up over the padded segments: the convolution at row `r` of segment `b`. -/
theorem conv_of {B S : Nat} (w : Fin 31 → EReal) (x : Fin 8192 → EReal) (y : Fin B → Fin S → EReal) (n : Fin 8192) (b : Fin B) (r : Fin S)
    (hb : b.val = n.val / S) (hr : r.val = n.val % S) (hy : ∀ k (h : k < S) (h' : S * (n.val / S) + k < 8192), y b ⟨k, h⟩ = x ⟨S * (n.val / S) + k, h'⟩) (hn : ∀ k, k < S → S * (n.val / S) + k < 8192)
    (f : Nat → EReal) (hf : ∀ t, t < 31 → f t = if h : 15 ≤ r.val + t ∧ r.val + t < S + 15 then y b ⟨r.val + t - 15, by omega⟩ else 0) :
    tapS (F := Ideal) (tapW w) f 31 = conv S w x n := by
  unfold conv
  refine tapS_congr 31 (fun t _ => rfl) fun t ht => (hf t ht).trans ?_
  unfold tapX
  by_cases h : 15 ≤ r.val + t ∧ r.val + t < S + 15
  · have e := hn (r.val + t - 15) (by omega)
    rw [dif_pos h, dif_pos (by rw [← hr]; exact ⟨h, e⟩)]
    refine (hy _ _ e).trans (congrArg x (Fin.ext ?_))
    show _ + (_ + _ - _) = _ + (_ + _ - _)
    rw [hr]
  · rw [dif_neg h, dif_neg (by rw [← hr]; exact fun a => h a.1)]

theorem flat_at (y : FVec Ideal S32x256x512 .f32) (h) (n : Fin 8192) (c : Fin 512) :
    shapeCast S8192x512 y h (ix2 n c) = y (ix3 (⟨n.val / 256, by omega⟩ : Fin 32) (⟨n.val % 256, by omega⟩ : Fin 256) c) := by
  pointwise

theorem seg_at (x : FVec Ideal S8192x512 .f32) (h) (n : Fin 8192) (k : Nat) (hk : k < 256) (h' : 256 * (n.val / 256) + k < 8192) (c : Fin 512) :
    shapeCast S32x256x512 x h (ix3 (⟨n.val / 256, by omega⟩ : Fin 32) ⟨k, hk⟩ c) = x (ix2 ⟨256 * (n.val / 256) + k, h'⟩ c) := by
  pointwise
  exact congrArg (fun k : Fin 8192 => x (ix2 k c)) (Fin.ext (by show n.val / 256 * 256 + k = 256 * (n.val / 256) + k; omega))

theorem norm9r_at (u : FVec Ideal S8192x512 .f32) (y b : Fin 512 → EReal) (g s : FVec Ideal S1x512 .f32) (n : Fin 8192) (j : Fin 512)
    (hu : ∀ k, u (ix2 n k) = y k + b k) (uc z : FVec Ideal S8192x512 .f32)
    (huc : uc = subf u (broadcastInDim S8192x512 ![0, 1] bcast_S8192x1_S8192x512_0_1 (Host.divf (broadcastInDim S8192x1 ![0] bcast_S8192_S8192x1_0 (Host.reduceAdd u (constant S_ .f32 0x00000000#32) reducesTo_S8192x512_S8192_d1 h_S_)) (broadcastInDim S8192x1 ![] bcast_S_S8192x1 (constant S_ .f32 0x44000000#32)))))
    (hz : z = addf (mulf (mulf uc (broadcastInDim S8192x512 ![0, 1] bcast_S8192x1_S8192x512_0_1 (Host.rsqrt (addf (Host.divf (broadcastInDim S8192x1 ![0] bcast_S8192_S8192x1_0 (Host.reduceAdd (mulf uc uc) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x3727C5AC#32)))))) (broadcastInDim S8192x512 ![0, 1] bcast_S1x512_S8192x512_0_1 g)) (broadcastInDim S8192x512 ![0, 1] bcast_S1x512_S8192x512_0_1 s)) :
    mulf z (Host.divf (broadcastInDim S8192x512 ![] bcast_S_S8192x512 (constant S_ .f32 0x3F800000#32)) (addf (broadcastInDim S8192x512 ![] bcast_S_S8192x512 (constant S_ .f32 0x3F800000#32)) (Host.exp (Host.negf z)))) (ix2 n j)
      = normSilu y b (fun k => g (ix2 (0 : Fin 1) k)) (fun k => s (ix2 (0 : Fin 1) k)) j := by
  have e : ∀ k, uc (ix2 n k) = (y k + b k) - Ideal.div (∑ l, (y l + b l)) (Ideal.ofBits .f32 0x44000000#32) := fun k => by
    rw [huc]
    pointwise
    simp only [hu]
  have e2 : z (ix2 n j) = uc (ix2 n j) * Ideal.rsqrt (Ideal.div (∑ l, uc (ix2 n l) * uc (ix2 n l)) (Ideal.ofBits .f32 0x44000000#32) + Ideal.ofBits .f32 0x3727C5AC#32) * g (ix2 (0 : Fin 1) j) + s (ix2 (0 : Fin 1) j) := by
    rw [hz]
    pointwise
  unfold normSilu sg
  simp only [← e, ← e2]
  pointwise

/-- The reference's sums over the taps with the bias added, at an index. -/
theorem sums_at (V0 : Valuation τ sig (Elt Ideal)) (n : Fin 8192) (c : Fin 512) :
    (Cert.Reference9Ideal.Value.res_main_v223 V0 : FVec Ideal S8192x512 .f32) (ix2 n c)
      = conv 256 (fun t => (V0 (Proc.devRef .tc main_arg1) : FVec Ideal S31x512 .f32) (ix2 t c)) (fun n => (V0 (Proc.devRef .tc main_arg0) : FVec Ideal S8192x512 .f32) (ix2 n c)) n
        + (V0 (Proc.devRef .tc main_arg2) : FVec Ideal S1x512 .f32) (ix2 (0 : Fin 1) c) := by
  unfold Cert.Reference9Ideal.Value.res_main_v223
  show _ + _ = _ + _
  refine congrArg₂ (· + ·) ?_ (by pointwise)
  refine (flat_at _ _ n c).trans ?_
  refine Eq.trans ?_ (conv_of _ _ (fun b r => (shapeCast S32x256x512 (V0 (Proc.devRef .tc main_arg0) : FVec Ideal S8192x512 .f32) shapeCasts_S8192x512_S32x256x512 : FVec Ideal S32x256x512 .f32) (ix3 b r c)) n (⟨n.val / 256, by omega⟩ : Fin 32) (⟨n.val % 256, by omega⟩ : Fin 256) rfl rfl
    (fun k h h' => seg_at _ _ n k h h' c) (fun k h => by omega) (padX rfl (Cert.Reference9Ideal.Value.res_main_v2 V0 : FVec Ideal S32x286x512 .f32) _ _ c) fun t ht => padded_at rfl _ _ _ _ _ c t ht)
  unfold Cert.Reference9Ideal.Value.res_main_v157 Cert.Reference9Ideal.Value.res_main_v80
  generalize (Cert.Reference9Ideal.Value.res_main_v2 V0 : FVec Ideal S32x286x512 .f32) = P
  generalize (V0 (Proc.devRef .tc main_arg1) : FVec Ideal S31x512 .f32) = w
  iterate 31 refine congrArg₂ (FloatOps.addf (F := Ideal) (φ := .f32)) ?_ (term_at rfl P w _ _ c _ (by decide) _ _ _ _ _)
  rfl

end

end Cert.Proof

namespace Cert.Kernel9.Hand

open Cert.Kernel9 Cert.Kernel9.Gen
open Idealize.ShloMosaic Idealize.SL.Sem Idealize.ShloMosaic.TcCoe
open Idealize.ShloMosaic.Pipeline (Dat Cfg Window)
open Cert.Proof

variable (m : (ℓ : Loc nD τ sig) → Buf (Elt Ideal) ℓ) (c : Dev nD)

theorem tf0_eq : ∀ t : Fin grid0.N, cc0_transform_0 (grid0.coords t) = ![t.val, 0] := by decide +kernel
theorem tf1_eq : ∀ (t : Fin grid0.N) (a : Fin 3), cc0_transform_1 (grid0.coords t) a = 0 := by decide +kernel
theorem tf2_eq : ∀ (t : Fin grid0.N) (a : Fin 2), cc0_transform_2 (grid0.coords t) a = 0 := by decide +kernel
theorem tf3_eq : ∀ (t : Fin grid0.N) (a : Fin 2), cc0_transform_3 (grid0.coords t) a = 0 := by decide +kernel
theorem tf4_eq : ∀ (t : Fin grid0.N) (a : Fin 2), cc0_transform_4 (grid0.coords t) a = 0 := by decide +kernel
theorem tf5_eq : ∀ t : Fin grid0.N, cc0_transform_5 (grid0.coords t) = ![t.val, 0] := by decide +kernel

theorem copies_of (x : FVec Ideal S31x512 .f32) (h1 h2) (k : Fin 31) (s : Fin 8) (j : Fin 512) :
    broadcastInDim S31x8x512 ![0, 1, 2] h1 (broadcastInDim S31x1x512 ![0, 2] h2 x) (ix3 k s j) = x (ix2 k j) := by
  pointwise

/-- The weights as the kernel reads them: the argument in eight copies. -/
theorem copies_at (k : Fin 31) (s : Fin 8) (j : Fin 512) :
    (V m c main_v1 : S31x8x512.Idx → EReal) (ix3 k s j) = (V m c main_arg1 : S31x512.Idx → EReal) (ix2 k j) := by
  have e : (V m c main_v1 : S31x8x512.Idx → EReal) = broadcastInDim S31x8x512 ![0, 1, 2] bcast_S31x1x512_S31x8x512_0_1_2 (broadcastInDim S31x1x512 ![0, 2] bcast_S31x512_S31x1x512_0_2 (V m c main_arg1 : S31x512.Idx → EReal)) := by
    rw [V_main_arg1]
    rfl
  rw [e]
  exact copies_of _ _ _ k s j

theorem at_zero {q b x : Nat} (h : q = 0) : q * b + x = x := by rw [h, Nat.zero_mul, Nat.zero_add]

theorem at_rows (i j : Fin 512) (n : Fin 8192) (t : Nat) (hn : n.val = 512 * t + i.val) (q : Nat) (a : Fin 2) (hq : q = (![t, 0] : Fin 2 → Nat) a) :
    q * S512x512.size a + (ix2 i j a).val = (ix2 n j a).val := by
  subst hq
  match a with
  | 0 => show t * 512 + i.val = n.val; omega
  | 1 => show 0 * 512 + j.val = j.val; omega

section Blocks
variable (t : Fin cfg0.N)

theorem blk0_at (i j : Fin 512) (n : Fin 8192) (hn : n.val = 512 * t.val + i.val) :
    (iblk m c 0 t : S512x512.Idx → EReal) (ix2 i j) = (V m c main_arg0 : S8192x512.Idx → EReal) (ix2 n j) := by
  unfold iblk
  exact congrArg (V m c main_arg0 : S8192x512.Idx → EReal) (funext fun a => Fin.ext ((Window.rect_emb_val (cfg0.win 0) t (ix2 i j) a).trans (at_rows _ _ _ _ hn _ a (congrFun (tf0_eq t) a))))
theorem blk1_at (k : Fin 31) (s : Fin 8) (j : Fin 512) :
    (iblk m c 1 t : S31x8x512.Idx → EReal) (ix3 k s j) = (V m c main_v1 : S31x8x512.Idx → EReal) (ix3 k s j) := by
  unfold iblk
  exact congrArg (V m c main_v1 : S31x8x512.Idx → EReal) (funext fun a => Fin.ext ((Window.rect_emb_val (cfg0.win 1) t (ix3 k s j) a).trans (at_zero (tf1_eq t a))))
theorem blk2_at (j : Fin 512) : (iblk m c 2 t : S1x512.Idx → EReal) (ix2 (0 : Fin 1) j) = (V m c main_arg2 : S1x512.Idx → EReal) (ix2 (0 : Fin 1) j) := by
  unfold iblk
  exact congrArg (V m c main_arg2 : S1x512.Idx → EReal) (funext fun a => Fin.ext ((Window.rect_emb_val (cfg0.win 2) t (ix2 (0 : Fin 1) j) a).trans (at_zero (tf2_eq t a))))
theorem blk3_at (j : Fin 512) : (iblk m c 3 t : S1x512.Idx → EReal) (ix2 (0 : Fin 1) j) = (V m c main_arg3 : S1x512.Idx → EReal) (ix2 (0 : Fin 1) j) := by
  unfold iblk
  exact congrArg (V m c main_arg3 : S1x512.Idx → EReal) (funext fun a => Fin.ext ((Window.rect_emb_val (cfg0.win 3) t (ix2 (0 : Fin 1) j) a).trans (at_zero (tf3_eq t a))))
theorem blk4_at (j : Fin 512) : (iblk m c 4 t : S1x512.Idx → EReal) (ix2 (0 : Fin 1) j) = (V m c main_arg4 : S1x512.Idx → EReal) (ix2 (0 : Fin 1) j) := by
  unfold iblk
  exact congrArg (V m c main_arg4 : S1x512.Idx → EReal) (funext fun a => Fin.ext ((Window.rect_emb_val (cfg0.win 4) t (ix2 (0 : Fin 1) j) a).trans (at_zero (tf4_eq t a))))

theorem emb5 (i j : Fin 512) (n : Fin 8192) (hn : n.val = 512 * t.val + i.val) : ((((cfg0.win 5).blk t).view.emb (ix2 i j)) : S8192x512.Idx) = ix2 n j :=
  funext fun a => Fin.ext ((Window.rect_emb_val (cfg0.win 5) t (ix2 i j) a).trans (at_rows _ _ _ _ hn _ a (congrFun (tf5_eq t) a)))

end Blocks

theorem covers5 : (cfg0.win 5).Covers := by
  refine Window.covers_of_index_surj _ rfl (show ∀ a : Fin 2, 0 < S512x512.size a by decide) fun β => ?_
  have b0 : (β (0 : Fin 2)).val < 16 := Nat.lt_of_lt_of_eq (β (0 : Fin 2)).isLt (show (8192 + 512 - 1) / 512 = 16 from rfl)
  have b1 : (β (1 : Fin 2)).val < 1 := Nat.lt_of_lt_of_eq (β (1 : Fin 2)).isLt (show (512 + 512 - 1) / 512 = 1 from rfl)
  refine ⟨(⟨(β (0 : Fin 2)).val, b0⟩ : Fin 16), fun a => ?_⟩
  rw [show (cfg0.win 5).index (⟨(β (0 : Fin 2)).val, b0⟩ : Fin 16) a = _ from congrFun (tf5_eq _) a]
  match a with
  | ⟨0, _⟩ => rfl
  | ⟨1, _⟩ => show 0 = (β (1 : Fin 2)).val; omega

/-- The block's sums over the taps at grid point `t`: the convolution at row `512 t + i`. -/
theorem acc_at (t : Fin cfg0.N) (i j : Fin 512) (n : Fin 8192) (hn : n.val = 512 * t.val + i.val) :
    accV pos (wts (iblk m c 1 t)) (plane (iblk m c 0 t)) (ix2 i j)
      = conv 256 (fun k => (V m c main_arg1 : S31x512.Idx → EReal) (ix2 k j)) (fun n => (V m c main_arg0 : S8192x512.Idx → EReal) (ix2 n j)) n := by
  refine tapS_congr 31 (fun k hk => ?_) (fun k hk => ?_)
  · unfold wts tapW
    rw [dif_pos hk, dif_pos hk]
    exact (blk1_at m c t _ _ j).trans (copies_at m c _ _ j)
  · show plane (iblk m c 0 t) (i.val + 32 * (i.val / 256) + 1 + k) j = _
    have hi := i.isLt
    unfold plane tapX
    by_cases h : (15 ≤ n.val % 256 + k ∧ n.val % 256 + k < 256 + 15) ∧ 256 * (n.val / 256) + (n.val % 256 + k - 15) < 8192
    · rw [dif_pos h]
      by_cases h' : i.val < 256
      · rw [dif_pos (by omega)]
        exact blk0_at m c t _ j _ (by show 256 * (n.val / 256) + (n.val % 256 + k - 15) = 512 * t.val + (i.val + 32 * (i.val / 256) + 1 + k - 16); omega)
      · rw [dif_neg (by omega), dif_pos (by omega)]
        exact blk0_at m c t _ j _ (by show 256 * (n.val / 256) + (n.val % 256 + k - 15) = 512 * t.val + (i.val + 32 * (i.val / 256) + 1 + k - 48); omega)
    · rw [dif_neg h, dif_neg (by omega), dif_neg (by omega)]
      exact Ideal.ofBits_zero .f32

/-- The result: row `n`'s convolution, normed and gated, at column `j`. -/
theorem final5 (n : Fin 8192) (j : Fin 512) :
    ((dats m 0 c).arrAt 5 cfg0.N : S8192x512.Idx → EReal) (ix2 n j)
      = normSilu (fun k => conv 256 (fun t => (V m c main_arg1 : S31x512.Idx → EReal) (ix2 t k)) (fun n => (V m c main_arg0 : S8192x512.Idx → EReal) (ix2 n k)) n)
        (fun k => (V m c main_arg2 : S1x512.Idx → EReal) (ix2 (0 : Fin 1) k)) (fun k => (V m c main_arg3 : S1x512.Idx → EReal) (ix2 (0 : Fin 1) k))
        (fun k => (V m c main_arg4 : S1x512.Idx → EReal) (ix2 (0 : Fin 1) k)) j := by
  refine (dats m 0 c).arrAt_forall_of_covers 5 (fun x v => x = (ix2 n j : S8192x512.Idx) → v = _) covers5 (fun t hf y => ?_) (ix2 n j)
    (Memref.isWhole_whole _) rfl
  intro hy
  obtain ⟨i, j', rfl⟩ : ∃ i j' : Fin 512, (y : S512x512.Idx) = ix2 i j' := ⟨y 0, y 1, eq_ix2 y⟩
  have ht : t.val < 16 := t.isLt
  rw [emb5 t i j' ⟨512 * t.val + i.val, by omega⟩ rfl] at hy
  have h0 : 512 * t.val + i.val = n.val := congrArg (fun x : S8192x512.Idx => (x 0).val) hy
  have h1 : j'.val = j.val := congrArg (fun x : S8192x512.Idx => (x 1).val) hy
  obtain rfl : j' = j := Fin.ext h1
  show (dats m 0 c).after 5 t (ix2 i j') = _
  rw [after0_5]
  unfold out
  refine (norm9_at _ _ _ _ i j').trans ?_
  exact congrFun (congr (congr (congr (congrArg normSilu (funext fun k => acc_at m c t i k n h0.symm)) (funext fun k => blk2_at m c t k))
    (funext fun k => blk3_at m c t k)) (funext fun k => blk4_at m c t k)) j'

variable (ρ : Dev nD → PrngReg)

/-- The run with the result named, the arguments unchanged. -/
theorem run_named : θ_run defs (onTc (τ := τ) (main (F := Ideal))) ⟨m, fun _ => 0, ρ⟩ fun r => ∀ c : Dev nD,
      r.2.mem ((c.tc : Thread nD τ).loc main_v2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run_and ((θ_run defs _ _).mono (fun r h c => (h c).1 5) (run_main m ρ)) (frame m ρ)) |> fun h =>
    (θ_run defs _ _).mono (fun r h c => ⟨h.1 c, h.2.1 c⟩) h

end Cert.Kernel9.Hand

namespace Cert.Kernel9Ideal.Hand

open Idealize.ShloMosaic Idealize.ShloMosaic.TcCoe

variable {F : FTy → Type} [FloatOps F]

set_option maxRecDepth 65536 in
theorem defs₀_same : Cert.Kernel9Ideal.defs₀ (F := F) = Cert.Kernel9.defs₀ (F := F) := by
  unfold Cert.Kernel9Ideal.defs₀ Cert.Kernel9.defs₀
  congr 1
  funext l x
  match l, x with
  | 0, (t, s) => rfl
  | ⟨_ + 1, h⟩, _ => exact absurd h (Nat.not_lt.2 (Nat.le_add_left _ _))

set_option maxRecDepth 65536 in
theorem defs_same : Cert.Kernel9Ideal.defs (F := F) = Cert.Kernel9.defs (F := F) := by
  unfold Cert.Kernel9Ideal.defs Cert.Kernel9.defs
  rw [defs₀_same]
  rfl

end Cert.Kernel9Ideal.Hand

namespace Cert.Proof

open Idealize.ShloMosaic Idealize.SL.Sem Idealize.ShloMosaic.TcCoe

theorem frame_K9 : Cert.quiescent_Kernel9 (hKernel9 := Cert.Kernel9.Gen.facts) := fun m ρ _ => Cert.Kernel9.Hand.frame m ρ

theorem frame_I9 : Cert.quiescent_Kernel9Ideal (hKernel9Ideal := Cert.Kernel9Ideal.Gen.facts) := fun m ρ _ => by
  rw [Cert.Kernel9Ideal.Hand.defs_same]
  exact Cert.Kernel9.Hand.frame m ρ

theorem frame_R9 : Cert.quiescent_Reference9Ideal (hReference9Ideal := Cert.Reference9Ideal.Gen.facts) :=
  fun m ρ _ => (θ_run Cert.Reference9Ideal.defs _ _).mono (fun r p => ⟨fun c => (p c).2, sem_eq_zero_of_no_sems rfl r.2⟩)
    (Cert.Reference9Ideal.Value.run m ρ)

theorem value9 : Cert.algebraic_Kernel9Ideal_Reference9Ideal (hKernel9Ideal := Cert.Kernel9Ideal.Gen.facts)
    (hReference9Ideal := Cert.Reference9Ideal.Gen.facts) := by
  intro m g m' g' hpre hag
  refine ⟨fun c => (Cert.Kernel9.Hand.dats (F := Ideal) m 0 c).arrAt 5 Cert.Kernel9.cfg0.N, by rw [Cert.Kernel9Ideal.Hand.defs_same]; exact Cert.Kernel9.Hand.run_named m g,
    (θ_run Cert.Reference9Ideal.defs _ _).mono (fun r p c => ⟨(p c).1.trans (funext fun x => ?_), (p c).2⟩) (Cert.Reference9Ideal.Value.run m' g')⟩
  obtain ⟨n, j, rfl⟩ : ∃ (n : Fin 8192) (j : Fin 512), x = ix2 n j := ⟨x 0, x 1, eq_ix2 x⟩
  obtain ⟨h0, h1, h2, h3, h4⟩ := hag c
  refine Eq.trans ?_ (Cert.Kernel9.Hand.final5 m c n j).symm
  refine (norm9r_at _ _ _ _ _ n j (fun k => sums_at _ n k) _ _ rfl rfl).trans ?_
  rw [Cert.Kernel9.Gen.V_main_arg0, Cert.Kernel9.Gen.V_main_arg1, Cert.Kernel9.Gen.V_main_arg2, Cert.Kernel9.Gen.V_main_arg3, Cert.Kernel9.Gen.V_main_arg4]
  have e0 : StableHlo.launchContents m' c (Proc.devRef .tc Cert.Reference9Ideal.main_arg0) = _ := h0
  have e1 : StableHlo.launchContents m' c (Proc.devRef .tc Cert.Reference9Ideal.main_arg1) = _ := h1
  have e2 : StableHlo.launchContents m' c (Proc.devRef .tc Cert.Reference9Ideal.main_arg2) = _ := h2
  have e3 : StableHlo.launchContents m' c (Proc.devRef .tc Cert.Reference9Ideal.main_arg3) = _ := h3
  have e4 : StableHlo.launchContents m' c (Proc.devRef .tc Cert.Reference9Ideal.main_arg4) = _ := h4
  rw [e0, e1, e2, e3, e4]

end Cert.Proof

end
-- ==== Proof.CTrip10.lean ====
/- One trip of the latents' convolution's loop, and its stores put together. -/
module
public import proofs.«01_k».proof.Proof.Gen.Kernel10.Frame
public import proofs.«01_k».proof.Proof.Gen.Kernel10.Loops
public import proofs.«01_k».proof.Proof.CAcc

@[expose] public section

set_option maxRecDepth 16384

noncomputable section

namespace Cert.Kernel10.Hand

open Cert.Kernel10 Cert.Kernel10.Gen
open Idealize.ShloMosaic Idealize.ShloMosaic.TcCoe
open Cert.Kernel9.Hand (steps of_steps accT rd7 rd2 accV trips_all)

variable {F : FTy → Type} [FloatOps F]

/-- The padded row of row `y`: thirty-two rows more for each segment of 64 before it. -/
def pos (y : Nat) : Nat := y + 32 * (y / 64)

theorem pos_add (k r : Nat) (h : r < 32) : pos (32 * k + r) = pos (32 * k) + r := by unfold pos; omega

/-- Where trip `k`'s loads and stores are. -/
theorem offs (k : Fin k0_t1_loop.trips) : ∀ b ∈ steps, pos (32 * k.val) + b.toNat + 16 ≤ 768 ∧ k0_off9 k b = ![32 * k.val + b.toNat, 0]
    ∧ k0_off8 k b = ![0, pos (32 * k.val) + b.toNat, 0] ∧ k0_off1 k b = ![1, pos (32 * k.val) + b.toNat, 0] ∧ k0_off2 k b = ![2, pos (32 * k.val) + b.toNat, 0]
    ∧ k0_off3 k b = ![3, pos (32 * k.val) + b.toNat, 0] ∧ k0_off4 k b = ![4, pos (32 * k.val) + b.toNat, 0] ∧ k0_off5 k b = ![5, pos (32 * k.val) + b.toNat, 0]
    ∧ k0_off6 k b = ![6, pos (32 * k.val) + b.toNat, 0] ∧ k0_off7 k b = ![7, pos (32 * k.val) + b.toNat, 0] :=
  of_steps _ fun r => by
    revert k r
    decide +kernel

variable {arg2 : Memref sig .tc .vmem S31x8x512 .f32} {arg7 : Memref sig .tc .vmem S8x776x512 .f32}
  {X2 : BufTy.Contents (Elt F) arg2.view.ty} {X7 : BufTy.Contents (Elt F) arg7.view.ty}
  {W : Nat → Fin 8 → Fin 512 → F .f32} {plane : Nat → Fin 512 → F .f32}

set_option maxHeartbeats 2000000 in
/-- What a trip stores in its four groups of eight rows. -/
theorem trip_pays (h2 : ∀ (i : S31x8x512.Idx), arg2.view.read (Elt F) X2 i = W (i 0).val (i 1) (i 2))
    (h7 : ∀ (i : S8x776x512.Idx), (i 1).val < 768 → arg7.view.read (Elt F) X7 i = plane ((i 0).val + (i 1).val) (i 2)) (k : Fin k0_t1_loop.trips) :
    k0_pay129 (trip_k0_t1.sl.r_120 arg2 arg7 X2 X7 k) = accT W plane (pos (32 * k.val) + 1) 31
    ∧ k0_pay130 (trip_k0_t1.sl.r_121 arg2 arg7 X2 X7 k) = accT W plane (pos (32 * k.val) + 9) 31
    ∧ k0_pay131 (trip_k0_t1.sl.r_122 arg2 arg7 X2 X7 k) = accT W plane (pos (32 * k.val) + 17) 31
    ∧ trip_k0_t1.sl.r_124 arg2 arg7 X2 X7 k = accT W plane (pos (32 * k.val) + 25) 31 := by
  have hl := fun b hb => (offs k b hb).1
  have o8 := fun b hb => (offs k b hb).2.2.1
  have o1 := fun b hb => (offs k b hb).2.2.2.1
  have o2 := fun b hb => (offs k b hb).2.2.2.2.1
  have o3 := fun b hb => (offs k b hb).2.2.2.2.2.1
  have o4 := fun b hb => (offs k b hb).2.2.2.2.2.2.1
  have o5 := fun b hb => (offs k b hb).2.2.2.2.2.2.2.1
  have o6 := fun b hb => (offs k b hb).2.2.2.2.2.2.2.2.1
  have o7 := fun b hb => (offs k b hb).2.2.2.2.2.2.2.2.2
  refine ⟨?_, ?_, ?_, ?_⟩ <;>
  · simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, trip_k0_t1.sl.r_100, trip_k0_t1.sl.r_101, trip_k0_t1.sl.r_102, trip_k0_t1.sl.r_103, trip_k0_t1.sl.r_104, trip_k0_t1.sl.r_105, trip_k0_t1.sl.r_106, trip_k0_t1.sl.r_107, trip_k0_t1.sl.r_108, trip_k0_t1.sl.r_109, trip_k0_t1.sl.r_110, trip_k0_t1.sl.r_111, trip_k0_t1.sl.r_112, trip_k0_t1.sl.r_113, trip_k0_t1.sl.r_114, trip_k0_t1.sl.r_115, trip_k0_t1.sl.r_116, trip_k0_t1.sl.r_117, trip_k0_t1.sl.r_118, trip_k0_t1.sl.r_119, trip_k0_t1.sl.r_120, trip_k0_t1.sl.r_121, trip_k0_t1.sl.r_122, trip_k0_t1.sl.r_123, trip_k0_t1.sl.r_124, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay2, k0_pay3, k0_pay4]
    simp (disch := decide) only [rd7 h7 (k0_off1 k) o1 hl, rd7 h7 (k0_off2 k) o2 hl, rd7 h7 (k0_off3 k) o3 hl, rd7 h7 (k0_off4 k) o4 hl, rd7 h7 (k0_off5 k) o5 hl, rd7 h7 (k0_off6 k) o6 hl, rd7 h7 (k0_off7 k) o7 hl, rd7 h7 (k0_off8 k) o8 hl, rd2 h2]
    simp only [accT, shapeCast_self, Nat.add_assoc, Nat.reduceAdd, BitVec.reduceToNat, Nat.zero_add, Nat.add_zero]

section
variable (𝒱 : Variants) (c : Dev nD) (bd : Option 𝒱.V) (i : grid0.Coords) (arg1 : Memref sig .tc .vmem S512x512 .f32) (harg1 : arg1.IsWhole) (arg2 : Memref sig .tc .vmem S31x8x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S8x776x512 .f32) (harg7 : arg7.IsWhole) (arg8 : Memref sig .tc .vmem S512x512 .f32) (harg8 : arg8.IsWhole)
  (v53 : FVec F S768x512 .f32) (X2 : BufTy.Contents (Elt F) arg2.view.ty) (X7 : BufTy.Contents (Elt F) arg7.view.ty)

theorem tripL_eq (k : Fin k0_t1_loop.trips) :
    tripL_k0_t1 (F := F) 𝒱 c bd i arg1 harg1 arg2 harg2 arg3 harg3 arg4 harg4 arg5 harg5 arg6 harg6 arg7 harg7 arg8 harg8 v53 X2 X7 k
      = [⟨Rect.unit (k0_off9 k 24#32) S8x512.size (k0_off9_inb k 3), trip_k0_t1.sl.r_124 arg2 arg7 X2 X7 k⟩,
         ⟨Rect.unit (k0_off9 k 16#32) S8x512.size (k0_off9_inb k 2), k0_pay131 (trip_k0_t1.sl.r_122 arg2 arg7 X2 X7 k)⟩,
         ⟨Rect.unit (k0_off9 k 8#32) S8x512.size (k0_off9_inb k 1), k0_pay130 (trip_k0_t1.sl.r_121 arg2 arg7 X2 X7 k)⟩,
         ⟨Rect.unit (k0_off9 k 0#32) S8x512.size (k0_off9_inb k 0), k0_pay129 (trip_k0_t1.sl.r_120 arg2 arg7 X2 X7 k)⟩] := by
  unfold tripL_k0_t1 trip_k0_t1
  rfl

variable {W : Nat → Fin 8 → Fin 512 → F .f32} {plane : Nat → Fin 512 → F .f32}
  (h2 : ∀ (i : S31x8x512.Idx), arg2.view.read (Elt F) X2 i = W (i 0).val (i 1) (i 2))
  (h7 : ∀ (i : S8x776x512.Idx), (i 1).val < 768 → arg7.view.read (Elt F) X7 i = plane ((i 0).val + (i 1).val) (i 2))
include h2 h7

theorem acc_all (f : BufTy.Contents (Elt F) arg8.view.ty) (n : Nat) (hn : n = k0_t1_loop.trips) :
    arg8.view.read (Elt F) (arg8.view.writes (Elt F) f (pb_k0_t1 (F := F) 𝒱 c bd i arg1 harg1 arg2 harg2 arg3 harg3 arg4 harg4 arg5 harg5 arg6 harg6 arg7 harg7 arg8 harg8 v53 X2 X7 n)) = accV pos W plane := by
  funext y
  have h0 : (y 0).val < 512 := (y 0).isLt
  have e : k0_t1_loop.trips = 16 := by decide +kernel
  exact trips_all arg8 f W plane (B := fun k => pos (32 * k)) pos_add (pb_k0_t1 (F := F) 𝒱 c bd i arg1 harg1 arg2 harg2 arg3 harg3 arg4 harg4 arg5 harg5 arg6 harg6 arg7 harg7 arg8 harg8 v53 X2 X7) k0_t1_loop.trips
    (fun k hk => ⟨k0_off9 ⟨k, hk⟩, fun b hb => (offs ⟨k, hk⟩ b hb).2.1, k0_off9_inb ⟨k, hk⟩ 0, k0_off9_inb ⟨k, hk⟩ 1, k0_off9_inb ⟨k, hk⟩ 2, k0_off9_inb ⟨k, hk⟩ 3, _, _, _, _, trip_pays h2 h7 ⟨k, hk⟩,
      (pb_k0_t1_succ (F := F) 𝒱 c bd i arg1 harg1 arg2 harg2 arg3 harg3 arg4 harg4 arg5 harg5 arg6 harg6 arg7 harg7 arg8 harg8 v53 X2 X7 ⟨k, hk⟩).trans (by rw [tripL_eq]; rfl)⟩) n (by omega) y (by omega)
end
-- ==== Proof.CPad10.lean ====
/- The eight shifted copies of the latents' padded rows, as the convolution's body lays them out. -/
module
public import proofs.«01_k».proof.Proof.CTrip10
public import proofs.«01_k».proof.Proof.CPad

@[expose] public section

set_option maxRecDepth 16384

noncomputable section

namespace Cert.Kernel10.Hand

open Cert.Kernel10 Cert.Kernel10.Gen
open Idealize.ShloMosaic Idealize.ShloMosaic.TcCoe
open Cert.Kernel9.Hand (Pad)

variable {F : FTy → Type} [FloatOps F]

/-- The padded block's first `s` segments: 64 tokens each, sixteen zero rows before and after. -/
def segs (x : Vec F S512x512 .f32) (s n : Nat) (c : Fin 512) : F .f32 :=
  if h : (16 ≤ n % 96 ∧ n % 96 < 80) ∧ n < 96 * s ∧ s ≤ 8 then x (ix2 ⟨64 * (n / 96) + (n % 96 - 16), by omega⟩ c) else Scalar.ofBits .f32 0x00000000#32

variable {arg7 : Memref sig .tc .vmem S8x776x512 .f32} {x : Vec F S512x512 .f32}

theorem segs_zero : Pad 768 arg7 (segs x 0) [⟨Rect.unit (s := S8x776x512) ![0, 0, 0] S1x776x512.size inb_S8x776x512_S1x776x512_0_0_0, k0_pay133⟩] 1 := by
  intro f i hi _
  have e0 : (i 0).val = 0 := by omega
  have e1 : (i 1).val < 776 := (i 1).isLt
  unfold segs
  rw [dif_neg (by omega)]
  rw [View.read_writes_cons_unit_of_mem arg7.view f (size := S1x776x512.size) inb_S8x776x512_S1x776x512_0_0_0 _ _ i (ix3 (0 : Fin 1) (⟨(i 1).val, e1⟩ : Fin 776) (i 2)) rfl (by
    intro a
    match a with
    | 0 => exact e0
    | 1 => exact (Nat.zero_add _).symm
    | 2 => exact (Nat.zero_add _).symm)]
  pointwise [k0_pay133]

theorem segs_succ {L : List (View.Piece (Elt F) S8x776x512 .f32)} (s : Nat) (h : Pad 768 arg7 (segs x s) L 1) (hs : s < 8) (off : Fin 3 → Nat) (ho : off = ![0, 96 * s + 16, 0])
    (inb : ∀ a, off a + S1x64x512.size a ≤ S8x776x512.size a) (w : Vec F S1x64x512 .f32)
    (hw : ∀ (r : Fin 64) (c : Fin 512), w (ix3 (0 : Fin 1) r c) = x (ix2 (⟨64 * s + r.val, by omega⟩ : Fin 512) c)) :
    Pad 768 arg7 (segs x (s + 1)) (⟨Rect.unit (s := S8x776x512) off S1x64x512.size inb, w⟩ :: L) 1 := by
  subst ho
  intro f i hi hi'
  have e0 : (i 0).val = 0 := by omega
  by_cases a : 96 * s + 16 ≤ (i 1).val ∧ (i 1).val < 96 * s + 80
  · rw [View.read_writes_cons_unit_of_mem arg7.view f (size := S1x64x512.size) inb _ _ i (ix3 (0 : Fin 1) (⟨(i 1).val - (96 * s + 16), by omega⟩ : Fin 64) (i 2)) rfl (by
      intro a
      match a with
      | 0 => exact e0
      | 1 => show (i 1).val = 96 * s + 16 + ((i 1).val - (96 * s + 16)); omega
      | 2 => exact (Nat.zero_add _).symm)]
    refine (hw _ _).trans ?_
    unfold segs
    rw [dif_pos (by omega)]
    exact congrArg (fun k : Fin 512 => x (ix2 k (i 2))) (Fin.ext (by show 64 * s + ((i 1).val - (96 * s + 16)) = 64 * (((i 0).val + (i 1).val) / 96) + (((i 0).val + (i 1).val) % 96 - 16); omega))
  · rw [View.read_writes_cons_unit_of_not_mem arg7.view f (size := S1x64x512.size) inb _ _ i rfl 1 (by show (i 1).val < 96 * s + 16 ∨ 96 * s + 16 + 64 ≤ (i 1).val; omega)]
    refine (h f i hi hi').trans ?_
    unfold segs
    by_cases b : (16 ≤ ((i 0).val + (i 1).val) % 96 ∧ ((i 0).val + (i 1).val) % 96 < 80) ∧ (i 0).val + (i 1).val < 96 * s ∧ s ≤ 8
    · rw [dif_pos b, dif_pos (by omega)]
    · rw [dif_neg b, dif_neg (by omega)]

theorem seg_at (s : Nat) (hs : s < 8) (h1 : S512x512.Slices ![64 * s, 0] S64x512) (h2) (r : Fin 64) (c : Fin 512) :
    shapeCast S1x64x512 (extractStridedSlice S64x512 ![64 * s, 0] x h1) h2 (ix3 (0 : Fin 1) r c) = x (ix2 (⟨64 * s + r.val, by omega⟩ : Fin 512) c) := by
  pointwise

/-- The eight segments over the zeros. -/
theorem base : Pad 768 arg7 (segs x 8) [⟨Rect.unit (s := S8x776x512) ![0, 688, 0] S1x64x512.size inb_S8x776x512_S1x64x512_0_688_0, k0_pay141 x⟩,
      ⟨Rect.unit (s := S8x776x512) ![0, 592, 0] S1x64x512.size inb_S8x776x512_S1x64x512_0_592_0, k0_pay140 x⟩,
      ⟨Rect.unit (s := S8x776x512) ![0, 496, 0] S1x64x512.size inb_S8x776x512_S1x64x512_0_496_0, k0_pay139 x⟩,
      ⟨Rect.unit (s := S8x776x512) ![0, 400, 0] S1x64x512.size inb_S8x776x512_S1x64x512_0_400_0, k0_pay138 x⟩,
      ⟨Rect.unit (s := S8x776x512) ![0, 304, 0] S1x64x512.size inb_S8x776x512_S1x64x512_0_304_0, k0_pay137 x⟩,
      ⟨Rect.unit (s := S8x776x512) ![0, 208, 0] S1x64x512.size inb_S8x776x512_S1x64x512_0_208_0, k0_pay136 x⟩,
      ⟨Rect.unit (s := S8x776x512) ![0, 112, 0] S1x64x512.size inb_S8x776x512_S1x64x512_0_112_0, k0_pay135 x⟩,
      ⟨Rect.unit (s := S8x776x512) ![0, 16, 0] S1x64x512.size inb_S8x776x512_S1x64x512_0_16_0, k0_pay134 x⟩,
      ⟨Rect.unit (s := S8x776x512) ![0, 0, 0] S1x776x512.size inb_S8x776x512_S1x776x512_0_0_0, k0_pay133⟩] 1 := by
  refine segs_succ 7 ?_ (by decide) _ rfl _ _ (seg_at 7 (by decide) _ _)
  refine segs_succ 6 ?_ (by decide) _ rfl _ _ (seg_at 6 (by decide) _ _)
  refine segs_succ 5 ?_ (by decide) _ rfl _ _ (seg_at 5 (by decide) _ _)
  refine segs_succ 4 ?_ (by decide) _ rfl _ _ (seg_at 4 (by decide) _ _)
  refine segs_succ 3 ?_ (by decide) _ rfl _ _ (seg_at 3 (by decide) _ _)
  refine segs_succ 2 ?_ (by decide) _ rfl _ _ (seg_at 2 (by decide) _ _)
  refine segs_succ 1 ?_ (by decide) _ rfl _ _ (seg_at 1 (by decide) _ _)
  exact segs_succ 0 segs_zero (by decide) _ rfl _ _ (seg_at 0 (by decide) _ _)

theorem pays_id (v : Vec F S1x768x512 .f32) : k0_pay142 v = v ∧ k0_pay143 v = v ∧ k0_pay144 v = v ∧ k0_pay146 (k0_pay145 v) = v ∧ k0_pay147 v = v ∧ k0_pay148 v = v ∧ k0_pay149 v = v := by
  simp only [k0_pay142, k0_pay143, k0_pay144, k0_pay145, k0_pay146, k0_pay147, k0_pay148, k0_pay149, shapeCast_shapeCast, and_self]

end Cert.Kernel10.Hand
end
-- ==== Proof.CFrame10.lean ====
/- The latents' convolution: its body's result and the run of the whole call. -/
module
public import proofs.«01_k».proof.Proof.CPad10
public import proofs.«01_k».proof.Proof.CFrame9
public import Idealize.ShloMosaic.Lib.VecWindow
public import Idealize.ShloMosaic.Lib.Claim

@[expose] public section

set_option maxRecDepth 16384

noncomputable section

namespace Cert.Kernel10.Hand

open Cert.Kernel10 Cert.Kernel10.Gen
open Cert.Kernel9.Hand (Pad accV wts wts_of)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body leaves in the result's block. -/
def out (x0 : Vec F S512x512 .f32) (x1 : Vec F S31x8x512 .f32) (x2 x3 x4 : Vec F S1x512 .f32) : Vec F S512x512 .f32 :=
  Cert.Kernel9.Gen.k0_pay1 (accV pos (wts x1) (segs x0 8)) x2 x3 x4

theorem norm_eq (v : Vec F S512x512 .f32) (b g s : Vec F S1x512 .f32) :
    k0_pay1 (k0_pay150 v b) (k0_pay151 v b) k0_pay152 g s = Cert.Kernel9.Gen.k0_pay1 v b g s := rfl

set_option maxHeartbeats 2000000 in
theorem sound_kernel (c : Dev nD) (E : Set ℕ) (i : grid0.Coords) (arg1 : Memref sig .tc .vmem S512x512 .f32) (harg1 : arg1.IsWhole) (arg2 : Memref sig .tc .vmem S31x8x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S8x776x512 .f32) (harg7 : arg7.IsWhole) (arg8 : Memref sig .tc .vmem S512x512 .f32) (harg8 : arg8.IsWhole)
    (x0 : Vec F S512x512 .f32) (x1 : Vec F S31x8x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out x0 x1 x2 x3 x4)
          ∗ (∃ d, owns (c : Thread nD τ) arg7 fullShare d) ∗ (∃ d, owns (c : Thread nD τ) arg8 fullShare d)) -∗ K ⟨⟩))
      ⊢ wp frame (wpE (defs₀ (F := F)) Variants.none c none) E (cc0_conv_module i arg1 harg1 arg2 harg2 arg3 harg3 arg4 harg4 arg5 harg5 arg6 harg6 arg7 harg7 arg8 harg8) K := by
  simp only [cc0_conv_module_eq_skeleton]; unfold cc0_conv_module_skel
  simp only [k0_part26_eq_skeleton, k0_part27_eq_skeleton, k0_part28_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_full arg6.view f5 _ _ _).trans ?_
    unfold out
    have q0 : Pad 768 arg7 (segs (arg1.view.read (Elt F) f0) 8) (sound_kernel.sl.H6_9 c arg1 f0) 1 := by
      unfold sound_kernel.sl.H6_9 sound_kernel.sl.r sound_kernel.sl.r_1
      have e : View.readAt (Elt F) arg1.view (Rect.unit (s := S512x512) ![0, 0] S512x512.size inb_S512x512_S512x512_0_0).toLoadRect f0 = arg1.view.read (Elt F) f0 := View.readAt_full arg1.view f0 _
      rw [e]
      exact base
    have q1 := q0.step (by decide) (by decide) inb_S8x776x512_S1x768x512_1_0_0 inb_S8x776x512_S1x768x512_0_1_0 (k0_pay142 (sound_kernel.sl.v37 c arg1 arg7 f0)) (pays_id _).1
    have q2 := q1.step (by decide) (by decide) inb_S8x776x512_S1x768x512_2_0_0 inb_S8x776x512_S1x768x512_0_2_0 (k0_pay143 (sound_kernel.sl.v42 c arg1 arg7 f0)) (pays_id _).2.1
    have q3 := q2.step (by decide) (by decide) inb_S8x776x512_S1x768x512_3_0_0 inb_S8x776x512_S1x768x512_0_3_0 (k0_pay144 (sound_kernel.sl.v47 c arg1 arg7 f0)) (pays_id _).2.2.1
    have q4 := q3.step (by decide) (by decide) inb_S8x776x512_S1x768x512_4_0_0 inb_S8x776x512_S1x768x512_0_4_0 (k0_pay146 (sound_kernel.sl.r_2 c arg1 arg7 f0)) (pays_id _).2.2.2.1
    have q5 := q4.step (by decide) (by decide) inb_S8x776x512_S1x768x512_5_0_0 inb_S8x776x512_S1x768x512_0_5_0 (k0_pay147 (sound_kernel.sl.v57 c arg1 arg7 f0)) (pays_id _).2.2.2.2.1
    have q6 := q5.step (by decide) (by decide) inb_S8x776x512_S1x768x512_6_0_0 inb_S8x776x512_S1x768x512_0_6_0 (k0_pay148 (sound_kernel.sl.v62 c arg1 arg7 f0)) (pays_id _).2.2.2.2.2.1
    have q7 := q6.step (by decide) (by decide) inb_S8x776x512_S1x768x512_7_0_0 inb_S8x776x512_S1x768x512_0_7_0 (k0_pay149 (sound_kernel.sl.v67 c arg1 arg7 f0)) (pays_id _).2.2.2.2.2.2
    have ea : sound_kernel.sl.v73 c i arg1 harg1 arg2 harg2 arg3 harg3 arg4 harg4 arg5 harg5 arg6 harg6 arg7 harg7 arg8 harg8 f0 f1 f6 f7
        = accV pos (wts (arg2.view.read (Elt F) f1)) (segs (arg1.view.read (Elt F) f0) 8) := by
      unfold sound_kernel.sl.v73
      refine (View.readAt_full arg8.view _ _).trans ?_
      exact acc_all _ _ _ _ _ _ _ _ _ _ _ _ _ _ _ _ _ _ _ _ _ _ _ (wts_of _) (fun i hi => q7 f6 i (by have := (i 0).isLt; exact this) (Or.inr hi)) f7 _ rfl
    unfold sound_kernel.sl.r_3 sound_kernel.sl.r_4
    rw [ea]
    refine (norm_eq _ _ _ _).trans ?_
    congr 1
    · exact View.readAt_full arg3.view f2 _
    · exact View.readAt_full arg4.view f3 _
    · exact View.readAt_full arg5.view f4 _
  isplitl [H6]
  · iexists _, _; isplitr
    swap; · iexact H6
    ipureintro; rfl
  iexists _, _; isplitr
  swap; · iexact H7
  ipureintro; rfl

variable (m : (ℓ : Loc nD τ sig) → Buf (Elt F) ℓ) (ρ : Dev nD → PrngReg)

/-- The run's data: the arrays as found, each input block as it was, and the result's block computed from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out (iblk m c 0 t) (iblk m c 1 t) (iblk m c 2 t) (iblk m c 3 t) (iblk m c 4 t) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [fun d => before0_0_of m (dats m 0 c) (A_eq m c 0) (after0_0 m c) t d, fun d => before0_1_of m (dats m 0 c) (A_eq m c 1) (after0_1 m c) t d, fun d => before0_2_of m (dats m 0 c) (A_eq m c 2) (after0_2 m c) t d, fun d => before0_3_of m (dats m 0 c) (A_eq m c 3) (after0_3 m c) t d, fun d => before0_4_of m (dats m 0 c) (A_eq m c 4) (after0_4 m c) t d]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨⟨%g0, S0⟩, ⟨%g1, S1⟩⟩, Hg⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ (iblk m c 0 t) (iblk m c 1 t) (iblk m c 2 t) (iblk m c 3 t) (iblk m c 4 t) _)
  simp only [owns_whole]
  isplitl [H0]; · iexact H0
  isplitl [H1]; · iexact H1
  isplitl [H2]; · iexact H2
  isplitl [H3]; · iexact H3
  isplitl [H4]; · iexact H4
  isplitl [H5]; · iexists _; iexact H5
  isplitl [S0]; · iexists _; iexact S0
  isplitl [S1]; · iexists _; iexact S1
  iintro ⟨H0, H1, H2, H3, H4, H5, S0, S1⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel10.Hand
-- ==== Proof.Conv10.lean ====
/- The convolution over each latent's segment: what the kernel's array holds at an index, the reference, and the claims. -/
module

public import proofs.«01_k».proof.Proof.CFrame10
public import proofs.«01_k».proof.Proof.Conv9
public import proofs.«01_k».proof.Proof.Gen.Kernel10Ideal.Frame
public import proofs.«01_k».proof.Proof.Gen.Reference10Ideal
public import proofs.«01_k».proof.Proof.Gen.Reference10Ideal.Run

@[expose] public section

noncomputable section

namespace Cert.Proof.Latents

open Idealize.ShloMosaic Cert.Proof Cert.Kernel9.Hand

section
open Cert.Reference10Ideal Cert.Reference10Ideal.Gen

theorem flat_at (y : FVec Ideal S128x64x512 .f32) (h) (n : Fin 8192) (c : Fin 512) :
    shapeCast S8192x512 y h (ix2 n c) = y (ix3 (⟨n.val / 64, by omega⟩ : Fin 128) (⟨n.val % 64, by omega⟩ : Fin 64) c) := by
  pointwise

theorem seg_at (x : FVec Ideal S8192x512 .f32) (h) (n : Fin 8192) (k : Nat) (hk : k < 64) (h' : 64 * (n.val / 64) + k < 8192) (c : Fin 512) :
    shapeCast S128x64x512 x h (ix3 (⟨n.val / 64, by omega⟩ : Fin 128) ⟨k, hk⟩ c) = x (ix2 ⟨64 * (n.val / 64) + k, h'⟩ c) := by
  pointwise
  exact congrArg (fun k : Fin 8192 => x (ix2 k c)) (Fin.ext (by show n.val / 64 * 64 + k = 64 * (n.val / 64) + k; omega))

/-- The reference's sums over the taps with the bias added, at an index. -/
theorem sums_at (V0 : Valuation τ sig (Elt Ideal)) (n : Fin 8192) (c : Fin 512) :
    (Cert.Reference10Ideal.Value.res_main_v223 V0 : FVec Ideal S8192x512 .f32) (ix2 n c)
      = conv 64 (fun t => (V0 (Proc.devRef .tc main_arg1) : FVec Ideal S31x512 .f32) (ix2 t c)) (fun n => (V0 (Proc.devRef .tc main_arg0) : FVec Ideal S8192x512 .f32) (ix2 n c)) n
        + (V0 (Proc.devRef .tc main_arg2) : FVec Ideal S1x512 .f32) (ix2 (0 : Fin 1) c) := by
  unfold Cert.Reference10Ideal.Value.res_main_v223
  show _ + _ = _ + _
  refine congrArg₂ (· + ·) ?_ (by pointwise)
  refine (flat_at _ _ n c).trans ?_
  refine Eq.trans ?_ (conv_of _ _ (fun b r => (shapeCast S128x64x512 (V0 (Proc.devRef .tc main_arg0) : FVec Ideal S8192x512 .f32) shapeCasts_S8192x512_S128x64x512 : FVec Ideal S128x64x512 .f32) (ix3 b r c)) n (⟨n.val / 64, by omega⟩ : Fin 128) (⟨n.val % 64, by omega⟩ : Fin 64) rfl rfl
    (fun k h h' => seg_at _ _ n k h h' c) (fun k h => by omega) (padX rfl (Cert.Reference10Ideal.Value.res_main_v2 V0 : FVec Ideal S128x94x512 .f32) _ _ c) fun t ht => padded_at rfl _ _ _ _ _ c t ht)
  unfold Cert.Reference10Ideal.Value.res_main_v157 Cert.Reference10Ideal.Value.res_main_v80
  generalize (Cert.Reference10Ideal.Value.res_main_v2 V0 : FVec Ideal S128x94x512 .f32) = P
  generalize (V0 (Proc.devRef .tc main_arg1) : FVec Ideal S31x512 .f32) = w
  iterate 31 refine congrArg₂ (FloatOps.addf (F := Ideal) (φ := .f32)) ?_ (term_at rfl P w _ _ c _ (by decide) _ _ _ _ _)
  rfl

end

end Cert.Proof.Latents

namespace Cert.Kernel10.Hand

open Cert.Kernel10 Cert.Kernel10.Gen
open Idealize.ShloMosaic Idealize.SL.Sem Idealize.ShloMosaic.TcCoe
open Idealize.ShloMosaic.Pipeline (Dat Cfg Window)
open Cert.Proof
open Cert.Kernel9.Hand (accV wts copies_of at_zero at_rows)

variable (m : (ℓ : Loc nD τ sig) → Buf (Elt Ideal) ℓ) (c : Dev nD)

/-- The weights as the kernel reads them: the argument in eight copies. -/
theorem copies_at (k : Fin 31) (s : Fin 8) (j : Fin 512) :
    (V m c main_v1 : S31x8x512.Idx → EReal) (ix3 k s j) = (V m c main_arg1 : S31x512.Idx → EReal) (ix2 k j) := by
  have e : (V m c main_v1 : S31x8x512.Idx → EReal) = broadcastInDim S31x8x512 ![0, 1, 2] bcast_S31x1x512_S31x8x512_0_1_2 (broadcastInDim S31x1x512 ![0, 2] bcast_S31x512_S31x1x512_0_2 (V m c main_arg1 : S31x512.Idx → EReal)) := by
    rw [V_main_arg1]
    rfl
  rw [e]
  exact copies_of _ _ _ k s j

theorem tf0_eq : ∀ t : Fin grid0.N, cc0_transform_0 (grid0.coords t) = ![t.val, 0] := by decide +kernel
theorem tf5_eq : ∀ t : Fin grid0.N, cc0_transform_5 (grid0.coords t) = ![t.val, 0] := by decide +kernel
theorem tf1_eq : ∀ (t : Fin grid0.N) (a : Fin 3), cc0_transform_1 (grid0.coords t) a = 0 := by decide +kernel
theorem tf2_eq : ∀ (t : Fin grid0.N) (a : Fin 2), cc0_transform_2 (grid0.coords t) a = 0 := by decide +kernel
theorem tf3_eq : ∀ (t : Fin grid0.N) (a : Fin 2), cc0_transform_3 (grid0.coords t) a = 0 := by decide +kernel
theorem tf4_eq : ∀ (t : Fin grid0.N) (a : Fin 2), cc0_transform_4 (grid0.coords t) a = 0 := by decide +kernel

section Blocks
variable (t : Fin cfg0.N)

theorem blk0_at (i j : Fin 512) (n : Fin 8192) (hn : n.val = 512 * t.val + i.val) :
    (iblk m c 0 t : S512x512.Idx → EReal) (ix2 i j) = (V m c main_arg0 : S8192x512.Idx → EReal) (ix2 n j) := by
  unfold iblk
  exact congrArg (V m c main_arg0 : S8192x512.Idx → EReal) (funext fun a => Fin.ext ((Window.rect_emb_val (cfg0.win 0) t (ix2 i j) a).trans (at_rows _ _ _ _ hn _ a (congrFun (tf0_eq t) a))))
theorem blk1_at (k : Fin 31) (s : Fin 8) (j : Fin 512) :
    (iblk m c 1 t : S31x8x512.Idx → EReal) (ix3 k s j) = (V m c main_v1 : S31x8x512.Idx → EReal) (ix3 k s j) := by
  unfold iblk
  exact congrArg (V m c main_v1 : S31x8x512.Idx → EReal) (funext fun a => Fin.ext ((Window.rect_emb_val (cfg0.win 1) t (ix3 k s j) a).trans (at_zero (tf1_eq t a))))
theorem blk2_at (j : Fin 512) : (iblk m c 2 t : S1x512.Idx → EReal) (ix2 (0 : Fin 1) j) = (V m c main_arg2 : S1x512.Idx → EReal) (ix2 (0 : Fin 1) j) := by
  unfold iblk
  exact congrArg (V m c main_arg2 : S1x512.Idx → EReal) (funext fun a => Fin.ext ((Window.rect_emb_val (cfg0.win 2) t (ix2 (0 : Fin 1) j) a).trans (at_zero (tf2_eq t a))))
theorem blk3_at (j : Fin 512) : (iblk m c 3 t : S1x512.Idx → EReal) (ix2 (0 : Fin 1) j) = (V m c main_arg3 : S1x512.Idx → EReal) (ix2 (0 : Fin 1) j) := by
  unfold iblk
  exact congrArg (V m c main_arg3 : S1x512.Idx → EReal) (funext fun a => Fin.ext ((Window.rect_emb_val (cfg0.win 3) t (ix2 (0 : Fin 1) j) a).trans (at_zero (tf3_eq t a))))
theorem blk4_at (j : Fin 512) : (iblk m c 4 t : S1x512.Idx → EReal) (ix2 (0 : Fin 1) j) = (V m c main_arg4 : S1x512.Idx → EReal) (ix2 (0 : Fin 1) j) := by
  unfold iblk
  exact congrArg (V m c main_arg4 : S1x512.Idx → EReal) (funext fun a => Fin.ext ((Window.rect_emb_val (cfg0.win 4) t (ix2 (0 : Fin 1) j) a).trans (at_zero (tf4_eq t a))))

theorem emb5 (i j : Fin 512) (n : Fin 8192) (hn : n.val = 512 * t.val + i.val) : ((((cfg0.win 5).blk t).view.emb (ix2 i j)) : S8192x512.Idx) = ix2 n j :=
  funext fun a => Fin.ext ((Window.rect_emb_val (cfg0.win 5) t (ix2 i j) a).trans (at_rows _ _ _ _ hn _ a (congrFun (tf5_eq t) a)))

end Blocks

theorem covers5 : (cfg0.win 5).Covers := by
  refine Window.covers_of_index_surj _ rfl (show ∀ a : Fin 2, 0 < S512x512.size a by decide) fun β => ?_
  have b0 : (β (0 : Fin 2)).val < 16 := Nat.lt_of_lt_of_eq (β (0 : Fin 2)).isLt (show (8192 + 512 - 1) / 512 = 16 from rfl)
  have b1 : (β (1 : Fin 2)).val < 1 := Nat.lt_of_lt_of_eq (β (1 : Fin 2)).isLt (show (512 + 512 - 1) / 512 = 1 from rfl)
  refine ⟨(⟨(β (0 : Fin 2)).val, b0⟩ : Fin 16), fun a => ?_⟩
  rw [show (cfg0.win 5).index (⟨(β (0 : Fin 2)).val, b0⟩ : Fin 16) a = _ from congrFun (tf5_eq _) a]
  match a with
  | ⟨0, _⟩ => rfl
  | ⟨1, _⟩ => show 0 = (β (1 : Fin 2)).val; omega

/-- The block's sums over the taps at grid point `t`: the convolution at row `512 t + i`. -/
theorem acc_at (t : Fin cfg0.N) (i j : Fin 512) (n : Fin 8192) (hn : n.val = 512 * t.val + i.val) :
    accV pos (wts (iblk m c 1 t)) (segs (iblk m c 0 t) 8) (ix2 i j)
      = conv 64 (fun k => (V m c main_arg1 : S31x512.Idx → EReal) (ix2 k j)) (fun n => (V m c main_arg0 : S8192x512.Idx → EReal) (ix2 n j)) n := by
  refine tapS_congr 31 (fun k hk => ?_) (fun k hk => ?_)
  · unfold wts tapW
    rw [dif_pos hk, dif_pos hk]
    exact (blk1_at m c t _ _ j).trans (copies_at m c _ _ j)
  · show segs (iblk m c 0 t) 8 (pos i.val + 1 + k) j = _
    have hi := i.isLt
    unfold segs tapX pos
    by_cases h : (15 ≤ n.val % 64 + k ∧ n.val % 64 + k < 64 + 15) ∧ 64 * (n.val / 64) + (n.val % 64 + k - 15) < 8192
    · rw [dif_pos h, dif_pos (by omega)]
      exact blk0_at m c t _ j _ (by show 64 * (n.val / 64) + (n.val % 64 + k - 15) = 512 * t.val + (64 * ((i.val + 32 * (i.val / 64) + 1 + k) / 96) + ((i.val + 32 * (i.val / 64) + 1 + k) % 96 - 16)); omega)
    · rw [dif_neg h, dif_neg (by omega)]
      exact Ideal.ofBits_zero .f32

/-- The result: row `n`'s convolution, normed and gated, at column `j`. -/
theorem final5 (n : Fin 8192) (j : Fin 512) :
    ((dats m 0 c).arrAt 5 cfg0.N : S8192x512.Idx → EReal) (ix2 n j)
      = normSilu (fun k => conv 64 (fun t => (V m c main_arg1 : S31x512.Idx → EReal) (ix2 t k)) (fun n => (V m c main_arg0 : S8192x512.Idx → EReal) (ix2 n k)) n)
        (fun k => (V m c main_arg2 : S1x512.Idx → EReal) (ix2 (0 : Fin 1) k)) (fun k => (V m c main_arg3 : S1x512.Idx → EReal) (ix2 (0 : Fin 1) k))
        (fun k => (V m c main_arg4 : S1x512.Idx → EReal) (ix2 (0 : Fin 1) k)) j := by
  refine (dats m 0 c).arrAt_forall_of_covers 5 (fun x v => x = (ix2 n j : S8192x512.Idx) → v = _) covers5 (fun t hf y => ?_) (ix2 n j)
    (Memref.isWhole_whole _) rfl
  intro hy
  obtain ⟨i, j', rfl⟩ : ∃ i j' : Fin 512, (y : S512x512.Idx) = ix2 i j' := ⟨y 0, y 1, eq_ix2 y⟩
  have ht : t.val < 16 := t.isLt
  rw [emb5 t i j' ⟨512 * t.val + i.val, by omega⟩ rfl] at hy
  have h0 : 512 * t.val + i.val = n.val := congrArg (fun x : S8192x512.Idx => (x 0).val) hy
  have h1 : j'.val = j.val := congrArg (fun x : S8192x512.Idx => (x 1).val) hy
  obtain rfl : j' = j := Fin.ext h1
  show (dats m 0 c).after 5 t (ix2 i j') = _
  rw [after0_5]
  unfold out
  refine (norm9_at _ _ _ _ i j').trans ?_
  exact congrFun (congr (congr (congr (congrArg normSilu (funext fun k => acc_at m c t i k n h0.symm)) (funext fun k => blk2_at m c t k))
    (funext fun k => blk3_at m c t k)) (funext fun k => blk4_at m c t k)) j'

variable (ρ : Dev nD → PrngReg)

/-- The run with the result named, the arguments unchanged. -/
theorem run_named : θ_run defs (onTc (τ := τ) (main (F := Ideal))) ⟨m, fun _ => 0, ρ⟩ fun r => ∀ c : Dev nD,
      r.2.mem ((c.tc : Thread nD τ).loc main_v2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run_and ((θ_run defs _ _).mono (fun r h c => (h c).1 5) (run_main m ρ)) (frame m ρ)) |> fun h =>
    (θ_run defs _ _).mono (fun r h c => ⟨h.1 c, h.2.1 c⟩) h

end Cert.Kernel10.Hand

namespace Cert.Kernel10Ideal.Hand

open Idealize.ShloMosaic Idealize.ShloMosaic.TcCoe

variable {F : FTy → Type} [FloatOps F]

set_option maxRecDepth 65536 in
theorem defs₀_same : Cert.Kernel10Ideal.defs₀ (F := F) = Cert.Kernel10.defs₀ (F := F) := by
  unfold Cert.Kernel10Ideal.defs₀ Cert.Kernel10.defs₀
  congr 1
  funext l x
  match l, x with
  | 0, (t, s) => rfl
  | ⟨_ + 1, h⟩, _ => exact absurd h (Nat.not_lt.2 (Nat.le_add_left _ _))

set_option maxRecDepth 65536 in
theorem defs_same : Cert.Kernel10Ideal.defs (F := F) = Cert.Kernel10.defs (F := F) := by
  unfold Cert.Kernel10Ideal.defs Cert.Kernel10.defs
  rw [defs₀_same]
  rfl

end Cert.Kernel10Ideal.Hand

namespace Cert.Proof

open Idealize.ShloMosaic Idealize.SL.Sem Idealize.ShloMosaic.TcCoe

theorem frame_K10 : Cert.quiescent_Kernel10 (hKernel10 := Cert.Kernel10.Gen.facts) := fun m ρ _ => Cert.Kernel10.Hand.frame m ρ

theorem frame_I10 : Cert.quiescent_Kernel10Ideal (hKernel10Ideal := Cert.Kernel10Ideal.Gen.facts) := fun m ρ _ => by
  rw [Cert.Kernel10Ideal.Hand.defs_same]
  exact Cert.Kernel10.Hand.frame m ρ

theorem frame_R10 : Cert.quiescent_Reference10Ideal (hReference10Ideal := Cert.Reference10Ideal.Gen.facts) :=
  fun m ρ _ => (θ_run Cert.Reference10Ideal.defs _ _).mono (fun r p => ⟨fun c => (p c).2, sem_eq_zero_of_no_sems rfl r.2⟩)
    (Cert.Reference10Ideal.Value.run m ρ)

theorem value10 : Cert.algebraic_Kernel10Ideal_Reference10Ideal (hKernel10Ideal := Cert.Kernel10Ideal.Gen.facts)
    (hReference10Ideal := Cert.Reference10Ideal.Gen.facts) := by
  intro m g m' g' hpre hag
  refine ⟨fun c => (Cert.Kernel10.Hand.dats (F := Ideal) m 0 c).arrAt 5 Cert.Kernel10.cfg0.N, by rw [Cert.Kernel10Ideal.Hand.defs_same]; exact Cert.Kernel10.Hand.run_named m g,
    (θ_run Cert.Reference10Ideal.defs _ _).mono (fun r p c => ⟨(p c).1.trans (funext fun x => ?_), (p c).2⟩) (Cert.Reference10Ideal.Value.run m' g')⟩
  obtain ⟨n, j, rfl⟩ : ∃ (n : Fin 8192) (j : Fin 512), x = ix2 n j := ⟨x 0, x 1, eq_ix2 x⟩
  obtain ⟨h0, h1, h2, h3, h4⟩ := hag c
  refine Eq.trans ?_ (Cert.Kernel10.Hand.final5 m c n j).symm
  refine (norm9r_at _ _ _ _ _ n j (fun k => Latents.sums_at _ n k) _ _ rfl rfl).trans ?_
  rw [Cert.Kernel10.Gen.V_main_arg0, Cert.Kernel10.Gen.V_main_arg1, Cert.Kernel10.Gen.V_main_arg2, Cert.Kernel10.Gen.V_main_arg3, Cert.Kernel10.Gen.V_main_arg4]
  have e0 : StableHlo.launchContents m' c (Proc.devRef .tc Cert.Reference10Ideal.main_arg0) = _ := h0
  have e1 : StableHlo.launchContents m' c (Proc.devRef .tc Cert.Reference10Ideal.main_arg1) = _ := h1
  have e2 : StableHlo.launchContents m' c (Proc.devRef .tc Cert.Reference10Ideal.main_arg2) = _ := h2
  have e3 : StableHlo.launchContents m' c (Proc.devRef .tc Cert.Reference10Ideal.main_arg3) = _ := h3
  have e4 : StableHlo.launchContents m' c (Proc.devRef .tc Cert.Reference10Ideal.main_arg4) = _ := h4
  rw [e0, e1, e2, e3, e4]

end Cert.Proof

end
-- ==== Proof.lean ====
/- The certificate of the experts' feed-forward, of the modulation, of the contexts' convolution, of the projections in and out and of the closing residual sums: both readings of each kernel run, and the
   idealized one holds what the plain mathematics holds, for the experts wherever the dispatch tables mark a slot as filled. -/
module

public import proofs.«01_k».proof.Defs
public import proofs.«01_k».proof.Proof.Gen.Pre_dispatch_plan
public import proofs.«01_k».proof.Proof.Gen.On_filled_slots
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.MoeValue
public import proofs.«01_k».proof.Proof.In2Value
public import proofs.«01_k».proof.Proof.In3Value
public import proofs.«01_k».proof.Proof.Fin4
public import proofs.«01_k».proof.Proof.Fin5
public import proofs.«01_k».proof.Proof.OutF
public import proofs.«01_k».proof.Proof.OutH
public import proofs.«01_k».proof.Proof.Mod8
public import proofs.«01_k».proof.Proof.Conv9
public import proofs.«01_k».proof.Proof.Conv10
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite_latents
public import proofs.«01_k».proof.Proof.Gen.Pre_finite_contexts
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite_conditions
public import proofs.«01_k».proof.Proof.Gen.Kernel9
public import proofs.«01_k».proof.Proof.Gen.Kernel9.Skeleton
public import proofs.«01_k».proof.Proof.Gen.Kernel9.Launch
public import proofs.«01_k».proof.Proof.Gen.Kernel9.Loops
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Loops
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Loops
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Loops
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_dispatch_plan.Gen.facts, Cert.Pre_finite_latents.Gen.facts, Cert.Pre_finite_contexts.Gen.facts, Cert.Pre_finite_conditions.Gen.facts, Cert.On_filled_slots.Gen.facts, frame_K, frame_I, frame_R, frame_Rp, frame_K2, frame_I2, frame_R2,
    frame_K3, frame_I3, frame_R3, frame_K4, frame_I4, frame_R4, frame_K5, frame_I5, frame_R5,
    frame_K6, frame_I6, frame_Ip6, frame_R6, frame_Rp6, frame_K7, frame_I7, frame_Ip7, frame_R7, frame_Rp7,
    frame_K8, frame_I8, frame_Ip8, frame_R8, frame_Rp8, frame_K9, frame_I9, frame_R9, frame_K10, frame_I10, frame_R10,
    trivial, value, trivial, value2, trivial, value3, trivial, value4, trivial, value5, trivial, value6, trivial, value7, trivial, value8, trivial, value9, trivial, value10⟩

end Cert.Proof

end
